-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectIdeal_projectable [hPre_projectable : Cert.Pre_projectable.Facts] (m : (ℓ : Loc Cert.ProjectIdeal.nD Cert.ProjectIdeal.τ Cert.ProjectIdeal.sig) → Buf (Elt Ideal) ℓ) : Prop :=
  ∀ c : Dev Cert.ProjectIdeal.nD,
    (Cert.Pre_projectable.fn (F := Ideal) (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1)) (m ((c.tc : Thread Cert.ProjectIdeal.nD Cert.ProjectIdeal.τ).loc Cert.ProjectIdeal.main_arg2)) (m ((c.tc : Thread Cert.ProjectIdeal.nD Cert.ProjectIdeal.τ).loc Cert.ProjectIdeal.main_arg3)) (m ((c.tc : Thread Cert.ProjectIdeal.nD Cert.ProjectIdeal.τ).loc Cert.ProjectIdeal.main_arg4)) (m ((c.tc : Thread Cert.ProjectIdeal.nD Cert.ProjectIdeal.τ).loc Cert.ProjectIdeal.main_arg5)) (m ((c.tc : Thread Cert.ProjectIdeal.nD Cert.ProjectIdeal.τ).loc Cert.ProjectIdeal.main_arg6)) (m ((c.tc : Thread Cert.ProjectIdeal.nD Cert.ProjectIdeal.τ).loc Cert.ProjectIdeal.main_arg7))) = (fun _ => 1#1)

def Pre_ProjectReferenceIdeal (m : (ℓ : Loc Cert.ProjectReferenceIdeal.nD Cert.ProjectReferenceIdeal.τ Cert.ProjectReferenceIdeal.sig) → Buf (Elt Ideal) ℓ) : Prop :=
  True

def Pre_ProjectReferenceIdeal_projectable [hPre_projectable : Cert.Pre_projectable.Facts] (m : (ℓ : Loc Cert.ProjectReferenceIdeal.nD Cert.ProjectReferenceIdeal.τ Cert.ProjectReferenceIdeal.sig) → Buf (Elt Ideal) ℓ) : Prop :=
  ∀ c : Dev Cert.ProjectReferenceIdeal.nD,
    (Cert.Pre_projectable.fn (F := Ideal) (m ((c.tc : Thread Cert.ProjectReferenceIdeal.nD Cert.ProjectReferenceIdeal.τ).loc Cert.ProjectReferenceIdeal.main_arg0)) (m ((c.tc : Thread Cert.ProjectReferenceIdeal.nD Cert.ProjectReferenceIdeal.τ).loc Cert.ProjectReferenceIdeal.main_arg1)) (m ((c.tc : Thread Cert.ProjectReferenceIdeal.nD Cert.ProjectReferenceIdeal.τ).loc Cert.ProjectReferenceIdeal.main_arg2)) (m ((c.tc : Thread Cert.ProjectReferenceIdeal.nD Cert.ProjectReferenceIdeal.τ).loc Cert.ProjectReferenceIdeal.main_arg3)) (m ((c.tc : Thread Cert.ProjectReferenceIdeal.nD Cert.ProjectReferenceIdeal.τ).loc Cert.ProjectReferenceIdeal.main_arg4)) (m ((c.tc : Thread Cert.ProjectReferenceIdeal.nD Cert.ProjectReferenceIdeal.τ).loc Cert.ProjectReferenceIdeal.main_arg5)) (m ((c.tc : Thread Cert.ProjectReferenceIdeal.nD Cert.ProjectReferenceIdeal.τ).loc Cert.ProjectReferenceIdeal.main_arg6)) (m ((c.tc : Thread Cert.ProjectReferenceIdeal.nD Cert.ProjectReferenceIdeal.τ).loc Cert.ProjectReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4)
      ∧ r.2.mem ((c.tc : Thread Cert.Project.nD Cert.Project.τ).loc Cert.Project.main_arg5) = m ((c.tc : Thread Cert.Project.nD Cert.Project.τ).loc Cert.Project.main_arg5)
      ∧ r.2.mem ((c.tc : Thread Cert.Project.nD Cert.Project.τ).loc Cert.Project.main_arg6) = m ((c.tc : Thread Cert.Project.nD Cert.Project.τ).loc Cert.Project.main_arg6)
      ∧ r.2.mem ((c.tc : Thread Cert.Project.nD Cert.Project.τ).loc Cert.Project.main_arg7) = m ((c.tc : Thread Cert.Project.nD Cert.Project.τ).loc Cert.Project.main_arg7))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectIdeal_pre_projectable [hProjectIdeal : Cert.ProjectIdeal.Facts] [hPre_projectable : Cert.Pre_projectable.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal_projectable m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
      ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
      ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
      ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7))
      ∧ r.2.sem = fun _ => 0)

def quiescent_ProjectReferenceIdeal_pre_projectable [hProjectReferenceIdeal : Cert.ProjectReferenceIdeal.Facts] [hPre_projectable : Cert.Pre_projectable.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal_projectable m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4)
      ∧ r.2.mem ((c.tc : Thread Cert.ProjectReferenceIdeal.nD Cert.ProjectReferenceIdeal.τ).loc Cert.ProjectReferenceIdeal.main_arg5) = m ((c.tc : Thread Cert.ProjectReferenceIdeal.nD Cert.ProjectReferenceIdeal.τ).loc Cert.ProjectReferenceIdeal.main_arg5)
      ∧ r.2.mem ((c.tc : Thread Cert.ProjectReferenceIdeal.nD Cert.ProjectReferenceIdeal.τ).loc Cert.ProjectReferenceIdeal.main_arg6) = m ((c.tc : Thread Cert.ProjectReferenceIdeal.nD Cert.ProjectReferenceIdeal.τ).loc Cert.ProjectReferenceIdeal.main_arg6)
      ∧ r.2.mem ((c.tc : Thread Cert.ProjectReferenceIdeal.nD Cert.ProjectReferenceIdeal.τ).loc Cert.ProjectReferenceIdeal.main_arg7) = m ((c.tc : Thread Cert.ProjectReferenceIdeal.nD Cert.ProjectReferenceIdeal.τ).loc Cert.ProjectReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v48) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v137) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Project_ProjectIdeal : Prop :=
  True

def algebraic_ProjectIdeal_ProjectReferenceIdeal_pre_projectable [hProjectIdeal : Cert.ProjectIdeal.Facts] [hProjectReferenceIdeal : Cert.ProjectReferenceIdeal.Facts] [hPre_projectable : Cert.Pre_projectable.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal_projectable m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)
      ∧ m' ((c.tc : Thread Cert.ProjectReferenceIdeal.nD Cert.ProjectReferenceIdeal.τ).loc Cert.ProjectReferenceIdeal.main_arg5) = m ((c.tc : Thread Cert.ProjectIdeal.nD Cert.ProjectIdeal.τ).loc Cert.ProjectIdeal.main_arg5)
      ∧ m' ((c.tc : Thread Cert.ProjectReferenceIdeal.nD Cert.ProjectReferenceIdeal.τ).loc Cert.ProjectReferenceIdeal.main_arg6) = m ((c.tc : Thread Cert.ProjectIdeal.nD Cert.ProjectIdeal.τ).loc Cert.ProjectIdeal.main_arg6)
      ∧ m' ((c.tc : Thread Cert.ProjectReferenceIdeal.nD Cert.ProjectReferenceIdeal.τ).loc Cert.ProjectReferenceIdeal.main_arg7) = m ((c.tc : Thread Cert.ProjectIdeal.nD Cert.ProjectIdeal.τ).loc Cert.ProjectIdeal.main_arg7)) →
    ∃ (v0 : (c : Dev Cert.ProjectIdeal.nD) → Buf (Elt Ideal) ((c.tc : Thread Cert.ProjectIdeal.nD Cert.ProjectIdeal.τ).loc Cert.ProjectIdeal.main_v0_0)) (v1 : (c : Dev Cert.ProjectIdeal.nD) → Buf (Elt Ideal) ((c.tc : Thread Cert.ProjectIdeal.nD Cert.ProjectIdeal.τ).loc Cert.ProjectIdeal.main_v0_1)) (v2 : (c : Dev Cert.ProjectIdeal.nD) → Buf (Elt Ideal) ((c.tc : Thread Cert.ProjectIdeal.nD Cert.ProjectIdeal.τ).loc Cert.ProjectIdeal.main_v0_2)) (v3 : (c : Dev Cert.ProjectIdeal.nD) → Buf (Elt Ideal) ((c.tc : Thread Cert.ProjectIdeal.nD Cert.ProjectIdeal.τ).loc Cert.ProjectIdeal.main_v0_3)) (v4 : (c : Dev Cert.ProjectIdeal.nD) → Buf (Elt Ideal) ((c.tc : Thread Cert.ProjectIdeal.nD Cert.ProjectIdeal.τ).loc Cert.ProjectIdeal.main_v0_4)) (v5 : (c : Dev Cert.ProjectIdeal.nD) → Buf (Elt Ideal) ((c.tc : Thread Cert.ProjectIdeal.nD Cert.ProjectIdeal.τ).loc Cert.ProjectIdeal.main_v0_5)) (v6 : (c : Dev Cert.ProjectIdeal.nD) → Buf (Elt Ideal) ((c.tc : Thread Cert.ProjectIdeal.nD Cert.ProjectIdeal.τ).loc Cert.ProjectIdeal.main_v0_6)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0_0) = v0 c
          ∧ r.2.mem ((c.tc : Thread Cert.ProjectIdeal.nD Cert.ProjectIdeal.τ).loc Cert.ProjectIdeal.main_v0_1) = v1 c
          ∧ r.2.mem ((c.tc : Thread Cert.ProjectIdeal.nD Cert.ProjectIdeal.τ).loc Cert.ProjectIdeal.main_v0_2) = v2 c
          ∧ r.2.mem ((c.tc : Thread Cert.ProjectIdeal.nD Cert.ProjectIdeal.τ).loc Cert.ProjectIdeal.main_v0_3) = v3 c
          ∧ r.2.mem ((c.tc : Thread Cert.ProjectIdeal.nD Cert.ProjectIdeal.τ).loc Cert.ProjectIdeal.main_v0_4) = v4 c
          ∧ r.2.mem ((c.tc : Thread Cert.ProjectIdeal.nD Cert.ProjectIdeal.τ).loc Cert.ProjectIdeal.main_v0_5) = v5 c
          ∧ r.2.mem ((c.tc : Thread Cert.ProjectIdeal.nD Cert.ProjectIdeal.τ).loc Cert.ProjectIdeal.main_v0_6) = v6 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4)
          ∧ r.2.mem ((c.tc : Thread Cert.ProjectIdeal.nD Cert.ProjectIdeal.τ).loc Cert.ProjectIdeal.main_arg5) = m ((c.tc : Thread Cert.ProjectIdeal.nD Cert.ProjectIdeal.τ).loc Cert.ProjectIdeal.main_arg5)
          ∧ r.2.mem ((c.tc : Thread Cert.ProjectIdeal.nD Cert.ProjectIdeal.τ).loc Cert.ProjectIdeal.main_arg6) = m ((c.tc : Thread Cert.ProjectIdeal.nD Cert.ProjectIdeal.τ).loc Cert.ProjectIdeal.main_arg6)
          ∧ r.2.mem ((c.tc : Thread Cert.ProjectIdeal.nD Cert.ProjectIdeal.τ).loc Cert.ProjectIdeal.main_arg7) = m ((c.tc : Thread Cert.ProjectIdeal.nD Cert.ProjectIdeal.τ).loc Cert.ProjectIdeal.main_arg7))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v119) = v0 c
          ∧ r.2.mem ((c.tc : Thread Cert.ProjectReferenceIdeal.nD Cert.ProjectReferenceIdeal.τ).loc Cert.ProjectReferenceIdeal.main_v120) = v1 c
          ∧ r.2.mem ((c.tc : Thread Cert.ProjectReferenceIdeal.nD Cert.ProjectReferenceIdeal.τ).loc Cert.ProjectReferenceIdeal.main_v121) = v2 c
          ∧ r.2.mem ((c.tc : Thread Cert.ProjectReferenceIdeal.nD Cert.ProjectReferenceIdeal.τ).loc Cert.ProjectReferenceIdeal.main_v122) = v3 c
          ∧ r.2.mem ((c.tc : Thread Cert.ProjectReferenceIdeal.nD Cert.ProjectReferenceIdeal.τ).loc Cert.ProjectReferenceIdeal.main_v123) = v4 c
          ∧ r.2.mem ((c.tc : Thread Cert.ProjectReferenceIdeal.nD Cert.ProjectReferenceIdeal.τ).loc Cert.ProjectReferenceIdeal.main_v48) = v5 c
          ∧ r.2.mem ((c.tc : Thread Cert.ProjectReferenceIdeal.nD Cert.ProjectReferenceIdeal.τ).loc Cert.ProjectReferenceIdeal.main_v130) = v6 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4)
          ∧ r.2.mem ((c.tc : Thread Cert.ProjectReferenceIdeal.nD Cert.ProjectReferenceIdeal.τ).loc Cert.ProjectReferenceIdeal.main_arg5) = m' ((c.tc : Thread Cert.ProjectReferenceIdeal.nD Cert.ProjectReferenceIdeal.τ).loc Cert.ProjectReferenceIdeal.main_arg5)
          ∧ r.2.mem ((c.tc : Thread Cert.ProjectReferenceIdeal.nD Cert.ProjectReferenceIdeal.τ).loc Cert.ProjectReferenceIdeal.main_arg6) = m' ((c.tc : Thread Cert.ProjectReferenceIdeal.nD Cert.ProjectReferenceIdeal.τ).loc Cert.ProjectReferenceIdeal.main_arg6)
          ∧ r.2.mem ((c.tc : Thread Cert.ProjectReferenceIdeal.nD Cert.ProjectReferenceIdeal.τ).loc Cert.ProjectReferenceIdeal.main_arg7) = m' ((c.tc : Thread Cert.ProjectReferenceIdeal.nD Cert.ProjectReferenceIdeal.τ).loc Cert.ProjectReferenceIdeal.main_arg7))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFfn : Cert.Ffn.Facts) (hFfnIdeal : Cert.FfnIdeal.Facts) (hFfnReferenceIdeal : Cert.FfnReferenceIdeal.Facts) (hProject : Cert.Project.Facts) (hProjectIdeal : Cert.ProjectIdeal.Facts) (hProjectReferenceIdeal : Cert.ProjectReferenceIdeal.Facts) (hPre_finite : Cert.Pre_finite.Facts) (hPre_projectable : Cert.Pre_projectable.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Project (hProject := hProject)
    ∧ quiescent_ProjectIdeal (hProjectIdeal := hProjectIdeal)
    ∧ quiescent_ProjectIdeal_pre_projectable (hProjectIdeal := hProjectIdeal) (hPre_projectable := hPre_projectable)
    ∧ quiescent_ProjectReferenceIdeal (hProjectReferenceIdeal := hProjectReferenceIdeal)
    ∧ quiescent_ProjectReferenceIdeal_pre_projectable (hProjectReferenceIdeal := hProjectReferenceIdeal) (hPre_projectable := hPre_projectable)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeReferenceIdeal (hMergeIdeal := hMergeIdeal) (hMergeReferenceIdeal := hMergeReferenceIdeal)
    ∧ preserves_Ffn_FfnIdeal
    ∧ algebraic_FfnIdeal_FfnReferenceIdeal (hFfnIdeal := hFfnIdeal) (hFfnReferenceIdeal := hFfnReferenceIdeal)
    ∧ preserves_Project_ProjectIdeal
    ∧ algebraic_ProjectIdeal_ProjectReferenceIdeal_pre_projectable (hProjectIdeal := hProjectIdeal) (hProjectReferenceIdeal := hProjectReferenceIdeal) (hPre_projectable := hPre_projectable)
-- ==== Pre_finite.lean ====
abbrev S17408x512 : Shape := ⟨2, ![17408, 512]⟩
abbrev S17408x256 : Shape := ⟨2, ![17408, 256]⟩
abbrev S68x128x256 : Shape := ⟨3, ![68, 128, 256]⟩
abbrev S1 : Shape := ⟨1, ![1]⟩
abbrev S_ : Shape := ⟨0, ![]⟩

class Facts : Prop where
  bitsLt_bf16_f32 : FTy.bits .bf16 < FTy.bits .f32
  bcast_S_S17408x512 : S_.BroadcastsInDim S17408x512 (![] : Fin 0 → Fin S17408x512.rank)
  reducesTo_S17408x512_S_d0_1 : S17408x512.ReducesTo [0, 1] S_
  h_S_ : 0 < S_.numel
  bcast_S_S17408x256 : S_.BroadcastsInDim S17408x256 (![] : Fin 0 → Fin S17408x256.rank)
  reducesTo_S17408x256_S_d0_1 : S17408x256.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg3 : FVec F S1 .f32) (main_v14 : IVec S_ 1) (main_v16 : IVec S1 1) : IVec S_ 1 :=
  let main_cst_5 : FVec F S_ .f32 := constant S_ .f32 0x7F800000#32
  let main_v17 : FVec F S1 .f32 := broadcastInDim S1 ![] bcast_S_S1 main_cst_5
  let main_v18 : IVec S1 1 := cmpf .olt main_arg3 main_v17
  let main_v19 : IVec S1 1 := andi main_v16 main_v18
  let main_c_6 : IVec S_ 1 := constantI S_ 1 1#1
  let main_v20 : IVec S_ 1 := (fun x v => Host.reduce IntOp.andi x v reducesTo_S1_S_d0 h_S_) main_v19 main_c_6
  let main_v21 : IVec S_ 1 := andi main_v14 main_v20
  main_v21

def fn {F : FTy → Type} [FloatOps F] (main_arg0 : FVec F S17408x512 .bf16) (main_arg1 : FVec F S17408x256 .bf16) (main_arg2 : FVec F S68x128x256 .bf16) (main_arg3 : FVec F S1 .f32) : IVec S_ 1 :=
  let main_v0 : FVec F S17408x512 .f32 := (extf .f32 · bitsLt_bf16_f32) main_arg0
  let main_v1 : FVec F S17408x256 .f32 := (extf .f32 · bitsLt_bf16_f32) main_arg1
  let main_cst : FVec F S_ .f32 := constant S_ .f32 0xFF800000#32
  let main_v2 : FVec F S17408x512 .f32 := broadcastInDim S17408x512 ![] bcast_S_S17408x512 main_cst
  let main_v3 : IVec S17408x512 1 := cmpf .ogt main_v0 main_v2
  let main_cst_0 : FVec F S_ .f32 := constant S_ .f32 0x7F800000#32
  let main_v4 : FVec F S17408x512 .f32 := broadcastInDim S17408x512 ![] bcast_S_S17408x512 main_cst_0
  let main_v5 : IVec S17408x512 1 := cmpf .olt main_v0 main_v4
  let main_v6 : IVec S17408x512 1 := andi main_v3 main_v5
  let main_c : IVec S_ 1 := constantI S_ 1 1#1
  let main_v7 : IVec S_ 1 := (fun x v => Host.reduce IntOp.andi x v reducesTo_S17408x512_S_d0_1 h_S_) main_v6 main_c
  let main_cst_1 : FVec F S_ .f32 := constant S_ .f32 0xFF800000#32
  let main_v8 : FVec F S17408x256 .f32 := broadcastInDim S17408x256 ![] bcast_S_S17408x256 main_cst_1
  let main_v9 : IVec S17408x256 1 := cmpf .ogt main_v1 main_v8
  let main_cst_2 : FVec F S_ .f32 := constant S_ .f32 0x7F800000#32
  let main_v10 : FVec F S17408x256 .f32 := broadcastInDim S17408x256 ![] bcast_S_S17408x256 main_cst_2
  let main_v11 : IVec S17408x256 1 := cmpf .olt main_v1 main_v10
  let main_v12 : IVec S17408x256 1 := andi main_v9 main_v11
  let main_c_3 : IVec S_ 1 := constantI S_ 1 1#1
  let main_v13 : IVec S_ 1 := (fun x v => Host.reduce IntOp.andi x v reducesTo_S17408x256_S_d0_1 h_S_) main_v12 main_c_3
  let main_v14 : IVec S_ 1 := andi main_v7 main_v13
  let main_cst_4 : FVec F S_ .f32 := constant S_ .f32 0xFF800000#32
  let main_v15 : FVec F S1 .f32 := broadcastInDim S1 ![] bcast_S_S1 main_cst_4
  let main_v16 : IVec S1 1 := cmpf .ogt main_arg3 main_v15
  fn_part1 (F := F) main_arg3 main_v14 main_v16
-- ==== Pre_projectable.lean ====
abbrev S17408x1024 : Shape := ⟨2, ![17408, 1024]⟩
abbrev S8x6x1024 : Shape := ⟨3, ![8, 6, 1024]⟩
abbrev S1024x7040 : Shape := ⟨2, ![1024, 7040]⟩
abbrev S1x7040 : Shape := ⟨2, ![1, 7040]⟩
abbrev S4352x128 : Shape := ⟨2, ![4352, 128]⟩
abbrev S1x128 : Shape := ⟨2, ![1, 128]⟩
abbrev S8x2x1024 : Shape := ⟨3, ![8, 2, 1024]⟩
abbrev S1024x640 : Shape := ⟨2, ![1024, 640]⟩
abbrev S1x640 : Shape := ⟨2, ![1, 640]⟩
abbrev S_ : Shape := ⟨0, ![]⟩

class Facts : Prop where
  slices_S8x6x1024_S8x2x1024_0_0_0 : S8x6x1024.Slices ![0, 0, 0] S8x2x1024
  slices_S1024x7040_S1024x640_0_1536 : S1024x7040.Slices ![0, 1536] S1024x640
  bitsLt_bf16_f32 : FTy.bits .bf16 < FTy.bits .f32
  slices_S1x7040_S1x640_0_1536 : S1x7040.Slices ![0, 1536] S1x640
  bcast_S_S17408x1024 : S_.BroadcastsInDim S17408x1024 (![] : Fin 0 → Fin S17408x1024.rank)
  reducesTo_S17408x1024_S_d0_1 : S17408x1024.ReducesTo [0, 1] S_
  h_S_ : 0 < S_.numel
  bcast_S_S8x2x1024 : S_.BroadcastsInDim S8x2x1024 (![] : Fin 0 → Fin S8x2x1024.rank)
  reducesTo_S8x2x1024_S_d0_1_2 : S8x2x1024.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S1x640 : S_.BroadcastsInDim S1x640 (![] : Fin 0 → Fin S1x640.rank)
  reducesTo_S1x640_S_d0_1 : S1x640.ReducesTo [0, 1] S_

variable [Facts]

def fn_part1 {F : FTy → Type} [FloatOps F] (main_v2 : FVec F S1024x640 .f32) (main_v3 : FVec F S1x640 .f32) (main_v16 : IVec S_ 1) (main_cst_4 : FVec F S_ .f32) : IVec S_ 1 :=
  let main_v17 : FVec F S1024x640 .f32 := broadcastInDim S1024x640 ![] bcast_S_S1024x640 main_cst_4
  let main_v18 : IVec S1024x640 1 := cmpf .ogt main_v2 main_v17
  let main_cst_5 : FVec F S_ .f32 := constant S_ .f32 0x7F800000#32
  let main_v19 : FVec F S1024x640 .f32 := broadcastInDim S1024x640 ![] bcast_S_S1024x640 main_cst_5
  let main_v20 : IVec S1024x640 1 := cmpf .olt main_v2 main_v19
  let main_v21 : IVec S1024x640 1 := andi main_v18 main_v20
  let main_c_6 : IVec S_ 1 := constantI S_ 1 1#1
  let main_v22 : IVec S_ 1 := (fun x v => Host.reduce IntOp.andi x v reducesTo_S1024x640_S_d0_1 h_S_) main_v21 main_c_6
  let main_v23 : IVec S_ 1 := andi main_v16 main_v22
  let main_cst_7 : FVec F S_ .f32 := constant S_ .f32 0xFF800000#32
  let main_v24 : FVec F S1x640 .f32 := broadcastInDim S1x640 ![] bcast_S_S1x640 main_cst_7
  let main_v25 : IVec S1x640 1 := cmpf .ogt main_v3 main_v24
  let main_cst_8 : FVec F S_ .f32 := constant S_ .f32 0x7F800000#32
  let main_v26 : FVec F S1x640 .f32 := broadcastInDim S1x640 ![] bcast_S_S1x640 main_cst_8
  let main_v27 : IVec S1x640 1 := cmpf .olt main_v3 main_v26
  let main_v28 : IVec S1x640 1 := andi main_v25 main_v27
  let main_c_9 : IVec S_ 1 := constantI S_ 1 1#1
  let main_v29 : IVec S_ 1 := (fun x v => Host.reduce IntOp.andi x v reducesTo_S1x640_S_d0_1 h_S_) main_v28 main_c_9
  let main_v30 : IVec S_ 1 := andi main_v23 main_v29
  main_v30

def fn {F : FTy → Type} [FloatOps F] (main_arg0 : FVec F S17408x1024 .f32) (main_arg1 : FVec F S8x6x1024 .f32) (main_arg2 : FVec F S1024x7040 .bf16) (main_arg3 : FVec F S1x7040 .f32) (main_arg4 : FVec F S4352x128 .f32) (main_arg5 : FVec F S4352x128 .f32) (main_arg6 : FVec F S1x128 .f32) (main_arg7 : FVec F S1x128 .f32) : IVec S_ 1 :=
  let main_v0 : FVec F S8x2x1024 .f32 := (extractStridedSlice S8x2x1024 ![0, 0, 0] · slices_S8x6x1024_S8x2x1024_0_0_0) main_arg1
  let main_v1 : FVec F S1024x640 .bf16 := (extractStridedSlice S1024x640 ![0, 1536] · slices_S1024x7040_S1024x640_0_1536) main_arg2
  let main_v2 : FVec F S1024x640 .f32 := (extf .f32 · bitsLt_bf16_f32) main_v1
  let main_v3 : FVec F S1x640 .f32 := (extractStridedSlice S1x640 ![0, 1536] · slices_S1x7040_S1x640_0_1536) main_arg3
  let main_cst : FVec F S_ .f32 := constant S_ .f32 0xFF800000#32
  let main_v4 : FVec F S17408x1024 .f32 := broadcastInDim S17408x1024 ![] bcast_S_S17408x1024 main_cst
  let main_v5 : IVec S17408x1024 1 := cmpf .ogt main_arg0 main_v4
  let main_cst_0 : FVec F S_ .f32 := constant S_ .f32 0x7F800000#32
  let main_v6 : FVec F S17408x1024 .f32 := broadcastInDim S17408x1024 ![] bcast_S_S17408x1024 main_cst_0
  let main_v7 : IVec S17408x1024 1 := cmpf .olt main_arg0 main_v6
  let main_v8 : IVec S17408x1024 1 := andi main_v5 main_v7
  let main_c : IVec S_ 1 := constantI S_ 1 1#1
  let main_v9 : IVec S_ 1 := (fun x v => Host.reduce IntOp.andi x v reducesTo_S17408x1024_S_d0_1 h_S_) main_v8 main_c
  let main_cst_1 : FVec F S_ .f32 := constant S_ .f32 0xFF800000#32
  let main_v10 : FVec F S8x2x1024 .f32 := broadcastInDim S8x2x1024 ![] bcast_S_S8x2x1024 main_cst_1
  let main_v11 : IVec S8x2x1024 1 := cmpf .ogt main_v0 main_v10
  let main_cst_2 : FVec F S_ .f32 := constant S_ .f32 0x7F800000#32
  let main_v12 : FVec F S8x2x1024 .f32 := broadcastInDim S8x2x1024 ![] bcast_S_S8x2x1024 main_cst_2
  let main_v13 : IVec S8x2x1024 1 := cmpf .olt main_v0 main_v12
  let main_v14 : IVec S8x2x1024 1 := andi main_v11 main_v13
  let main_c_3 : IVec S_ 1 := constantI S_ 1 1#1
  let main_v15 : IVec S_ 1 := (fun x v => Host.reduce IntOp.andi x v reducesTo_S8x2x1024_S_d0_1_2 h_S_) main_v14 main_c_3
  let main_v16 : IVec S_ 1 := andi main_v9 main_v15
  let main_cst_4 : FVec F S_ .f32 := constant S_ .f32 0xFF800000#32
  fn_part1 (F := F) main_v2 main_v3 main_v16 main_cst_4
-- ==== Kernel.lean ====
abbrev S17408x512 : Shape := ⟨2, ![17408, 512]⟩
abbrev S17408x256 : Shape := ⟨2, ![17408, 256]⟩
abbrev S68x128x256 : Shape := ⟨3, ![68, 128, 256]⟩
abbrev S1 : Shape := ⟨1, ![1]⟩
abbrev S256x512 : Shape := ⟨2, ![256, 512]⟩
abbrev S4352x256 : Shape := ⟨2, ![4352, 256]⟩
abbrev S17x128x256 : Shape := ⟨3, ![17, 128, 256]⟩
abbrev S4x8x512 : Shape := ⟨3, ![4, 8, 512]⟩
abbrev S4x80x512 : Shape := ⟨3, ![4, 80, 512]⟩
abbrev S4x512x512 : Shape := ⟨3, ![4, 512, 512]⟩
abbrev S128x128 : Shape := ⟨2, ![128, 128]⟩
abbrev S512x128 : Shape := ⟨2, ![512, 128]⟩
abbrev S4x256x512 : Shape := ⟨3, ![4, 256, 512]⟩
abbrev S256x128 : Shape := ⟨2, ![256, 128]⟩
abbrev S1x256x512 : Shape := ⟨3, ![1, 256, 512]⟩
abbrev S512x512 : Shape := ⟨2, ![512, 512]⟩
abbrev S1x128x256 : Shape := ⟨3, ![1, 128, 256]⟩
abbrev S128x256 : Shape := ⟨2, ![128, 256]⟩
abbrev S64x256 : Shape := ⟨2, ![64, 256]⟩
abbrev S64x512 : Shape := ⟨2, ![64, 512]⟩
abbrev S16x512 : Shape := ⟨2, ![16, 512]⟩
abbrev S80x512 : Shape := ⟨2, ![80, 512]⟩
abbrev S1x512x512 : Shape := ⟨3, ![1, 512, 512]⟩
abbrev S1x80x512 : Shape := ⟨3, ![1, 80, 512]⟩
abbrev S1x512 : Shape := ⟨2, ![1, 512]⟩
abbrev S64x128 : Shape := ⟨2, ![64, 128]⟩

abbrev nBuf : Space → Nat
  | .hbm => 5
  | .vmem => 12
  | .smem => 1
  | _ => 0

abbrev bufTy : (tb : Table) → Fin (tcTables nBuf tb) → BufTy
  | .hbm, ⟨0, _⟩ => ⟨S17408x512, .bf16⟩
  | .hbm, ⟨1, _⟩ => ⟨S17408x256, .bf16⟩
  | .hbm, ⟨2, _⟩ => ⟨S68x128x256, .bf16⟩
  | .hbm, ⟨3, _⟩ => ⟨S1, .f32⟩
  | .hbm, ⟨4, _⟩ => ⟨S17408x512, .bf16⟩
  | .local _ .vmem, ⟨0, _⟩ => ⟨S256x512, .bf16⟩
  | .local _ .vmem, ⟨1, _⟩ => ⟨S256x512, .bf16⟩
  | .local _ .vmem, ⟨2, _⟩ => ⟨S4352x256, .bf16⟩
  | .local _ .vmem, ⟨3, _⟩ => ⟨S4352x256, .bf16⟩
  | .local _ .vmem, ⟨4, _⟩ => ⟨S17x128x256, .bf16⟩
  | .local _ .vmem, ⟨5, _⟩ => ⟨S17x128x256, .bf16⟩
  | .local _ .vmem, ⟨6, _⟩ => ⟨S256x512, .bf16⟩
  | .local _ .vmem, ⟨7, _⟩ => ⟨S256x512, .bf16⟩
  | .local _ .vmem, ⟨8, _⟩ => ⟨S4x8x512, .f32⟩
  | .local _ .vmem, ⟨9, _⟩ => ⟨S4x8x512, .f32⟩
  | .local _ .vmem, ⟨10, _⟩ => ⟨S4x80x512, .f32⟩
  | .local _ .vmem, ⟨11, _⟩ => ⟨S4x512x512, .bf16⟩
  | .local _ .smem, ⟨0, _⟩ => ⟨S1, .f32⟩
  | _, _ => ⟨S17408x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 17], ![false, false]⟩

@[reducible] def k0_t1_loop (i : grid0.Coords) : Scf.Loop 32 :=
  let c0_i32_83 : BitVec 32 := 0#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v111 : BitVec 32 := Scalar.subi v110 c0_i32_83
  let c1_i32_84 : BitVec 32 := 1#32
  let v113 : BitVec 32 := Scalar.divsi v111 c1_i32_84
  let v114 : BitVec 32 := Scalar.muli v113 c1_i32_84
  let v115 : BitVec 32 := Scalar.addi c0_i32_83 v114
  let c1_i32_85 : BitVec 32 := 1#32
  ⟨c0_i32_83, v115, c1_i32_85⟩
def k0_mult1 (i : grid0.Coords) (k0_t1 : Fin (k0_t1_loop i).trips) : BitVec 32 :=
  let c256_i32 : BitVec 32 := 256#32
  let c0_i32_83 : BitVec 32 := 0#32
  let c1_i32_85 : BitVec 32 := 1#32
  let arg11 : BitVec 32 := Scf.iv c0_i32_83 c1_i32_85 k0_t1
  let c512_i32 : BitVec 32 := 512#32
  let v288 : BitVec 32 := Scalar.muli arg11 c512_i32
  let v289 : BitVec 32 := Scalar.addi c256_i32 v288
  v289
def k0_off1 (i : grid0.Coords) (k0_t1 : Fin (k0_t1_loop i).trips) : Fin 2 → Nat :=
  let c256_i32 : BitVec 32 := 256#32
  let c0_i32_83 : BitVec 32 := 0#32
  let c1_i32_85 : BitVec 32 := 1#32
  let arg11 : BitVec 32 := Scf.iv c0_i32_83 c1_i32_85 k0_t1
  let c512_i32 : BitVec 32 := 512#32
  let v288 : BitVec 32 := Scalar.muli arg11 c512_i32
  let v289 : BitVec 32 := Scalar.addi c256_i32 v288
  let v290 : BitVec 32 := v289
  let v291 : Index := Scalar.indexCast v290
  let c0_194 : Index := 0#32
  ![v291.toNat, 0]
def k0_off2 (i : grid0.Coords) (k0_t1 : Fin (k0_t1_loop i).trips) : Fin 2 → Nat :=
  let c256_i32 : BitVec 32 := 256#32
  let c0_i32_83 : BitVec 32 := 0#32
  let c1_i32_85 : BitVec 32 := 1#32
  let arg11 : BitVec 32 := Scf.iv c0_i32_83 c1_i32_85 k0_t1
  let c512_i32 : BitVec 32 := 512#32
  let v288 : BitVec 32 := Scalar.muli arg11 c512_i32
  let v289 : BitVec 32 := Scalar.addi c256_i32 v288
  let v290 : BitVec 32 := v289
  let v297 : Index := Scalar.indexCast v290
  let c128_198 : Index := 128#32
  ![v297.toNat, 128]
def k0_off3 (i : grid0.Coords) (k0_t1 : Fin (k0_t1_loop i).trips) (c0_i32_205 : BitVec 32) : Fin 3 → Nat :=
  let c2_i32_202 : BitVec 32 := 2#32
  let c0_i32_83 : BitVec 32 := 0#32
  let c1_i32_85 : BitVec 32 := 1#32
  let arg11 : BitVec 32 := Scf.iv c0_i32_83 c1_i32_85 k0_t1
  let v303 : BitVec 32 := Scalar.muli c2_i32_202 arg11
  let c1_i32_203 : BitVec 32 := 1#32
  let v304 : BitVec 32 := Scalar.subi v303 c1_i32_203
  let c0_i32_204 : BitVec 32 := 0#32
  let v305 : BitVec 32 := Scalar.maxsi v304 c0_i32_204
  let v306 : BitVec 32 := Scalar.addi v305 c0_i32_205
  let v307 : Index := Scalar.indexCast v306
  let c0_206 : Index := 0#32
  let c0_207 : Index := 0#32
  ![v307.toNat, 0, 0]
@[reducible] def k0_t2_loop (i : grid0.Coords) : Scf.Loop 32 :=
  let c0_i32_83 : BitVec 32 := 0#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v111 : BitVec 32 := Scalar.subi v110 c0_i32_83
  let c1_i32_84 : BitVec 32 := 1#32
  let v113 : BitVec 32 := Scalar.divsi v111 c1_i32_84
  let v114 : BitVec 32 := Scalar.muli v113 c1_i32_84
  let v115 : BitVec 32 := Scalar.addi c0_i32_83 v114
  let v112 : BitVec 32 := Scalar.addi c0_i32_83 v111
  let c1_i32_86 : BitVec 32 := 1#32
  ⟨v115, v112, c1_i32_86⟩
def k0_mult2 (i : grid0.Coords) (k0_t2 : Fin (k0_t2_loop i).trips) : BitVec 32 :=
  let c256_i32 : BitVec 32 := 256#32
  let c0_i32_83 : BitVec 32 := 0#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v111 : BitVec 32 := Scalar.subi v110 c0_i32_83
  let c1_i32_84 : BitVec 32 := 1#32
  let v113 : BitVec 32 := Scalar.divsi v111 c1_i32_84
  let v114 : BitVec 32 := Scalar.muli v113 c1_i32_84
  let v115 : BitVec 32 := Scalar.addi c0_i32_83 v114
  let c1_i32_86 : BitVec 32 := 1#32
  let arg11 : BitVec 32 := Scf.iv v115 c1_i32_86 k0_t2
  let c512_i32 : BitVec 32 := 512#32
  let v288 : BitVec 32 := Scalar.muli arg11 c512_i32
  let v289 : BitVec 32 := Scalar.addi c256_i32 v288
  v289
def k0_off4 (i : grid0.Coords) (k0_t2 : Fin (k0_t2_loop i).trips) : Fin 2 → Nat :=
  let c256_i32 : BitVec 32 := 256#32
  let c0_i32_83 : BitVec 32 := 0#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v111 : BitVec 32 := Scalar.subi v110 c0_i32_83
  let c1_i32_84 : BitVec 32 := 1#32
  let v113 : BitVec 32 := Scalar.divsi v111 c1_i32_84
  let v114 : BitVec 32 := Scalar.muli v113 c1_i32_84
  let v115 : BitVec 32 := Scalar.addi c0_i32_83 v114
  let c1_i32_86 : BitVec 32 := 1#32
  let arg11 : BitVec 32 := Scf.iv v115 c1_i32_86 k0_t2
  let c512_i32 : BitVec 32 := 512#32
  let v288 : BitVec 32 := Scalar.muli arg11 c512_i32
  let v289 : BitVec 32 := Scalar.addi c256_i32 v288
  let v290 : BitVec 32 := v289
  let v291 : Index := Scalar.indexCast v290
  let c0_194 : Index := 0#32
  ![v291.toNat, 0]
def k0_off5 (i : grid0.Coords) (k0_t2 : Fin (k0_t2_loop i).trips) : Fin 2 → Nat :=
  let c256_i32 : BitVec 32 := 256#32
  let c0_i32_83 : BitVec 32 := 0#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v111 : BitVec 32 := Scalar.subi v110 c0_i32_83
  let c1_i32_84 : BitVec 32 := 1#32
  let v113 : BitVec 32 := Scalar.divsi v111 c1_i32_84
  let v114 : BitVec 32 := Scalar.muli v113 c1_i32_84
  let v115 : BitVec 32 := Scalar.addi c0_i32_83 v114
  let c1_i32_86 : BitVec 32 := 1#32
  let arg11 : BitVec 32 := Scf.iv v115 c1_i32_86 k0_t2
  let c512_i32 : BitVec 32 := 512#32
  let v288 : BitVec 32 := Scalar.muli arg11 c512_i32
  let v289 : BitVec 32 := Scalar.addi c256_i32 v288
  let v290 : BitVec 32 := v289
  let v297 : Index := Scalar.indexCast v290
  let c128_198 : Index := 128#32
  ![v297.toNat, 128]
def k0_off6 (i : grid0.Coords) (k0_t2 : Fin (k0_t2_loop i).trips) (c0_i32_205 : BitVec 32) : Fin 3 → Nat :=
  let c2_i32_202 : BitVec 32 := 2#32
  let c0_i32_83 : BitVec 32 := 0#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v111 : BitVec 32 := Scalar.subi v110 c0_i32_83
  let c1_i32_84 : BitVec 32 := 1#32
  let v113 : BitVec 32 := Scalar.divsi v111 c1_i32_84
  let v114 : BitVec 32 := Scalar.muli v113 c1_i32_84
  let v115 : BitVec 32 := Scalar.addi c0_i32_83 v114
  let c1_i32_86 : BitVec 32 := 1#32
  let arg11 : BitVec 32 := Scf.iv v115 c1_i32_86 k0_t2
  let v303 : BitVec 32 := Scalar.muli c2_i32_202 arg11
  let c1_i32_203 : BitVec 32 := 1#32
  let v304 : BitVec 32 := Scalar.subi v303 c1_i32_203
  let c0_i32_204 : BitVec 32 := 0#32
  let v305 : BitVec 32 := Scalar.maxsi v304 c0_i32_204
  let v306 : BitVec 32 := Scalar.addi v305 c0_i32_205
  let v307 : Index := Scalar.indexCast v306
  let c0_206 : Index := 0#32
  let c0_207 : Index := 0#32
  ![v307.toNat, 0, 0]
def k0_off7 (i : grid0.Coords) (c0_i32_89 : BitVec 32) : Fin 3 → Nat :=
  let c2_i32 : BitVec 32 := 2#32
  let arg1 : BitVec 32 := BitVec.ofNat 32 (i 1).val
  let c1_i32 : BitVec 32 := 1#32
  let v0 : BitVec 1 := Scalar.cmpi .slt arg1 c1_i32
  let c0_i32 : BitVec 32 := 0#32
  let c8_i32 : BitVec 32 := 8#32
  let v110 : BitVec 32 := Scalar.select v0 c0_i32 c8_i32
  let v116 : BitVec 32 := Scalar.muli c2_i32 v110
  let c1_i32_87 : BitVec 32 := 1#32
  let v117 : BitVec 32 := Scalar.subi v116 c1_i32_87
  let c0_i32_88 : BitVec 32 := 0#32
  let v118 : BitVec 32 := Scalar.maxsi v117 c0_i32_88
  let v119 : BitVec 32 := Scalar.addi v118 c0_i32_89
  let v120 : Index := Scalar.indexCast v119
  let c0_90 : Index := 0#32
  let c0_91 : Index := 0#32
  ![v120.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S17x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S17408x512 : Shape := ⟨2, ![17408, 512]⟩
abbrev S17408x256 : Shape := ⟨2, ![17408, 256]⟩
abbrev S68x128x256 : Shape := ⟨3, ![68, 128, 256]⟩
abbrev S1 : Shape := ⟨1, ![1]⟩
abbrev S4x4352x2x2x2x64 : Shape := ⟨6, ![4, 4352, 2, 2, 2, 64]⟩
abbrev S4x4352x2x2x64 : Shape := ⟨5, ![4, 4352, 2, 2, 64]⟩
abbrev S4x17x128x256 : Shape := ⟨4, ![4, 17, 128, 256]⟩
abbrev S4x17x256x128 : Shape := ⟨4, ![4, 17, 256, 128]⟩
abbrev S4x4352x2x64 : Shape := ⟨4, ![4, 4352, 2, 64]⟩
abbrev S4x256x2x2x2x64 : Shape := ⟨6, ![4, 256, 2, 2, 2, 64]⟩
abbrev S4x256x2x2x64 : Shape := ⟨5, ![4, 256, 2, 2, 64]⟩
abbrev S4x256x2x64 : Shape := ⟨4, ![4, 256, 2, 64]⟩
abbrev S4x2x2x256x256x2 : Shape := ⟨6, ![4, 2, 2, 256, 256, 2]⟩
abbrev S4x2x2x2x256x256 : Shape := ⟨6, ![4, 2, 2, 2, 256, 256]⟩
abbrev S_ : Shape := ⟨0, ![]⟩
abbrev S4x2x2x2x256 : Shape := ⟨5, ![4, 2, 2, 2, 256]⟩
abbrev S4x2x2x2x256x1 : Shape := ⟨6, ![4, 2, 2, 2, 256, 1]⟩
abbrev S4x2x64x2x2x256 : Shape := ⟨6, ![4, 2, 64, 2, 2, 256]⟩
abbrev S4x4096x2x2x2x64 : Shape := ⟨6, ![4, 4096, 2, 2, 2, 64]⟩
abbrev S4x2x2x4352x4096x2 : Shape := ⟨6, ![4, 2, 2, 4352, 4096, 2]⟩
abbrev S4x2x2x2x4096x4352 : Shape := ⟨6, ![4, 2, 2, 2, 4096, 4352]⟩
abbrev S4x2x2x2x4096 : Shape := ⟨5, ![4, 2, 2, 2, 4096]⟩
abbrev S4x2x2x2x4096x1 : Shape := ⟨6, ![4, 2, 2, 2, 4096, 1]⟩
abbrev S4x2x64x2x2x4096 : Shape := ⟨6, ![4, 2, 64, 2, 2, 4096]⟩

abbrev nBuf : Space → Nat
  | .hbm => 63
  | .vmem => 0
  | .smem => 0
  | _ => 0

abbrev bufTy : (tb : Table) → Fin (tcTables nBuf tb) → BufTy
  | .hbm, ⟨0, _⟩ => ⟨S17408x512, .bf16⟩
  | .hbm, ⟨1, _⟩ => ⟨S17408x256, .bf16⟩
  | .hbm, ⟨2, _⟩ => ⟨S68x128x256, .bf16⟩
  | .hbm, ⟨3, _⟩ => ⟨S1, .f32⟩
  | .hbm, ⟨4, _⟩ => ⟨S4x4352x2x2x2x64, .bf16⟩
  | .hbm, ⟨5, _⟩ => ⟨S4x4352x2x2x64, .bf16⟩
  | .hbm, ⟨6, _⟩ => ⟨S4x17x128x256, .bf16⟩
  | .hbm, ⟨7, _⟩ => ⟨S4x17x256x128, .bf16⟩
  | .hbm, ⟨8, _⟩ => ⟨S4x4352x2x64, .bf16⟩
  | .hbm, ⟨9, _⟩ => ⟨S4x256x2x2x2x64, .bf16⟩
  | .hbm, ⟨10, _⟩ => ⟨S4x256x2x2x64, .bf16⟩
  | .hbm, ⟨11, _⟩ => ⟨S4x256x2x64, .bf16⟩
  | .hbm, ⟨12, _⟩ => ⟨S4x2x2x256x256x2, .f32⟩
  | .hbm, ⟨13, _⟩ => ⟨S4x2x2x2x256x256, .f32⟩
  | .hbm, ⟨14, _⟩ => ⟨S_, .f32⟩
  | .hbm, ⟨15, _⟩ => ⟨S_, .f32⟩
  | .hbm, ⟨16, _⟩ => ⟨S4x2x2x2x256x256, .f32⟩
  | .hbm, ⟨17, _⟩ => ⟨S4x2x2x2x256x256, .f32⟩
  | .hbm, ⟨18, _⟩ => ⟨S_, .f32⟩
  | .hbm, ⟨19, _⟩ => ⟨S4x2x2x2x256, .f32⟩
  | .hbm, ⟨20, _⟩ => ⟨S_, .f32⟩
  | .hbm, ⟨21, _⟩ => ⟨S4x2x2x2x256, .f32⟩
  | .hbm, ⟨22, _⟩ => ⟨S4x2x2x2x256, .f32⟩
  | .hbm, ⟨23, _⟩ => ⟨S4x2x2x2x256x1, .f32⟩
  | .hbm, ⟨24, _⟩ => ⟨S4x2x2x2x256x256, .f32⟩
  | .hbm, ⟨25, _⟩ => ⟨S4x2x2x2x256x256, .f32⟩
  | .hbm, ⟨26, _⟩ => ⟨S4x2x2x2x256x256, .f32⟩
  | .hbm, ⟨27, _⟩ => ⟨S_, .f32⟩
  | .hbm, ⟨28, _⟩ => ⟨S4x2x2x2x256, .f32⟩
  | .hbm, ⟨29, _⟩ => ⟨S4x2x2x2x256x1, .f32⟩
  | .hbm, ⟨30, _⟩ => ⟨S4x2x2x2x256x256, .f32⟩
  | .hbm, ⟨31, _⟩ => ⟨S4x2x2x2x256x256, .f32⟩
  | .hbm, ⟨32, _⟩ => ⟨S4x2x2x2x256x256, .bf16⟩
  | .hbm, ⟨33, _⟩ => ⟨S4x2x64x2x2x256, .f32⟩
  | .hbm, ⟨34, _⟩ => ⟨S4x256x2x2x2x64, .f32⟩
  | .hbm, ⟨35, _⟩ => ⟨S4x256x2x2x2x64, .bf16⟩
  | .hbm, ⟨36, _⟩ => ⟨S4x4096x2x2x2x64, .bf16⟩
  | .hbm, ⟨37, _⟩ => ⟨S4x2x2x4352x4096x2, .f32⟩
  | .hbm, ⟨38, _⟩ => ⟨S4x2x2x2x4096x4352, .f32⟩
  | .hbm, ⟨39, _⟩ => ⟨S_, .f32⟩
  | .hbm, ⟨40, _⟩ => ⟨S_, .f32⟩
  | .hbm, ⟨41, _⟩ => ⟨S4x2x2x2x4096x4352, .f32⟩
  | .hbm, ⟨42, _⟩ => ⟨S4x2x2x2x4096x4352, .f32⟩
  | .hbm, ⟨43, _⟩ => ⟨S_, .f32⟩
  | .hbm, ⟨44, _⟩ => ⟨S4x2x2x2x4096, .f32⟩
  | .hbm, ⟨45, _⟩ => ⟨S_, .f32⟩
  | .hbm, ⟨46, _⟩ => ⟨S4x2x2x2x4096, .f32⟩
  | .hbm, ⟨47, _⟩ => ⟨S4x2x2x2x4096, .f32⟩
  | .hbm, ⟨48, _⟩ => ⟨S4x2x2x2x4096x1, .f32⟩
  | .hbm, ⟨49, _⟩ => ⟨S4x2x2x2x4096x4352, .f32⟩
  | .hbm, ⟨50, _⟩ => ⟨S4x2x2x2x4096x4352, .f32⟩
  | .hbm, ⟨51, _⟩ => ⟨S4x2x2x2x4096x4352, .f32⟩
  | .hbm, ⟨52, _⟩ => ⟨S_, .f32⟩
  | .hbm, ⟨53, _⟩ => ⟨S4x2x2x2x4096, .f32⟩
  | .hbm, ⟨54, _⟩ => ⟨S4x2x2x2x4096x1, .f32⟩
  | .hbm, ⟨55, _⟩ => ⟨S4x2x2x2x4096x4352, .f32⟩
  | .hbm, ⟨56, _⟩ => ⟨S4x2x2x2x4096x4352, .f32⟩
  | .hbm, ⟨57, _⟩ => ⟨S4x2x2x2x4096x4352, .bf16⟩
  | .hbm, ⟨58, _⟩ => ⟨S4x2x64x2x2x4096, .f32⟩
  | .hbm, ⟨59, _⟩ => ⟨S4x4096x2x2x2x64, .f32⟩
  | .hbm, ⟨60, _⟩ => ⟨S4x4096x2x2x2x64, .bf16⟩
  | .hbm, ⟨61, _⟩ => ⟨S4x4352x2x2x2x64, .bf16⟩
  | .hbm, ⟨62, _⟩ => ⟨S17408x512, .bf16⟩
  | _, _ => ⟨S17408x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩

abbrev nD : Nat := 1
abbrev τ : Topo := Topo.v7x

variable {F : FTy → Type} [FloatOps F]
-- ==== Merge.lean ====
abbrev S17408x1024 : Shape := ⟨2, ![17408, 1024]⟩
abbrev S8x6x1024 : Shape := ⟨3, ![8, 6, 1024]⟩
abbrev S17408x512 : Shape := ⟨2, ![17408, 512]⟩
abbrev S17408x3072 : Shape := ⟨2, ![17408, 3072]⟩
abbrev S512x1024 : Shape := ⟨2, ![512, 1024]⟩
abbrev S1024x1024 : Shape := ⟨2, ![1024, 1024]⟩
abbrev S1x1024 : Shape := ⟨2, ![1, 1024]⟩
abbrev S256x1024 : Shape := ⟨2, ![256, 1024]⟩
abbrev S1x6x1024 : Shape := ⟨3, ![1, 6, 1024]⟩
abbrev S256x512 : Shape := ⟨2, ![256, 512]⟩
abbrev S256x3072 : Shape := ⟨2, ![256, 3072]⟩
abbrev S1x1x1024 : Shape := ⟨3, ![1, 1, 1024]⟩
abbrev S256 : Shape := ⟨1, ![256]⟩
abbrev S256x1 : Shape := ⟨2, ![256, 1]⟩

abbrev nBuf : Space → Nat
  | .hbm => 13
  | .vmem => 20
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S17408x512, .bf16⟩
  | .hbm, ⟨3, _⟩ => ⟨S17408x512, .bf16⟩
  | .hbm, ⟨4, _⟩ => ⟨S17408x512, .bf16⟩
  | .hbm, ⟨5, _⟩ => ⟨S17408x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S17408x1024, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x3072, .bf16⟩
  | .local _ .vmem, ⟨11, _⟩ => ⟨S256x3072, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S256x1024, .f32⟩
  | .local _ .vmem, ⟨19, _⟩ => ⟨S256x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 1 := Scalar.cmpi .sge v27 c1_i32_10
  let v29 : BitVec 32 := Scalar.extui v28
  let v30 : BitVec 32 := Scalar.addi v17 v29
  let c0_i32_11 : BitVec 32 := 0#32
  let c0_i32_12 : BitVec 32 := 0#32
  let c0_i32_13 : BitVec 32 := 0#32
  ![v30.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MergeReferenceIdeal.lean ====
abbrev S17408x1024 : Shape := ⟨2, ![17408, 1024]⟩
abbrev S8x6x1024 : Shape := ⟨3, ![8, 6, 1024]⟩
abbrev S17408x512 : Shape := ⟨2, ![17408, 512]⟩
abbrev S17408x3072 : Shape := ⟨2, ![17408, 3072]⟩
abbrev S512x1024 : Shape := ⟨2, ![512, 1024]⟩
abbrev S1024x1024 : Shape := ⟨2, ![1024, 1024]⟩
abbrev S1x1024 : Shape := ⟨2, ![1, 1024]⟩
abbrev S4x2x6x1024 : Shape := ⟨4, ![4, 2, 6, 1024]⟩
abbrev S4x2x1x1024 : Shape := ⟨4, ![4, 2, 1, 1024]⟩
abbrev S4x2x1024 : Shape := ⟨3, ![4, 2, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S_ : Shape := ⟨0, ![]⟩
abbrev S17408 : Shape := ⟨1, ![17408]⟩
abbrev S17408x1 : Shape := ⟨2, ![17408, 1]⟩

abbrev nBuf : Space → Nat
  | .hbm => 67
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S17408x512, .bf16⟩
  | .hbm, ⟨3, _⟩ => ⟨S17408x512, .bf16⟩
  | .hbm, ⟨4, _⟩ => ⟨S17408x512, .bf16⟩
  | .hbm, ⟨5, _⟩ => ⟨S17408x3072, .bf16⟩
  | .hbm, ⟨6, _⟩ => ⟨S512x1024, .bf16⟩
  | .hbm, ⟨7, _⟩ => ⟨S512x1024, .bf16⟩
  | .hbm, ⟨8, _⟩ => ⟨S512x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S4x2x6x1024, .f32⟩
  | .hbm, ⟨13, _⟩ => ⟨S4x2x1x1024, .f32⟩
  | .hbm, ⟨14, _⟩ => ⟨S4x2x1024, .f32⟩
  | .hbm, ⟨15, _⟩ => ⟨S4x1x1024, .f32⟩
  | .hbm, ⟨16, _⟩ => ⟨S4x256x1024, .f32⟩
  | .hbm, ⟨17, _⟩ => ⟨S4x1x1024, .f32⟩
  | .hbm, ⟨18, _⟩ => ⟨S4x4096x1024, .f32⟩
  | .hbm, ⟨19, _⟩ => ⟨S4x4352x1024, .f32⟩
  | .hbm, ⟨20, _⟩ => ⟨S17408x1024, .f32⟩
  | .hbm, ⟨21, _⟩ => ⟨S17408x3072, .f32⟩
  | .hbm, ⟨22, _⟩ => ⟨S17408x1024, .f32⟩
  | .hbm, ⟨23, _⟩ => ⟨S17408x1024, .f32⟩
  | .hbm, ⟨24, _⟩ => ⟨S17408x1024, .f32⟩
  | .hbm, ⟨25, _⟩ => ⟨S17408x1024, .f32⟩
  | .hbm, ⟨26, _⟩ => ⟨S17408x1024, .f32⟩
  | .hbm, ⟨27, _⟩ => ⟨S17408x1024, .f32⟩
  | .hbm, ⟨28, _⟩ => ⟨S17408x1024, .f32⟩
  | .hbm, ⟨29, _⟩ => ⟨S17408x1024, .f32⟩
  | .hbm, ⟨30, _⟩ => ⟨S17408x1024, .f32⟩
  | .hbm, ⟨31, _⟩ => ⟨S17408x1024, .f32⟩
  | .hbm, ⟨32, _⟩ => ⟨S17408x1024, .f32⟩
  | .hbm, ⟨33, _⟩ => ⟨S17408x1024, .bf16⟩
  | .hbm, ⟨34, _⟩ => ⟨S17408x1024, .f32⟩
  | .hbm, ⟨35, _⟩ => ⟨S_, .f32⟩
  | .hbm, ⟨36, _⟩ => ⟨S17408x1024, .f32⟩
  | .hbm, ⟨37, _⟩ => ⟨S17408x1024, .f32⟩
  | .hbm, ⟨38, _⟩ => ⟨S17408x1024, .f32⟩
  | .hbm, ⟨39, _⟩ => ⟨S17408x1024, .f32⟩
  | .hbm, ⟨40, _⟩ => ⟨S_, .f32⟩
  | .hbm, ⟨41, _⟩ => ⟨S17408, .f32⟩
  | .hbm, ⟨42, _⟩ => ⟨S17408x1, .f32⟩
  | .hbm, ⟨43, _⟩ => ⟨S_, .f32⟩
  | .hbm, ⟨44, _⟩ => ⟨S17408x1, .f32⟩
  | .hbm, ⟨45, _⟩ => ⟨S17408x1, .f32⟩
  | .hbm, ⟨46, _⟩ => ⟨S17408x1024, .f32⟩
  | .hbm, ⟨47, _⟩ => ⟨S17408x1024, .f32⟩
  | .hbm, ⟨48, _⟩ => ⟨S17408x1024, .f32⟩
  | .hbm, ⟨49, _⟩ => ⟨S_, .f32⟩
  | .hbm, ⟨50, _⟩ => ⟨S17408, .f32⟩
  | .hbm, ⟨51, _⟩ => ⟨S17408x1, .f32⟩
  | .hbm, ⟨52, _⟩ => ⟨S_, .f32⟩
  | .hbm, ⟨53, _⟩ => ⟨S17408x1, .f32⟩
  | .hbm, ⟨54, _⟩ => ⟨S17408x1, .f32⟩
  | .hbm, ⟨55, _⟩ => ⟨S17408x1024, .f32⟩
  | .hbm, ⟨56, _⟩ => ⟨S17408x1024, .f32⟩
  | .hbm, ⟨57, _⟩ => ⟨S_, .f32⟩
  | .hbm, ⟨58, _⟩ => ⟨S17408x1, .f32⟩
  | .hbm, ⟨59, _⟩ => ⟨S17408x1, .f32⟩
  | .hbm, ⟨60, _⟩ => ⟨S17408x1, .f32⟩
  | .hbm, ⟨61, _⟩ => ⟨S17408x1024, .f32⟩
  | .hbm, ⟨62, _⟩ => ⟨S17408x1024, .f32⟩
  | .hbm, ⟨63, _⟩ => ⟨S17408x1024, .f32⟩
  | .hbm, ⟨64, _⟩ => ⟨S17408x1024, .f32⟩
  | .hbm, ⟨65, _⟩ => ⟨S17408x1024, .f32⟩
  | .hbm, ⟨66, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_cst_1 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_2 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Ffn.lean ====
abbrev S17408x1024 : Shape := ⟨2, ![17408, 1024]⟩
abbrev S8x6x1024 : Shape := ⟨3, ![8, 6, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S256x1024 : Shape := ⟨2, ![256, 1024]⟩
abbrev S8x1024 : Shape := ⟨2, ![8, 1024]⟩
abbrev S1x6x1024 : Shape := ⟨3, ![1, 6, 1024]⟩
abbrev S256x2816 : Shape := ⟨2, ![256, 2816]⟩
abbrev S1x1x1024 : Shape := ⟨3, ![1, 1, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1024x256 : Shape := ⟨2, ![1024, 256]⟩
abbrev S272x256 : Shape := ⟨2, ![272, 256]⟩
abbrev S3x256 : Shape := ⟨2, ![3, 256]⟩
abbrev S256x256 : Shape := ⟨2, ![256, 256]⟩
abbrev S1x256 : Shape := ⟨2, ![1, 256]⟩
abbrev S256x1536 : Shape := ⟨2, ![256, 1536]⟩
abbrev S1536x1024 : Shape := ⟨2, ![1536, 1024]⟩
abbrev S256x1280 : Shape := ⟨2, ![256, 1280]⟩
abbrev S1280x1024 : Shape := ⟨2, ![1280, 1024]⟩

abbrev nBuf : Space → Nat
  | .hbm => 9
  | .vmem => 17
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1024x5632, .bf16⟩
  | .hbm, ⟨3, _⟩ => ⟨S3x5632, .f32⟩
  | .hbm, ⟨4, _⟩ => ⟨S1x5632, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S17408x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x5632, .bf16⟩
  | .local _ .vmem, ⟨9, _⟩ => ⟨S3x5632, .f32⟩
  | .local _ .vmem, ⟨10, _⟩ => ⟨S1x5632, .f32⟩
  | .local _ .vmem, ⟨11, _⟩ => ⟨S2816x1024, .bf16⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x2816, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c2175_i32 : BitVec 32 := 2175#32
  let v2 : BitVec 32 := Scalar.minsi v1 c2175_i32
  let c0_i32 : BitVec 32 := 0#32
  let c0_i32_0 : BitVec 32 := 0#32
  ![v2.toNat, c0_i32.toNat]

def cc0_transform_3 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 1 := Scalar.cmpi .sge v27 c1_i32_10
  let v29 : BitVec 32 := Scalar.extui v28
  let v30 : BitVec 32 := Scalar.addi v17 v29
  let c0_i32_11 : BitVec 32 := 0#32
  let c0_i32_12 : BitVec 32 := 0#32
  let c0_i32_13 : BitVec 32 := 0#32
  ![v30.toNat, c0_i32_11.toNat, c0_i32_12.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnReferenceIdeal.lean ====
abbrev S17408x1024 : Shape := ⟨2, ![17408, 1024]⟩
abbrev S8x6x1024 : Shape := ⟨3, ![8, 6, 1024]⟩
abbrev S1024x5632 : Shape := ⟨2, ![1024, 5632]⟩
abbrev S3x5632 : Shape := ⟨2, ![3, 5632]⟩
abbrev S1x5632 : Shape := ⟨2, ![1, 5632]⟩
abbrev S2816x1024 : Shape := ⟨2, ![2816, 1024]⟩
abbrev S1x1024 : Shape := ⟨2, ![1, 1024]⟩
abbrev S_ : Shape := ⟨0, ![]⟩
abbrev S17408 : Shape := ⟨1, ![17408]⟩
abbrev S17408x1 : Shape := ⟨2, ![17408, 1]⟩
abbrev S4x2x6x1024 : Shape := ⟨4, ![4, 2, 6, 1024]⟩
abbrev S4x2x1x1024 : Shape := ⟨4, ![4, 2, 1, 1024]⟩
abbrev S4x2x1024 : Shape := ⟨3, ![4, 2, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S17408x5632 : Shape := ⟨2, ![17408, 5632]⟩
abbrev S4x4352x5632 : Shape := ⟨3, ![4, 4352, 5632]⟩
abbrev S4x256x5632 : Shape := ⟨3, ![4, 256, 5632]⟩
abbrev S4x1x5632 : Shape := ⟨3, ![4, 1, 5632]⟩
abbrev S4x255x5632 : Shape := ⟨3, ![4, 255, 5632]⟩
abbrev S5632 : Shape := ⟨1, ![5632]⟩
abbrev S1x1x5632 : Shape := ⟨3, ![1, 1, 5632]⟩
abbrev S4x4096x5632 : Shape := ⟨3, ![4, 4096, 5632]⟩
abbrev S4x4095x5632 : Shape := ⟨3, ![4, 4095, 5632]⟩
abbrev S17408x2816 : Shape := ⟨2, ![17408, 2816]⟩

abbrev nBuf : Space → Nat
  | .hbm => 168
  | .vmem => 0
  | .smem => 0
  | _ => 0

abbrev hbmTy0_0 (i : Nat) : BufTy := match i % 128 with
  | 0 => ⟨S17408x1024, .f32⟩
  | 1 => ⟨S8x6x1024, .f32⟩
  | 2 => ⟨S1024x5632, .bf16⟩
  | 3 => ⟨S3x5632, .f32⟩
  | 4 => ⟨S1x5632, .f32⟩
  | 5 => ⟨S2816x1024, .bf16⟩
  | 6 => ⟨S1x1024, .f32⟩
  | 7 => ⟨S1x1024, .f32⟩
  | 8 => ⟨S_, .f32⟩
  | 9 => ⟨S17408, .f32⟩
  | 10 => ⟨S17408x1, .f32⟩
  | 11 => ⟨S_, .f32⟩
  | 12 => ⟨S17408x1, .f32⟩
  | 13 => ⟨S17408x1, .f32⟩
  | 14 => ⟨S17408x1024, .f32⟩
  | 15 => ⟨S17408x1024, .f32⟩
  | 16 => ⟨S17408x1024, .f32⟩
  | 17 => ⟨S_, .f32⟩
  | 18 => ⟨S17408, .f32⟩
  | 19 => ⟨S17408x1, .f32⟩
  | 20 => ⟨S_, .f32⟩
  | 21 => ⟨S17408x1, .f32⟩
  | 22 => ⟨S17408x1, .f32⟩
  | 23 => ⟨S17408x1024, .f32⟩
  | 24 => ⟨S17408x1024, .f32⟩
  | 25 => ⟨S_, .f32⟩
  | 26 => ⟨S17408x1, .f32⟩
  | 27 => ⟨S17408x1, .f32⟩
  | 28 => ⟨S17408x1, .f32⟩
  | 29 => ⟨S17408x1024, .f32⟩
  | 30 => ⟨S17408x1024, .f32⟩
  | 31 => ⟨S4x2x6x1024, .f32⟩
  | 32 => ⟨S4x2x1x1024, .f32⟩
  | 33 => ⟨S4x2x1024, .f32⟩
  | 34 => ⟨S4x1x1024, .f32⟩
  | 35 => ⟨S4x256x1024, .f32⟩
  | 36 => ⟨S4x1x1024, .f32⟩
  | 37 => ⟨S4x4096x1024, .f32⟩
  | 38 => ⟨S4x4352x1024, .f32⟩
  | 39 => ⟨S17408x1024, .f32⟩
  | 40 => ⟨S_, .f32⟩
  | 41 => ⟨S17408x1024, .f32⟩
  | 42 => ⟨S17408x1024, .f32⟩
  | 43 => ⟨S17408x1024, .f32⟩
  | 44 => ⟨S4x2x6x1024, .f32⟩
  | 45 => ⟨S4x2x1x1024, .f32⟩
  | 46 => ⟨S4x2x1024, .f32⟩
  | 47 => ⟨S4x1x1024, .f32⟩
  | 48 => ⟨S4x256x1024, .f32⟩
  | 49 => ⟨S4x1x1024, .f32⟩
  | 50 => ⟨S4x4096x1024, .f32⟩
  | 51 => ⟨S4x4352x1024, .f32⟩
  | 52 => ⟨S17408x1024, .f32⟩
  | 53 => ⟨S17408x1024, .f32⟩
  | 54 => ⟨S17408x1024, .bf16⟩
  | 55 => ⟨S17408x5632, .f32⟩
  | 56 => ⟨S4x4352x5632, .f32⟩
  | 57 => ⟨S4x256x5632, .f32⟩
  | 58 => ⟨S_, .f32⟩
  | 59 => ⟨S4x1x5632, .f32⟩
  | 60 => ⟨S4x255x5632, .f32⟩
  | 61 => ⟨S4x256x5632, .f32⟩
  | 62 => ⟨S4x255x5632, .f32⟩
  | 63 => ⟨S4x256x5632, .f32⟩
  | 64 => ⟨S1x5632, .f32⟩
  | 65 => ⟨S5632, .f32⟩
  | 66 => ⟨S1x1x5632, .f32⟩
  | 67 => ⟨S4x256x5632, .f32⟩
  | 68 => ⟨S4x256x5632, .f32⟩
  | 69 => ⟨S1x5632, .f32⟩
  | 70 => ⟨S5632, .f32⟩
  | 71 => ⟨S1x1x5632, .f32⟩
  | 72 => ⟨S4x256x5632, .f32⟩
  | 73 => ⟨S4x256x5632, .f32⟩
  | 74 => ⟨S4x256x5632, .f32⟩
  | 75 => ⟨S1x5632, .f32⟩
  | 76 => ⟨S5632, .f32⟩
  | 77 => ⟨S1x1x5632, .f32⟩
  | 78 => ⟨S4x256x5632, .f32⟩
  | 79 => ⟨S4x256x5632, .f32⟩
  | 80 => ⟨S4x256x5632, .f32⟩
  | 81 => ⟨S1x1x5632, .f32⟩
  | 82 => ⟨S4x256x5632, .f32⟩
  | 83 => ⟨S4x256x5632, .f32⟩
  | 84 => ⟨S4x4096x5632, .f32⟩
  | 85 => ⟨S_, .f32⟩
  | 86 => ⟨S4x1x5632, .f32⟩
  | 87 => ⟨S4x4095x5632, .f32⟩
  | 88 => ⟨S4x4096x5632, .f32⟩
  | 89 => ⟨S4x4095x5632, .f32⟩
  | 90 => ⟨S4x4096x5632, .f32⟩
  | 91 => ⟨S1x5632, .f32⟩
  | 92 => ⟨S5632, .f32⟩
  | 93 => ⟨S1x1x5632, .f32⟩
  | 94 => ⟨S4x4096x5632, .f32⟩
  | 95 => ⟨S4x4096x5632, .f32⟩
  | 96 => ⟨S1x5632, .f32⟩
  | 97 => ⟨S5632, .f32⟩
  | 98 => ⟨S1x1x5632, .f32⟩
  | 99 => ⟨S4x4096x5632, .f32⟩
  | 100 => ⟨S4x4096x5632, .f32⟩
  | 101 => ⟨S4x4096x5632, .f32⟩
  | 102 => ⟨S1x5632, .f32⟩
  | 103 => ⟨S5632, .f32⟩
  | 104 => ⟨S1x1x5632, .f32⟩
  | 105 => ⟨S4x4096x5632, .f32⟩
  | 106 => ⟨S4x4096x5632, .f32⟩
  | 107 => ⟨S4x4096x5632, .f32⟩
  | 108 => ⟨S1x1x5632, .f32⟩
  | 109 => ⟨S4x4096x5632, .f32⟩
  | 110 => ⟨S4x4096x5632, .f32⟩
  | 111 => ⟨S4x4352x5632, .f32⟩
  | 112 => ⟨S17408x5632, .f32⟩
  | 113 => ⟨S17408x2816, .f32⟩
  | 114 => ⟨S17408x2816, .f32⟩
  | 115 => ⟨S17408x2816, .f32⟩
  | 116 => ⟨S17408x2816, .f32⟩
  | 117 => ⟨S_, .f32⟩
  | 118 => ⟨S17408x2816, .f32⟩
  | 119 => ⟨S17408x2816, .f32⟩
  | 120 => ⟨S_, .f32⟩
  | 121 => ⟨S17408x2816, .f32⟩
  | 122 => ⟨S17408x2816, .f32⟩
  | 123 => ⟨S17408x2816, .f32⟩
  | 124 => ⟨S17408x2816, .f32⟩
  | 125 => ⟨S17408x2816, .bf16⟩
  | 126 => ⟨S17408x1024, .f32⟩
  | 127 => ⟨S_, .f32⟩
  | _ => ⟨S17408x1024, .f32⟩

abbrev hbmTy0_1 (i : Nat) : BufTy := match i % 128 with
  | 0 => ⟨S17408x1024, .f32⟩
  | 1 => ⟨S17408x1024, .f32⟩
  | 2 => ⟨S4x2x6x1024, .f32⟩
  | 3 => ⟨S4x2x1x1024, .f32⟩
  | 4 => ⟨S4x2x1024, .f32⟩
  | 5 => ⟨S4x1x1024, .f32⟩
  | 6 => ⟨S4x256x1024, .f32⟩
  | 7 => ⟨S4x1x1024, .f32⟩
  | 8 => ⟨S4x4096x1024, .f32⟩
  | 9 => ⟨S4x4352x1024, .f32⟩
  | 10 => ⟨S17408x1024, .f32⟩
  | 11 => ⟨S17408x1024, .f32⟩
  | 12 => ⟨S17408x1024, .f32⟩
  | 13 => ⟨S_, .f32⟩
  | 14 => ⟨S17408, .f32⟩
  | 15 => ⟨S17408x1, .f32⟩
  | 16 => ⟨S_, .f32⟩
  | 17 => ⟨S17408x1, .f32⟩
  | 18 => ⟨S17408x1, .f32⟩
  | 19 => ⟨S17408x1024, .f32⟩
  | 20 => ⟨S17408x1024, .f32⟩
  | 21 => ⟨S17408x1024, .f32⟩
  | 22 => ⟨S_, .f32⟩
  | 23 => ⟨S17408, .f32⟩
  | 24 => ⟨S17408x1, .f32⟩
  | 25 => ⟨S_, .f32⟩
  | 26 => ⟨S17408x1, .f32⟩
  | 27 => ⟨S17408x1, .f32⟩
  | 28 => ⟨S17408x1024, .f32⟩
  | 29 => ⟨S17408x1024, .f32⟩
  | 30 => ⟨S_, .f32⟩
  | 31 => ⟨S17408x1, .f32⟩
  | 32 => ⟨S17408x1, .f32⟩
  | 33 => ⟨S17408x1, .f32⟩
  | 34 => ⟨S17408x1024, .f32⟩
  | 35 => ⟨S17408x1024, .f32⟩
  | 36 => ⟨S17408x1024, .f32⟩
  | 37 => ⟨S17408x1024, .f32⟩
  | 38 => ⟨S17408x1024, .f32⟩
  | 39 => ⟨S17408x1024, .f32⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_6 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_call0_v0 : Ref sig .tc := ⟨.hbm, 115, rfl⟩
abbrev main_call0_v1 : Ref sig .tc := ⟨.hbm, 116, rfl⟩
abbrev main_call0_cst : Ref sig .tc := ⟨.hbm, 117, rfl⟩
abbrev main_call0_v2 : Ref sig .tc := ⟨.hbm, 118, rfl⟩
abbrev main_call0_v3 : Ref sig .tc := ⟨.hbm, 119, rfl⟩
abbrev main_call0_cst_0 : Ref sig .tc := ⟨.hbm, 120, rfl⟩
abbrev main_call0_v4 : Ref sig .tc := ⟨.hbm, 121, rfl⟩
abbrev main_call0_v5 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_7 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_8 : Ref sig .tc := ⟨.hbm, 141, rfl⟩
abbrev main_v116 : Ref sig .tc := ⟨.hbm, 142, rfl⟩
abbrev main_v117 : Ref sig .tc := ⟨.hbm, 143, rfl⟩
abbrev main_cst_9 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_10 : Ref sig .tc := ⟨.hbm, 150, rfl⟩
abbrev main_v123 : Ref sig .tc := ⟨.hbm, 151, rfl⟩
abbrev main_v124 : Ref sig .tc := ⟨.hbm, 152, rfl⟩
abbrev main_cst_11 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_cst_12 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩

abbrev nD : Nat := 1
abbrev τ : Topo := Topo.v7x

variable {F : FTy → Type} [FloatOps F]
-- ==== Project.lean ====
abbrev S17408x1024 : Shape := ⟨2, ![17408, 1024]⟩
abbrev S8x6x1024 : Shape := ⟨3, ![8, 6, 1024]⟩
abbrev S1024x7040 : Shape := ⟨2, ![1024, 7040]⟩
abbrev S1x7040 : Shape := ⟨2, ![1, 7040]⟩
abbrev S4352x128 : Shape := ⟨2, ![4352, 128]⟩
abbrev S1x128 : Shape := ⟨2, ![1, 128]⟩
abbrev S17408x1536 : Shape := ⟨2, ![17408, 1536]⟩
abbrev S17408x512 : Shape := ⟨2, ![17408, 512]⟩
abbrev S17408x256 : Shape := ⟨2, ![17408, 256]⟩
abbrev S68x128x256 : Shape := ⟨3, ![68, 128, 256]⟩
abbrev S17408x128 : Shape := ⟨2, ![17408, 128]⟩
abbrev S17408x3072 : Shape := ⟨2, ![17408, 3072]⟩
abbrev S256x1024 : Shape := ⟨2, ![256, 1024]⟩
abbrev S1x6x1024 : Shape := ⟨3, ![1, 6, 1024]⟩
abbrev S256x128 : Shape := ⟨2, ![256, 128]⟩
abbrev S256x1536 : Shape := ⟨2, ![256, 1536]⟩
abbrev S256x512 : Shape := ⟨2, ![256, 512]⟩
abbrev S256x256 : Shape := ⟨2, ![256, 256]⟩
abbrev S1x128x256 : Shape := ⟨3, ![1, 128, 256]⟩
abbrev S256x3072 : Shape := ⟨2, ![256, 3072]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S1024x768 : Shape := ⟨2, ![1024, 768]⟩
abbrev S256x768 : Shape := ⟨2, ![256, 768]⟩
abbrev S1x768 : Shape := ⟨2, ![1, 768]⟩
abbrev S1024x1536 : Shape := ⟨2, ![1024, 1536]⟩
abbrev S1x1536 : Shape := ⟨2, ![1, 1536]⟩
abbrev S128x128 : Shape := ⟨2, ![128, 128]⟩
abbrev S128x256 : Shape := ⟨2, ![128, 256]⟩
abbrev S1024x128 : Shape := ⟨2, ![1024, 128]⟩

abbrev nBuf : Space → Nat
  | .hbm => 15
  | .vmem => 26
  | .smem => 0
  | _ => 0

abbrev bufTy : (tb : Table) → Fin (tcTables nBuf tb) → BufTy
  | .hbm, ⟨0, _⟩ => ⟨S17408x1024, .f32⟩
  | .hbm, ⟨1, _⟩ => ⟨S8x6x1024, .f32⟩
  | .hbm, ⟨2, _⟩ => ⟨S1024x7040, .bf16⟩
  | .hbm, ⟨3, _⟩ => ⟨S1x7040, .f32⟩
  | .hbm, ⟨4, _⟩ => ⟨S4352x128, .f32⟩
  | .hbm, ⟨5, _⟩ => ⟨S4352x128, .f32⟩
  | .hbm, ⟨6, _⟩ => ⟨S1x128, .f32⟩
  | .hbm, ⟨7, _⟩ => ⟨S1x128, .f32⟩
  | .hbm, ⟨8, _⟩ => ⟨S17408x1536, .bf16⟩
  | .hbm, ⟨9, _⟩ => ⟨S17408x512, .bf16⟩
  | .hbm, ⟨10, _⟩ => ⟨S17408x256, .bf16⟩
  | .hbm, ⟨11, _⟩ => ⟨S68x128x256, .bf16⟩
  | .hbm, ⟨12, _⟩ => ⟨S17408x1536, .bf16⟩
  | .hbm, ⟨13, _⟩ => ⟨S17408x128, .f32⟩
  | .hbm, ⟨14, _⟩ => ⟨S17408x3072, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x7040, .bf16⟩
  | .local _ .vmem, ⟨5, _⟩ => ⟨S1x7040, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x128, .f32⟩
  | .local _ .vmem, ⟨11, _⟩ => ⟨S1x128, .f32⟩
  | .local _ .vmem, ⟨12, _⟩ => ⟨S256x1536, .bf16⟩
  | .local _ .vmem, ⟨13, _⟩ => ⟨S256x1536, .bf16⟩
  | .local _ .vmem, ⟨14, _⟩ => ⟨S256x512, .bf16⟩
  | .local _ .vmem, ⟨15, _⟩ => ⟨S256x512, .bf16⟩
  | .local _ .vmem, ⟨16, _⟩ => ⟨S256x256, .bf16⟩
  | .local _ .vmem, ⟨17, _⟩ => ⟨S256x256, .bf16⟩
  | .local _ .vmem, ⟨18, _⟩ => ⟨S1x128x256, .bf16⟩
  | .local _ .vmem, ⟨19, _⟩ => ⟨S1x128x256, .bf16⟩
  | .local _ .vmem, ⟨20, _⟩ => ⟨S256x1536, .bf16⟩
  | .local _ .vmem, ⟨21, _⟩ => ⟨S256x1536, .bf16⟩
  | .local _ .vmem, ⟨22, _⟩ => ⟨S256x128, .f32⟩
  | .local _ .vmem, ⟨23, _⟩ => ⟨S256x128, .f32⟩
  | .local _ .vmem, ⟨24, _⟩ => ⟨S256x3072, .bf16⟩
  | .local _ .vmem, ⟨25, _⟩ => ⟨S256x3072, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c17_i32_4 : BitVec 32 := 17#32
  let c0_i32_5 : BitVec 32 := 0#32
  let v18 : BitVec 1 := Scalar.cmpi .eq c17_i32_4 c0_i32_5
  let c1_i32_6 : BitVec 32 := 1#32
  let v19 : BitVec 32 := Scalar.select v18 c1_i32_6 c17_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 1 := Scalar.cmpi .sge v27 c1_i32_10
  let v29 : BitVec 32 := Scalar.extui v28
  let v30 : BitVec 32 := Scalar.addi v17 v29
  let c0_i32_11 : BitVec 32 := 0#32
  let c0_i32_12 : BitVec 32 := 0#32
  let c0_i32_13 : BitVec 32 := 0#32
  ![v30.toNat, c0_i32_11.toNat, c0_i32_12.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c17_i32 : BitVec 32 := 17#32
  let c0_i32 : BitVec 32 := 0#32
  let v0 : BitVec 1 := Scalar.cmpi .eq c17_i32 c0_i32
  let c1_i32 : BitVec 32 := 1#32
  let v1 : BitVec 32 := Scalar.select v0 c1_i32 c17_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x7040 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x7040 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3072 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjectReferenceIdeal.lean ====
abbrev S17408x1024 : Shape := ⟨2, ![17408, 1024]⟩
abbrev S8x6x1024 : Shape := ⟨3, ![8, 6, 1024]⟩
abbrev S1024x7040 : Shape := ⟨2, ![1024, 7040]⟩
abbrev S1x7040 : Shape := ⟨2, ![1, 7040]⟩
abbrev S4352x128 : Shape := ⟨2, ![4352, 128]⟩
abbrev S1x128 : Shape := ⟨2, ![1, 128]⟩
abbrev S_ : Shape := ⟨0, ![]⟩
abbrev S17408 : Shape := ⟨1, ![17408]⟩
abbrev S17408x1 : Shape := ⟨2, ![17408, 1]⟩
abbrev S4x2x6x1024 : Shape := ⟨4, ![4, 2, 6, 1024]⟩
abbrev S4x2x1x1024 : Shape := ⟨4, ![4, 2, 1, 1024]⟩
abbrev S4x2x1024 : Shape := ⟨3, ![4, 2, 1024]⟩
abbrev S4x1x1024 : Shape := ⟨3, ![4, 1, 1024]⟩
abbrev S4x256x1024 : Shape := ⟨3, ![4, 256, 1024]⟩
abbrev S4x4096x1024 : Shape := ⟨3, ![4, 4096, 1024]⟩
abbrev S4x4352x1024 : Shape := ⟨3, ![4, 4352, 1024]⟩
abbrev S17408x7040 : Shape := ⟨2, ![17408, 7040]⟩
abbrev S17408x1536 : Shape := ⟨2, ![17408, 1536]⟩
abbrev S17408x640 : Shape := ⟨2, ![17408, 640]⟩
abbrev S17408x128 : Shape := ⟨2, ![17408, 128]⟩
abbrev S17408x3072 : Shape := ⟨2, ![17408, 3072]⟩
abbrev S17408x256 : Shape := ⟨2, ![17408, 256]⟩
abbrev S17408x512 : Shape := ⟨2, ![17408, 512]⟩
abbrev S4x128 : Shape := ⟨2, ![4, 128]⟩
abbrev S5x128 : Shape := ⟨2, ![5, 128]⟩
abbrev S17408x10x64 : Shape := ⟨3, ![17408, 10, 64]⟩
abbrev S17408x10 : Shape := ⟨2, ![17408, 10]⟩
abbrev S17408x10x1 : Shape := ⟨3, ![17408, 10, 1]⟩
abbrev S17408x5x128 : Shape := ⟨3, ![17408, 5, 128]⟩
abbrev S1x5x128 : Shape := ⟨3, ![1, 5, 128]⟩
abbrev S17408x20x2x16 : Shape := ⟨4, ![17408, 20, 2, 16]⟩
abbrev S17408x20x1x16 : Shape := ⟨4, ![17408, 20, 1, 16]⟩
abbrev S1x4352x128 : Shape := ⟨3, ![1, 4352, 128]⟩
abbrev S4x4352x128 : Shape := ⟨3, ![4, 4352, 128]⟩
abbrev S17408x1x128 : Shape := ⟨3, ![17408, 1, 128]⟩
abbrev S17408x4x128 : Shape := ⟨3, ![17408, 4, 128]⟩
abbrev S17408x2x1x64 : Shape := ⟨4, ![17408, 2, 1, 64]⟩
abbrev S17408x2x2x64 : Shape := ⟨4, ![17408, 2, 2, 64]⟩
abbrev S68x256x128 : Shape := ⟨3, ![68, 256, 128]⟩
abbrev S68x128x256 : Shape := ⟨3, ![68, 128, 256]⟩

abbrev nBuf : Space → Nat
  | .hbm => 163
  | .vmem => 0
  | .smem => 0
  | _ => 0

abbrev hbmTy0_0 (i : Nat) : BufTy := match i % 128 with
  | 0 => ⟨S17408x1024, .f32⟩
  | 1 => ⟨S8x6x1024, .f32⟩
  | 2 => ⟨S1024x7040, .bf16⟩
  | 3 => ⟨S1x7040, .f32⟩
  | 4 => ⟨S4352x128, .f32⟩
  | 5 => ⟨S4352x128, .f32⟩
  | 6 => ⟨S1x128, .f32⟩
  | 7 => ⟨S1x128, .f32⟩
  | 8 => ⟨S_, .f32⟩
  | 9 => ⟨S17408, .f32⟩
  | 10 => ⟨S17408x1, .f32⟩
  | 11 => ⟨S_, .f32⟩
  | 12 => ⟨S17408x1, .f32⟩
  | 13 => ⟨S17408x1, .f32⟩
  | 14 => ⟨S17408x1024, .f32⟩
  | 15 => ⟨S17408x1024, .f32⟩
  | 16 => ⟨S17408x1024, .f32⟩
  | 17 => ⟨S_, .f32⟩
  | 18 => ⟨S17408, .f32⟩
  | 19 => ⟨S17408x1, .f32⟩
  | 20 => ⟨S_, .f32⟩
  | 21 => ⟨S17408x1, .f32⟩
  | 22 => ⟨S17408x1, .f32⟩
  | 23 => ⟨S17408x1024, .f32⟩
  | 24 => ⟨S17408x1024, .f32⟩
  | 25 => ⟨S_, .f32⟩
  | 26 => ⟨S17408x1, .f32⟩
  | 27 => ⟨S17408x1, .f32⟩
  | 28 => ⟨S17408x1, .f32⟩
  | 29 => ⟨S17408x1024, .f32⟩
  | 30 => ⟨S17408x1024, .f32⟩
  | 31 => ⟨S4x2x6x1024, .f32⟩
  | 32 => ⟨S4x2x1x1024, .f32⟩
  | 33 => ⟨S4x2x1024, .f32⟩
  | 34 => ⟨S4x1x1024, .f32⟩
  | 35 => ⟨S4x256x1024, .f32⟩
  | 36 => ⟨S4x1x1024, .f32⟩
  | 37 => ⟨S4x4096x1024, .f32⟩
  | 38 => ⟨S4x4352x1024, .f32⟩
  | 39 => ⟨S17408x1024, .f32⟩
  | 40 => ⟨S_, .f32⟩
  | 41 => ⟨S17408x1024, .f32⟩
  | 42 => ⟨S17408x1024, .f32⟩
  | 43 => ⟨S17408x1024, .f32⟩
  | 44 => ⟨S4x2x6x1024, .f32⟩
  | 45 => ⟨S4x2x1x1024, .f32⟩
  | 46 => ⟨S4x2x1024, .f32⟩
  | 47 => ⟨S4x1x1024, .f32⟩
  | 48 => ⟨S4x256x1024, .f32⟩
  | 49 => ⟨S4x1x1024, .f32⟩
  | 50 => ⟨S4x4096x1024, .f32⟩
  | 51 => ⟨S4x4352x1024, .f32⟩
  | 52 => ⟨S17408x1024, .f32⟩
  | 53 => ⟨S17408x1024, .f32⟩
  | 54 => ⟨S17408x1024, .bf16⟩
  | 55 => ⟨S17408x7040, .f32⟩
  | 56 => ⟨S17408x7040, .f32⟩
  | 57 => ⟨S17408x7040, .f32⟩
  | 58 => ⟨S17408x1536, .f32⟩
  | 59 => ⟨S17408x640, .f32⟩
  | 60 => ⟨S17408x128, .f32⟩
  | 61 => ⟨S17408x1536, .f32⟩
  | 62 => ⟨S17408x128, .f32⟩
  | 63 => ⟨S17408x3072, .f32⟩
  | 64 => ⟨S17408x256, .f32⟩
  | 65 => ⟨S17408x256, .f32⟩
  | 66 => ⟨S_, .f32⟩
  | 67 => ⟨S17408x256, .f32⟩
  | 68 => ⟨S17408x256, .f32⟩
  | 69 => ⟨S17408x512, .f32⟩
  | 70 => ⟨S17408x512, .f32⟩
  | 71 => ⟨S17408x512, .f32⟩
  | 72 => ⟨S17408x512, .f32⟩
  | 73 => ⟨S17408x512, .f32⟩
  | 74 => ⟨S_, .f32⟩
  | 75 => ⟨S17408x512, .f32⟩
  | 76 => ⟨S17408x512, .f32⟩
  | 77 => ⟨S_, .f32⟩
  | 78 => ⟨S17408x512, .f32⟩
  | 79 => ⟨S17408x512, .f32⟩
  | 80 => ⟨S17408x512, .f32⟩
  | 81 => ⟨S17408x1024, .f32⟩
  | 82 => ⟨S17408x1536, .f32⟩
  | 83 => ⟨S17408x256, .f32⟩
  | 84 => ⟨S17408x256, .f32⟩
  | 85 => ⟨S_, .f32⟩
  | 86 => ⟨S17408x256, .f32⟩
  | 87 => ⟨S17408x256, .f32⟩
  | 88 => ⟨S17408x512, .f32⟩
  | 89 => ⟨S17408x512, .f32⟩
  | 90 => ⟨S17408x512, .f32⟩
  | 91 => ⟨S17408x512, .f32⟩
  | 92 => ⟨S17408x512, .f32⟩
  | 93 => ⟨S_, .f32⟩
  | 94 => ⟨S17408x512, .f32⟩
  | 95 => ⟨S17408x512, .f32⟩
  | 96 => ⟨S_, .f32⟩
  | 97 => ⟨S17408x512, .f32⟩
  | 98 => ⟨S17408x512, .f32⟩
  | 99 => ⟨S17408x1024, .f32⟩
  | 100 => ⟨S17408x1536, .f32⟩
  | 101 => ⟨S4x128, .f32⟩
  | 102 => ⟨S5x128, .f32⟩
  | 103 => ⟨S17408x10x64, .f32⟩
  | 104 => ⟨S17408x10x64, .f32⟩
  | 105 => ⟨S_, .f32⟩
  | 106 => ⟨S17408x10, .f32⟩
  | 107 => ⟨S17408x10x1, .f32⟩
  | 108 => ⟨S_, .f32⟩
  | 109 => ⟨S17408x10x1, .f32⟩
  | 110 => ⟨S17408x10x1, .f32⟩
  | 111 => ⟨S_, .f32⟩
  | 112 => ⟨S17408x10x1, .f32⟩
  | 113 => ⟨S17408x10x1, .f32⟩
  | 114 => ⟨S17408x10x1, .f32⟩
  | 115 => ⟨S17408x10x64, .f32⟩
  | 116 => ⟨S17408x10x64, .f32⟩
  | 117 => ⟨S17408x5x128, .f32⟩
  | 118 => ⟨S1x5x128, .f32⟩
  | 119 => ⟨S17408x5x128, .f32⟩
  | 120 => ⟨S17408x5x128, .f32⟩
  | 121 => ⟨S17408x20x2x16, .f32⟩
  | 122 => ⟨S17408x20x1x16, .f32⟩
  | 123 => ⟨S17408x20x1x16, .f32⟩
  | 124 => ⟨S17408x20x2x16, .f32⟩
  | 125 => ⟨S17408x5x128, .f32⟩
  | 126 => ⟨S1x4352x128, .f32⟩
  | 127 => ⟨S4x4352x128, .f32⟩
  | _ => ⟨S17408x1024, .f32⟩

abbrev hbmTy0_1 (i : Nat) : BufTy := match i % 128 with
  | 0 => ⟨S17408x1x128, .f32⟩
  | 1 => ⟨S17408x5x128, .f32⟩
  | 2 => ⟨S17408x5x128, .f32⟩
  | 3 => ⟨S1x4352x128, .f32⟩
  | 4 => ⟨S4x4352x128, .f32⟩
  | 5 => ⟨S17408x1x128, .f32⟩
  | 6 => ⟨S17408x5x128, .f32⟩
  | 7 => ⟨S17408x5x128, .f32⟩
  | 8 => ⟨S17408x5x128, .f32⟩
  | 9 => ⟨S17408x4x128, .f32⟩
  | 10 => ⟨S17408x512, .f32⟩
  | 11 => ⟨S_, .f32⟩
  | 12 => ⟨S17408x512, .f32⟩
  | 13 => ⟨S17408x512, .f32⟩
  | 14 => ⟨S17408x1x128, .f32⟩
  | 15 => ⟨S17408x128, .f32⟩
  | 16 => ⟨S17408x2x1x64, .f32⟩
  | 17 => ⟨S17408x2x2x64, .f32⟩
  | 18 => ⟨S17408x256, .f32⟩
  | 19 => ⟨S68x256x128, .f32⟩
  | 20 => ⟨S68x128x256, .f32⟩
  | 21 => ⟨S17408x1536, .bf16⟩
  | 22 => ⟨S17408x512, .bf16⟩
  | 23 => ⟨S17408x256, .bf16⟩
  | 24 => ⟨S68x128x256, .bf16⟩
  | 25 => ⟨S17408x1536, .bf16⟩
  | 26 => ⟨S17408x3072, .f32⟩
  | 27 => ⟨S17408x3072, .f32⟩
  | 28 => ⟨S_, .f32⟩
  | 29 => ⟨S17408x3072, .f32⟩
  | 30 => ⟨S17408x3072, .f32⟩
  | 31 => ⟨S_, .f32⟩
  | 32 => ⟨S17408x3072, .f32⟩
  | 33 => ⟨S17408x3072, .f32⟩
  | 34 => ⟨S17408x3072, .bf16⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_6 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_7 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_9 : Ref sig .tc := ⟨.hbm, 105, rfl⟩
abbrev main_v79 : Ref sig .tc := ⟨.hbm, 106, rfl⟩
abbrev main_v80 : Ref sig .tc := ⟨.hbm, 107, rfl⟩
abbrev main_cst_10 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_12 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_13 : Ref sig .tc := ⟨.hbm, 156, rfl⟩
abbrev main_v126 : Ref sig .tc := ⟨.hbm, 157, rfl⟩
abbrev main_v127 : Ref sig .tc := ⟨.hbm, 158, rfl⟩
abbrev main_cst_14 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩

abbrev nD : Nat := 1
abbrev τ : Topo := Topo.v7x

variable {F : FTy → Type} [FloatOps F]
-- ==== Proof.Pay.lean ====
/-
  What one pass of the attention kernel's body computes, read one element at a time over the extended reals: the masked
  stack of query heads, the exponentials of the shifted scores, the running product of values and exponentials, and the
  quotient that is written out.
-/
module
public import proofs.«01_k».proof.Proof.Gen.KernelIdeal.Value
public import Idealize.ShloMosaic.Lib.Pointwise
public import Idealize.ShloMosaic.Lib.ValueIdx
@[expose] public section
set_option maxRecDepth 16384
noncomputable section
namespace Cert.KernelIdeal.Att
open Cert.KernelIdeal Cert.KernelIdeal.Gen Idealize.ShloMosaic Idealize.ShloMosaic.TcCoe Idealize.SL.Sem

/-- Row `d` of the stacked operand that multiplies the exponentials: a value row for `d < 64` (from row `g` of the
    slab), and a row of ones below it, whose product is the sum of the exponentials. -/
def wv (V : Vec Ideal S1x128x256 .bf16) (g : Nat) (hg : g ≤ 64) (d : Fin 80) (k : Fin 256) : EReal :=
  if h : d.val < 64 then V (ix3 0 ⟨g + d.val, by omega⟩ k) else 1

/-- One accumulation: what was there plus two slabs' products with the two halves of the exponentials. -/
def upd (g : Nat) (hg : g ≤ 64) (V0 V1 : Vec Ideal S1x128x256 .bf16) (P : Vec Ideal S1x512x512 .bf16)
    (A : Vec Ideal S1x80x512 .f32) (d : Fin 80) (x : Fin 512) : EReal :=
  A (ix3 0 d x) + (∑ k : Fin 256, wv V0 g hg d k * P (ix3 0 ⟨k.val, by omega⟩ x)
    + ∑ k : Fin 256, wv V1 g hg d k * P (ix3 0 ⟨256 + k.val, by omega⟩ x))

theorem upd10 (V0 V1 : Vec Ideal S1x128x256 .bf16) (P : Vec Ideal S1x512x512 .bf16) (A : Vec Ideal S1x80x512 .f32)
    (d : Fin 80) (x : Fin 512) : k0_pay10 (k0_pay9 V0 V1 P) A (ix3 0 d x) = upd 0 (by omega) V0 V1 P A d x := by
  unfold k0_pay10 k0_pay9 upd wv
  pointwise

theorem upd11 (V0 V1 : Vec Ideal S1x128x256 .bf16) (P : Vec Ideal S1x512x512 .bf16) (A : Vec Ideal S1x80x512 .f32)
    (d : Fin 80) (x : Fin 512) : k0_pay11 V0 V1 P A (ix3 0 d x) = upd 0 (by omega) V0 V1 P A d x := by
  unfold k0_pay11 upd wv
  pointwise

theorem upd12 (V0 V1 : Vec Ideal S1x128x256 .bf16) (P : Vec Ideal S1x512x512 .bf16) (A : Vec Ideal S1x80x512 .f32)
    (d : Fin 80) (x : Fin 512) : k0_pay12 V0 V1 P A (ix3 0 d x) = upd 64 (by omega) V0 V1 P A d x := by
  unfold k0_pay12 upd wv
  pointwise

theorem upd14 (V0 V1 : Vec Ideal S1x128x256 .bf16) (P : Vec Ideal S1x512x512 .bf16) (A : Vec Ideal S1x80x512 .f32)
    (d : Fin 80) (x : Fin 512) : k0_pay14 (k0_pay13 V0) V1 P A (ix3 0 d x) = upd 64 (by omega) V0 V1 P A d x := by
  unfold k0_pay14 k0_pay13 upd wv
  pointwise

theorem upd54 (V0 V1 : Vec Ideal S1x128x256 .bf16) (P : Vec Ideal S1x512x512 .bf16) (A : Vec Ideal S1x80x512 .f32)
    (d : Fin 80) (x : Fin 512) : k0_pay54 (k0_pay53 V0) V1 P A (ix3 0 d x) = upd 0 (by omega) V0 V1 P A d x := by
  unfold k0_pay54 k0_pay53 upd wv
  pointwise

theorem upd56 (V0 V1 : Vec Ideal S1x128x256 .bf16) (P : Vec Ideal S1x512x512 .bf16) (A : Vec Ideal S1x80x512 .f32)
    (d : Fin 80) (x : Fin 512) : k0_pay56 (k0_pay55 V0 V1) P A (ix3 0 d x) = upd 0 (by omega) V0 V1 P A d x := by
  unfold k0_pay56 k0_pay55 upd wv
  pointwise

theorem upd58 (V0 V1 : Vec Ideal S1x128x256 .bf16) (P : Vec Ideal S1x512x512 .bf16) (A : Vec Ideal S1x80x512 .f32)
    (d : Fin 80) (x : Fin 512) : k0_pay58 (k0_pay57 V0 V1 P A) (ix3 0 d x) = upd 64 (by omega) V0 V1 P A d x := by
  unfold k0_pay58 k0_pay57 upd wv
  pointwise

theorem upd59 (V0 V1 : Vec Ideal S1x128x256 .bf16) (P : Vec Ideal S1x512x512 .bf16) (A : Vec Ideal S1x80x512 .f32)
    (d : Fin 80) (x : Fin 512) : k0_pay59 V0 V1 P A (ix3 0 d x) = upd 64 (by omega) V0 V1 P A d x := by
  unfold k0_pay59 upd wv
  pointwise

/-- The exponential (base two) of one key's score against one stacked query row, less the shift. -/
def sc {n : Nat} (q : Vec Ideal S512x128 .bf16) (K : FVec Ideal ⟨2, ![n, 128]⟩ .bf16) (sh : EReal) (κ : Fin n)
    (x : Fin 512) : EReal :=
  Ideal.exp2 (∑ l : Fin 128, K (ix2 κ l) * q (ix2 x l) - sh)

theorem sc15 (sh : Ideal .f32) (q K : Vec Ideal S512x128 .bf16) (κ x : Fin 512) :
    k0_pay15 sh (k0_pay5 q K) (ix3 0 κ x) = sc q K sh κ x := by
  unfold k0_pay15 k0_pay5 sc
  pointwise
  rfl

theorem sc16 (sh : Ideal .f32) (q K : Vec Ideal S512x128 .bf16) (κ x : Fin 512) :
    k0_pay16 sh (k0_pay6 q K) (ix3 0 κ x) = sc q K sh κ x := by
  unfold k0_pay16 k0_pay6 sc
  pointwise
  rfl

theorem sc49 (sh : Ideal .f32) (q K : Vec Ideal S512x128 .bf16) (κ x : Fin 512) :
    k0_pay49 (k0_pay17 sh (k0_pay7 q K)) (ix3 0 κ x) = sc q K sh κ x := by
  unfold k0_pay49 k0_pay17 k0_pay7 sc
  pointwise
  rfl

theorem sc50 (sh : Ideal .f32) (q K : Vec Ideal S512x128 .bf16) (κ x : Fin 512) :
    k0_pay50 sh (k0_pay8 q K) (ix3 0 κ x) = sc q K sh κ x := by
  unfold k0_pay50 k0_pay8 sc
  pointwise
  rfl

/-- The shift: half the bound the kernel is given. -/
def half (r : EReal) : EReal := k0_pay44 (F := Ideal) r

theorem sc45 (r : Elt Ideal .f32) (q : Vec Ideal S512x128 .bf16) (K : Vec Ideal S256x128 .bf16) (κ : Fin 256)
    (x : Fin 512) : k0_pay45 r q K (ix3 0 κ x) = sc q K (half r) κ x := by
  unfold k0_pay45 sc half k0_pay44
  pointwise
  rfl

theorem sc46 (r : Elt Ideal .f32) (q : Vec Ideal S512x128 .bf16) (K : Vec Ideal S256x128 .bf16) (κ : Fin 256)
    (x : Fin 512) : k0_pay46 r q K (ix3 0 κ x) = sc q K (half r) κ x := by
  unfold k0_pay46 sc half k0_pay44
  pointwise
  rfl

theorem sc47 (sh : Ideal .f32) (q : Vec Ideal S512x128 .bf16) (K : Vec Ideal S256x128 .bf16) (κ : Fin 256)
    (x : Fin 512) : k0_pay47 q sh K (ix3 0 κ x) = sc q K sh κ x := by
  unfold k0_pay47 sc
  pointwise
  rfl

theorem sc48 (sh : Ideal .f32) (q : Vec Ideal S512x128 .bf16) (K : Vec Ideal S256x128 .bf16) (κ : Fin 256)
    (x : Fin 512) : k0_pay48 q sh K (ix3 0 κ x) = sc q K sh κ x := by
  unfold k0_pay48 sc
  pointwise
  rfl

/-- The stored zeros. -/
theorem zero42 (j) : k0_pay42 (F := Ideal) j = (0 : EReal) := by
  unfold k0_pay42
  pointwise

theorem zero43 (j) : k0_pay43 (F := Ideal) j = (0 : EReal) := by
  unfold k0_pay43
  pointwise

/-- The stack of four query heads: 128 rows each, the lanes of the other head of a pair set to zero. -/
def qcat (a b : Vec Ideal S128x128 .bf16) (x : Fin 512) (l : Fin 128) : EReal :=
  if l.val / 64 = x.val / 128 % 2 then
    (if x.val < 256 then a else b) (ix2 ⟨x.val % 128, Nat.mod_lt _ (by omega)⟩ l) else 0

theorem lane : ∀ l : Fin 128, IntOp.cmpi .slt (BitVec.ofNat 32 l.val) 64#32 = if l.val < 64 then 1#1 else 0#1 := by
  decide +kernel

/-- The same stack as four stretches of rows. -/
theorem qcat_eq (a b : Vec Ideal S128x128 .bf16) (x : Fin 512) (l : Fin 128) :
    (if h : x.val < 128 then
        Scalar.select (IntOp.cmpi .slt (BitVec.ofNat 32 l.val) 64#32) (a (ix2 ⟨x.val, h⟩ l)) (0 : EReal)
      else if h : x.val - 128 < 128 then
        Scalar.select (IntOp.xori (IntOp.cmpi .slt (BitVec.ofNat 32 l.val) 64#32) 1#1)
          (a (ix2 ⟨x.val - 128, h⟩ l)) (0 : EReal)
      else if h : x.val - 128 - 128 < 128 then
        Scalar.select (IntOp.cmpi .slt (BitVec.ofNat 32 l.val) 64#32) (b (ix2 ⟨x.val - 128 - 128, h⟩ l)) (0 : EReal)
      else
        Scalar.select (IntOp.xori (IntOp.cmpi .slt (BitVec.ofNat 32 l.val) 64#32) 1#1)
          (b (ix2 ⟨x.val - 128 - 128 - 128, by omega⟩ l)) (0 : EReal))
      = qcat a b x l := by
  unfold qcat
  rw [lane]
  have key : ∀ (p q : Nat) (hp : p < 128) (hq : q < 128), p = q → (⟨p, hp⟩ : Fin 128) = ⟨q, hq⟩ := by
    rintro p _ hp hq rfl; rfl
  by_cases hl : l.val < 64
  · simp only [if_pos hl]
    split_ifs <;> first | omega | skip
    all_goals simp only [Scalar.select, IntOp.xori]
    all_goals first | (exact congrArg _ (congrArg (fun z => ix2 z l) (key _ _ _ _ (by omega)))) | rfl | skip
  · simp only [if_neg hl]
    split_ifs <;> first | omega | skip
    all_goals simp only [Scalar.select, IntOp.xori]
    all_goals first | (exact congrArg _ (congrArg (fun z => ix2 z l) (key _ _ _ _ (by omega)))) | rfl | skip

theorem q32 (a b : Vec Ideal S128x128 .bf16) (x : Fin 512) (l : Fin 128) :
    k0_pay32 a a b b (ix2 x l) = qcat a b x l := by
  rw [← qcat_eq]
  unfold k0_pay32 k0_pay31
  pointwise

theorem q36 (a b : Vec Ideal S128x128 .bf16) (x : Fin 512) (l : Fin 128) :
    k0_pay36 k0_pay31 (k0_pay33 a) (k0_pay34 a) (k0_pay35 b) b (ix2 x l) = qcat a b x l := by
  rw [← qcat_eq]
  unfold k0_pay36 k0_pay33 k0_pay34 k0_pay35 k0_pay31
  pointwise

theorem q37 (a b : Vec Ideal S128x128 .bf16) (x : Fin 512) (l : Fin 128) :
    k0_pay37 k0_pay31 a a b b (ix2 x l) = qcat a b x l := by
  rw [← qcat_eq]
  unfold k0_pay37 k0_pay31
  pointwise

theorem q41 (a b : Vec Ideal S128x128 .bf16) (x : Fin 512) (l : Fin 128) :
    k0_pay41 k0_pay31 (k0_pay38 k0_pay31 a) (k0_pay39 k0_pay31 a) (k0_pay40 k0_pay31 b) b (ix2 x l)
      = qcat a b x l := by
  rw [← qcat_eq]
  unfold k0_pay41 k0_pay38 k0_pay39 k0_pay40 k0_pay31
  pointwise

/-- One written block: the first 64 rows of the accumulator divided by its row 64, two heads side by side, turned. -/
def ov (o : Nat) (ho : o ≤ 256) (v : Vec Ideal S1x80x512 .f32) (r l : Fin 128) : EReal :=
  Ideal.div (v (ix3 0 ⟨l.val % 64, by omega⟩ ⟨o + 128 * (l.val / 64) + r.val, by omega⟩))
    (v (ix3 0 64 ⟨o + 128 * (l.val / 64) + r.val, by omega⟩))

theorem ov_eq0 (v : Vec Ideal S1x80x512 .f32) (r l : Fin 128) :
    (if h : l.val < 64 then Ideal.div (v (ix3 0 ⟨l.val, by omega⟩ ⟨r.val, by omega⟩)) (v (ix3 0 64 ⟨r.val, by omega⟩))
      else Ideal.div (v (ix3 0 ⟨l.val - 64, by omega⟩ ⟨128 + r.val, by omega⟩)) (v (ix3 0 64 ⟨128 + r.val, by omega⟩)))
      = ov 0 (by omega) v r l := by
  unfold ov
  have e : ∀ (d d' : Fin 80) (x x' : Fin 512), d.val = d'.val → x.val = x'.val →
      Ideal.div (v (ix3 0 d x)) (v (ix3 0 64 x)) = Ideal.div (v (ix3 0 d' x')) (v (ix3 0 64 x')) := by
    intro d d' x x' h h'
    obtain rfl := Fin.ext h; obtain rfl := Fin.ext h'; rfl
  split_ifs <;> exact e _ _ _ _ (by dsimp only; omega) (by dsimp only; omega)

theorem ov_eq256 (v : Vec Ideal S1x80x512 .f32) (r l : Fin 128) :
    (if h : l.val < 64 then Ideal.div (v (ix3 0 ⟨l.val, by omega⟩ ⟨256 + r.val, by omega⟩))
        (v (ix3 0 64 ⟨256 + r.val, by omega⟩))
      else Ideal.div (v (ix3 0 ⟨l.val - 64, by omega⟩ ⟨384 + r.val, by omega⟩)) (v (ix3 0 64 ⟨384 + r.val, by omega⟩)))
      = ov 256 (by omega) v r l := by
  unfold ov
  have e : ∀ (d d' : Fin 80) (x x' : Fin 512), d.val = d'.val → x.val = x'.val →
      Ideal.div (v (ix3 0 d x)) (v (ix3 0 64 x)) = Ideal.div (v (ix3 0 d' x')) (v (ix3 0 64 x')) := by
    intro d d' x x' h h'
    obtain rfl := Fin.ext h; obtain rfl := Fin.ext h'; rfl
  split_ifs <;> exact e _ _ _ _ (by dsimp only; omega) (by dsimp only; omega)

theorem o3 (v : Vec Ideal S1x80x512 .f32) (r l : Fin 128) : k0_pay3 v (ix2 r l) = ov 0 (by omega) v r l := by
  rw [← ov_eq0]; unfold k0_pay3 k0_pay2; pointwise
theorem o4 (v : Vec Ideal S1x80x512 .f32) (r l : Fin 128) : k0_pay4 v (ix2 r l) = ov 256 (by omega) v r l := by
  rw [← ov_eq256]; unfold k0_pay4 k0_pay2; pointwise
theorem o69 (v : Vec Ideal S1x80x512 .f32) (r l : Fin 128) : k0_pay69 v (ix2 r l) = ov 0 (by omega) v r l := by
  rw [← ov_eq0]; unfold k0_pay69 k0_pay68; pointwise
theorem o1 (v : Vec Ideal S1x80x512 .f32) (r l : Fin 128) :
    k0_pay1 (k0_pay68 v) (ix2 r l) = ov 256 (by omega) v r l := by
  rw [← ov_eq256]; unfold k0_pay1 k0_pay68; pointwise
theorem o66 (v : Vec Ideal S1x80x512 .f32) (r l : Fin 128) : k0_pay66 v (ix2 r l) = ov 0 (by omega) v r l := by
  rw [← ov_eq0]; unfold k0_pay66 k0_pay65; pointwise
theorem o67 (v : Vec Ideal S1x80x512 .f32) (r l : Fin 128) : k0_pay67 v (ix2 r l) = ov 256 (by omega) v r l := by
  rw [← ov_eq256]; unfold k0_pay67 k0_pay65; pointwise
theorem o63 (v : Vec Ideal S1x80x512 .f32) (r l : Fin 128) :
    k0_pay63 (k0_pay61 v) (k0_pay62 v) (ix2 r l) = ov 0 (by omega) v r l := by
  rw [← ov_eq0]; unfold k0_pay63 k0_pay61 k0_pay62 k0_pay60; pointwise
theorem o64 (v : Vec Ideal S1x80x512 .f32) (r l : Fin 128) :
    k0_pay64 (k0_pay60 v) (ix2 r l) = ov 256 (by omega) v r l := by
  rw [← ov_eq256]; unfold k0_pay64 k0_pay60; pointwise

end Cert.KernelIdeal.Att
end
end
-- ==== Proof.State.lean ====
/-
  What the two scratch arrays of the attention kernel hold between the trips of its loop, over the extended reals: the
  products summed over the slabs of keys already passed, and the exponentials of the two slabs to come.
-/
module
public import proofs.«01_k».proof.Proof.Pay
@[expose] public section
set_option maxRecDepth 16384
noncomputable section
namespace Cert.KernelIdeal.Att
open Cert.KernelIdeal Cert.KernelIdeal.Gen Idealize.ShloMosaic Idealize.ShloMosaic.TcCoe Idealize.SL.Sem

section Defs
variable (x2 : Vec Ideal S4352x256 .bf16) (x3 : Vec Ideal S17x128x256 .bf16) (Q : Fin 4 → Vec Ideal S512x128 .bf16)
  (sh : EReal)

/-- The exponential of key `κ`'s score against row `x` of stack `c`. -/
def pr (c : Fin 4) (κ : Nat) (x : Fin 512) : EReal :=
  Ideal.exp2 (∑ l : Fin 128, x2 (ix2 ⟨κ % 4352, Nat.mod_lt _ (by omega)⟩ ⟨c.val / 2 * 128 + l.val, by omega⟩)
    * Q c (ix2 x l) - sh)

/-- Row `d` of what multiplies the exponentials of slab `s`: a row of values, or ones. -/
def wt (c : Fin 4) (s : Nat) (d : Fin 80) (k : Fin 256) : EReal :=
  if h : d.val < 64 then x3 (ix3 ⟨s % 17, Nat.mod_lt _ (by omega)⟩ ⟨c.val / 2 * 64 + d.val, by omega⟩ k) else 1

/-- Slab `s`'s share of the accumulator. -/
def T (c : Fin 4) (s : Nat) (d : Fin 80) (x : Fin 512) : EReal :=
  ∑ k : Fin 256, wt x3 c s d k * pr x2 Q sh c (256 * s + k.val) x

/-- The accumulator before trip `n`: the first `2 n - 1` slabs' shares. -/
def accv (n : Nat) (c : Fin 4) (d : Fin 80) (x : Fin 512) : EReal :=
  ∑ s ∈ Finset.range (2 * n - 1), T x2 x3 Q sh c s d x

/-- The exponentials waiting before trip `n`: the two slabs `2 n - 1` and `2 n`; before the first trip, slab 0 and
    zeros. -/
def pv (n : Nat) (c : Fin 4) (κ : Fin 512) (x : Fin 512) : EReal :=
  if n = 0 then (if κ.val < 256 then pr x2 Q sh c κ.val x else 0) else pr x2 Q sh c (256 * (2 * n - 1) + κ.val) x

/-- One trip adds the two waiting slabs. -/
theorem accv_succ (n : Nat) (c : Fin 4) (d : Fin 80) (x : Fin 512) :
    accv x2 x3 Q sh (n + 1) c d x = accv x2 x3 Q sh n c d x
      + (∑ k : Fin 256, wt x3 c (2 * n - 1) d k * pv x2 Q sh n c ⟨k.val, by omega⟩ x
        + ∑ k : Fin 256, wt x3 c (2 * n - 1 + 1) d k * pv x2 Q sh n c ⟨256 + k.val, by omega⟩ x) := by
  unfold accv
  rcases Nat.eq_zero_or_pos n with rfl | hn
  · have e1 : ∀ k : Fin 256, pv x2 Q sh 0 c ⟨k.val, by omega⟩ x = pr x2 Q sh c k.val x := fun k => by
      unfold pv; rw [if_pos rfl, if_pos k.isLt]
    have e2 : ∀ k : Fin 256, pv x2 Q sh 0 c ⟨256 + k.val, by omega⟩ x = 0 := fun k => by
      unfold pv; rw [if_pos rfl, if_neg (by dsimp only; omega)]
    simp only [e1, e2, mul_zero, Finset.sum_const_zero, add_zero]
    simp [T]
  · have e1 : ∀ k : Fin 256, pv x2 Q sh n c ⟨k.val, by omega⟩ x = pr x2 Q sh c (256 * (2 * n - 1) + k.val) x :=
      fun k => by unfold pv; rw [if_neg (by omega)]
    have e2 : ∀ k : Fin 256, pv x2 Q sh n c ⟨256 + k.val, by omega⟩ x
        = pr x2 Q sh c (256 * (2 * n - 1 + 1) + k.val) x :=
      fun k => by unfold pv; rw [if_neg (by omega)]; congr 1; dsimp only; omega
    simp only [e1, e2]
    rw [show 2 * (n + 1) - 1 = 2 * n - 1 + 1 + 1 by omega, Finset.sum_range_succ, Finset.sum_range_succ, add_assoc]
    rfl

/-- One accumulation over contents that hold the state of trip `n` leaves the state of trip `n + 1`. -/
theorem upd_eq (n : Nat) (c : Fin 4) (g : Nat) (hg : g = c.val / 2 * 64) (V0 V1 : Vec Ideal S1x128x256 .bf16)
    (P : Vec Ideal S1x512x512 .bf16) (A : Vec Ideal S1x80x512 .f32)
    (h0 : ∀ r k, V0 (ix3 0 r k) = x3 (ix3 ⟨(2 * n - 1) % 17, Nat.mod_lt _ (by omega)⟩ r k))
    (h1 : ∀ r k, V1 (ix3 0 r k) = x3 (ix3 ⟨(2 * n - 1 + 1) % 17, Nat.mod_lt _ (by omega)⟩ r k))
    (hP : ∀ κ x, P (ix3 0 κ x) = pv x2 Q sh n c κ x) (hA : ∀ d x, A (ix3 0 d x) = accv x2 x3 Q sh n c d x)
    (d : Fin 80) (x : Fin 512) : upd g (by omega) V0 V1 P A d x = accv x2 x3 Q sh (n + 1) c d x := by
  subst hg
  rw [accv_succ]
  unfold upd wv wt
  simp only [hA, hP, h0, h1]

end Defs

/-! ### Places of the blocks -/

/-- A block of chain `c` sits at row `c`, shifted by `o` along the middle. -/
theorem emb3 {N n m M o c : Nat} (h) (a : Fin 1) (d : Fin n) (y : Fin m) (hc : c < N) (hd : o + d.val < M) :
    (Rect.unit (s := ⟨3, ![N, M, m]⟩) ![c, o, 0] ![1, n, m] h).emb (ix3 a d y) = ix3 ⟨c, hc⟩ ⟨o + d.val, hd⟩ y := by
  funext b
  apply Fin.ext
  fin_cases b
  · show c + 1 * a.val = c; omega
  · show o + 1 * d.val = o + d.val; omega
  · show 0 + 1 * y.val = y.val; omega

/-- A block is in the array where its row says. -/
theorem mem3 {N n m M o c : Nat} (h) (j : (⟨3, ![N, M, m]⟩ : Shape).Idx) :
    j ∈ (Rect.unit (s := ⟨3, ![N, M, m]⟩) ![c, o, 0] ![1, n, m] h).set ↔
      (j 0).val = c ∧ o ≤ (j 1).val ∧ (j 1).val < o + n := by
  rw [Rect.mem_set_unit]
  constructor
  · intro H
    have h0 : c ≤ (j 0).val ∧ (j 0).val < c + 1 := H 0
    have h1 : o ≤ (j 1).val ∧ (j 1).val < o + n := H 1
    exact ⟨by omega, h1⟩
  · rintro ⟨h0, h1⟩ b
    have h2 : (j 2).val < m := (j 2).isLt
    fin_cases b
    · show c ≤ (j 0).val ∧ (j 0).val < c + 1; omega
    · exact h1
    · show 0 ≤ (j 2).val ∧ (j 2).val < 0 + m; omega

/-- Reading a row of the stack of slabs. -/
theorem ldV {sp} (v : Memref sig .tc sp S17x128x256 .bf16) (f) (off : Fin 3 → Nat) (h) (s : Nat) (hs : s < 17)
    (ho : off = ![s, 0, 0]) (a : Fin 1) (r : Fin 128) (k : Fin 256) :
    View.readAt (Elt Ideal) v.view (Rect.unit (s := S17x128x256) off S1x128x256.size h).toLoadRect f (ix3 a r k)
      = v.view.read (Elt Ideal) f (ix3 ⟨s % 17, Nat.mod_lt _ (by omega)⟩ r k) := by
  subst ho
  show v.view.read (Elt Ideal) f _ = v.view.read (Elt Ideal) f _
  congr 1
  funext b
  apply Fin.ext
  fin_cases b
  · show s + 1 * a.val = s % 17; omega
  · show 0 + 1 * r.val = r.val; omega
  · show 0 + 1 * k.val = k.val; omega

/-- Reading a block of keys. -/
theorem ldK {sp} {n : Nat} (v : Memref sig .tc sp S4352x256 .bf16) (f) (off : Fin 2 → Nat) (h) (s o : Nat) (ho : off = ![s, o])
    (k : Fin n) (l : Fin 128) (hs : s + k.val < 4352) (hl : o + l.val < 256) :
    View.readAt (Elt Ideal) v.view (Rect.unit (s := S4352x256) off ![n, 128] h).toLoadRect f (ix2 k l)
      = v.view.read (Elt Ideal) f (ix2 ⟨(s + k.val) % 4352, Nat.mod_lt _ (by omega)⟩ ⟨o + l.val, hl⟩) := by
  subst ho
  show v.view.read (Elt Ideal) f _ = v.view.read (Elt Ideal) f _
  congr 1
  funext b
  apply Fin.ext
  fin_cases b
  · show s + 1 * k.val = (s + k.val) % 4352; omega
  · show o + 1 * l.val = o + l.val; omega

/-- Reading a chain's block of a scratch array. -/
theorem ldC {sp} {α : EltTy} {N M m c : Nat} (v : Memref sig .tc sp ⟨3, ![N, M, m]⟩ α) (f) (h) (hc : c < N) (a : Fin 1) (d : Fin M)
    (y : Fin m) :
    View.readAt (Elt Ideal) v.view (Rect.unit (s := ⟨3, ![N, M, m]⟩) ![c, 0, 0] ![1, M, m] h).toLoadRect f
        (ix3 a d y) = v.view.read (Elt Ideal) f (ix3 ⟨c, hc⟩ d y) := by
  show v.view.read (Elt Ideal) f _ = v.view.read (Elt Ideal) f _
  congr 1
  funext b
  apply Fin.ext
  fin_cases b
  · show c + 1 * a.val = c; omega
  · show 0 + 1 * d.val = d.val; omega
  · show 0 + 1 * y.val = y.val; omega

/-- The scores of a block of 512 keys starting at `s` are the exponentials the state names. -/
theorem sc_eq {n : Nat} (x2 : Vec Ideal S4352x256 .bf16) (Q : Fin 4 → Vec Ideal S512x128 .bf16) (sh : EReal) (c : Fin 4)
    (q : Vec Ideal S512x128 .bf16) (hq : q = Q c) (K : FVec Ideal ⟨2, ![n, 128]⟩ .bf16) (s : Nat)
    (hK : ∀ (k : Fin n) (l : Fin 128), K (ix2 k l)
      = x2 (ix2 ⟨(s + k.val) % 4352, Nat.mod_lt _ (by omega)⟩ ⟨c.val / 2 * 128 + l.val, by omega⟩))
    (κ : Fin n) (x : Fin 512) : sc q K sh κ x = pr x2 Q sh c (s + κ.val) x := by
  subst hq
  unfold sc pr
  simp only [hK]

end Cert.KernelIdeal.Att
end
end
-- ==== Proof.Loop.lean ====
/-
  The loop of the attention kernel: every trip carries the state of `State.lean` on by one, so after any number of
  trips the scratch arrays hold it.
-/
module
public import proofs.«01_k».proof.Proof.State
public import Idealize.ShloMosaic.Lib.Tactic
public import Idealize.ShloMosaic.Lib.Pipeline.CanonAppend
@[expose] public section
set_option maxRecDepth 16384
noncomputable section
namespace Cert.KernelIdeal.Att
open Cert.KernelIdeal Cert.KernelIdeal.Gen Idealize.ShloMosaic Idealize.ShloMosaic.TcCoe Idealize.SL.Sem

/-- The first slab trip `k` reads. -/
theorem slab0 : ∀ k : Fin 8, (BitVec.toNat (Scalar.indexCast (Scalar.addi (Scalar.maxsi (Scalar.subi (Scalar.muli 2#32
    (Scf.iv 0#32 1#32 k.val)) 1#32) 0#32) 0#32))) = 2 * k.val - 1 := by decide +kernel

/-- The second slab trip `k` reads. -/
theorem slab1 : ∀ k : Fin 8, (BitVec.toNat (Scalar.indexCast (Scalar.addi (Scalar.maxsi (Scalar.subi (Scalar.muli 2#32
    (Scf.iv 0#32 1#32 k.val)) 1#32) 0#32) 1#32))) = 2 * k.val - 1 + 1 := by decide +kernel

/-- The first key trip `k` scores. -/
theorem key0 : ∀ k : Fin 8, (BitVec.toNat (Scalar.indexCast (Scalar.addi 256#32 (Scalar.muli (Scf.iv 0#32 1#32 k.val)
    512#32)))) = 256 * (2 * (k.val + 1) - 1) := by decide +kernel

section
variable (c : Dev nD) (i : grid0.Coords) (arg2 : Memref sig .tc .smem S1 .f32) (harg2 : arg2.IsWhole)
  (arg3 : Memref sig .tc .vmem S256x512 .bf16) (harg3 : arg3.IsWhole) (arg4 : Memref sig .tc .vmem S4352x256 .bf16)
  (harg4 : arg4.IsWhole) (arg5 : Memref sig .tc .vmem S17x128x256 .bf16) (harg5 : arg5.IsWhole)
  (arg6 : Memref sig .tc .vmem S256x512 .bf16) (harg6 : arg6.IsWhole) (arg7 : Memref sig .tc .vmem S4x8x512 .f32)
  (harg7 : arg7.IsWhole) (arg8 : Memref sig .tc .vmem S4x8x512 .f32) (harg8 : arg8.IsWhole)
  (arg9 : Memref sig .tc .vmem S4x80x512 .f32) (harg9 : arg9.IsWhole) (arg10 : Memref sig .tc .vmem S4x512x512 .bf16)
  (harg10 : arg10.IsWhole)
  (v0 : BitVec 1) (v19 v34 v49 v64 : FVec Ideal S512x128 .bf16) (v73 : Ideal .f32)
  (X4 : BufTy.Contents (Elt Ideal) arg4.view.ty) (X5 : BufTy.Contents (Elt Ideal) arg5.view.ty)
  (x2 : Vec Ideal S4352x256 .bf16) (x3 : Vec Ideal S17x128x256 .bf16) (Q : Fin 4 → Vec Ideal S512x128 .bf16)

/-- Trip `k` adds the two waiting slabs to the accumulator. -/
theorem trip_acc (hX4 : arg4.view.read (Elt Ideal) X4 = x2) (hX5 : arg5.view.read (Elt Ideal) X5 = x3)
    (k : Fin (k0_t1_loop i).trips) (hk : k.val < 8) (f9 : BufTy.Contents (Elt Ideal) arg9.view.ty)
    (f10 : BufTy.Contents (Elt Ideal) arg10.view.ty)
    (h9 : ∀ c d x, arg9.view.read (Elt Ideal) f9 (ix3 c d x) = accv x2 x3 Q v73 k.val c d x)
    (h10 : ∀ c κ x, arg10.view.read (Elt Ideal) f10 (ix3 c κ x) = pv x2 Q v73 k.val c κ x) (L) (cc : Fin 4) (d : Fin 80)
    (x : Fin 512) :
    View.canon ((tripL_k0_t1 (F := Ideal) Variants.none c none i arg2 harg2 arg3 harg3 arg4 harg4 arg5 harg5 arg6 harg6 arg7 harg7 arg8 harg8 arg9 harg9 arg10 harg10 v0 v19 v34 v49 v64 v73 X4 X5 k f9 f10).1 ++ L) (ix3 cc d x)
      = accv x2 x3 Q v73 (k.val + 1) cc d x := by
  refine View.canon_append_of_pieces (Val := Elt Ideal) (S := S4x80x512) (e := .f32) (fun j => accv x2 x3 Q v73 (k.val + 1) (j 0) (j 1) (j 2)) _ _ ?_ _ ?_
  · unfold tripL_k0_t1 trip_k0_t1
    dsimp only
    sl_unfold_words
    have hV0 := slab0 ⟨k.val, hk⟩
    have hV1 := slab1 ⟨k.val, hk⟩
    simp only [List.forall_mem_cons, List.not_mem_nil, false_imp_iff, implies_true, and_true]
    refine ⟨?_, ?_, ?_, ?_⟩ <;> intro y <;> obtain ⟨a, d, z, rfl⟩ : ∃ a d z, y = ix3 a d z := ⟨_, _, _, eq_ix3 y⟩ <;>
      obtain rfl : a = 0 := Subsingleton.elim _ _
    · refine (upd14 _ _ _ _ d z).trans ?_
      refine (upd_eq x2 x3 Q v73 k.val 3 _ rfl _ _ _ _ ?_ ?_ ?_ ?_ d z).trans ?_
      · intro r k'
        rw [← hX5]
        exact ldV arg5 X5 _ _ _ (by omega) (congrArg (fun n : Nat => (![n, 0, 0] : Fin 3 → Nat)) hV0) 0 r k'
      · intro r k'
        rw [← hX5]
        exact ldV arg5 X5 _ _ _ (by omega) (congrArg (fun n : Nat => (![n, 0, 0] : Fin 3 → Nat)) hV1) 0 r k'
      · intro κ x
        exact (ldC arg10 f10 _ (by omega) 0 κ x).trans (h10 _ κ x)
      · intro d x
        exact (ldC arg9 f9 _ (by omega) 0 d x).trans (h9 _ d x)
      · refine congr (congr (congrArg _ (Fin.ext ?_)) (Fin.ext ?_)) (Fin.ext ?_)
        · rfl
        · show d.val = 0 + 1 * d.val; omega
        · show z.val = 0 + 1 * z.val; omega
    · refine (upd12 _ _ _ _ d z).trans ?_
      refine (upd_eq x2 x3 Q v73 k.val 2 _ rfl _ _ _ _ ?_ ?_ ?_ ?_ d z).trans ?_
      · intro r k'
        rw [← hX5]
        exact ldV arg5 X5 _ _ _ (by omega) (congrArg (fun n : Nat => (![n, 0, 0] : Fin 3 → Nat)) hV0) 0 r k'
      · intro r k'
        rw [← hX5]
        exact ldV arg5 X5 _ _ _ (by omega) (congrArg (fun n : Nat => (![n, 0, 0] : Fin 3 → Nat)) hV1) 0 r k'
      · intro κ x
        exact (ldC arg10 f10 _ (by omega) 0 κ x).trans (h10 _ κ x)
      · intro d x
        exact (ldC arg9 f9 _ (by omega) 0 d x).trans (h9 _ d x)
      · refine congr (congr (congrArg _ (Fin.ext ?_)) (Fin.ext ?_)) (Fin.ext ?_)
        · rfl
        · show d.val = 0 + 1 * d.val; omega
        · show z.val = 0 + 1 * z.val; omega
    · refine (upd11 _ _ _ _ d z).trans ?_
      refine (upd_eq x2 x3 Q v73 k.val 1 _ rfl _ _ _ _ ?_ ?_ ?_ ?_ d z).trans ?_
      · intro r k'
        rw [← hX5]
        exact ldV arg5 X5 _ _ _ (by omega) (congrArg (fun n : Nat => (![n, 0, 0] : Fin 3 → Nat)) hV0) 0 r k'
      · intro r k'
        rw [← hX5]
        exact ldV arg5 X5 _ _ _ (by omega) (congrArg (fun n : Nat => (![n, 0, 0] : Fin 3 → Nat)) hV1) 0 r k'
      · intro κ x
        exact (ldC arg10 f10 _ (by omega) 0 κ x).trans (h10 _ κ x)
      · intro d x
        exact (ldC arg9 f9 _ (by omega) 0 d x).trans (h9 _ d x)
      · refine congr (congr (congrArg _ (Fin.ext ?_)) (Fin.ext ?_)) (Fin.ext ?_)
        · rfl
        · show d.val = 0 + 1 * d.val; omega
        · show z.val = 0 + 1 * z.val; omega
    · refine (upd10 _ _ _ _ d z).trans ?_
      refine (upd_eq x2 x3 Q v73 k.val 0 _ rfl _ _ _ _ ?_ ?_ ?_ ?_ d z).trans ?_
      · intro r k'
        rw [← hX5]
        exact ldV arg5 X5 _ _ _ (by omega) (congrArg (fun n : Nat => (![n, 0, 0] : Fin 3 → Nat)) hV0) 0 r k'
      · intro r k'
        rw [← hX5]
        exact ldV arg5 X5 _ _ _ (by omega) (congrArg (fun n : Nat => (![n, 0, 0] : Fin 3 → Nat)) hV1) 0 r k'
      · intro κ x
        exact (ldC arg10 f10 _ (by omega) 0 κ x).trans (h10 _ κ x)
      · intro d x
        exact (ldC arg9 f9 _ (by omega) 0 d x).trans (h9 _ d x)
      · refine congr (congr (congrArg _ (Fin.ext ?_)) (Fin.ext ?_)) (Fin.ext ?_)
        · rfl
        · show d.val = 0 + 1 * d.val; omega
        · show z.val = 0 + 1 * z.val; omega
  · unfold tripL_k0_t1 trip_k0_t1
    dsimp only
    sl_unfold_words
    simp only [List.exists_mem_cons_iff, List.not_mem_nil, false_and, exists_false, or_false]
    have hm : ∀ (n : Nat) (h), cc.val = n → ix3 cc d x ∈ (Rect.unit (s := ⟨3, ![4, 80, 512]⟩) ![n, 0, 0] ![1, 80, 512] h).set :=
      fun n h e => (mem3 h _).2 ⟨e, Nat.zero_le _, by show d.val < 0 + 80; omega⟩
    rcases (show cc.val = 3 ∨ cc.val = 2 ∨ cc.val = 1 ∨ cc.val = 0 by omega) with e | e | e | e
    · exact Or.inl (hm _ _ e)
    · exact Or.inr (Or.inl (hm _ _ e))
    · exact Or.inr (Or.inr (Or.inl (hm _ _ e)))
    · exact Or.inr (Or.inr (Or.inr (hm _ _ e)))

/-- Trip `k` leaves the exponentials of the next two slabs. -/
theorem trip_p (hX4 : arg4.view.read (Elt Ideal) X4 = x2)
    (hq0 : v19 = Q 0) (hq1 : v34 = Q 1) (hq2 : v49 = Q 2) (hq3 : v64 = Q 3)
    (k : Fin (k0_t1_loop i).trips) (hk : k.val < 8) (f9 : BufTy.Contents (Elt Ideal) arg9.view.ty)
    (f10 : BufTy.Contents (Elt Ideal) arg10.view.ty) (L) (cc : Fin 4) (d : Fin 512) (x : Fin 512) :
    View.canon ((tripL_k0_t1 (F := Ideal) Variants.none c none i arg2 harg2 arg3 harg3 arg4 harg4 arg5 harg5 arg6 harg6 arg7 harg7 arg8 harg8 arg9 harg9 arg10 harg10 v0 v19 v34 v49 v64 v73 X4 X5 k f9 f10).2 ++ L) (ix3 cc d x)
      = pv x2 Q v73 (k.val + 1) cc d x := by
  refine View.canon_append_of_pieces (Val := Elt Ideal) (S := S4x512x512) (e := .bf16) (fun j => pv x2 Q v73 (k.val + 1) (j 0) (j 1) (j 2)) _ _ ?_ _ ?_
  · unfold tripL_k0_t1 trip_k0_t1
    dsimp only
    sl_unfold_words
    have hK := key0 ⟨k.val, hk⟩
    simp only [List.forall_mem_cons, List.not_mem_nil, false_imp_iff, implies_true, and_true]
    refine ⟨?_, ?_, ?_, ?_⟩ <;> intro y <;> obtain ⟨a, d, z, rfl⟩ : ∃ a d z, y = ix3 a d z := ⟨_, _, _, eq_ix3 y⟩ <;>
      obtain rfl : a = 0 := Subsingleton.elim _ _
    · refine (sc50 _ _ _ d z).trans ?_
      refine (sc_eq x2 Q v73 3 _ hq3 _ (256 * (2 * (k.val + 1) - 1)) ?_ d z).trans ?_
      · intro κ l
        rw [← hX4]
        exact ldK arg4 X4 _ _ _ _ (congrArg (fun n : Nat => (![n, 128] : Fin 2 → Nat)) hK) κ l (by omega) (by omega)
      · refine (show pv x2 Q v73 (k.val + 1) 3 d z = _ from if_neg (by omega)).symm.trans ?_
        refine congr (congr (congrArg _ (Fin.ext ?_)) (Fin.ext ?_)) (Fin.ext ?_)
        · rfl
        · show d.val = 0 + 1 * d.val; omega
        · show z.val = 0 + 1 * z.val; omega
    · refine (sc49 _ _ _ d z).trans ?_
      refine (sc_eq x2 Q v73 2 _ hq2 _ (256 * (2 * (k.val + 1) - 1)) ?_ d z).trans ?_
      · intro κ l
        rw [← hX4]
        exact ldK arg4 X4 _ _ _ _ (congrArg (fun n : Nat => (![n, 128] : Fin 2 → Nat)) hK) κ l (by omega) (by omega)
      · refine (show pv x2 Q v73 (k.val + 1) 2 d z = _ from if_neg (by omega)).symm.trans ?_
        refine congr (congr (congrArg _ (Fin.ext ?_)) (Fin.ext ?_)) (Fin.ext ?_)
        · rfl
        · show d.val = 0 + 1 * d.val; omega
        · show z.val = 0 + 1 * z.val; omega
    · refine (sc16 _ _ _ d z).trans ?_
      refine (sc_eq x2 Q v73 1 _ hq1 _ (256 * (2 * (k.val + 1) - 1)) ?_ d z).trans ?_
      · intro κ l
        rw [← hX4]
        exact ldK arg4 X4 _ _ _ _ (congrArg (fun n : Nat => (![n, 0] : Fin 2 → Nat)) hK) κ l (by omega) (by omega)
      · refine (show pv x2 Q v73 (k.val + 1) 1 d z = _ from if_neg (by omega)).symm.trans ?_
        refine congr (congr (congrArg _ (Fin.ext ?_)) (Fin.ext ?_)) (Fin.ext ?_)
        · rfl
        · show d.val = 0 + 1 * d.val; omega
        · show z.val = 0 + 1 * z.val; omega
    · refine (sc15 _ _ _ d z).trans ?_
      refine (sc_eq x2 Q v73 0 _ hq0 _ (256 * (2 * (k.val + 1) - 1)) ?_ d z).trans ?_
      · intro κ l
        rw [← hX4]
        exact ldK arg4 X4 _ _ _ _ (congrArg (fun n : Nat => (![n, 0] : Fin 2 → Nat)) hK) κ l (by omega) (by omega)
      · refine (show pv x2 Q v73 (k.val + 1) 0 d z = _ from if_neg (by omega)).symm.trans ?_
        refine congr (congr (congrArg _ (Fin.ext ?_)) (Fin.ext ?_)) (Fin.ext ?_)
        · rfl
        · show d.val = 0 + 1 * d.val; omega
        · show z.val = 0 + 1 * z.val; omega
  · unfold tripL_k0_t1 trip_k0_t1
    dsimp only
    sl_unfold_words
    simp only [List.exists_mem_cons_iff, List.not_mem_nil, false_and, exists_false, or_false]
    have hm : ∀ (n : Nat) (h), cc.val = n → ix3 cc d x ∈ (Rect.unit (s := ⟨3, ![4, 512, 512]⟩) ![n, 0, 0] ![1, 512, 512] h).set :=
      fun n h e => (mem3 h _).2 ⟨e, Nat.zero_le _, by show d.val < 0 + 512; omega⟩
    rcases (show cc.val = 3 ∨ cc.val = 2 ∨ cc.val = 1 ∨ cc.val = 0 by omega) with e | e | e | e
    · exact Or.inl (hm _ _ e)
    · exact Or.inr (Or.inl (hm _ _ e))
    · exact Or.inr (Or.inr (Or.inl (hm _ _ e)))
    · exact Or.inr (Or.inr (Or.inr (hm _ _ e)))

/-- After any number of trips, started over pieces that hold the first state, the arrays hold that trip's state. -/
theorem loop_state (hX4 : arg4.view.read (Elt Ideal) X4 = x2) (hX5 : arg5.view.read (Elt Ideal) X5 = x3)
    (hq0 : v19 = Q 0) (hq1 : v34 = Q 1) (hq2 : v49 = Q 2) (hq3 : v64 = Q 3)
    (hT : (k0_t1_loop i).trips ≤ 8)
    (L9 : List (View.Piece (Elt Ideal) S4x80x512 .f32)) (L10 : List (View.Piece (Elt Ideal) S4x512x512 .bf16))
    (h9 : ∀ c d x, View.canon L9 (ix3 c d x) = accv x2 x3 Q v73 0 c d x)
    (h10 : ∀ c κ x, View.canon L10 (ix3 c κ x) = pv x2 Q v73 0 c κ x) :
    ∀ n : Nat, n ≤ (k0_t1_loop i).trips →
    (∀ cc d x, View.canon ((pb_k0_t1 (F := Ideal) Variants.none c none i arg2 harg2 arg3 harg3 arg4 harg4 arg5 harg5 arg6 harg6 arg7 harg7 arg8 harg8 arg9 harg9 arg10 harg10 v0 v19 v34 v49 v64 v73 X4 X5
        (arg9.view.writes (Elt Ideal) arg9.view.junk L9) (arg10.view.writes (Elt Ideal) arg10.view.junk L10) n).1 ++ L9)
        (ix3 cc d x) = accv x2 x3 Q v73 n cc d x) ∧
    (∀ cc κ x, View.canon ((pb_k0_t1 (F := Ideal) Variants.none c none i arg2 harg2 arg3 harg3 arg4 harg4 arg5 harg5 arg6 harg6 arg7 harg7 arg8 harg8 arg9 harg9 arg10 harg10 v0 v19 v34 v49 v64 v73 X4 X5
        (arg9.view.writes (Elt Ideal) arg9.view.junk L9) (arg10.view.writes (Elt Ideal) arg10.view.junk L10) n).2 ++ L10)
        (ix3 cc κ x) = pv x2 Q v73 n cc κ x)
  | 0, _ => ⟨h9, h10⟩
  | n + 1, hn => by
    have ih := loop_state hX4 hX5 hq0 hq1 hq2 hq3 hT L9 L10 h9 h10 n (by omega)
    have hs := pb_k0_t1_succ (F := Ideal) Variants.none c none i arg2 harg2 arg3 harg3 arg4 harg4 arg5 harg5 arg6 harg6 arg7 harg7 arg8 harg8 arg9 harg9 arg10 harg10 v0 v19 v34 v49 v64 v73 X4 X5
        (arg9.view.writes (Elt Ideal) arg9.view.junk L9) (arg10.view.writes (Elt Ideal) arg10.view.junk L10) ⟨n, hn⟩
    rw [hs]
    dsimp only
    rw [List.append_assoc, List.append_assoc]
    constructor
    · intro cc d x
      refine trip_acc c i arg2 harg2 arg3 harg3 arg4 harg4 arg5 harg5 arg6 harg6 arg7 harg7 arg8 harg8 arg9 harg9 arg10 harg10 v0 v19 v34 v49 v64 v73 X4 X5 x2 x3 Q hX4 hX5 ⟨n, hn⟩ (by dsimp only; omega) _ _ ?_ ?_ _ cc d x
      · intro c d x
        rw [← View.writes_append, View.read_writes_junk_eq_canon]
        exact ih.1 c d x
      · intro c d x
        rw [← View.writes_append, View.read_writes_junk_eq_canon]
        exact ih.2 c d x
    · intro cc d x
      exact trip_p c i arg2 harg2 arg3 harg3 arg4 harg4 arg5 harg5 arg6 harg6 arg7 harg7 arg8 harg8 arg9 harg9 arg10 harg10 v0 v19 v34 v49 v64 v73 X4 X5 x2 Q hX4 hq0 hq1 hq2 hq3 ⟨n, hn⟩ (by dsimp only; omega) _ _ _ cc d x
end
end Cert.KernelIdeal.Att
end
end
-- ==== Proof.Block.lean ====
/-
  One grid point of the attention kernel: the accumulators after the last slab, and the block written out.
-/
module
public import proofs.«01_k».proof.Proof.Loop
@[expose] public section
set_option maxRecDepth 16384
noncomputable section
namespace Cert.KernelIdeal.Att
open Cert.KernelIdeal Cert.KernelIdeal.Gen Idealize.ShloMosaic Idealize.ShloMosaic.TcCoe Idealize.SL.Sem

/-- How many trips grid point `t` makes: none on the context tile, eight on every other. -/
def nst (t : Fin grid0.N) : Nat := if t.val % 17 = 0 then 0 else 8

theorem nTrips1 : ∀ t : Fin grid0.N, Scf.trips (k0_t1_loop (grid0.coords t)).lb (k0_t1_loop (grid0.coords t)).ub
    (k0_t1_loop (grid0.coords t)).st = nst t := by decide +kernel

theorem nTrips2 : ∀ t : Fin grid0.N, Scf.trips (k0_t2_loop (grid0.coords t)).lb (k0_t2_loop (grid0.coords t)).ub
    (k0_t2_loop (grid0.coords t)).st = 0 := by decide +kernel

theorem nst_le (t : Fin grid0.N) : nst t ≤ 8 := by unfold nst; split <;> omega

theorem off7 : ∀ t : Fin grid0.N, ∀ j : Fin 2,
    k0_off7 (grid0.coords t) (BitVec.ofNat 32 j.val) = ![2 * nst t - 1 + j.val, 0, 0] := by decide +kernel

/-- A 128 by 128 block of the queries: row block `r`, column block `o`. -/
def qblk (x1 : Vec Ideal S256x512 .bf16) (r o : Nat) (hr : r < 2) (ho : o < 4) : Vec Ideal S128x128 .bf16 :=
  fun j => x1 (ix2 ⟨r * 128 + (j 0).val, by have h : (j 0).val < 128 := (j 0).isLt; omega⟩ ⟨o * 128 + (j 1).val, by have h : (j 1).val < 128 := (j 1).isLt; omega⟩)

/-- The stack of query heads of chain `c`. -/
def stk (x1 : Vec Ideal S256x512 .bf16) (c : Fin 4) : Vec Ideal S512x128 .bf16 :=
  fun j => qcat (qblk x1 (c.val % 2) (c.val / 2 * 2) (by omega) (by omega))
    (qblk x1 (c.val % 2) (c.val / 2 * 2 + 1) (by omega) (by omega)) (j 0) (j 1)

theorem ldq (arg3 : Memref sig .tc .vmem S256x512 .bf16) (harg3 : arg3.IsWhole) (x1 : Vec Ideal S256x512 .bf16)
    (off : Fin 2 → Nat) (h) (r o : Nat) (hr : r < 2) (ho : o < 4) (h0 : off 0 = r * 128) (h1 : off 1 = o * 128) :
    View.readAt (Elt Ideal) arg3.view (Rect.unit (s := S256x512) off S128x128.size h).toLoadRect (harg3.unread x1)
      = qblk x1 r o hr ho := by
  rw [View.readAt_eq_ld, harg3.read_unread]
  funext j
  show x1 _ = x1 _
  congr 1
  funext b
  apply Fin.ext
  fin_cases b
  · show off 0 + 1 * (j 0).val = r * 128 + (j 0).val; rw [h0]; omega
  · show off 1 + 1 * (j 1).val = o * 128 + (j 1).val; rw [h1]; omega

/-- Reading back a chain's block. -/
theorem rcC {sp} {α : EltTy} {N M m c : Nat} (v : Memref sig .tc sp ⟨3, ![N, M, m]⟩ α)
    (L : List (View.Piece (Elt Ideal) ⟨3, ![N, M, m]⟩ α)) (h) (hc : c < N) (a : Fin 1) (d : Fin M) (y : Fin m) :
    v.view.readCov L (Rect.unit (s := ⟨3, ![N, M, m]⟩) ![c, 0, 0] ![1, M, m] h).toLoadRect (ix3 a d y)
      = View.canon L (ix3 ⟨c, hc⟩ d y) := by
  rw [View.readCov_eq_canon']
  show View.canon L _ = View.canon L _
  congr 1
  funext b
  apply Fin.ext
  fin_cases b
  · show c + 1 * a.val = c; omega
  · show 0 + 1 * d.val = d.val; omega
  · show 0 + 1 * y.val = y.val; omega

/-- A chain's block stored last is read at its chain; the others are as before. -/
theorem consC {α : EltTy} {N M m : Nat} (c : Nat) (L : List (View.Piece (Elt Ideal) ⟨3, ![N, M, m]⟩ α)) (h) (hc : c < N)
    (w) (cc : Fin N) (d : Fin M) (y : Fin m) :
    View.canon ((⟨Rect.unit (s := ⟨3, ![N, M, m]⟩) ![c, 0, 0] ![1, M, m] h, w⟩ : View.Piece (Elt Ideal) ⟨3, ![N, M, m]⟩ α) :: L) (ix3 cc d y)
      = if cc.val = c then w (ix3 0 d y) else View.canon L (ix3 cc d y) := by
  split_ifs with hcc
  · have e := emb3 (N := N) (n := M) (M := M) (m := m) (o := 0) h 0 d y hc (by omega)
    have e' : ix3 cc d y = (Rect.unit (s := ⟨3, ![N, M, m]⟩) ![c, 0, 0] ![1, M, m] h).emb (ix3 0 d y) := by
      rw [e]
      congr 1
      · exact Fin.ext hcc
      · exact Fin.ext (Nat.zero_add _).symm
    rw [e', View.canon_cons_emb]
  · rw [View.canon_cons_of_not_mem]
    intro hm
    exact hcc ((mem3 h _).1 hm).1

section
variable (c : Dev nD) (t : Fin grid0.N) (arg2 : Memref sig .tc .smem S1 .f32) (harg2 : arg2.IsWhole)
  (arg3 : Memref sig .tc .vmem S256x512 .bf16) (harg3 : arg3.IsWhole) (arg4 : Memref sig .tc .vmem S4352x256 .bf16)
  (harg4 : arg4.IsWhole) (arg5 : Memref sig .tc .vmem S17x128x256 .bf16) (harg5 : arg5.IsWhole)
  (arg6 : Memref sig .tc .vmem S256x512 .bf16) (harg6 : arg6.IsWhole) (arg7 : Memref sig .tc .vmem S4x8x512 .f32)
  (harg7 : arg7.IsWhole) (arg8 : Memref sig .tc .vmem S4x8x512 .f32) (harg8 : arg8.IsWhole)
  (arg9 : Memref sig .tc .vmem S4x80x512 .f32) (harg9 : arg9.IsWhole) (arg10 : Memref sig .tc .vmem S4x512x512 .bf16)
  (harg10 : arg10.IsWhole)
  (x0 : Vec Ideal S1 .f32) (x1 : Vec Ideal S256x512 .bf16) (x2 : Vec Ideal S4352x256 .bf16)
  (x3 : Vec Ideal S17x128x256 .bf16)

/-! The four stacks of query heads the body builds. -/

theorem r_1_eq : kernelRun0_A.sl.r_1 (F := Ideal) c arg3 harg3 x1 = stk x1 0 := by
  funext j
  obtain ⟨x, l, rfl⟩ : ∃ x l, j = ix2 x l := ⟨_, _, eq_ix2 j⟩
  unfold kernelRun0_A.sl.r_1
  rw [ldq arg3 harg3 x1 _ _ 0 0 (by omega) (by omega) rfl rfl, ldq arg3 harg3 x1 _ _ 0 1 (by omega) (by omega) rfl rfl]
  exact q32 _ _ x l

theorem r_5_eq : kernelRun0_A.sl.r_5 (F := Ideal) c arg3 harg3 x1 = stk x1 1 := by
  funext j
  obtain ⟨x, l, rfl⟩ : ∃ x l, j = ix2 x l := ⟨_, _, eq_ix2 j⟩
  unfold kernelRun0_A.sl.r_5 kernelRun0_A.sl.r_2 kernelRun0_A.sl.r_3 kernelRun0_A.sl.r_4
  rw [ldq arg3 harg3 x1 _ _ 1 0 (by omega) (by omega) rfl rfl, ldq arg3 harg3 x1 _ _ 1 1 (by omega) (by omega) rfl rfl]
  exact q36 _ _ x l

theorem r_6_eq : kernelRun0_A.sl.r_6 (F := Ideal) c arg3 harg3 x1 = stk x1 2 := by
  funext j
  obtain ⟨x, l, rfl⟩ : ∃ x l, j = ix2 x l := ⟨_, _, eq_ix2 j⟩
  unfold kernelRun0_A.sl.r_6
  rw [ldq arg3 harg3 x1 _ _ 0 2 (by omega) (by omega) rfl rfl, ldq arg3 harg3 x1 _ _ 0 3 (by omega) (by omega) rfl rfl]
  exact q37 _ _ x l

theorem r_11_eq : kernelRun0_A.sl.r_11 (F := Ideal) c arg3 harg3 x1 = stk x1 3 := by
  funext j
  obtain ⟨x, l, rfl⟩ : ∃ x l, j = ix2 x l := ⟨_, _, eq_ix2 j⟩
  unfold kernelRun0_A.sl.r_11 kernelRun0_A.sl.r_7 kernelRun0_A.sl.r_8 kernelRun0_A.sl.r_9 kernelRun0_A.sl.r_10
  rw [ldq arg3 harg3 x1 _ _ 1 2 (by omega) (by omega) rfl rfl, ldq arg3 harg3 x1 _ _ 1 3 (by omega) (by omega) rfl rfl]
  exact q41 _ _ x l

/-- The bound is read from its one word. -/
theorem r_eq : kernelRun0_A.sl.r (F := Ideal) c arg2 harg2 x0 = x0 (ix1 0) := by
  unfold kernelRun0_A.sl.r
  rw [View.readAt_eq_ld, harg2.read_unread]
  show x0 _ = x0 _
  congr 1
  funext b
  fin_cases b
  exact Subsingleton.elim (α := Fin 1) _ _

theorem r_12_eq : kernelRun0_A.sl.r_12 (F := Ideal) c arg2 harg2 x0 = half (x0 (ix1 0)) := by
  unfold kernelRun0_A.sl.r_12
  rw [r_eq]
  rfl

/-- Before the loop the accumulators are zero. -/
theorem init9 (cc d x) : View.canon (kernelRun0_A.sl.HS2_1 (F := Ideal)) (ix3 cc d x)
    = accv x2 x3 (stk x1) (half (x0 (ix1 0))) 0 cc d x := by
  unfold kernelRun0_A.sl.HS2_1
  rw [View.canon_unit_zero (S := S4x80x512) (by funext a; fin_cases a <;> rfl), zero42]
  rfl

/-- Before the loop the exponentials of slab 0 wait, followed by zeros. -/
theorem init10 (cc : Fin 4) (d x : Fin 512) : View.canon (kernelRun0_A.sl.HS3_5 (F := Ideal) c arg2 harg2 arg3 harg3 arg4 harg4 x0 x1 x2) (ix3 cc d x)
    = pv x2 (stk x1) (half (x0 (ix1 0))) 0 cc d x := by
  refine View.canon_apply_of_pieces (Val := Elt Ideal) (S := S4x512x512) (e := .bf16) (fun j => pv x2 (stk x1) (half (x0 (ix1 0))) 0 (j 0) (j 1) (j 2)) _ ?_ _ ?_
  · unfold kernelRun0_A.sl.HS3_5
    rw [r_12_eq, r_eq]
    simp only [List.forall_mem_cons, List.not_mem_nil, false_imp_iff, implies_true, and_true]
    refine ⟨?_, ?_, ?_, ?_, ?_⟩
    on_goal 5 =>
      intro y
      refine (zero43 y).trans (Eq.symm ?_)
      refine (if_pos rfl).trans (if_neg ?_)
      show ¬ (256 + 1 * (y 1).val < 256)
      omega
    all_goals intro y; obtain ⟨a, d, z, rfl⟩ : ∃ a d z, y = ix3 a d z := ⟨_, _, _, eq_ix3 y⟩
    all_goals obtain rfl : a = 0 := Subsingleton.elim _ _
    · refine (sc48 _ _ _ d z).trans ?_
      refine (sc_eq x2 (stk x1) (half (x0 (ix1 0))) 3 _ (r_11_eq c arg3 harg3 x1) _ 0 ?_ d z).trans ?_
      · intro κ l
        refine (ldK arg4 _ _ _ 0 128 rfl κ l (by omega) (by omega)).trans ?_
        rw [harg4.read_unread]; rfl
      · refine ((show pv x2 (stk x1) (half (x0 (ix1 0))) 0 3 ⟨d.val, by omega⟩ z = _ from (if_pos rfl).trans (if_pos d.isLt)).trans (by rw [Nat.zero_add])).symm.trans ?_
        refine congr (congr (congrArg _ (Fin.ext ?_)) (Fin.ext ?_)) (Fin.ext ?_)
        · rfl
        · show d.val = 0 + 1 * d.val; omega
        · show z.val = 0 + 1 * z.val; omega
    · refine (sc47 _ _ _ d z).trans ?_
      refine (sc_eq x2 (stk x1) (half (x0 (ix1 0))) 2 _ (r_6_eq c arg3 harg3 x1) _ 0 ?_ d z).trans ?_
      · intro κ l
        refine (ldK arg4 _ _ _ 0 128 rfl κ l (by omega) (by omega)).trans ?_
        rw [harg4.read_unread]; rfl
      · refine ((show pv x2 (stk x1) (half (x0 (ix1 0))) 0 2 ⟨d.val, by omega⟩ z = _ from (if_pos rfl).trans (if_pos d.isLt)).trans (by rw [Nat.zero_add])).symm.trans ?_
        refine congr (congr (congrArg _ (Fin.ext ?_)) (Fin.ext ?_)) (Fin.ext ?_)
        · rfl
        · show d.val = 0 + 1 * d.val; omega
        · show z.val = 0 + 1 * z.val; omega
    · refine (sc46 _ _ _ d z).trans ?_
      refine (sc_eq x2 (stk x1) (half (x0 (ix1 0))) 1 _ (r_5_eq c arg3 harg3 x1) _ 0 ?_ d z).trans ?_
      · intro κ l
        refine (ldK arg4 _ _ _ 0 0 rfl κ l (by omega) (by omega)).trans ?_
        rw [harg4.read_unread]; rfl
      · refine ((show pv x2 (stk x1) (half (x0 (ix1 0))) 0 1 ⟨d.val, by omega⟩ z = _ from (if_pos rfl).trans (if_pos d.isLt)).trans (by rw [Nat.zero_add])).symm.trans ?_
        refine congr (congr (congrArg _ (Fin.ext ?_)) (Fin.ext ?_)) (Fin.ext ?_)
        · rfl
        · show d.val = 0 + 1 * d.val; omega
        · show z.val = 0 + 1 * z.val; omega
    · refine (sc45 _ _ _ d z).trans ?_
      refine (sc_eq x2 (stk x1) (half (x0 (ix1 0))) 0 _ (r_1_eq c arg3 harg3 x1) _ 0 ?_ d z).trans ?_
      · intro κ l
        refine (ldK arg4 _ _ _ 0 0 rfl κ l (by omega) (by omega)).trans ?_
        rw [harg4.read_unread]; rfl
      · refine ((show pv x2 (stk x1) (half (x0 (ix1 0))) 0 0 ⟨d.val, by omega⟩ z = _ from (if_pos rfl).trans (if_pos d.isLt)).trans (by rw [Nat.zero_add])).symm.trans ?_
        refine congr (congr (congrArg _ (Fin.ext ?_)) (Fin.ext ?_)) (Fin.ext ?_)
        · rfl
        · show d.val = 0 + 1 * d.val; omega
        · show z.val = 0 + 1 * z.val; omega

  · unfold kernelRun0_A.sl.HS3_5
    simp only [List.exists_mem_cons_iff, List.not_mem_nil, false_and, exists_false, or_false]
    by_cases hd : d.val < 256
    · have hm : ∀ (n : Nat) (h), cc.val = n → ix3 cc d x ∈ (Rect.unit (s := ⟨3, ![4, 512, 512]⟩) ![n, 0, 0] ![1, 256, 512] h).set :=
        fun n h e => (mem3 h _).2 ⟨e, Nat.zero_le _, by show d.val < 0 + 256; omega⟩
      rcases (show cc.val = 3 ∨ cc.val = 2 ∨ cc.val = 1 ∨ cc.val = 0 by omega) with e | e | e | e
      · exact Or.inl (hm _ _ e)
      · exact Or.inr (Or.inl (hm _ _ e))
      · exact Or.inr (Or.inr (Or.inl (hm _ _ e)))
      · exact Or.inr (Or.inr (Or.inr (Or.inl (hm _ _ e))))
    · refine Or.inr (Or.inr (Or.inr (Or.inr ?_)))
      rw [Rect.mem_set_unit]
      intro b
      fin_cases b
      · show 0 ≤ cc.val ∧ cc.val < 0 + 4; omega
      · show 256 ≤ d.val ∧ d.val < 256 + 256; omega
      · show 0 ≤ x.val ∧ x.val < 0 + 512; omega

/-- The second loop makes no trip. -/
theorem t2nil (i v0 v19 v34 v49 v64 v73 v115 X4 X5 G9 G10) (n : Nat) (hn : n = 0) :
    pb_k0_t2 (F := Ideal) Variants.none c none i arg2 harg2 arg3 harg3 arg4 harg4 arg5 harg5 arg6 harg6 arg7 harg7 arg8 harg8 arg9 harg9 arg10 harg10 v0 v19 v34 v49 v64 v73 v115 X4 X5 G9 G10 n = ([], []) := by
  subst hn; rfl

/-- After the last slab every accumulator holds the sum over all of its slabs. -/
theorem acc_final (cc : Fin 4) (d : Fin 80) (x : Fin 512) : View.canon (kernelRun0_A.sl.HS2_4 (F := Ideal) c (grid0.coords t) arg2 harg2 arg3 harg3 arg4 harg4 arg5 harg5 arg6 harg6 arg7 harg7 arg8 harg8 arg9 harg9 arg10 harg10 x0 x1 x2 x3) (ix3 cc d x)
    = accv x2 x3 (stk x1) (half (x0 (ix1 0))) (nst t + 1) cc d x := by
  have hl := loop_state c (grid0.coords t) arg2 harg2 arg3 harg3 arg4 harg4 arg5 harg5 arg6 harg6 arg7 harg7 arg8 harg8 arg9 harg9 arg10 harg10 (kernelRun0_A.sl.v0 (grid0.coords t)) (kernelRun0_A.sl.r_1 (F := Ideal) c arg3 harg3 x1) (kernelRun0_A.sl.r_5 (F := Ideal) c arg3 harg3 x1) (kernelRun0_A.sl.r_6 (F := Ideal) c arg3 harg3 x1) (kernelRun0_A.sl.r_11 (F := Ideal) c arg3 harg3 x1) (kernelRun0_A.sl.r_12 (F := Ideal) c arg2 harg2 x0) (harg4.unread x2) (harg5.unread x3) x2 x3 (stk x1) (harg4.read_unread ..) (harg5.read_unread ..) (r_1_eq ..) (r_5_eq ..) (r_6_eq ..) (r_11_eq ..) ((nTrips1 t).trans_le (nst_le t)) kernelRun0_A.sl.HS2_1 (kernelRun0_A.sl.HS3_5 c arg2 harg2 arg3 harg3 arg4 harg4 x0 x1 x2) (by rw [r_12_eq]; exact init9 x0 x1 x2 x3) (by rw [r_12_eq]; exact init10 c arg2 harg2 arg3 harg3 arg4 harg4 x0 x1 x2) (Scf.trips (k0_t1_loop (grid0.coords t)).lb (k0_t1_loop (grid0.coords t)).ub
    (k0_t1_loop (grid0.coords t)).st) le_rfl
  obtain ⟨hs9, hs10⟩ := hl
  have hs9 : ∀ G9 G10 cc d x, View.canon ((pb_k0_t2 (F := Ideal) Variants.none c none (grid0.coords t) arg2 harg2 arg3 harg3 arg4 harg4 arg5 harg5 arg6 harg6 arg7 harg7 arg8 harg8 arg9 harg9 arg10 harg10 (kernelRun0_A.sl.v0 (grid0.coords t)) (kernelRun0_A.sl.r_1 (F := Ideal) c arg3 harg3 x1) (kernelRun0_A.sl.r_5 (F := Ideal) c arg3 harg3 x1) (kernelRun0_A.sl.r_6 (F := Ideal) c arg3 harg3 x1) (kernelRun0_A.sl.r_11 (F := Ideal) c arg3 harg3 x1) (kernelRun0_A.sl.r_12 (F := Ideal) c arg2 harg2 x0) (kernelRun0_A.sl.v115 (grid0.coords t)) (harg4.unread x2) (harg5.unread x3) G9 G10 (Scf.trips (k0_t2_loop (grid0.coords t)).lb (k0_t2_loop (grid0.coords t)).ub (k0_t2_loop (grid0.coords t)).st)).1 ++ ((pb_k0_t1 (F := Ideal) Variants.none c none (grid0.coords t) arg2 harg2 arg3 harg3 arg4 harg4 arg5 harg5 arg6 harg6 arg7 harg7 arg8 harg8 arg9 harg9 arg10 harg10 (kernelRun0_A.sl.v0 (grid0.coords t)) (kernelRun0_A.sl.r_1 (F := Ideal) c arg3 harg3 x1) (kernelRun0_A.sl.r_5 (F := Ideal) c arg3 harg3 x1) (kernelRun0_A.sl.r_6 (F := Ideal) c arg3 harg3 x1) (kernelRun0_A.sl.r_11 (F := Ideal) c arg3 harg3 x1) (kernelRun0_A.sl.r_12 (F := Ideal) c arg2 harg2 x0) (harg4.unread x2) (harg5.unread x3) (arg9.view.writes (Elt Ideal) arg9.view.junk kernelRun0_A.sl.HS2_1) (arg10.view.writes (Elt Ideal) arg10.view.junk (kernelRun0_A.sl.HS3_5 c arg2 harg2 arg3 harg3 arg4 harg4 x0 x1 x2)) (Scf.trips (k0_t1_loop (grid0.coords t)).lb (k0_t1_loop (grid0.coords t)).ub (k0_t1_loop (grid0.coords t)).st)).1 ++ kernelRun0_A.sl.HS2_1)) (ix3 cc d x)
      = accv x2 x3 (stk x1) (half (x0 (ix1 0))) (nst t) cc d x := by
    intro G9 G10 cc d x
    rw [t2nil _ _ _ _ _ _ _ _ _ _ _ _ _ _ _ _ _ _ _ _ _ _ _ _ _ _ _ _ _ _ _ _ (nTrips2 t), ← nTrips1 t]
    rw [← r_12_eq c arg2 harg2 x0, List.nil_append]
    exact hs9 cc d x
  have hs10 : ∀ G9 G10 cc d x, View.canon ((pb_k0_t2 (F := Ideal) Variants.none c none (grid0.coords t) arg2 harg2 arg3 harg3 arg4 harg4 arg5 harg5 arg6 harg6 arg7 harg7 arg8 harg8 arg9 harg9 arg10 harg10 (kernelRun0_A.sl.v0 (grid0.coords t)) (kernelRun0_A.sl.r_1 (F := Ideal) c arg3 harg3 x1) (kernelRun0_A.sl.r_5 (F := Ideal) c arg3 harg3 x1) (kernelRun0_A.sl.r_6 (F := Ideal) c arg3 harg3 x1) (kernelRun0_A.sl.r_11 (F := Ideal) c arg3 harg3 x1) (kernelRun0_A.sl.r_12 (F := Ideal) c arg2 harg2 x0) (kernelRun0_A.sl.v115 (grid0.coords t)) (harg4.unread x2) (harg5.unread x3) G9 G10 (Scf.trips (k0_t2_loop (grid0.coords t)).lb (k0_t2_loop (grid0.coords t)).ub (k0_t2_loop (grid0.coords t)).st)).2 ++ ((pb_k0_t1 (F := Ideal) Variants.none c none (grid0.coords t) arg2 harg2 arg3 harg3 arg4 harg4 arg5 harg5 arg6 harg6 arg7 harg7 arg8 harg8 arg9 harg9 arg10 harg10 (kernelRun0_A.sl.v0 (grid0.coords t)) (kernelRun0_A.sl.r_1 (F := Ideal) c arg3 harg3 x1) (kernelRun0_A.sl.r_5 (F := Ideal) c arg3 harg3 x1) (kernelRun0_A.sl.r_6 (F := Ideal) c arg3 harg3 x1) (kernelRun0_A.sl.r_11 (F := Ideal) c arg3 harg3 x1) (kernelRun0_A.sl.r_12 (F := Ideal) c arg2 harg2 x0) (harg4.unread x2) (harg5.unread x3) (arg9.view.writes (Elt Ideal) arg9.view.junk kernelRun0_A.sl.HS2_1) (arg10.view.writes (Elt Ideal) arg10.view.junk (kernelRun0_A.sl.HS3_5 c arg2 harg2 arg3 harg3 arg4 harg4 x0 x1 x2)) (Scf.trips (k0_t1_loop (grid0.coords t)).lb (k0_t1_loop (grid0.coords t)).ub (k0_t1_loop (grid0.coords t)).st)).2 ++ kernelRun0_A.sl.HS3_5 c arg2 harg2 arg3 harg3 arg4 harg4 x0 x1 x2)) (ix3 cc d x)
      = pv x2 (stk x1) (half (x0 (ix1 0))) (nst t) cc d x := by
    intro G9 G10 cc d x
    rw [t2nil _ _ _ _ _ _ _ _ _ _ _ _ _ _ _ _ _ _ _ _ _ _ _ _ _ _ _ _ _ _ _ _ (nTrips2 t), ← nTrips1 t]
    rw [← r_12_eq c arg2 harg2 x0, List.nil_append]
    exact hs10 cc d x
  have hV0 : ∀ (h) (r : Fin 128) (k : Fin 256), View.readAt (Elt Ideal) arg5.view (Rect.unit (s := S17x128x256) (k0_off7 (grid0.coords t) 0#32) S1x128x256.size h).toLoadRect (harg5.unread x3) (ix3 0 r k) = x3 (ix3 ⟨(2 * nst t - 1) % 17, Nat.mod_lt _ (by omega)⟩ r k) := by
    intro h r k
    have := nst_le t
    refine (ldV arg5 _ _ h (2 * nst t - 1) (by omega) (off7 t 0) 0 r k).trans ?_
    rw [harg5.read_unread]
  have hV1 : ∀ (h) (r : Fin 128) (k : Fin 256), View.readAt (Elt Ideal) arg5.view (Rect.unit (s := S17x128x256) (k0_off7 (grid0.coords t) 1#32) S1x128x256.size h).toLoadRect (harg5.unread x3) (ix3 0 r k) = x3 (ix3 ⟨(2 * nst t - 1 + 1) % 17, Nat.mod_lt _ (by omega)⟩ r k) := by
    intro h r k
    have := nst_le t
    refine (ldV arg5 _ _ h (2 * nst t - 1 + 1) (by omega) (off7 t 1) 0 r k).trans ?_
    rw [harg5.read_unread]

  have A0 : ∀ d x, kernelRun0_A.sl.v135 (F := Ideal) c (grid0.coords t) arg2 harg2 arg3 harg3 arg4 harg4 arg5 harg5 arg6 harg6 arg7 harg7 arg8 harg8 arg9 harg9 arg10 harg10 x0 x1 x2 x3 (ix3 0 d x) = accv x2 x3 (stk x1) (half (x0 (ix1 0))) (nst t) 0 d x := by
    intro d x
    unfold kernelRun0_A.sl.v135
    refine (rcC arg9 _ _ (by omega) 0 d x).trans ?_
    exact hs9 _ _ _ d x
  have P0 : ∀ d x, kernelRun0_A.sl.v132 (F := Ideal) c (grid0.coords t) arg2 harg2 arg3 harg3 arg4 harg4 arg5 harg5 arg6 harg6 arg7 harg7 arg8 harg8 arg9 harg9 arg10 harg10 x0 x1 x2 x3 (ix3 0 d x) = pv x2 (stk x1) (half (x0 (ix1 0))) (nst t) 0 d x := by
    intro d x
    unfold kernelRun0_A.sl.v132
    refine (ldC arg10 _ _ (by omega) 0 d x).trans ?_
    rw [View.read_writes_junk_eq_canon]
    exact hs10 _ _ _ d x
  have H1 : ∀ (cc : Fin 4) d x, View.canon (kernelRun0_A.sl.HS2_1_1 (F := Ideal) c (grid0.coords t) arg2 harg2 arg3 harg3 arg4 harg4 arg5 harg5 arg6 harg6 arg7 harg7 arg8 harg8 arg9 harg9 arg10 harg10 x0 x1 x2 x3) (ix3 cc d x)
      = accv x2 x3 (stk x1) (half (x0 (ix1 0))) (if cc.val < 1 then nst t + 1 else nst t) cc d x := by
    intro cc d x
    unfold kernelRun0_A.sl.HS2_1_1 kernelRun0_A.sl.r_13
    refine (consC _ _ _ (by omega) _ cc d x).trans ?_
    by_cases h : cc.val = 0
    · obtain rfl : cc = 0 := Fin.ext h
      rw [if_pos h, if_pos (by omega)]
      refine (upd54 _ _ _ _ d x).trans ?_
      exact upd_eq x2 x3 (stk x1) (half (x0 (ix1 0))) (nst t) 0 _ rfl _ _ _ _ (hV0 _) (hV1 _) P0 A0 d x
    · rw [if_neg h]
      refine (hs9 _ _ cc d x).trans ?_
      rw [if_neg (by omega)]

  have A1 : ∀ d x, kernelRun0_A.sl.v160 (F := Ideal) c (grid0.coords t) arg2 harg2 arg3 harg3 arg4 harg4 arg5 harg5 arg6 harg6 arg7 harg7 arg8 harg8 arg9 harg9 arg10 harg10 x0 x1 x2 x3 (ix3 0 d x) = accv x2 x3 (stk x1) (half (x0 (ix1 0))) (nst t) 1 d x := by
    intro d x
    unfold kernelRun0_A.sl.v160
    refine (rcC arg9 _ _ (by omega) 0 d x).trans ?_
    exact (H1 _ d x).trans (by rw [if_neg (by decide)]; rfl)
  have P1 : ∀ d x, kernelRun0_A.sl.v157 (F := Ideal) c (grid0.coords t) arg2 harg2 arg3 harg3 arg4 harg4 arg5 harg5 arg6 harg6 arg7 harg7 arg8 harg8 arg9 harg9 arg10 harg10 x0 x1 x2 x3 (ix3 0 d x) = pv x2 (stk x1) (half (x0 (ix1 0))) (nst t) 1 d x := by
    intro d x
    unfold kernelRun0_A.sl.v157
    refine (ldC arg10 _ _ (by omega) 0 d x).trans ?_
    rw [View.read_writes_junk_eq_canon]
    exact hs10 _ _ _ d x
  have H2 : ∀ (cc : Fin 4) d x, View.canon (kernelRun0_A.sl.HS2_2 (F := Ideal) c (grid0.coords t) arg2 harg2 arg3 harg3 arg4 harg4 arg5 harg5 arg6 harg6 arg7 harg7 arg8 harg8 arg9 harg9 arg10 harg10 x0 x1 x2 x3) (ix3 cc d x)
      = accv x2 x3 (stk x1) (half (x0 (ix1 0))) (if cc.val < 2 then nst t + 1 else nst t) cc d x := by
    intro cc d x
    unfold kernelRun0_A.sl.HS2_2 kernelRun0_A.sl.r_14
    refine (consC _ _ _ (by omega) _ cc d x).trans ?_
    by_cases h : cc.val = 1
    · obtain rfl : cc = 1 := Fin.ext h
      rw [if_pos h, if_pos (by omega)]
      refine (upd56 _ _ _ _ d x).trans ?_
      exact upd_eq x2 x3 (stk x1) (half (x0 (ix1 0))) (nst t) 1 _ rfl _ _ _ _ (hV0 _) (hV1 _) P1 A1 d x
    · rw [if_neg h]
      refine (H1 cc d x).trans ?_
      by_cases h' : cc.val < 1
      · rw [if_pos h', if_pos (by omega)]
      · rw [if_neg h', if_neg (by omega)]

  have A2 : ∀ d x, kernelRun0_A.sl.v185 (F := Ideal) c (grid0.coords t) arg2 harg2 arg3 harg3 arg4 harg4 arg5 harg5 arg6 harg6 arg7 harg7 arg8 harg8 arg9 harg9 arg10 harg10 x0 x1 x2 x3 (ix3 0 d x) = accv x2 x3 (stk x1) (half (x0 (ix1 0))) (nst t) 2 d x := by
    intro d x
    unfold kernelRun0_A.sl.v185
    refine (rcC arg9 _ _ (by omega) 0 d x).trans ?_
    exact (H2 _ d x).trans (by rw [if_neg (by decide)]; rfl)
  have P2 : ∀ d x, kernelRun0_A.sl.v182 (F := Ideal) c (grid0.coords t) arg2 harg2 arg3 harg3 arg4 harg4 arg5 harg5 arg6 harg6 arg7 harg7 arg8 harg8 arg9 harg9 arg10 harg10 x0 x1 x2 x3 (ix3 0 d x) = pv x2 (stk x1) (half (x0 (ix1 0))) (nst t) 2 d x := by
    intro d x
    unfold kernelRun0_A.sl.v182
    refine (ldC arg10 _ _ (by omega) 0 d x).trans ?_
    rw [View.read_writes_junk_eq_canon]
    exact hs10 _ _ _ d x
  have H3 : ∀ (cc : Fin 4) d x, View.canon (kernelRun0_A.sl.HS2_3 (F := Ideal) c (grid0.coords t) arg2 harg2 arg3 harg3 arg4 harg4 arg5 harg5 arg6 harg6 arg7 harg7 arg8 harg8 arg9 harg9 arg10 harg10 x0 x1 x2 x3) (ix3 cc d x)
      = accv x2 x3 (stk x1) (half (x0 (ix1 0))) (if cc.val < 3 then nst t + 1 else nst t) cc d x := by
    intro cc d x
    unfold kernelRun0_A.sl.HS2_3 kernelRun0_A.sl.r_15
    refine (consC _ _ _ (by omega) _ cc d x).trans ?_
    by_cases h : cc.val = 2
    · obtain rfl : cc = 2 := Fin.ext h
      rw [if_pos h, if_pos (by omega)]
      refine (upd58 _ _ _ _ d x).trans ?_
      exact upd_eq x2 x3 (stk x1) (half (x0 (ix1 0))) (nst t) 2 _ rfl _ _ _ _ (hV0 _) (hV1 _) P2 A2 d x
    · rw [if_neg h]
      refine (H2 cc d x).trans ?_
      by_cases h' : cc.val < 2
      · rw [if_pos h', if_pos (by omega)]
      · rw [if_neg h', if_neg (by omega)]

  have A3 : ∀ d x, kernelRun0_A.sl.v210 (F := Ideal) c (grid0.coords t) arg2 harg2 arg3 harg3 arg4 harg4 arg5 harg5 arg6 harg6 arg7 harg7 arg8 harg8 arg9 harg9 arg10 harg10 x0 x1 x2 x3 (ix3 0 d x) = accv x2 x3 (stk x1) (half (x0 (ix1 0))) (nst t) 3 d x := by
    intro d x
    unfold kernelRun0_A.sl.v210
    refine (rcC arg9 _ _ (by omega) 0 d x).trans ?_
    exact (H3 _ d x).trans (by rw [if_neg (by decide)]; rfl)
  have P3 : ∀ d x, kernelRun0_A.sl.v207 (F := Ideal) c (grid0.coords t) arg2 harg2 arg3 harg3 arg4 harg4 arg5 harg5 arg6 harg6 arg7 harg7 arg8 harg8 arg9 harg9 arg10 harg10 x0 x1 x2 x3 (ix3 0 d x) = pv x2 (stk x1) (half (x0 (ix1 0))) (nst t) 3 d x := by
    intro d x
    unfold kernelRun0_A.sl.v207
    refine (ldC arg10 _ _ (by omega) 0 d x).trans ?_
    rw [View.read_writes_junk_eq_canon]
    exact hs10 _ _ _ d x
  have H4 : ∀ (cc : Fin 4) d x, View.canon (kernelRun0_A.sl.HS2_4 (F := Ideal) c (grid0.coords t) arg2 harg2 arg3 harg3 arg4 harg4 arg5 harg5 arg6 harg6 arg7 harg7 arg8 harg8 arg9 harg9 arg10 harg10 x0 x1 x2 x3) (ix3 cc d x)
      = accv x2 x3 (stk x1) (half (x0 (ix1 0))) (if cc.val < 4 then nst t + 1 else nst t) cc d x := by
    intro cc d x
    unfold kernelRun0_A.sl.HS2_4
    refine (consC _ _ _ (by omega) _ cc d x).trans ?_
    by_cases h : cc.val = 3
    · obtain rfl : cc = 3 := Fin.ext h
      rw [if_pos h, if_pos (by omega)]
      refine (upd59 _ _ _ _ d x).trans ?_
      exact upd_eq x2 x3 (stk x1) (half (x0 (ix1 0))) (nst t) 3 _ rfl _ _ _ _ (hV0 _) (hV1 _) P3 A3 d x
    · rw [if_neg h]
      refine (H3 cc d x).trans ?_
      by_cases h' : cc.val < 3
      · rw [if_pos h', if_pos (by omega)]
      · rw [if_neg h', if_neg (by omega)]

  exact (H4 cc d x).trans (by rw [if_pos cc.isLt])

/-- The block written at grid point `t`, element by element: a product row over the row of sums. -/
def gout (t : Fin grid0.N) (x0 : Vec Ideal S1 .f32) (x1 : Vec Ideal S256x512 .bf16) (x2 : Vec Ideal S4352x256 .bf16)
    (x3 : Vec Ideal S17x128x256 .bf16) (R : Fin 256) (C : Fin 512) : EReal :=
  Ideal.div
    (accv x2 x3 (stk x1) (half (x0 (ix1 0))) (nst t + 1) ⟨C.val / 256 * 2 + R.val / 128, by omega⟩ ⟨C.val % 64, by omega⟩
      ⟨C.val % 256 / 64 * 128 + R.val % 128, by omega⟩)
    (accv x2 x3 (stk x1) (half (x0 (ix1 0))) (nst t + 1) ⟨C.val / 256 * 2 + R.val / 128, by omega⟩ 64
      ⟨C.val % 256 / 64 * 128 + R.val % 128, by omega⟩)

theorem ov_gout (o : Nat) (rb cb : Nat) (hr : rb < 2) (hc : cb < 4) (v : Vec Ideal S1x80x512 .f32) (ho : o ≤ 256)
    (ho' : o = cb % 2 * 256)
    (hv : ∀ d x, v (ix3 0 d x) = accv x2 x3 (stk x1) (half (x0 (ix1 0))) (nst t + 1) ⟨cb / 2 * 2 + rb, by omega⟩ d x)
    (r l : Fin 128) : ov o ho v r l
      = gout t x0 x1 x2 x3 ⟨rb * 128 + r.val, by omega⟩ ⟨cb * 128 + l.val, by omega⟩ := by
  subst ho'
  unfold ov gout
  rw [hv, hv]
  have e : ∀ (c c' : Fin 4) (d d' : Fin 80) (x x' : Fin 512), c.val = c'.val → d.val = d'.val → x.val = x'.val →
      Ideal.div (accv x2 x3 (stk x1) (half (x0 (ix1 0))) (nst t + 1) c d x) (accv x2 x3 (stk x1) (half (x0 (ix1 0))) (nst t + 1) c 64 x)
        = Ideal.div (accv x2 x3 (stk x1) (half (x0 (ix1 0))) (nst t + 1) c' d' x') (accv x2 x3 (stk x1) (half (x0 (ix1 0))) (nst t + 1) c' 64 x') := by
    intro c c' d d' x x' h1 h2 h3
    obtain rfl := Fin.ext h1; obtain rfl := Fin.ext h2; obtain rfl := Fin.ext h3; rfl
  exact e _ _ _ _ _ _ (by dsimp only; omega) (by dsimp only; omega) (by dsimp only; omega)

/-- What the body leaves in the output's buffer. -/
theorem out_eq (R : Fin 256) (C : Fin 512) : out0_A_4 (F := Ideal) c (grid0.coords t) arg2 harg2 arg3 harg3 arg4 harg4 arg5 harg5 arg6 harg6 arg7 harg7 arg8 harg8 arg9 harg9 arg10 harg10 x0 x1 x2 x3 (ix2 R C) = gout t x0 x1 x2 x3 R C := by
  unfold out0_A_4
  rw [View.read_writes_junk_eq_canon]
  unfold kernelRun0_A
  dsimp only
  refine View.canon_apply_of_pieces (Val := Elt Ideal) (S := S256x512) (e := .bf16) (fun j => gout t x0 x1 x2 x3 (j 0) (j 1)) _ ?_ _ ?_
  · simp only [List.forall_mem_cons, List.not_mem_nil, false_imp_iff, implies_true, and_true]
    refine ⟨?_, ?_, ?_, ?_, ?_, ?_, ?_, ?_⟩
    · intro y; obtain ⟨r, l, rfl⟩ : ∃ r l, y = ix2 r l := ⟨_, _, eq_ix2 y⟩
      refine (o4 _ r l).trans ?_
      refine (ov_gout t x0 x1 x2 x3 _ 1 3 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 3 d x)) r l).trans ?_
      refine congr (congrArg _ (Fin.ext ?_)) (Fin.ext ?_)
      · show 1 * 128 + r.val = 128 + 1 * r.val; omega
      · show 3 * 128 + l.val = 384 + 1 * l.val; omega
    · intro y; obtain ⟨r, l, rfl⟩ : ∃ r l, y = ix2 r l := ⟨_, _, eq_ix2 y⟩
      refine (o3 _ r l).trans ?_
      refine (ov_gout t x0 x1 x2 x3 _ 1 2 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 3 d x)) r l).trans ?_
      refine congr (congrArg _ (Fin.ext ?_)) (Fin.ext ?_)
      · show 1 * 128 + r.val = 128 + 1 * r.val; omega
      · show 2 * 128 + l.val = 256 + 1 * l.val; omega
    · intro y; obtain ⟨r, l, rfl⟩ : ∃ r l, y = ix2 r l := ⟨_, _, eq_ix2 y⟩
      unfold kernelRun0_A.sl.r_19
      refine (o1 _ r l).trans ?_
      refine (ov_gout t x0 x1 x2 x3 _ 0 3 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 2 d x)) r l).trans ?_
      refine congr (congrArg _ (Fin.ext ?_)) (Fin.ext ?_)
      · show 0 * 128 + r.val = 0 + 1 * r.val; omega
      · show 3 * 128 + l.val = 384 + 1 * l.val; omega
    · intro y; obtain ⟨r, l, rfl⟩ : ∃ r l, y = ix2 r l := ⟨_, _, eq_ix2 y⟩
      unfold kernelRun0_A.sl.r_20
      refine (o69 _ r l).trans ?_
      refine (ov_gout t x0 x1 x2 x3 _ 0 2 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 2 d x)) r l).trans ?_
      refine congr (congrArg _ (Fin.ext ?_)) (Fin.ext ?_)
      · show 0 * 128 + r.val = 0 + 1 * r.val; omega
      · show 2 * 128 + l.val = 256 + 1 * l.val; omega
    · intro y; obtain ⟨r, l, rfl⟩ : ∃ r l, y = ix2 r l := ⟨_, _, eq_ix2 y⟩
      refine (o67 _ r l).trans ?_
      refine (ov_gout t x0 x1 x2 x3 _ 1 1 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 1 d x)) r l).trans ?_
      refine congr (congrArg _ (Fin.ext ?_)) (Fin.ext ?_)
      · show 1 * 128 + r.val = 128 + 1 * r.val; omega
      · show 1 * 128 + l.val = 128 + 1 * l.val; omega
    · intro y; obtain ⟨r, l, rfl⟩ : ∃ r l, y = ix2 r l := ⟨_, _, eq_ix2 y⟩
      refine (o66 _ r l).trans ?_
      refine (ov_gout t x0 x1 x2 x3 _ 1 0 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 1 d x)) r l).trans ?_
      refine congr (congrArg _ (Fin.ext ?_)) (Fin.ext ?_)
      · show 1 * 128 + r.val = 128 + 1 * r.val; omega
      · show 0 * 128 + l.val = 0 + 1 * l.val; omega
    · intro y; obtain ⟨r, l, rfl⟩ : ∃ r l, y = ix2 r l := ⟨_, _, eq_ix2 y⟩
      unfold kernelRun0_A.sl.r_16
      refine (o64 _ r l).trans ?_
      refine (ov_gout t x0 x1 x2 x3 _ 0 1 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 0 d x)) r l).trans ?_
      refine congr (congrArg _ (Fin.ext ?_)) (Fin.ext ?_)
      · show 0 * 128 + r.val = 0 + 1 * r.val; omega
      · show 1 * 128 + l.val = 128 + 1 * l.val; omega
    · intro y; obtain ⟨r, l, rfl⟩ : ∃ r l, y = ix2 r l := ⟨_, _, eq_ix2 y⟩
      unfold kernelRun0_A.sl.r_17 kernelRun0_A.sl.r_18
      refine (o63 _ r l).trans ?_
      refine (ov_gout t x0 x1 x2 x3 _ 0 0 (by omega) (by omega) _ (by omega) rfl (fun d x => (rcC arg9 _ _ (by omega) 0 d x).trans (acc_final c t arg2 harg2 arg3 harg3 arg4 harg4 arg5 harg5 arg6 harg6 arg7 harg7 arg8 harg8 arg9 harg9 arg10 harg10 x0 x1 x2 x3 0 d x)) r l).trans ?_
      refine congr (congrArg _ (Fin.ext ?_)) (Fin.ext ?_)
      · show 0 * 128 + r.val = 0 + 1 * r.val; omega
      · show 0 * 128 + l.val = 0 + 1 * l.val; omega
  · simp only [List.exists_mem_cons_iff, List.not_mem_nil, false_and, exists_false, or_false]
    have hm : ∀ (p q : Nat) (h), p ≤ R.val → R.val < p + 128 → q ≤ C.val → C.val < q + 128 →
        ix2 R C ∈ (Rect.unit (s := S256x512) ![p, q] S128x128.size h).set := by
      intro p q h h1 h2 h3 h4
      rw [Rect.mem_set_unit]
      intro b
      fin_cases b
      · exact ⟨h1, h2⟩
      · exact ⟨h3, h4⟩
    rcases (show R.val < 128 ∨ 128 ≤ R.val by omega) with e | e <;>
      rcases (show C.val < 128 ∨ (128 ≤ C.val ∧ C.val < 256) ∨ (256 ≤ C.val ∧ C.val < 384) ∨ 384 ≤ C.val by omega) with e' | e' | e' | e'
    · exact Or.inr (Or.inr (Or.inr (Or.inr (Or.inr (Or.inr (Or.inr (hm _ _ _ (by omega) (by omega) (by omega) (by omega))))))))
    · exact Or.inr (Or.inr (Or.inr (Or.inr (Or.inr (Or.inr (Or.inl (hm _ _ _ (by omega) (by omega) (by omega) (by omega))))))))
    · exact Or.inr (Or.inr (Or.inr (Or.inl (hm _ _ _ (by omega) (by omega) (by omega) (by omega)))))
    · exact Or.inr (Or.inr (Or.inl (hm _ _ _ (by omega) (by omega) (by omega) (by omega))))
    · exact Or.inr (Or.inr (Or.inr (Or.inr (Or.inr (Or.inl (hm _ _ _ (by omega) (by omega) (by omega) (by omega)))))))
    · exact Or.inr (Or.inr (Or.inr (Or.inr (Or.inl (hm _ _ _ (by omega) (by omega) (by omega) (by omega))))))
    · exact Or.inr (Or.inl (hm _ _ _ (by omega) (by omega) (by omega) (by omega)))
    · exact Or.inl (hm _ _ _ (by omega) (by omega) (by omega) (by omega))
end
end Cert.KernelIdeal.Att
end
end
-- ==== Proof.Array.lean ====
/-
  The attention kernel's whole result: every element is the quotient its grid point's block holds.
-/
module
public import proofs.«01_k».proof.Proof.Block
@[expose] public section
set_option maxRecDepth 16384
noncomputable section
namespace Cert.KernelIdeal.Att
open Cert.KernelIdeal Cert.KernelIdeal.Gen Idealize.ShloMosaic Idealize.ShloMosaic.TcCoe Idealize.SL.Sem
open Idealize.ShloMosaic.Pipeline (Dat)

/-- Tile `t` of the queries. -/
def qtile (q : Vec Ideal S17408x512 .bf16) (t : Fin grid0.N) : Vec Ideal S256x512 .bf16 :=
  fun j => q (ix2 ⟨t.val * 256 + (j 0).val, by
    have h : (j 0).val < 256 := (j 0).isLt; have := t.isLt; have e : grid0.N = 68 := by decide
    omega⟩ (j 1))

/-- The keys of tile `t`'s batch entry. -/
def kbatch (k : Vec Ideal S17408x256 .bf16) (t : Fin grid0.N) : Vec Ideal S4352x256 .bf16 :=
  fun j => k (ix2 ⟨t.val / 17 * 4352 + (j 0).val, by
    have h : (j 0).val < 4352 := (j 0).isLt; have := t.isLt; have e : grid0.N = 68 := by decide
    omega⟩ (j 1))

/-- The slabs of values of tile `t`'s batch entry. -/
def vbatch (v : Vec Ideal S68x128x256 .bf16) (t : Fin grid0.N) : Vec Ideal S17x128x256 .bf16 :=
  fun j => v (ix3 ⟨t.val / 17 * 17 + (j 0).val, by
    have h : (j 0).val < 17 := (j 0).isLt; have := t.isLt; have e : grid0.N = 68 := by decide
    omega⟩ (j 1) (j 2))

/-- The result array. -/
def res (q : Vec Ideal S17408x512 .bf16) (k : Vec Ideal S17408x256 .bf16) (v : Vec Ideal S68x128x256 .bf16)
    (b : Vec Ideal S1 .f32) : Vec Ideal S17408x512 .bf16 :=
  fun j => (fun t : Fin grid0.N => gout t b (qtile q t) (kbatch k t) (vbatch v t)
    ⟨(j 0).val % 256, Nat.mod_lt _ (by omega)⟩ (j 1))
    ⟨(j 0).val / 256, by
      have h : (j 0).val < 17408 := (j 0).isLt; have e : grid0.N = 68 := by decide
      omega⟩

variable (m : (ℓ : Loc nD τ sig) → Buf (Elt Ideal) ℓ) (ρ : Dev nD → PrngReg)

theorem idx0 : ∀ t : Fin grid0.N, win0_0.index t 0 = 0 := by decide +kernel
theorem idx1 : ∀ t : Fin grid0.N, win0_1.index t 0 = t.val ∧ win0_1.index t 1 = 0 := by decide +kernel
theorem idx2 : ∀ t : Fin grid0.N, win0_2.index t 0 = t.val / 17 ∧ win0_2.index t 1 = 0 := by decide +kernel
theorem idx3 : ∀ t : Fin grid0.N, win0_3.index t 0 = t.val / 17 ∧ win0_3.index t 1 = 0 ∧ win0_3.index t 2 = 0 := by
  decide +kernel
theorem idx4 : ∀ t : Fin grid0.N, win0_4.index t 0 = t.val ∧ win0_4.index t 1 = 0 := by decide +kernel

theorem blk0 (c : Dev nD) (t : Fin cfg0.N) : (iblk m c 0 t : Vec Ideal S1 .f32) = m ((c : Thread nD τ).loc main_arg3) := by
  funext j
  unfold iblk
  rw [View.read_apply]
  show V m c main_arg3 _ = m (c.tc.loc main_arg3) _
  unfold V
  congr 1
  funext a
  apply Fin.ext
  fin_cases a
  · show win0_0.index t 0 * 1 + 1 * (j 0).val = (j 0).val
    rw [idx0 t]; omega

theorem blk1 (c : Dev nD) (t : Fin cfg0.N) :
    (iblk m c 1 t : Vec Ideal S256x512 .bf16) = qtile (m ((c : Thread nD τ).loc main_arg0)) t := by
  funext j
  unfold iblk qtile
  rw [View.read_apply]
  show V m c main_arg0 _ = m (c.tc.loc main_arg0) _
  unfold V
  congr 1
  funext a
  apply Fin.ext
  fin_cases a
  · show win0_1.index t 0 * 256 + 1 * (j 0).val = t.val * 256 + (j 0).val
    rw [(idx1 t).1]; omega
  · show win0_1.index t 1 * 512 + 1 * (j 1).val = (j 1).val
    rw [(idx1 t).2]; omega

theorem blk2 (c : Dev nD) (t : Fin cfg0.N) :
    (iblk m c 2 t : Vec Ideal S4352x256 .bf16) = kbatch (m ((c : Thread nD τ).loc main_arg1)) t := by
  funext j
  unfold iblk kbatch
  rw [View.read_apply]
  show V m c main_arg1 _ = m (c.tc.loc main_arg1) _
  unfold V
  congr 1
  funext a
  apply Fin.ext
  fin_cases a
  · show win0_2.index t 0 * 4352 + 1 * (j 0).val = t.val / 17 * 4352 + (j 0).val
    rw [(idx2 t).1]; omega
  · show win0_2.index t 1 * 256 + 1 * (j 1).val = (j 1).val
    rw [(idx2 t).2]; omega

theorem blk3 (c : Dev nD) (t : Fin cfg0.N) :
    (iblk m c 3 t : Vec Ideal S17x128x256 .bf16) = vbatch (m ((c : Thread nD τ).loc main_arg2)) t := by
  funext j
  unfold iblk vbatch
  rw [View.read_apply]
  show V m c main_arg2 _ = m (c.tc.loc main_arg2) _
  unfold V
  congr 1
  funext a
  apply Fin.ext
  fin_cases a
  · show win0_3.index t 0 * 17 + 1 * (j 0).val = t.val / 17 * 17 + (j 0).val
    rw [(idx3 t).1]; omega
  · show win0_3.index t 1 * 128 + 1 * (j 1).val = (j 1).val
    rw [(idx3 t).2.1]; omega
  · show win0_3.index t 2 * 256 + 1 * (j 2).val = (j 2).val
    rw [(idx3 t).2.2]; omega

/-- The result array as a function of the arguments held in memory. -/
abbrev resm (c : Dev nD) : Buf (Elt Ideal) ((c : Thread nD τ).loc main_v0) :=
  res (m ((c : Thread nD τ).loc main_arg0)) (m ((c : Thread nD τ).loc main_arg1))
    (m ((c : Thread nD τ).loc main_arg2)) (m ((c : Thread nD τ).loc main_arg3))

/-- What point `t` writes back is its block of the result. -/
theorem flushed_eq (c : Dev nD) (t : Fin cfg0.N) :
    (dats m 0 c).flushed 4 t = ((cfg0.win 4).blk t).view.read (Elt Ideal) (resm m c) := by
  rw [Value.flushed4]
  funext j
  obtain ⟨R, C, rfl⟩ : ∃ (R : Fin 256) (C : Fin 512), j = ix2 R C := ⟨_, _, eq_ix2 (n0 := 256) (n1 := 512) j⟩
  rw [View.read_apply]
  have hN : grid0.N = 68 := by decide
  have ht : t.val < 68 := hN ▸ t.isLt
  have hL : outsAt0 m c t (ix2 R C) = gout t (m ((c : Thread nD τ).loc main_arg3))
      (qtile (m ((c : Thread nD τ).loc main_arg0)) t) (kbatch (m ((c : Thread nD τ).loc main_arg1)) t)
      (vbatch (m ((c : Thread nD τ).loc main_arg2)) t) R C := by
    unfold outsAt0
    rw [out_eq, blk0 m c t, blk1 m c t, blk2 m c t, blk3 m c t]
  refine Eq.trans (show _ = outsAt0 m c t (ix2 R C) from rfl) (hL.trans ?_)
  have h0 : (((cfg0.win 4).blk t).view.emb (ix2 R C) 0).val = t.val * 256 + R.val := by
    show win0_4.index t 0 * 256 + 1 * R.val = _
    rw [(idx4 t).1]; omega
  have h1 : ((cfg0.win 4).blk t).view.emb (ix2 R C) 1 = C := by
    apply Fin.ext
    show win0_4.index t 1 * 512 + 1 * C.val = _
    rw [(idx4 t).2]; omega
  have key : ∀ (t' : Fin grid0.N) (R' : Fin 256) (C' : Fin 512), t' = t → R' = R → C' = C →
      gout t (m ((c : Thread nD τ).loc main_arg3))
      (qtile (m ((c : Thread nD τ).loc main_arg0)) t) (kbatch (m ((c : Thread nD τ).loc main_arg1)) t)
      (vbatch (m ((c : Thread nD τ).loc main_arg2)) t) R C = gout t' (m ((c : Thread nD τ).loc main_arg3))
      (qtile (m ((c : Thread nD τ).loc main_arg0)) t') (kbatch (m ((c : Thread nD τ).loc main_arg1)) t')
      (vbatch (m ((c : Thread nD τ).loc main_arg2)) t') R' C' := by
    rintro _ _ _ rfl rfl rfl; rfl
  refine key ⟨(((cfg0.win 4).blk t).view.emb (ix2 R C) 0).val / 256, ?_⟩ ⟨_, ?_⟩ _ ?_ ?_ h1
  · apply Fin.ext
    show (((cfg0.win 4).blk t).view.emb (ix2 R C) 0).val / 256 = t.val
    rw [h0]; omega
  · apply Fin.ext
    show (((cfg0.win 4).blk t).view.emb (ix2 R C) 0).val % 256 = R.val
    rw [h0]; omega

/-- Every element lies in some point's block. -/
theorem final_o (c : Dev nD) : (dats m 0 c).arrAt 4 cfg0.N = resm m c :=
  (dats m 0 c).arrAt_eq_of_cover 4 (resm m c) (fun t _ => flushed_eq m c t) fun i => by
    have hN : grid0.N = 68 := by decide
    have h0 : (i 0 : Nat) < 17408 := (i 0).isLt
    have h1 : (i 1 : Nat) < 512 := (i 1).isLt
    have hx : ∀ t : Fin grid0.N, win0_4.xsize (grid0.coords t) 0 = 256 ∧ win0_4.xsize (grid0.coords t) 1 = 512 := by
      decide +kernel
    have hf : ∀ t : Fin grid0.N, win0_4.flush t = true := by decide +kernel
    obtain ⟨t, ht⟩ : ∃ t : Fin grid0.N, t.val = (i 0 : Nat) / 256 := ⟨⟨(i 0 : Nat) / 256, by omega⟩, rfl⟩
    refine ⟨t, hf t, ?_⟩
    show i ∈ ((View.whole main_v0).slice (win0_4.rect t)).set
    rw [View.set_slice_whole, Rect.mem_set_unit]
    intro a
    match a with
    | ⟨0, _⟩ =>
      show win0_4.index t 0 * 256 ≤ (i 0 : Nat) ∧ (i 0 : Nat) < win0_4.index t 0 * 256 + win0_4.xsize (grid0.coords t) 0
      rw [(idx4 t).1, (hx t).1]; omega
    | ⟨1, _⟩ =>
      show win0_4.index t 1 * 512 ≤ (i 1 : Nat) ∧ (i 1 : Nat) < win0_4.index t 1 * 512 + win0_4.xsize (grid0.coords t) 1
      rw [(idx4 t).2, (hx t).2]; omega

/-- The run: the result array holds `res` of the arguments, which stay as they were. -/
theorem run : θ_run defs (onTc (τ := τ) (main (F := Ideal))) ⟨m, fun _ => 0, ρ⟩ fun r => ∀ c : Dev nD,
      r.2.mem ((c : Thread nD τ).loc main_v0) = resm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_o m c), (h c).2⟩) (Value.run_blocks m ρ)

end Cert.KernelIdeal.Att
end
end
-- ==== Proof.RefBase.lean ====
/- What the reference computes: its result read at one row and one column. The row's scores are the dots of its query
   with the keys, and the result is the softmax-weighted sum of the values, exactly as `jax.nn.softmax` spells it (with
   the greatest score subtracted). -/
module

public import proofs.«01_k».proof.Proof.Gen.ReferenceIdeal.Read
public import Idealize.ShloMosaic.Lib.Pointwise
public import Idealize.ShloMosaic.Lib.ValueIdxRank6
public import Idealize.ShloMosaic.Lib.ValueIdx
public import Idealize.ShloMosaic.PureOps.Reduce
public import Idealize.ShloMosaic.PureOps.Ideal

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

/-- The dot of row `ρ`'s query, in the head of column `C`, with key `κ` of the same batch and key head. -/
def sN (q : FVec Ideal ⟨2, ![17408, 512]⟩ .bf16) (k : FVec Ideal ⟨2, ![17408, 256]⟩ .bf16) (ρ : Fin 17408) (C : Fin 512) (κ : ℕ) : EReal :=
  ∑ e : Fin 64, k (ix2 ⟨ρ.val / 4352 * 4352 + κ % 4352, by omega⟩ ⟨C.val / 256 * 128 + C.val / 64 % 2 * 64 + e.val, by omega⟩)
    * q (ix2 ρ ⟨C.val / 64 * 64 + e.val, by omega⟩)

/-- The value that column `C` of row `ρ` reads at key `κ`. -/
def vN (vt : FVec Ideal ⟨3, ![68, 128, 256]⟩ .bf16) (ρ : Fin 17408) (C : Fin 512) (κ : ℕ) : EReal :=
  vt (ix3 ⟨ρ.val / 4352 * 17 + κ / 256 % 17, by omega⟩ ⟨C.val / 256 * 64 + C.val % 64, by omega⟩ ⟨κ % 256, by omega⟩)

/-- The factor on the scores: the logarithm of two. -/
def ln2 : EReal := Ideal.log (Ideal.ofBits .f32 0x40000000#32)

/-- The greatest of `J` scaled scores, as the reference takes it. -/
def rowM (J : ℕ) (s : ℕ → EReal) : EReal :=
  max (Ideal.ofBits .f32 0xFF800000#32)
    ((Finset.univ : Finset (Fin J)).fold max (Ideal.ofBits .f32 0xFF800000#32) fun κ => s κ.val * ln2)

/-- The exponential of one score less the greatest. -/
def ex (J : ℕ) (s : ℕ → EReal) (κ : ℕ) : EReal := Ideal.exp (s κ * ln2 - rowM J s)

/-- The softmax-weighted sum of `J` values. -/
def refv (J : ℕ) (s v : ℕ → EReal) : EReal :=
  ∑ κ : Fin J, v κ.val * Ideal.div (ex J s κ.val) (Ideal.ofBits .f32 0x00000000#32 + ∑ κ' : Fin J, ex J s κ'.val)

/-- The queries by batch, position and head. -/
theorem q_apply (x0 : (⟨S17408x512, .bf16⟩ : BufTy).Contents (Elt Ideal)) (i : S4x4352x2x2x2x64.Idx) (ρ : Fin 17408) (c : Fin 512)
    (hρ : ρ.val = (i 0).val * 4352 + (i 1).val)
    (hc : c.val = (((i 2).val * 2 + (i 3).val) * 2 + (i 4).val) * 64 + (i 5).val) :
    val_main_v0 (F := Ideal) x0 i = x0 (ix2 ρ c) := by
  unfold val_main_v0
  refine shapeCast_apply x0 shapeCasts_S17408x512_S4x4352x2x2x2x64 i (ix2 ρ c) ?_
  rewrite [Shape.rowMajor_val_two, Shape.rowMajor_val_six]
  show ρ.val * 512 + c.val = (((((i 0).val * 4352 + (i 1).val) * 2 + (i 2).val) * 2 + (i 3).val) * 2 + (i 4).val) * 64 + (i 5).val
  omega

/-- The keys by batch, position and head. -/
theorem k_apply (x1 : (⟨S17408x256, .bf16⟩ : BufTy).Contents (Elt Ideal)) (i : S4x4352x2x2x64.Idx) (ρ : Fin 17408) (c : Fin 256)
    (hρ : ρ.val = (i 0).val * 4352 + (i 1).val) (hc : c.val = ((i 2).val * 2 + (i 3).val) * 64 + (i 4).val) :
    val_main_v1 (F := Ideal) x1 i = x1 (ix2 ρ c) := by
  have h2 : (i 2).val < 2 := (i 2).isLt
  have h3 : (i 3).val < 2 := (i 3).isLt
  have h4 : (i 4).val < 64 := (i 4).isLt
  rw [val_main_v1_apply]
  refine congrArg x1 (funext fun a => Fin.ext ?_)
  match a with
  | ⟨0, _⟩ => show (((((i 0).val * 4352 + (i 1).val) * 2 + (i 2).val) * 2 + (i 3).val) * 64 + (i 4).val) / 256 = ρ.val; omega
  | ⟨1, _⟩ => show (((((i 0).val * 4352 + (i 1).val) * 2 + (i 2).val) * 2 + (i 3).val) * 64 + (i 4).val) % 256 = c.val; omega

/-- The slab of an element of the values, from its place in row-major order. -/
theorem f0 (a b c d s : ℕ) (hs : s = a * 17 + b / 256) (h1 : b < 4352) (h2 : c < 2) (h3 : d < 64) :
    (((a * 17 + b / 256) * 128 + (c * 64 + d)) * 256 + b % 256) / 32768 = s := by
  subst hs; generalize b / 256 = u; generalize a * 17 = v; omega

/-- The lane of an element of the values, from its place in row-major order. -/
theorem f1 (a b c d s : ℕ) (hs : s = c * 64 + d) (h1 : b < 4352) (h2 : c < 2) (h3 : d < 64) :
    (((a * 17 + b / 256) * 128 + (c * 64 + d)) * 256 + b % 256) / 256 % 128 = s := by
  subst hs; generalize b / 256 = u; generalize a * 17 = v
  have : (((v + u) * 128 + (c * 64 + d)) * 256 + b % 256) / 256 = (v + u) * 128 + (c * 64 + d) := by omega
  rw [this]; omega

/-- The key within its slab, from the element's place in row-major order. -/
theorem f2 (a b c d s : ℕ) (hs : s = b % 256) :
    (((a * 17 + b / 256) * 128 + (c * 64 + d)) * 256 + b % 256) % 256 = s := by
  subst hs; generalize b / 256 = u; omega

/-- The values by batch, position, head and lane. -/
theorem v_apply (x2 : (⟨S68x128x256, .bf16⟩ : BufTy).Contents (Elt Ideal)) (i : S4x4352x2x64.Idx) (s : Fin 68) (d : Fin 128)
    (κ : Fin 256) (hs : s.val = (i 0).val * 17 + (i 1).val / 256) (hd : d.val = (i 2).val * 64 + (i 3).val)
    (hκ : κ.val = (i 1).val % 256) : val_main_v4 (F := Ideal) x2 i = x2 (ix3 s d κ) := by
  have h0 : (i 0).val < 4 := (i 0).isLt
  have h1 : (i 1).val < 4352 := (i 1).isLt
  have h2 : (i 2).val < 2 := (i 2).isLt
  have h3 : (i 3).val < 64 := (i 3).isLt
  rw [val_main_v4_apply, val_main_v3_apply, val_main_v2_apply]
  refine congrArg x2 (funext fun a => Fin.ext ?_)
  have e0 : ((((i 0).val * 4352 + (i 1).val) * 2 + (i 2).val) * 64 + (i 3).val) / 557056 = (i 0).val := by omega
  have e1 : ((((i 0).val * 4352 + (i 1).val) * 2 + (i 2).val) * 64 + (i 3).val) / 32768 % 17 = (i 1).val / 256 := by omega
  have e2 : ((((i 0).val * 4352 + (i 1).val) * 2 + (i 2).val) * 64 + (i 3).val) / 128 % 256 = (i 1).val % 256 := by omega
  have e3 : ((((i 0).val * 4352 + (i 1).val) * 2 + (i 2).val) * 64 + (i 3).val) % 128 = (i 2).val * 64 + (i 3).val := by omega
  have g0 : ((idx_main_v4 i) 0).val = (i 0).val := e0
  have g1 : ((idx_main_v4 i) 1).val = (i 1).val / 256 := e1
  have g2 : ((idx_main_v4 i) 2).val = (i 1).val % 256 := e2
  have g3 : ((idx_main_v4 i) 3).val = (i 2).val * 64 + (i 3).val := e3
  match a with
  | ⟨0, _⟩ =>
    show (((((idx_main_v4 i) 0).val * 17 + ((idx_main_v4 i) 1).val) * 128 + ((idx_main_v4 i) 3).val) * 256 + ((idx_main_v4 i) 2).val) / 32768 = s.val
    rw [g0, g1, g2, g3]; exact f0 _ _ _ _ _ hs h1 h2 h3
  | ⟨1, _⟩ =>
    show (((((idx_main_v4 i) 0).val * 17 + ((idx_main_v4 i) 1).val) * 128 + ((idx_main_v4 i) 3).val) * 256 + ((idx_main_v4 i) 2).val) / 256 % 128 = d.val
    rw [g0, g1, g2, g3]; exact f1 _ _ _ _ _ hd h1 h2 h3
  | ⟨2, _⟩ =>
    show (((((idx_main_v4 i) 0).val * 17 + ((idx_main_v4 i) 1).val) * 128 + ((idx_main_v4 i) 3).val) * 256 + ((idx_main_v4 i) 2).val) % 256 = κ.val
    rw [g0, g1, g2, g3]; exact f2 _ _ _ _ _ hκ

end Cert.ReferenceIdeal.Att

end
-- ==== Proof.Join.lean ====
/- The kernel's quotient as one sum over keys: the slabs' shares joined, and the masked stack of queries read back as the
   64 lanes of one head. -/
module

public import proofs.«01_k».proof.Proof.Array
public import proofs.«01_k».proof.Proof.RefBase

@[expose] public section

set_option maxRecDepth 16384

noncomputable section

namespace Cert.KernelIdeal.Att

open Cert.KernelIdeal Cert.KernelIdeal.Gen Idealize.ShloMosaic Idealize.ShloMosaic.TcCoe Idealize.SL.Sem
open Cert.ReferenceIdeal.Att (sN vN)

/-- Sums over consecutive slabs of 256 make one sum. -/
theorem sum_slabs (f : ℕ → EReal) (n : ℕ) :
    ∑ s ∈ Finset.range n, ∑ k : Fin 256, f (256 * s + k.val) = ∑ κ ∈ Finset.range (256 * n), f κ := by
  induction n with
  | zero => simp
  | succ n ih =>
    rw [Finset.sum_range_succ, ih, Nat.mul_succ, Finset.sum_range_add, Fin.sum_univ_eq_sum_range (fun k => f (256 * n + k)) 256]

/-- A sum over 128 lanes that vanishes off one half is the sum over that half's 64 lanes. -/
theorem sum_half (f : Fin 128 → EReal) (c : ℕ) (hc : c < 2) (hf : ∀ l : Fin 128, l.val / 64 ≠ c → f l = 0) :
    ∑ l : Fin 128, f l = ∑ e : Fin 64, f ⟨c * 64 + e.val, by omega⟩ := by
  have hs : ∑ l : Fin 128, f l = ∑ e : Fin 64, f ⟨e.val, by omega⟩ + ∑ e : Fin 64, f ⟨64 + e.val, by omega⟩ :=
    Fin.sum_univ_add (a := 64) (b := 64) (fun l : Fin (64 + 64) => f l)
  rw [hs]
  interval_cases c
  · rw [Finset.sum_eq_zero (s := Finset.univ) (f := fun e : Fin 64 => f ⟨64 + e.val, by omega⟩)
      (fun e _ => hf _ (by show (64 + e.val) / 64 ≠ 0; omega)), add_zero]
    exact Finset.sum_congr rfl fun e _ => congrArg f (Fin.ext (by show e.val = 0 * 64 + e.val; omega))
  · rw [Finset.sum_eq_zero (s := Finset.univ) (f := fun e : Fin 64 => f ⟨e.val, by omega⟩)
      (fun e _ => hf _ (by show e.val / 64 ≠ 1; omega)), zero_add]

variable (q : Vec Ideal S17408x512 .bf16) (k : Vec Ideal S17408x256 .bf16) (v : Vec Ideal S68x128x256 .bf16)

/-- The tile of a row. -/
def tl (ρ : Fin 17408) : Fin grid0.N := ⟨ρ.val / 256, by have e : grid0.N = 68 := by decide
                                                         omega⟩

/-- The chain of a row and column. -/
def ch (ρ : Fin 17408) (C : Fin 512) : Fin 4 := ⟨C.val / 256 * 2 + ρ.val % 256 / 128, by omega⟩

/-- The row and column's place in the chain's stack of heads. -/
def sx (ρ : Fin 17408) (C : Fin 512) : Fin 512 := ⟨C.val % 256 / 64 * 128 + ρ.val % 256 % 128, by omega⟩

/-- The kernel's score is the dot of the query's head with the key. -/
theorem score_eq (ρ : Fin 17408) (C : Fin 512) (κ : ℕ) :
    ∑ l : Fin 128, kbatch k (tl ρ) (ix2 ⟨κ % 4352, Nat.mod_lt _ (by omega)⟩ ⟨(ch ρ C).val / 2 * 128 + l.val, by omega⟩)
        * stk (qtile q (tl ρ)) (ch ρ C) (ix2 (sx ρ C) l)
      = sN q k ρ C κ := by
  have hch : (ch ρ C).val = C.val / 256 * 2 + ρ.val % 256 / 128 := rfl
  have hsx : (sx ρ C).val = C.val % 256 / 64 * 128 + ρ.val % 256 % 128 := rfl
  have h1 : (sx ρ C).val / 128 % 2 = C.val / 64 % 2 := by omega
  have h2 : (sx ρ C).val % 128 = ρ.val % 128 := by omega
  have h3 : (ch ρ C).val / 2 = C.val / 256 := by omega
  have h4 : (ch ρ C).val % 2 = ρ.val % 256 / 128 := by omega
  have hst : ∀ l : Fin 128, stk (qtile q (tl ρ)) (ch ρ C) (ix2 (sx ρ C) l)
      = if l.val / 64 = C.val / 64 % 2 then q (ix2 ρ ⟨C.val / 128 * 128 + l.val, by omega⟩) else 0 := by
    intro l
    show qcat _ _ (sx ρ C) l = _
    unfold qcat
    rw [h1]
    by_cases h : l.val / 64 = C.val / 64 % 2
    · rw [if_pos h, if_pos h]
      by_cases h5 : (sx ρ C).val < 256
      · rw [if_pos h5]
        show q _ = q _
        refine congrArg q (congr (congrArg ix2 (Fin.ext ?_)) (Fin.ext ?_))
        · show ρ.val / 256 * 256 + ((ch ρ C).val % 2 * 128 + (sx ρ C).val % 128) = ρ.val
          rw [h2, h4]; omega
        · show (ch ρ C).val / 2 * 2 * 128 + l.val = C.val / 128 * 128 + l.val
          rw [h3]; omega
      · rw [if_neg h5]
        show q _ = q _
        refine congrArg q (congr (congrArg ix2 (Fin.ext ?_)) (Fin.ext ?_))
        · show ρ.val / 256 * 256 + ((ch ρ C).val % 2 * 128 + (sx ρ C).val % 128) = ρ.val
          rw [h2, h4]; omega
        · show ((ch ρ C).val / 2 * 2 + 1) * 128 + l.val = C.val / 128 * 128 + l.val
          rw [h3]; omega
    · rw [if_neg h, if_neg h]
  rw [sum_half _ (C.val / 64 % 2) (by omega) (fun l hl => by rw [hst, if_neg hl, mul_zero])]
  unfold sN
  refine Finset.sum_congr rfl fun e _ => ?_
  rw [hst, if_pos (show (C.val / 64 % 2 * 64 + e.val) / 64 = C.val / 64 % 2 by omega)]
  refine congrArg₂ (· * ·) (congrArg k (congr (congrArg ix2 (Fin.ext ?_)) (Fin.ext ?_))) (congrArg q (congrArg (ix2 ρ) (Fin.ext ?_)))
  · show ρ.val / 256 / 17 * 4352 + κ % 4352 = ρ.val / 4352 * 4352 + κ % 4352; omega
  · show (ch ρ C).val / 2 * 128 + (C.val / 64 % 2 * 64 + e.val) = C.val / 256 * 128 + C.val / 64 % 2 * 64 + e.val
    rw [h3]; omega
  · show C.val / 128 * 128 + (C.val / 64 % 2 * 64 + e.val) = C.val / 64 * 64 + e.val; omega

/-- The number of keys of a row. -/
def nk (ρ : Fin 17408) : ℕ := if ρ.val % 4352 < 256 then 256 else 4352

theorem nk_eq (ρ : Fin 17408) : 256 * (2 * (nst (tl ρ) + 1) - 1) = nk ρ := by
  unfold nst nk tl
  by_cases h : ρ.val % 4352 < 256
  · rw [if_pos h, if_pos (show ρ.val / 256 % 17 = 0 by omega)]
  · rw [if_neg h, if_neg (show ¬ ρ.val / 256 % 17 = 0 by omega)]

/-- The kernel's result at row `ρ` and column `C`. -/
theorem res_apply (b : Vec Ideal S1 .f32) (ρ : Fin 17408) (C : Fin 512) :
    res q k v b (ix2 ρ C)
      = Ideal.div (∑ κ ∈ Finset.range (nk ρ), vN v ρ C κ * Ideal.exp2 (sN q k ρ C κ - half (b (ix1 0))))
          (∑ κ ∈ Finset.range (nk ρ), 1 * Ideal.exp2 (sN q k ρ C κ - half (b (ix1 0)))) := by
  have hacc : ∀ d : Fin 80, ∀ w : ℕ → EReal,
      (∀ s : ℕ, ∀ κ : Fin 256, wt (vbatch v (tl ρ)) (ch ρ C) s d κ = w (256 * s + κ.val)) →
      accv (kbatch k (tl ρ)) (vbatch v (tl ρ)) (stk (qtile q (tl ρ))) (half (b (ix1 0))) (nst (tl ρ) + 1) (ch ρ C) d (sx ρ C)
        = ∑ κ ∈ Finset.range (nk ρ), w κ * Ideal.exp2 (sN q k ρ C κ - half (b (ix1 0))) := by
    intro d w hw
    rw [← nk_eq, ← sum_slabs]
    unfold accv T pr
    refine Finset.sum_congr rfl fun s _ => Finset.sum_congr rfl fun κ _ => ?_
    rw [hw s κ, score_eq q k ρ C]
  show Ideal.div (accv _ _ _ _ _ (ch ρ C) _ (sx ρ C)) (accv _ _ _ _ _ (ch ρ C) _ (sx ρ C)) = _
  refine congrArg₂ Ideal.div (hacc ⟨C.val % 64, by omega⟩ (vN v ρ C) ?_) (hacc 64 (fun _ => 1) ?_)
  · intro s κ
    have hch : (ch ρ C).val = C.val / 256 * 2 + ρ.val % 256 / 128 := rfl
    unfold wt vN
    rw [dif_pos (show C.val % 64 < 64 by omega)]
    show v _ = v _
    refine congrArg v (congr (congr (congrArg ix3 (Fin.ext ?_)) (Fin.ext ?_)) (Fin.ext ?_))
    · show ρ.val / 256 / 17 * 17 + s % 17 = ρ.val / 4352 * 17 + (256 * s + κ.val) / 256 % 17; omega
    · show (ch ρ C).val / 2 * 64 + C.val % 64 = C.val / 256 * 64 + C.val % 64; omega
    · show κ.val = (256 * s + κ.val) % 256; omega
  · intro s κ
    unfold wt
    rw [dif_neg (by show ¬ 64 < 64; omega)]

end Cert.KernelIdeal.Att

end
-- ==== Proof.RefCtx.lean ====
/- The reference's context part: the first 256 queries of a batch attend to its first 256 keys. -/
module

public import proofs.«01_k».proof.Proof.Gen.ReferenceIdeal.Read
public import proofs.«01_k».proof.Proof.RefBase
public import Idealize.ShloMosaic.Lib.Pointwise
public import Idealize.ShloMosaic.Lib.ValueIdxRank6
public import Idealize.ShloMosaic.Lib.ValueIdx
public import Idealize.ShloMosaic.PureOps.Reduce
public import Idealize.ShloMosaic.PureOps.Ideal

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

/-- A scaled score of the context part. -/
theorem ctx_s (x0 : (⟨S17408x512, .bf16⟩ : BufTy).Contents (Elt Ideal)) (x1 : (⟨S17408x256, .bf16⟩ : BufTy).Contents (Elt Ideal))
    (b : Fin 4) (g r c : Fin 2) (t : Fin 256) (κ : Fin 256) (ρ : Fin 17408) (C : Fin 512)
    (hρ : ρ.val = b.val * 4352 + (t.val + 0)) (hC : C.val / 64 = (g.val * 2 + r.val) * 2 + c.val) :
    val_main_v12 (F := Ideal) x0 x1 (ix6 b g r c t κ) = sN x0 x1 ρ C κ.val * ln2 := by
  rw [val_main_v12_apply, val_main_v9_apply, val_main_v11_apply, val_main_v10_apply, val_main_cst_apply, val_main_v8_apply]
  refine congrArg (· * ln2) (Finset.sum_congr rfl fun e _ => ?_)
  rw [val_main_v6_apply, val_main_v5_apply]
  refine congrArg₂ (· * ·) (k_apply x1 _ _ _ ?_ ?_) (q_apply x0 _ _ _ ?_ ?_)
  · show ρ.val / 4352 * 4352 + κ.val % 4352 = b.val * 4352 + κ.val; omega
  · show C.val / 256 * 128 + C.val / 64 % 2 * 64 + e.val = (g.val * 2 + c.val) * 64 + e.val; omega
  · show ρ.val = b.val * 4352 + t.val; omega
  · show C.val / 64 * 64 + e.val = ((g.val * 2 + r.val) * 2 + c.val) * 64 + e.val; omega

/-- The greatest score of a row of the context part. -/
theorem ctx_max (x0 : (⟨S17408x512, .bf16⟩ : BufTy).Contents (Elt Ideal)) (x1 : (⟨S17408x256, .bf16⟩ : BufTy).Contents (Elt Ideal))
    (b : Fin 4) (g r c : Fin 2) (t : Fin 256) (ρ : Fin 17408) (C : Fin 512)
    (hρ : ρ.val = b.val * 4352 + (t.val + 0)) (hC : C.val / 64 = (g.val * 2 + r.val) * 2 + c.val) :
    val_main_v15 (F := Ideal) x0 x1 (ix5 b g r c t) = rowM 256 (sN x0 x1 ρ C) := by
  rw [val_main_v15_apply, val_main_v14_apply, val_main_cst_1_apply]
  refine congrArg (max _) ?_
  unfold val_main_v13
  rw [Host.reduce_eq_fold_single _ _ _ reducesTo_S4x2x2x2x256x256_S4x2x2x2x256_d5 (by decide) h_S_ (ix5 b g r c t)]
  show (Finset.univ : Finset (Fin 256)).fold max _ _ = _
  refine Finset.fold_congr fun κ _ => ?_
  refine Eq.trans (congrArg (val_main_v12 (F := Ideal) x0 x1) ?_) (ctx_s x0 x1 b g r c t κ ρ C hρ hC)
  exact eq_ix6 _

/-- The exponential of a score of the context part, less the row's greatest. -/
theorem ctx_exp (x0 : (⟨S17408x512, .bf16⟩ : BufTy).Contents (Elt Ideal)) (x1 : (⟨S17408x256, .bf16⟩ : BufTy).Contents (Elt Ideal))
    (b : Fin 4) (g r c : Fin 2) (t : Fin 256) (κ : Fin 256) (ρ : Fin 17408) (C : Fin 512)
    (hρ : ρ.val = b.val * 4352 + (t.val + 0)) (hC : C.val / 64 = (g.val * 2 + r.val) * 2 + c.val) :
    val_main_v19 (F := Ideal) x0 x1 (ix6 b g r c t κ) = ex 256 (sN x0 x1 ρ C) κ.val := by
  have hi : idx_main_v16 (idx_main_v17 (ix6 b g r c t κ)) = ix5 b g r c t := eq_ix5 _
  rw [val_main_v19_apply, val_main_v18_apply, val_main_v17_apply, val_main_v16_apply, hi, ctx_s x0 x1 b g r c t κ ρ C hρ hC,
    ctx_max x0 x1 b g r c t ρ C hρ hC]
  simp only [Ideal.hostUnary_exp_def, Ideal.subf_def, ex]

/-- One weight of the context part. -/
theorem ctx_w (x0 : (⟨S17408x512, .bf16⟩ : BufTy).Contents (Elt Ideal)) (x1 : (⟨S17408x256, .bf16⟩ : BufTy).Contents (Elt Ideal))
    (b : Fin 4) (g r c : Fin 2) (t : Fin 256) (κ : Fin 256) (ρ : Fin 17408) (C : Fin 512)
    (hρ : ρ.val = b.val * 4352 + (t.val + 0)) (hC : C.val / 64 = (g.val * 2 + r.val) * 2 + c.val) :
    val_main_v24 (F := Ideal) x0 x1 (ix6 b g r c t κ)
      = Ideal.div (ex 256 (sN x0 x1 ρ C) κ.val) (Ideal.ofBits .f32 0x00000000#32 + ∑ κ : Fin 256, ex 256 (sN x0 x1 ρ C) κ.val) := by
  have hi : idx_main_v21 (idx_main_v22 (ix6 b g r c t κ)) = ix5 b g r c t := eq_ix5 _
  have hs : ∀ k : Fin 256, idx_main_v20 (ix5 b g r c t) k = ix6 b g r c t k := fun k => eq_ix6 _
  rw [val_main_v24_apply, val_main_v23_apply, ctx_exp x0 x1 b g r c t κ ρ C hρ hC, val_main_v22_apply, val_main_v21_apply, hi, val_main_v20_apply,
    val_main_cst_2_apply]
  simp only [hs, ctx_exp x0 x1 b g r c t _ ρ C hρ hC]
  rfl

/-- The context part of the result. -/
theorem ctx_out (x0 : (⟨S17408x512, .bf16⟩ : BufTy).Contents (Elt Ideal)) (x1 : (⟨S17408x256, .bf16⟩ : BufTy).Contents (Elt Ideal))
    (x2 : (⟨S68x128x256, .bf16⟩ : BufTy).Contents (Elt Ideal)) (b : Fin 4) (t : Fin 256) (g r c : Fin 2) (d : Fin 64)
    (ρ : Fin 17408) (C : Fin 512) (hρ : ρ.val = b.val * 4352 + (t.val + 0))
    (hC : C.val = ((g.val * 2 + r.val) * 2 + c.val) * 64 + d.val) :
    val_main_v27 (F := Ideal) x0 x1 x2 (ix6 b t g r c d) = refv 256 (sN x0 x1 ρ C) (vN x2 ρ C) := by
  have hd : C.val / 64 = (g.val * 2 + r.val) * 2 + c.val := by omega
  have hi : ∀ κ : Fin 256, ridx_main_v25 (idx_main_v26 (ix6 b t g r c d)) κ = ix6 b g r c t κ := fun κ => eq_ix6 _
  rw [val_main_v27_apply, val_main_v26_apply, val_main_v25_apply]
  refine Finset.sum_congr rfl fun κ _ => ?_
  rw [val_main_v7_apply, hi κ, ctx_w x0 x1 b g r c t κ ρ C hρ hd]
  refine congrArg₂ (· * ·) (v_apply x2 _ _ _ _ ?_ ?_ ?_) rfl
  · show ρ.val / 4352 * 17 + κ.val / 256 % 17 = b.val * 17 + κ.val / 256; omega
  · show C.val / 256 * 64 + C.val % 64 = g.val * 64 + d.val; omega
  · rfl

end Cert.ReferenceIdeal.Att

end
-- ==== Proof.RefLat.lean ====
/- The reference's latent part: the other 4096 queries of a batch attend to all of its keys. -/
module

public import proofs.«01_k».proof.Proof.Gen.ReferenceIdeal.Read
public import proofs.«01_k».proof.Proof.RefBase
public import Idealize.ShloMosaic.Lib.Pointwise
public import Idealize.ShloMosaic.Lib.ValueIdxRank6
public import Idealize.ShloMosaic.Lib.ValueIdx
public import Idealize.ShloMosaic.PureOps.Reduce
public import Idealize.ShloMosaic.PureOps.Ideal

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

/-- A scaled score of the latent part. -/
theorem lat_s (x0 : (⟨S17408x512, .bf16⟩ : BufTy).Contents (Elt Ideal)) (x1 : (⟨S17408x256, .bf16⟩ : BufTy).Contents (Elt Ideal))
    (b : Fin 4) (g r c : Fin 2) (t : Fin 4096) (κ : Fin 4352) (ρ : Fin 17408) (C : Fin 512)
    (hρ : ρ.val = b.val * 4352 + (t.val + 256)) (hC : C.val / 64 = (g.val * 2 + r.val) * 2 + c.val) :
    val_main_v33 (F := Ideal) x0 x1 (ix6 b g r c t κ) = sN x0 x1 ρ C κ.val * ln2 := by
  rw [val_main_v33_apply, val_main_v30_apply, val_main_v32_apply, val_main_v31_apply, val_main_cst_3_apply, val_main_v29_apply]
  refine congrArg (· * ln2) (Finset.sum_congr rfl fun e _ => ?_)
  rw [val_main_v28_apply]
  refine congrArg₂ (· * ·) (k_apply x1 _ _ _ ?_ ?_) (q_apply x0 _ _ _ ?_ ?_)
  · show ρ.val / 4352 * 4352 + κ.val % 4352 = b.val * 4352 + κ.val; omega
  · show C.val / 256 * 128 + C.val / 64 % 2 * 64 + e.val = (g.val * 2 + c.val) * 64 + e.val; omega
  · show ρ.val = b.val * 4352 + (256 + t.val); omega
  · show C.val / 64 * 64 + e.val = ((g.val * 2 + r.val) * 2 + c.val) * 64 + e.val; omega

/-- The greatest score of a row of the latent part. -/
theorem lat_max (x0 : (⟨S17408x512, .bf16⟩ : BufTy).Contents (Elt Ideal)) (x1 : (⟨S17408x256, .bf16⟩ : BufTy).Contents (Elt Ideal))
    (b : Fin 4) (g r c : Fin 2) (t : Fin 4096) (ρ : Fin 17408) (C : Fin 512)
    (hρ : ρ.val = b.val * 4352 + (t.val + 256)) (hC : C.val / 64 = (g.val * 2 + r.val) * 2 + c.val) :
    val_main_v36 (F := Ideal) x0 x1 (ix5 b g r c t) = rowM 4352 (sN x0 x1 ρ C) := by
  rw [val_main_v36_apply, val_main_v35_apply, val_main_cst_5_apply]
  refine congrArg (max _) ?_
  unfold val_main_v34
  rw [Host.reduce_eq_fold_single _ _ _ reducesTo_S4x2x2x2x4096x4352_S4x2x2x2x4096_d5 (by decide) h_S_ (ix5 b g r c t)]
  show (Finset.univ : Finset (Fin 4352)).fold max _ _ = _
  refine Finset.fold_congr fun κ _ => ?_
  refine Eq.trans (congrArg (val_main_v33 (F := Ideal) x0 x1) ?_) (lat_s x0 x1 b g r c t κ ρ C hρ hC)
  exact eq_ix6 _

/-- The exponential of a score of the latent part, less the row's greatest. -/
theorem lat_exp (x0 : (⟨S17408x512, .bf16⟩ : BufTy).Contents (Elt Ideal)) (x1 : (⟨S17408x256, .bf16⟩ : BufTy).Contents (Elt Ideal))
    (b : Fin 4) (g r c : Fin 2) (t : Fin 4096) (κ : Fin 4352) (ρ : Fin 17408) (C : Fin 512)
    (hρ : ρ.val = b.val * 4352 + (t.val + 256)) (hC : C.val / 64 = (g.val * 2 + r.val) * 2 + c.val) :
    val_main_v40 (F := Ideal) x0 x1 (ix6 b g r c t κ) = ex 4352 (sN x0 x1 ρ C) κ.val := by
  have hi : idx_main_v37 (idx_main_v38 (ix6 b g r c t κ)) = ix5 b g r c t := eq_ix5 _
  rw [val_main_v40_apply, val_main_v39_apply, val_main_v38_apply, val_main_v37_apply, hi, lat_s x0 x1 b g r c t κ ρ C hρ hC,
    lat_max x0 x1 b g r c t ρ C hρ hC]
  simp only [Ideal.hostUnary_exp_def, Ideal.subf_def, ex]

/-- One weight of the latent part. -/
theorem lat_w (x0 : (⟨S17408x512, .bf16⟩ : BufTy).Contents (Elt Ideal)) (x1 : (⟨S17408x256, .bf16⟩ : BufTy).Contents (Elt Ideal))
    (b : Fin 4) (g r c : Fin 2) (t : Fin 4096) (κ : Fin 4352) (ρ : Fin 17408) (C : Fin 512)
    (hρ : ρ.val = b.val * 4352 + (t.val + 256)) (hC : C.val / 64 = (g.val * 2 + r.val) * 2 + c.val) :
    val_main_v45 (F := Ideal) x0 x1 (ix6 b g r c t κ)
      = Ideal.div (ex 4352 (sN x0 x1 ρ C) κ.val) (Ideal.ofBits .f32 0x00000000#32 + ∑ κ : Fin 4352, ex 4352 (sN x0 x1 ρ C) κ.val) := by
  have hi : idx_main_v42 (idx_main_v43 (ix6 b g r c t κ)) = ix5 b g r c t := eq_ix5 _
  have hs : ∀ k : Fin 4352, idx_main_v41 (ix5 b g r c t) k = ix6 b g r c t k := fun k => eq_ix6 _
  rw [val_main_v45_apply, val_main_v44_apply, lat_exp x0 x1 b g r c t κ ρ C hρ hC, val_main_v43_apply, val_main_v42_apply, hi, val_main_v41_apply,
    val_main_cst_6_apply]
  simp only [hs, lat_exp x0 x1 b g r c t _ ρ C hρ hC]
  rfl

/-- The latent part of the result. -/
theorem lat_out (x0 : (⟨S17408x512, .bf16⟩ : BufTy).Contents (Elt Ideal)) (x1 : (⟨S17408x256, .bf16⟩ : BufTy).Contents (Elt Ideal))
    (x2 : (⟨S68x128x256, .bf16⟩ : BufTy).Contents (Elt Ideal)) (b : Fin 4) (t : Fin 4096) (g r c : Fin 2) (d : Fin 64)
    (ρ : Fin 17408) (C : Fin 512) (hρ : ρ.val = b.val * 4352 + (t.val + 256))
    (hC : C.val = ((g.val * 2 + r.val) * 2 + c.val) * 64 + d.val) :
    val_main_v48 (F := Ideal) x0 x1 x2 (ix6 b t g r c d) = refv 4352 (sN x0 x1 ρ C) (vN x2 ρ C) := by
  have hd : C.val / 64 = (g.val * 2 + r.val) * 2 + c.val := by omega
  have hi : ∀ κ : Fin 4352, ridx_main_v46 (idx_main_v47 (ix6 b t g r c d)) κ = ix6 b g r c t κ := fun κ => eq_ix6 _
  rw [val_main_v48_apply, val_main_v47_apply, val_main_v46_apply]
  refine Finset.sum_congr rfl fun κ _ => ?_
  rw [hi κ, lat_w x0 x1 b g r c t κ ρ C hρ hd]
  refine congrArg₂ (· * ·) (v_apply x2 _ _ _ _ ?_ ?_ ?_) rfl
  · show ρ.val / 4352 * 17 + κ.val / 256 % 17 = b.val * 17 + κ.val / 256; omega
  · show C.val / 256 * 64 + C.val % 64 = g.val * 64 + d.val; omega
  · rfl

end Cert.ReferenceIdeal.Att

end
-- ==== Proof.Ref.lean ====
/- The reference's result at a row and a column, from its two parts. -/
module

public import proofs.«01_k».proof.Proof.Gen.ReferenceIdeal.Read
public import proofs.«01_k».proof.Proof.RefCtx
public import proofs.«01_k».proof.Proof.RefLat
public import Idealize.ShloMosaic.Lib.Pointwise
public import Idealize.ShloMosaic.Lib.ValueIdxRank6
public import Idealize.ShloMosaic.Lib.ValueIdx
public import Idealize.ShloMosaic.PureOps.Reduce
public import Idealize.ShloMosaic.PureOps.Ideal

@[expose] public section

set_option maxRecDepth 16384

noncomputable section

namespace Cert.ReferenceIdeal.Att

open Cert.ReferenceIdeal Cert.ReferenceIdeal.Gen Cert.ReferenceIdeal.Read Idealize.ShloMosaic Idealize.ShloMosaic.TcCoe Idealize.SL.Sem

/-- The reference's result at row `ρ` and column `C`: attention over the row's keys, which are the context's keys for a
    context row and all keys of the batch otherwise. -/
theorem ref_apply (x0 : (⟨S17408x512, .bf16⟩ : BufTy).Contents (Elt Ideal)) (x1 : (⟨S17408x256, .bf16⟩ : BufTy).Contents (Elt Ideal))
    (x2 : (⟨S68x128x256, .bf16⟩ : BufTy).Contents (Elt Ideal)) (ρ : Fin 17408) (C : Fin 512) :
    val_main_v50 (F := Ideal) x0 x1 x2 (ix2 ρ C)
      = refv (if ρ.val % 4352 < 256 then 256 else 4352) (sN x0 x1 ρ C) (vN x2 ρ C) := by
  let i : S4x4352x2x2x2x64.Idx := ix6 (⟨ρ.val / 4352, by omega⟩ : Fin 4) (⟨ρ.val % 4352, by omega⟩ : Fin 4352) (⟨C.val / 256, by omega⟩ : Fin 2)
    (⟨C.val / 128 % 2, by omega⟩ : Fin 2) (⟨C.val / 64 % 2, by omega⟩ : Fin 2) (⟨C.val % 64, by omega⟩ : Fin 64)
  have hi : val_main_v50 (F := Ideal) x0 x1 x2 (ix2 ρ C) = val_main_v49 (F := Ideal) x0 x1 x2 i := by
    unfold val_main_v50
    refine shapeCast_apply _ shapeCasts_S4x4352x2x2x2x64_S17408x512 (ix2 ρ C) i ?_
    rewrite [Shape.rowMajor_val_two, Shape.rowMajor_val_six]
    show ((((ρ.val / 4352 * 4352 + ρ.val % 4352) * 2 + C.val / 256) * 2 + C.val / 128 % 2) * 2 + C.val / 64 % 2) * 64 + C.val % 64
      = ρ.val * 512 + C.val
    omega
  rw [hi]
  unfold val_main_v49
  by_cases h : ρ.val % 4352 < 256
  · rw [if_pos h]
    rw [concatenate_pair_apply]
    refine (dif_pos (show (i 1).val < 256 from h)).trans ?_
    have ht : ρ.val % 4352 < 256 := by omega
    refine Eq.trans (congrArg (val_main_v27 (F := Ideal) x0 x1 x2) (?_ : _ = ix6 (⟨ρ.val / 4352, by omega⟩ : Fin 4) (⟨ρ.val % 4352, ht⟩ : Fin 256) (⟨C.val / 256, by omega⟩ : Fin 2)
      (⟨C.val / 128 % 2, by omega⟩ : Fin 2) (⟨C.val / 64 % 2, by omega⟩ : Fin 2) (⟨C.val % 64, by omega⟩ : Fin 64))) (ctx_out x0 x1 x2 _ _ _ _ _ _ ρ C ?_ ?_)
    · exact eq_ix6 _
    · show ρ.val = ρ.val / 4352 * 4352 + (ρ.val % 4352 + 0); omega
    · show C.val = ((C.val / 256 * 2 + C.val / 128 % 2) * 2 + C.val / 64 % 2) * 64 + C.val % 64; omega
  · rw [if_neg h]
    rw [concatenate_pair_apply]
    refine (dif_neg (show ¬ (i 1).val < 256 from h)).trans ?_
    have ht : ρ.val % 4352 - 256 < 4096 := by omega
    refine Eq.trans (congrArg (val_main_v48 (F := Ideal) x0 x1 x2) (?_ : _ = ix6 (⟨ρ.val / 4352, by omega⟩ : Fin 4) (⟨ρ.val % 4352 - 256, ht⟩ : Fin 4096) (⟨C.val / 256, by omega⟩ : Fin 2)
      (⟨C.val / 128 % 2, by omega⟩ : Fin 2) (⟨C.val / 64 % 2, by omega⟩ : Fin 2) (⟨C.val % 64, by omega⟩ : Fin 64))) (lat_out x0 x1 x2 _ _ _ _ _ _ ρ C ?_ ?_)
    · exact eq_ix6 _
    · show ρ.val = ρ.val / 4352 * 4352 + (ρ.val % 4352 - 256 + 256); omega
    · show C.val = ((C.val / 256 * 2 + C.val / 128 % 2) * 2 + C.val / 64 % 2) * 64 + C.val % 64; omega

end Cert.ReferenceIdeal.Att

end
-- ==== Proof.Soft.lean ====
/- The equation between the two ways to weight values: the kernel's powers of two, less any real number, divided at the
   end by their sum, and the reference's softmax. Scores are real numbers here; values are any extended reals. -/
module

public import proofs.«01_k».proof.Proof.RefBase
public import Mathlib.Analysis.SpecialFunctions.Pow.Real

@[expose] public section

noncomputable section

namespace Cert.ReferenceIdeal.Att

open Idealize.ShloMosaic

theorem bits_two : Ideal.ofBits .f32 0x40000000#32 = ((2 : ℝ) : EReal) := by
  simp [Ideal.ofBits, Ideal.ieee, -EReal.coe_mul]; norm_num

theorem bits_bot : Ideal.ofBits .f32 0xFF800000#32 = ⊥ := by simp [Ideal.ofBits, Ideal.ieee]

theorem bits_top : Ideal.ofBits .f32 0x7F800000#32 = ⊤ := by simp [Ideal.ofBits, Ideal.ieee]

theorem bits_zero : Ideal.ofBits .f32 0x00000000#32 = 0 := by simp [Ideal.ofBits, Ideal.ieee]

theorem bits_half : Ideal.ofBits .f32 0x3F000000#32 = ((1 / 2 : ℝ) : EReal) := by
  simp [Ideal.ofBits, Ideal.ieee, -EReal.coe_mul]; norm_num

theorem ln2_eq : ln2 = ((Real.log 2 : ℝ) : EReal) := by
  unfold ln2
  rw [bits_two, Ideal.log_coe, if_neg (by norm_num)]

/-- The greatest of at least one real score is real. -/
theorem rowM_real (J : ℕ) (hJ : 0 < J) (s : ℕ → ℝ) : ∃ r : ℝ, rowM J (fun κ => (s κ : EReal)) = r := by
  have h1 : rowM J (fun κ => (s κ : EReal)) ≠ ⊤ := by
    refine ne_of_lt ?_
    unfold rowM
    rw [bits_bot, ln2_eq]
    refine max_lt (bot_lt_top) ((Finset.fold_max_lt _).2 ⟨bot_lt_top, fun κ _ => ?_⟩)
    rw [← EReal.coe_mul]
    exact EReal.coe_lt_top _
  have h2 : rowM J (fun κ => (s κ : EReal)) ≠ ⊥ := by
    refine ne_of_gt (lt_of_lt_of_le (EReal.bot_lt_coe (s 0 * Real.log 2)) ?_)
    unfold rowM
    rw [bits_bot, ln2_eq]
    refine le_max_of_le_right ((Finset.le_fold_max _).2 (Or.inr ⟨⟨0, hJ⟩, Finset.mem_univ _, ?_⟩))
    rw [← EReal.coe_mul]
  exact ⟨_, (EReal.coe_toReal h1 h2).symm⟩

/-- Multiplying by a nonnegative real distributes over a sum of extended reals. -/
theorem sum_mul_real {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih,
      EReal.right_distrib_of_nonneg_of_ne_top (EReal.coe_nonneg.2 hr) (EReal.coe_ne_top r)]

theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- The kernel's quotient is the softmax-weighted sum. -/
theorem soft (J : ℕ) (hJ : 0 < J) (s : ℕ → ℝ) (v : ℕ → EReal) (β : ℝ) :
    Ideal.div (∑ κ ∈ Finset.range J, v κ * Ideal.exp2 ((s κ : EReal) - (β : EReal)))
        (∑ κ ∈ Finset.range J, 1 * Ideal.exp2 ((s κ : EReal) - (β : EReal)))
      = refv J (fun κ => (s κ : EReal)) v := by
  obtain ⟨M, hM⟩ := rowM_real J hJ s
  have hpos : ∀ x : ℝ, (0 : ℝ) < Real.rpow 2 x := fun x => Real.rpow_pos_of_pos (by norm_num) x
  have hne : (Finset.range J).Nonempty := ⟨0, Finset.mem_range.2 hJ⟩
  have hD : (0 : ℝ) < ∑ κ ∈ Finset.range J, Real.rpow 2 (s κ - β) := Finset.sum_pos (fun κ _ => hpos _) hne
  have hE : (0 : ℝ) < ∑ κ ∈ Finset.range J, Real.exp (s κ * Real.log 2 - M) := Finset.sum_pos (fun κ _ => Real.exp_pos _) hne
  have hfac : ∀ κ : ℕ, Real.exp (s κ * Real.log 2 - M) = Real.rpow 2 (s κ - β) * Real.exp (β * Real.log 2 - M) := by
    intro κ
    show _ = (2 : ℝ) ^ (s κ - β) * _
    rw [Real.rpow_def_of_pos (by norm_num), ← Real.exp_add]
    congr 1; ring
  have hex : ∀ κ : ℕ, ex J (fun κ => (s κ : EReal)) κ = ((Real.exp (s κ * Real.log 2 - M) : ℝ) : EReal) := by
    intro κ
    unfold ex
    rw [hM, ln2_eq, ← EReal.coe_mul, ← EReal.coe_sub, Ideal.exp_coe]
  have hk : ∀ κ : ℕ, Ideal.exp2 ((s κ : EReal) - (β : EReal)) = ((Real.rpow 2 (s κ - β) : ℝ) : EReal) := by
    intro κ
    rw [← EReal.coe_sub, Ideal.exp2_coe]
  have hden : Ideal.ofBits .f32 0x00000000#32 + ∑ κ : Fin J, ex J (fun κ => (s κ : EReal)) κ.val
      = ((∑ κ ∈ Finset.range J, Real.exp (s κ * Real.log 2 - M) : ℝ) : EReal) := by
    rw [bits_zero, zero_add, Fin.sum_univ_eq_sum_range (fun κ => ex J (fun κ => (s κ : EReal)) κ) J, ← coe_sum]
    exact Finset.sum_congr rfl fun κ _ => hex κ
  unfold refv
  rw [hden, Fin.sum_univ_eq_sum_range (fun κ => v κ * Ideal.div (ex J (fun κ => (s κ : EReal)) κ)
    ((∑ κ ∈ Finset.range J, Real.exp (s κ * Real.log 2 - M) : ℝ) : EReal)) J]
  simp only [one_mul, hk, hex]
  rw [coe_sum, Ideal.div_coe hD.ne', sum_mul_real _ _ _ (by positivity)]
  refine Finset.sum_congr rfl fun κ _ => ?_
  rw [Ideal.div_coe hE.ne', ← EReal.coe_mul, mul_assoc, ← EReal.coe_mul]
  congr 2
  have hsum : ∑ κ ∈ Finset.range J, Real.exp (s κ * Real.log 2 - M)
      = (∑ κ ∈ Finset.range J, Real.rpow 2 (s κ - β)) * Real.exp (β * Real.log 2 - M) := by
    rw [Finset.sum_mul]; exact Finset.sum_congr rfl fun κ _ => hfac κ
  rw [hsum, hfac]
  have hx := (Real.exp_pos (β * Real.log 2 - M)).ne'
  have hD' := hD.ne'
  field_simp

end Cert.ReferenceIdeal.Att

end
-- ==== Proof.Equal.lean ====
/- The equation of the two results: with real queries, keys and bound, the kernel's result array is the reference's. -/
module

public import proofs.«01_k».proof.Proof.Join
public import proofs.«01_k».proof.Proof.Ref
public import proofs.«01_k».proof.Proof.Soft

@[expose] public section

set_option maxRecDepth 16384

noncomputable section

namespace Cert.KernelIdeal.Att

open Cert.KernelIdeal Cert.KernelIdeal.Gen Idealize.ShloMosaic Idealize.ShloMosaic.TcCoe Idealize.SL.Sem
open Cert.ReferenceIdeal.Att (sN vN refv soft coe_sum bits_half ref_apply)

/-- A score of real queries and keys is real. -/
theorem score_real (q : Vec Ideal S17408x512 .bf16) (k : Vec Ideal S17408x256 .bf16) (hq : ∀ i, ∃ r : ℝ, q i = r)
    (hk : ∀ i, ∃ r : ℝ, k i = r) (ρ : Fin 17408) (C : Fin 512) : ∃ s : ℕ → ℝ, sN q k ρ C = fun κ => (s κ : EReal) := by
  choose fq hfq using hq
  choose fk hfk using hk
  refine ⟨fun κ => ∑ e : Fin 64, fk (ix2 ⟨ρ.val / 4352 * 4352 + κ % 4352, by omega⟩ ⟨C.val / 256 * 128 + C.val / 64 % 2 * 64 + e.val, by omega⟩)
    * fq (ix2 ρ ⟨C.val / 64 * 64 + e.val, by omega⟩), funext fun κ => ?_⟩
  unfold sN
  rw [← coe_sum]
  refine Finset.sum_congr rfl fun e _ => ?_
  rw [hfq, hfk, EReal.coe_mul]

/-- Half a real bound is real. -/
theorem half_real (b : EReal) (hb : ∃ r : ℝ, b = r) : ∃ β : ℝ, half b = (β : EReal) := by
  obtain ⟨r, rfl⟩ := hb
  refine ⟨1 / 2 * r, ?_⟩
  show Ideal.ofBits .f32 0x3F000000#32 * ((r : ℝ) : EReal) = _
  rw [bits_half, ← EReal.coe_mul]

/-- The kernel's result array is the reference's. -/
theorem res_eq (q : Vec Ideal S17408x512 .bf16) (k : Vec Ideal S17408x256 .bf16) (v : Vec Ideal S68x128x256 .bf16)
    (b : Vec Ideal S1 .f32) (hq : ∀ i, ∃ r : ℝ, q i = r) (hk : ∀ i, ∃ r : ℝ, k i = r) (hb : ∀ i, ∃ r : ℝ, b i = r) :
    res q k v b = Cert.ReferenceIdeal.Read.val_main_v50 (F := Ideal) q k v := by
  funext j
  obtain ⟨ρ, C, rfl⟩ : ∃ (ρ : Fin 17408) (C : Fin 512), j = ix2 ρ C := ⟨j 0, j 1, eq_ix2 j⟩
  obtain ⟨s, hs⟩ := score_real q k hq hk ρ C
  obtain ⟨β, hβ⟩ := half_real (b (ix1 0)) (hb _)
  rw [res_apply]
  refine Eq.trans ?_ (ref_apply q k v ρ C).symm
  rw [hs, hβ]
  refine (soft (nk ρ) ?_ s (vN v ρ C) β).trans rfl
  unfold nk; split <;> omega

end Cert.KernelIdeal.Att

end
-- ==== Proof.Finite.lean ====
/- The precondition read back: where it holds, every query, every key and the bound are real numbers. -/
module

public import proofs.«01_k».proof.Pre_finite
public import proofs.«01_k».proof.Proof.Soft
public import Idealize.ShloMosaic.Lib.ReduceAll

@[expose] public section

noncomputable section

namespace Cert.Pre_finite

open Idealize.ShloMosaic

/-- The facts the predicate states. -/
theorem facts : Cert.Pre_finite.Facts where
  bitsLt_bf16_f32 := by decide
  bcast_S_S17408x512 := by decide
  reducesTo_S17408x512_S_d0_1 := by decide
  h_S_ := by decide
  bcast_S_S17408x256 := by decide
  reducesTo_S17408x256_S_d0_1 := by decide
  bcast_S_S1 := by decide
  reducesTo_S1_S_d0 := by decide

theorem sub_S : Subsingleton S_.Idx := ⟨fun a b => funext fun i => i.elim0⟩

/-- A word that is the conjunction of two is one only where both are. -/
theorem and_one (a b : BitVec 1) (h : IntOp.andi a b = 1#1) : a = 1#1 ∧ b = 1#1 := by
  revert a b; decide

/-- Strictly between the infinities means real. -/
theorem real_of_cmp (x : EReal) (h : IntOp.andi (Ideal.cmp .ogt x (Ideal.ofBits .f32 0xFF800000#32))
    (Ideal.cmp .olt x (Ideal.ofBits .f32 0x7F800000#32)) = 1#1) : ∃ r : ℝ, x = r := by
  obtain ⟨h1, h2⟩ := and_one _ _ h
  rw [Cert.ReferenceIdeal.Att.bits_bot] at h1
  rw [Cert.ReferenceIdeal.Att.bits_top] at h2
  have g1 : ⊥ < x := by
    by_contra hc
    simp only [Ideal.cmp, gt_iff_lt, hc, decide_false] at h1
    exact absurd h1 (by decide)
  have g2 : x < ⊤ := by
    by_contra hc
    simp only [Ideal.cmp, hc, decide_false] at h2
    exact absurd h2 (by decide)
  exact ⟨_, (EReal.coe_toReal g2.ne g1.ne').symm⟩

/-- What the precondition says. -/
theorem real_of_fn [hF : Cert.Pre_finite.Facts] (q : FVec Ideal S17408x512 .bf16) (k : FVec Ideal S17408x256 .bf16)
    (v : FVec Ideal S68x128x256 .bf16) (b : FVec Ideal S1 .f32) (h : fn (F := Ideal) q k v b = fun _ => 1#1) :
    (∀ i, ∃ r : ℝ, q i = r) ∧ (∀ i, ∃ r : ℝ, k i = r) ∧ (∀ i, ∃ r : ℝ, b i = r) := by
  haveI := sub_S
  have h0 : fn (F := Ideal) q k v b (fun a => a.elim0) = 1#1 := congrFun h _
  unfold fn fn_part1 at h0
  obtain ⟨h12, h3⟩ := and_one _ _ h0
  obtain ⟨h1, h2⟩ := and_one _ _ h12
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i)⟩

end Cert.Pre_finite

end
-- ==== Proof.Norm.lean ====
/-
  The layer's row operations over the extended reals: the layer norm of a row of 1024 elements, with its gain and bias.
-/
module
public import Idealize.ShloMosaic.PureOps.Ideal
public import Idealize.ShloMosaic.Lib.Pointwise
@[expose] public section
noncomputable section
namespace Cert.Row
open Idealize.ShloMosaic

/-- The mean of a row. -/
def mean (y : Fin 1024 → EReal) : EReal := Ideal.div (∑ k, y k) (Ideal.ofBits .f32 0x44800000#32)

/-- An element less its row's mean. -/
def centred (y : Fin 1024 → EReal) (n : Fin 1024) : EReal := y n - mean y

/-- The layer norm of a row, without gain and bias. -/
def lnorm (y : Fin 1024 → EReal) (n : Fin 1024) : EReal :=
  centred y n * Ideal.rsqrt (mean (fun k => centred y k * centred y k) + Ideal.ofBits .f32 0x358637BD#32)

/-- The residual sum: `alpha` times the row plus the modulated branch. -/
def resid (x m z : EReal) : EReal := Ideal.ofBits .f32 0x3FD744FD#32 * x + m * z

/-- The sum of the three gated branch products at one column. -/
def gatedSum (g₀ g₁ g₂ : EReal) (yr ya ym wr wa wm : Fin 512 → EReal) : EReal :=
  g₀ * (∑ k, yr k * wr k) + g₁ * (∑ k, ya k * wa k) + g₂ * (∑ k, ym k * wm k)

/-- Row `ρ`'s row of the modulation table: a batch entry's 256 context rows take its first entry, the others its second. -/
def modRow (ρ : Fin 17408) : Fin 8 := ⟨ρ.val / 4352 * 2 + (if ρ.val % 4352 < 256 then 0 else 1), by split <;> omega⟩

/-- The token mixer's end at row `ρ` and column `n`: the gated sum of the branches, the output projection, the modulated
    residual, the norm with gain and bias. -/
def merged (x : FVec Ideal ⟨2, ![17408, 1024]⟩ .f32) (md : FVec Ideal ⟨3, ![8, 6, 1024]⟩ .f32)
    (yr ya ym : FVec Ideal ⟨2, ![17408, 512]⟩ .bf16) (gt : FVec Ideal ⟨2, ![17408, 3072]⟩ .bf16)
    (wr wa wm : FVec Ideal ⟨2, ![512, 1024]⟩ .bf16) (wo : FVec Ideal ⟨2, ![1024, 1024]⟩ .bf16)
    (g b : FVec Ideal ⟨2, ![1, 1024]⟩ .f32) (ρ : Fin 17408) (n : Fin 1024) : EReal :=
  lnorm (fun c => resid (x (ix2 ρ c)) (md (ix3 (modRow ρ) 2 c)) (∑ l : Fin 1024,
    gatedSum (gt (ix2 ρ ⟨l.val, by omega⟩)) (gt (ix2 ρ ⟨1024 + l.val, by omega⟩)) (gt (ix2 ρ ⟨2048 + l.val, by omega⟩))
      (fun k => yr (ix2 ρ k)) (fun k => ya (ix2 ρ k)) (fun k => ym (ix2 ρ k))
      (fun k => wr (ix2 k l)) (fun k => wa (ix2 k l)) (fun k => wm (ix2 k l)) * wo (ix2 l c))) n
    * g (ix2 0 n) + b (ix2 0 n)

end Cert.Row
end
end
-- ==== Proof.MergePay.lean ====
/-
  What one pass of the merge kernel's body computes: the gated products, the output projection, the residual and its norm.
-/
module
public import proofs.«01_k».proof.Proof.Gen.MergeIdeal.Frame
public import proofs.«01_k».proof.Proof.Norm
public import Idealize.ShloMosaic.Lib.Pointwise
public import Idealize.ShloMosaic.Lib.Pipeline.ValueKit.Basic
public import Idealize.ShloMosaic.Lib.Pipeline.ValueKit.Tiles
public import Idealize.ShloMosaic.Lib.ValueIdx
@[expose] public section
set_option maxRecDepth 16384
noncomputable section
namespace Cert.MergeIdeal.Row
open Cert.MergeIdeal Cert.MergeIdeal.Gen Cert.Row Idealize.ShloMosaic Idealize.ShloMosaic.TcCoe Idealize.SL.Sem

/-- The output projection of the gated sum, at row `r` and column `n`. -/
theorem pay2_apply (g₀ : Vec Ideal S256x1024 .bf16) (yr : Vec Ideal S256x512 .bf16) (wr : Vec Ideal S512x1024 .bf16)
    (g₁ : Vec Ideal S256x1024 .bf16) (ya : Vec Ideal S256x512 .bf16) (wa : Vec Ideal S512x1024 .bf16)
    (g₂ : Vec Ideal S256x1024 .bf16) (ym : Vec Ideal S256x512 .bf16) (wm : Vec Ideal S512x1024 .bf16)
    (wo : Vec Ideal S1024x1024 .bf16) (r : Fin 256) (n : Fin 1024) :
    k0_pay2 g₀ yr wr g₁ ya wa g₂ ym wm wo (ix2 r n) = ∑ l : Fin 1024, gatedSum (g₀ (ix2 r l)) (g₁ (ix2 r l)) (g₂ (ix2 r l))
      (fun k => yr (ix2 r k)) (fun k => ya (ix2 r k)) (fun k => ym (ix2 r k))
      (fun k => wr (ix2 k l)) (fun k => wa (ix2 k l)) (fun k => wm (ix2 k l)) * wo (ix2 l n) := by
  unfold k0_pay2 gatedSum
  pointwise

/-- The norm of the residual sum, with gain and bias. -/
theorem pay1_apply (z x m : FVec Ideal S256x1024 .f32) (g b : Vec Ideal S1x1024 .f32) (r : Fin 256) (n : Fin 1024) :
    k0_pay1 z x m g b (ix2 r n)
      = lnorm (fun k => x (ix2 r k) + m (ix2 r k) * z (ix2 r k)) n * g (ix2 0 n) + b (ix2 0 n) := by
  unfold k0_pay1 lnorm centred mean
  pointwise

theorem pay3_apply (x : Vec Ideal S256x1024 .f32) (r : Fin 256) (n : Fin 1024) :
    k0_pay3 x (ix2 r n) = Ideal.ofBits .f32 0x3FD744FD#32 * x (ix2 r n) := by
  unfold k0_pay3
  pointwise

theorem pay4_apply (m : Vec Ideal S1x1x1024 .f32) (r : Fin 256) (n : Fin 1024) :
    k0_pay4 m (ix2 r n) = m (ix3 0 0 n) := by
  unfold k0_pay4
  pointwise

/-- What the body leaves in the output's buffer. -/
theorem out_apply (x0 : Vec Ideal S256x1024 .f32) (x1 : Vec Ideal S1x6x1024 .f32) (x2 x3 x4 : Vec Ideal S256x512 .bf16)
    (x5 : Vec Ideal S256x3072 .bf16) (x6 x7 x8 : Vec Ideal S512x1024 .bf16) (x9 : Vec Ideal S1024x1024 .bf16)
    (x10 x11 : Vec Ideal S1x1024 .f32) (r : Fin 256) (n : Fin 1024) :
    out0_12 x0 x1 x2 x3 x4 x5 x6 x7 x8 x9 x10 x11 (ix2 r n)
      = lnorm (fun c => resid (x0 (ix2 r c)) (x1 (ix3 0 2 c)) (∑ l : Fin 1024,
          gatedSum (x5 (ix2 r ⟨l.val, by omega⟩)) (x5 (ix2 r ⟨1024 + l.val, by omega⟩)) (x5 (ix2 r ⟨2048 + l.val, by omega⟩))
            (fun k => x2 (ix2 r k)) (fun k => x3 (ix2 r k)) (fun k => x4 (ix2 r k))
            (fun k => x6 (ix2 k l)) (fun k => x7 (ix2 k l)) (fun k => x8 (ix2 k l)) * x9 (ix2 l c))) n
        * x10 (ix2 0 n) + x11 (ix2 0 n) := by
  have hc : ∀ (o : Nat) (ho : o + 1024 ≤ 3072) (inb) (r : Fin 256) (l : Fin 1024),
      View.ld x5 (Rect.unit (s := S256x3072) ![0, o] S256x1024.size inb) (ix2 r l) = x5 (ix2 r ⟨o + l.val, by omega⟩) :=
    fun o ho inb r l => View.ld_unit_apply_of x5 _ _ inb (ix2 r l) (ix2 r ⟨o + l.val, by omega⟩) fun a => by
      fin_cases a
      · show r.val = 0 + r.val; omega
      · show o + l.val = o + l.val; rfl
  have h7 : ∀ c : Fin 1024, View.ld x1 r0_7 (ix3 0 0 c) = x1 (ix3 0 2 c) := fun c =>
    View.ld_unit_apply_of x1 _ _ _ (ix3 0 0 c) (ix3 0 2 c) fun a => by
      fin_cases a
      · rfl
      · rfl
      · show c.val = 0 + c.val; omega
  unfold out0_12
  rw [View.canon_cons_unit_lit _ _ _ (by decide), pay1_apply]
  unfold resid
  simp only [pay2_apply, pay3_apply, pay4_apply, h7]
  rw [View.ld_unit_lit _ x0 (by decide), View.ld_unit_lit _ x2 (by decide), View.ld_unit_lit _ x3 (by decide), View.ld_unit_lit _ x4 (by decide),
    View.ld_unit_lit _ x6 (by decide), View.ld_unit_lit _ x7 (by decide), View.ld_unit_lit _ x8 (by decide), View.ld_unit_lit _ x9 (by decide),
    View.ld_unit_lit _ x10 (by decide), View.ld_unit_lit _ x11 (by decide)]
  simp only [hc 0 (by omega), hc 1024 (by omega), hc 2048 (by omega), Nat.zero_add]

end Cert.MergeIdeal.Row
end
end
-- ==== Proof.MergeArray.lean ====
/-
  The merge kernel's whole result: every element is the token mixer's end at its row and column.
-/
module
public import proofs.«01_k».proof.Proof.MergePay
public import proofs.«01_k».proof.Proof.Gen.MergeIdeal.Value
@[expose] public section
set_option maxRecDepth 16384
noncomputable section
namespace Cert.MergeIdeal.Row
open Cert.MergeIdeal Cert.MergeIdeal.Gen Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Row `r` of tile `t`. -/
def row (t : Fin grid0.N) (r : Fin 256) : Fin 17408 := ⟨t.val * 256 + r.val, by
  have := t.isLt; have e : grid0.N = 68 := by decide
  omega⟩

theorem idx1 : ∀ t : Fin grid0.N, win0_1.index t 0 = t.val / 17 * 2 + (if t.val % 17 < 1 then 0 else 1)
    ∧ win0_1.index t 1 = 0 ∧ win0_1.index t 2 = 0 := by decide +kernel
theorem idx0 : ∀ t : Fin grid0.N, win0_0.index t 0 = t.val ∧ win0_0.index t 1 = 0 := by decide +kernel
theorem idx2 : ∀ t : Fin grid0.N, win0_2.index t 0 = t.val ∧ win0_2.index t 1 = 0 := by decide +kernel
theorem idx3 : ∀ t : Fin grid0.N, win0_3.index t 0 = t.val ∧ win0_3.index t 1 = 0 := by decide +kernel
theorem idx4 : ∀ t : Fin grid0.N, win0_4.index t 0 = t.val ∧ win0_4.index t 1 = 0 := by decide +kernel
theorem idx5 : ∀ t : Fin grid0.N, win0_5.index t 0 = t.val ∧ win0_5.index t 1 = 0 := by decide +kernel
theorem idx12 : ∀ t : Fin grid0.N, win0_12.index t 0 = t.val ∧ win0_12.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel
theorem idx10 : ∀ t : Fin grid0.N, win0_10.index t 0 = 0 ∧ win0_10.index t 1 = 0 := by decide +kernel
theorem idx11 : ∀ t : Fin grid0.N, win0_11.index t 0 = 0 ∧ win0_11.index t 1 = 0 := by decide +kernel

theorem blk1 (c : Dev nD) (t : Fin cfg0.N) (r : Fin 256) (k : Fin 1024) :
    (iblk m c 1 t : Vec Ideal S1x6x1024 .f32) (ix3 0 2 k) = m ((c : Thread nD τ).loc main_arg1) (ix3 (modRow (row t r)) 2 k) := by
  unfold iblk
  rw [View.read_apply]
  show V m c main_arg1 _ = m (c.tc.loc main_arg1) _
  unfold V
  congr 1
  funext a
  apply Fin.ext
  have hr := r.isLt
  fin_cases a
  · show win0_1.index t 0 * 1 + 1 * 0 = (t.val * 256 + r.val) / 4352 * 2 + (if (t.val * 256 + r.val) % 4352 < 256 then 0 else 1)
    rw [(idx1 t).1]
    have h1 : (t.val * 256 + r.val) / 4352 = t.val / 17 := by omega
    have h2 : (t.val * 256 + r.val) % 4352 < 256 ↔ t.val % 17 < 1 := by omega
    rw [h1, if_congr h2 rfl rfl]; omega
  · show win0_1.index t 1 * 6 + 1 * 2 = 2
    rw [(idx1 t).2.1]
  · show win0_1.index t 2 * 1024 + 1 * k.val = k.val
    rw [(idx1 t).2.2]; omega

theorem blk0 (c : Dev nD) (t : Fin cfg0.N) (r : Fin 256) (k : Fin 1024) :
    (iblk m c 0 t : Vec Ideal S256x1024 .f32) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  fin_cases a
  · show win0_0.index t 0 * 256 + 1 * r.val = t.val * 256 + r.val
    rw [(idx0 t).1]; omega
  · show win0_0.index t 1 * 1024 + 1 * k.val = k.val
    rw [(idx0 t).2]; omega

theorem blk2 (c : Dev nD) (t : Fin cfg0.N) (r : Fin 256) (k : Fin 512) :
    (iblk m c 2 t : Vec Ideal S256x512 .bf16) (ix2 r k) = m ((c : Thread nD τ).loc main_arg2) (ix2 (row t r) k) := by
  unfold iblk
  rw [View.read_apply]
  show V m c main_arg2 _ = m (c.tc.loc main_arg2) _
  unfold V
  congr 1
  funext a
  apply Fin.ext
  fin_cases a
  · show win0_2.index t 0 * 256 + 1 * r.val = t.val * 256 + r.val
    rw [(idx2 t).1]; omega
  · show win0_2.index t 1 * 512 + 1 * k.val = k.val
    rw [(idx2 t).2]; omega

theorem blk3 (c : Dev nD) (t : Fin cfg0.N) (r : Fin 256) (k : Fin 512) :
    (iblk m c 3 t : Vec Ideal S256x512 .bf16) (ix2 r k) = m ((c : Thread nD τ).loc main_arg3) (ix2 (row t r) k) := by
  unfold iblk
  rw [View.read_apply]
  show V m c main_arg3 _ = m (c.tc.loc main_arg3) _
  unfold V
  congr 1
  funext a
  apply Fin.ext
  fin_cases a
  · show win0_3.index t 0 * 256 + 1 * r.val = t.val * 256 + r.val
    rw [(idx3 t).1]; omega
  · show win0_3.index t 1 * 512 + 1 * k.val = k.val
    rw [(idx3 t).2]; omega

theorem blk4 (c : Dev nD) (t : Fin cfg0.N) (r : Fin 256) (k : Fin 512) :
    (iblk m c 4 t : Vec Ideal S256x512 .bf16) (ix2 r k) = m ((c : Thread nD τ).loc main_arg4) (ix2 (row t r) k) := by
  unfold iblk
  rw [View.read_apply]
  show V m c main_arg4 _ = m (c.tc.loc main_arg4) _
  unfold V
  congr 1
  funext a
  apply Fin.ext
  fin_cases a
  · show win0_4.index t 0 * 256 + 1 * r.val = t.val * 256 + r.val
    rw [(idx4 t).1]; omega
  · show win0_4.index t 1 * 512 + 1 * k.val = k.val
    rw [(idx4 t).2]; omega

theorem blk5 (c : Dev nD) (t : Fin cfg0.N) (r : Fin 256) (k : Fin 3072) :
    (iblk m c 5 t : Vec Ideal S256x3072 .bf16) (ix2 r k) = m ((c : Thread nD τ).loc main_arg5) (ix2 (row t r) k) := by
  unfold iblk
  rw [View.read_apply]
  show V m c main_arg5 _ = m (c.tc.loc main_arg5) _
  unfold V
  congr 1
  funext a
  apply Fin.ext
  fin_cases a
  · show win0_5.index t 0 * 256 + 1 * r.val = t.val * 256 + r.val
    rw [(idx5 t).1]; omega
  · show win0_5.index t 1 * 3072 + 1 * k.val = k.val
    rw [(idx5 t).2]; omega

theorem blk6 (c : Dev nD) (t : Fin cfg0.N) (r : Fin 512) (k : Fin 1024) :
    (iblk m c 6 t : Vec Ideal S512x1024 .bf16) (ix2 r k) = m ((c : Thread nD τ).loc main_arg6) (ix2 r k) := by
  unfold iblk
  rw [View.read_apply]
  show V m c main_arg6 _ = m (c.tc.loc main_arg6) _
  unfold V
  congr 1
  funext a
  apply Fin.ext
  fin_cases a
  · show win0_6.index t 0 * 512 + 1 * r.val = r.val
    rw [(idx6 t).1]; omega
  · show win0_6.index t 1 * 1024 + 1 * k.val = k.val
    rw [(idx6 t).2]; omega

theorem blk7 (c : Dev nD) (t : Fin cfg0.N) (r : Fin 512) (k : Fin 1024) :
    (iblk m c 7 t : Vec Ideal S512x1024 .bf16) (ix2 r k) = m ((c : Thread nD τ).loc main_arg7) (ix2 r k) := by
  unfold iblk
  rw [View.read_apply]
  show V m c main_arg7 _ = m (c.tc.loc main_arg7) _
  unfold V
  congr 1
  funext a
  apply Fin.ext
  fin_cases a
  · show win0_7.index t 0 * 512 + 1 * r.val = r.val
    rw [(idx7 t).1]; omega
  · show win0_7.index t 1 * 1024 + 1 * k.val = k.val
    rw [(idx7 t).2]; omega

theorem blk8 (c : Dev nD) (t : Fin cfg0.N) (r : Fin 512) (k : Fin 1024) :
    (iblk m c 8 t : Vec Ideal S512x1024 .bf16) (ix2 r k) = m ((c : Thread nD τ).loc main_arg8) (ix2 r k) := by
  unfold iblk
  rw [View.read_apply]
  show V m c main_arg8 _ = m (c.tc.loc main_arg8) _
  unfold V
  congr 1
  funext a
  apply Fin.ext
  fin_cases a
  · show win0_8.index t 0 * 512 + 1 * r.val = r.val
    rw [(idx8 t).1]; omega
  · show win0_8.index t 1 * 1024 + 1 * k.val = k.val
    rw [(idx8 t).2]; omega

theorem blk9 (c : Dev nD) (t : Fin cfg0.N) (r : Fin 1024) (k : Fin 1024) :
    (iblk m c 9 t : Vec Ideal S1024x1024 .bf16) (ix2 r k) = m ((c : Thread nD τ).loc main_arg9) (ix2 r k) := by
  unfold iblk
  rw [View.read_apply]
  show V m c main_arg9 _ = m (c.tc.loc main_arg9) _
  unfold V
  congr 1
  funext a
  apply Fin.ext
  fin_cases a
  · show win0_9.index t 0 * 1024 + 1 * r.val = r.val
    rw [(idx9 t).1]; omega
  · show win0_9.index t 1 * 1024 + 1 * k.val = k.val
    rw [(idx9 t).2]; omega

theorem blk10 (c : Dev nD) (t : Fin cfg0.N) (r : Fin 1) (k : Fin 1024) :
    (iblk m c 10 t : Vec Ideal S1x1024 .f32) (ix2 r k) = m ((c : Thread nD τ).loc main_arg10) (ix2 r k) := by
  unfold iblk
  rw [View.read_apply]
  show V m c main_arg10 _ = m (c.tc.loc main_arg10) _
  unfold V
  congr 1
  funext a
  apply Fin.ext
  fin_cases a
  · show win0_10.index t 0 * 1 + 1 * r.val = r.val
    rw [(idx10 t).1]; omega
  · show win0_10.index t 1 * 1024 + 1 * k.val = k.val
    rw [(idx10 t).2]; omega

theorem blk11 (c : Dev nD) (t : Fin cfg0.N) (r : Fin 1) (k : Fin 1024) :
    (iblk m c 11 t : Vec Ideal S1x1024 .f32) (ix2 r k) = m ((c : Thread nD τ).loc main_arg11) (ix2 r k) := by
  unfold iblk
  rw [View.read_apply]
  show V m c main_arg11 _ = m (c.tc.loc main_arg11) _
  unfold V
  congr 1
  funext a
  apply Fin.ext
  fin_cases a
  · show win0_11.index t 0 * 1 + 1 * r.val = r.val
    rw [(idx11 t).1]; omega
  · show win0_11.index t 1 * 1024 + 1 * k.val = k.val
    rw [(idx11 t).2]; omega

/-- The result array as a function of the arguments held in memory. -/
abbrev resm (c : Dev nD) : Buf (Elt Ideal) ((c : Thread nD τ).loc main_v0) := fun j =>
  merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    (j 0) (j 1)

/-- What point `t` writes back is its block of the result. -/
theorem flushed_eq (c : Dev nD) (t : Fin cfg0.N) :
    (dats m 0 c).flushed 12 t = ((cfg0.win 12).blk t).view.read (Elt Ideal) (resm m c) := by
  rw [Value.flushed12]
  funext j
  obtain ⟨R, C, rfl⟩ : ∃ (R : Fin 256) (C : Fin 1024), j = ix2 R C := ⟨_, _, eq_ix2 (n0 := 256) (n1 := 1024) j⟩
  rw [View.read_apply]
  refine Eq.trans (show _ = out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 R C) from rfl) ?_
  rw [out_apply]
  have h0 : ((cfg0.win 12).blk t).view.emb (ix2 R C) 0 = row t R := by
    apply Fin.ext
    show win0_12.index t 0 * 256 + 1 * R.val = t.val * 256 + R.val
    rw [(idx12 t).1]; omega
  have h1 : ((cfg0.win 12).blk t).view.emb (ix2 R C) 1 = C := by
    apply Fin.ext
    show win0_12.index t 1 * 1024 + 1 * C.val = _
    rw [(idx12 t).2]; omega
  refine Eq.trans ?_ (congr (congrArg (merged (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) h0) h1).symm
  unfold merged
  simp only [blk0 m c t, blk2 m c t, blk3 m c t, blk4 m c t, blk5 m c t, blk6 m c t, blk7 m c t, blk8 m c t, blk9 m c t, blk10 m c t, blk11 m c t, blk1 m c t R]

/-- Every element lies in some point's block. -/
theorem final_o (c : Dev nD) : (dats m 0 c).arrAt 12 cfg0.N = resm m c :=
  (dats m 0 c).arrAt_eq_of_cover 12 (resm m c) (fun t _ => flushed_eq m c t) fun i => by
    have hN : grid0.N = 68 := by decide
    have h0 : (i 0 : Nat) < 17408 := (i 0).isLt
    have h1 : (i 1 : Nat) < 1024 := (i 1).isLt
    have hx : ∀ t : Fin grid0.N, win0_12.xsize (grid0.coords t) 0 = 256 ∧ win0_12.xsize (grid0.coords t) 1 = 1024 := by
      decide +kernel
    have hf : ∀ t : Fin grid0.N, win0_12.flush t = true := by decide +kernel
    obtain ⟨t, ht⟩ : ∃ t : Fin grid0.N, t.val = (i 0 : Nat) / 256 := ⟨⟨(i 0 : Nat) / 256, by omega⟩, rfl⟩
    refine ⟨t, hf t, ?_⟩
    show i ∈ ((View.whole main_v0).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + win0_12.xsize (grid0.coords t) 0
      rw [(idx12 t).1, (hx t).1]; omega
    | ⟨1, _⟩ =>
      show win0_12.index t 1 * 1024 ≤ (i 1 : Nat) ∧ (i 1 : Nat) < win0_12.index t 1 * 1024 + win0_12.xsize (grid0.coords t) 1
      rw [(idx12 t).2, (hx t).2]; omega

/-- The run: the result array holds the merged rows, and the arguments stay as they were. -/
theorem run : θ_run defs (onTc (τ := τ) (main (F := Ideal))) ⟨m, fun _ => 0, ρ⟩ fun r => ∀ c : Dev nD,
      r.2.mem ((c : Thread nD τ).loc main_v0) = resm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final_o m c), (h c).2⟩) (Value.run_blocks m ρ)

end Cert.MergeIdeal.Row
end
end
-- ==== Proof.MergeRef.lean ====
/-
  What the merge's reference computes: every element is the token mixer's end at its row and column.
-/
module
public import proofs.«01_k».proof.Proof.Gen.MergeReferenceIdeal.Read
public import proofs.«01_k».proof.Proof.Norm
public import Idealize.ShloMosaic.Lib.Pointwise
public import Idealize.ShloMosaic.Lib.ValueIdx
public import Idealize.ShloMosaic.PureOps.Ideal
@[expose] public section
set_option maxRecDepth 16384
noncomputable section
namespace Cert.MergeReferenceIdeal.Row
open Cert.MergeReferenceIdeal Cert.MergeReferenceIdeal.Gen Cert.MergeReferenceIdeal.Read Cert.Row Idealize.ShloMosaic
  Idealize.ShloMosaic.TcCoe Idealize.SL.Sem

/-- The gate rows of the modulation table, by batch entry and segment. -/
theorem table_apply (x1 : (⟨S8x6x1024, .f32⟩ : BufTy).Contents (Elt Ideal)) (a : Fin 4) (s : Fin 2) (c : Fin 1024) :
    val_main_v2 (F := Ideal) x1 (ix3 a s c) = x1 (ix3 ⟨a.val * 2 + s.val, by omega⟩ 2 c) := by
  rw [val_main_v2_apply, val_main_v1_apply, val_main_v0_apply]
  have ha := a.isLt; have hs := s.isLt; have hc := c.isLt
  have e1 : ((a.val * 2 + s.val) * 1024 + c.val) / 2048 = a.val := by omega
  have e2 : ((a.val * 2 + s.val) * 1024 + c.val) / 1024 % 2 = s.val := by omega
  have e3 : ((a.val * 2 + s.val) * 1024 + c.val) % 1024 = c.val := by omega
  refine congrArg x1 (funext fun d => Fin.ext ?_)
  match d with
  | ⟨0, _⟩ =>
    show ((((((a.val * 2 + s.val) * 1024 + c.val) / 2048 * 2 + ((a.val * 2 + s.val) * 1024 + c.val) / 1024 % 2) * 6 + (2 + 0)) * 1024
      + ((a.val * 2 + s.val) * 1024 + c.val) % 1024) / 6144) = a.val * 2 + s.val
    rw [e1, e2, e3]; omega
  | ⟨1, _⟩ =>
    show ((((((a.val * 2 + s.val) * 1024 + c.val) / 2048 * 2 + ((a.val * 2 + s.val) * 1024 + c.val) / 1024 % 2) * 6 + (2 + 0)) * 1024
      + ((a.val * 2 + s.val) * 1024 + c.val) % 1024) / 1024 % 6) = 2
    rw [e1, e2, e3]; omega
  | ⟨2, _⟩ =>
    show ((((((a.val * 2 + s.val) * 1024 + c.val) / 2048 * 2 + ((a.val * 2 + s.val) * 1024 + c.val) / 1024 % 2) * 6 + (2 + 0)) * 1024
      + ((a.val * 2 + s.val) * 1024 + c.val) % 1024) % 1024) = c.val
    rw [e1, e2, e3]; omega

/-- The modulation's gate at row `ρ`. -/
theorem gate_apply (x1 : (⟨S8x6x1024, .f32⟩ : BufTy).Contents (Elt Ideal)) (ρ : Fin 17408) (c : Fin 1024) :
    val_main_v8 (F := Ideal) x1 (ix2 ρ c) = x1 (ix3 (modRow ρ) 2 c) := by
  have hρ := ρ.isLt; have hc := c.isLt
  have hi : val_main_v8 (F := Ideal) x1 (ix2 ρ c)
      = val_main_v7 (F := Ideal) x1 (ix3 ⟨ρ.val / 4352, by omega⟩ ⟨ρ.val % 4352, by omega⟩ c) := by
    unfold val_main_v8
    refine shapeCast_apply _ shapeCasts_S4x4352x1024_S17408x1024 (ix2 ρ c) _ ?_
    rewrite [Shape.rowMajor_val_two, Shape.rowMajor_val_three]
    show (ρ.val / 4352 * 4352 + ρ.val % 4352) * 1024 + c.val = ρ.val * 1024 + c.val
    omega
  rw [hi]
  unfold val_main_v7
  rw [concatenate_pair_apply]
  by_cases h : ρ.val % 4352 < 256
  · refine (dif_pos (show ρ.val % 4352 < 256 from h)).trans ?_
    refine (congrArg (val_main_v4 (F := Ideal) x1) (eq_ix3 _)).trans ?_
    rw [val_main_v4_apply, val_main_v3_apply]
    refine Eq.trans (congrArg (val_main_v2 (F := Ideal) x1) (?_ : _ = ix3 ⟨ρ.val / 4352, by omega⟩ 0 c)) ((table_apply x1 _ _ _).trans ?_)
    · exact eq_ix3 _
    · refine congrArg (fun r => x1 (ix3 r 2 c)) (Fin.ext ?_)
      show ρ.val / 4352 * 2 + 0 = ρ.val / 4352 * 2 + (if ρ.val % 4352 < 256 then 0 else 1)
      rw [if_pos h]
  · refine (dif_neg (show ¬ ρ.val % 4352 < 256 from h)).trans ?_
    refine (congrArg (val_main_v6 (F := Ideal) x1) (eq_ix3 _)).trans ?_
    rw [val_main_v6_apply, val_main_v5_apply]
    refine Eq.trans (congrArg (val_main_v2 (F := Ideal) x1) (?_ : _ = ix3 ⟨ρ.val / 4352, by omega⟩ 1 c)) ((table_apply x1 _ _ _).trans ?_)
    · exact eq_ix3 _
    · refine congrArg (fun r => x1 (ix3 r 2 c)) (Fin.ext ?_)
      show ρ.val / 4352 * 2 + 1 = ρ.val / 4352 * 2 + (if ρ.val % 4352 < 256 then 0 else 1)
      rw [if_neg h]

section
variable (x0 : (⟨S17408x1024, .f32⟩ : BufTy).Contents (Elt Ideal)) (x1 : (⟨S8x6x1024, .f32⟩ : BufTy).Contents (Elt Ideal))
  (x2 x3 x4 : (⟨S17408x512, .bf16⟩ : BufTy).Contents (Elt Ideal)) (x5 : (⟨S17408x3072, .bf16⟩ : BufTy).Contents (Elt Ideal))
  (x6 x7 x8 : (⟨S512x1024, .bf16⟩ : BufTy).Contents (Elt Ideal)) (x9 : (⟨S1024x1024, .bf16⟩ : BufTy).Contents (Elt Ideal))
  (x10 x11 : (⟨S1x1024, .f32⟩ : BufTy).Contents (Elt Ideal))

/-- The gated sum of the branches. -/
theorem gated_apply (ρ : Fin 17408) (l : Fin 1024) : val_main_v21 (F := Ideal) x2 x3 x4 x5 x6 x7 x8 (ix2 ρ l)
    = gatedSum (x5 (ix2 ρ ⟨l.val, by omega⟩)) (x5 (ix2 ρ ⟨1024 + l.val, by omega⟩)) (x5 (ix2 ρ ⟨2048 + l.val, by omega⟩))
      (fun k => x2 (ix2 ρ k)) (fun k => x3 (ix2 ρ k)) (fun k => x4 (ix2 ρ k))
      (fun k => x6 (ix2 k l)) (fun k => x7 (ix2 k l)) (fun k => x8 (ix2 k l)) := by
  rw [val_main_v21_apply, val_main_v20_apply, val_main_v17_apply, val_main_v19_apply, val_main_v14_apply, val_main_v16_apply,
    val_main_v10_apply, val_main_v11_apply, val_main_v12_apply, val_main_v9_apply, val_main_v9_apply, val_main_v9_apply,
    val_main_v13_apply, val_main_v15_apply, val_main_v18_apply]
  unfold gatedSum
  have e0 : idx_main_v10 (ix2 ρ l) = ix2 ρ ⟨l.val, by omega⟩ := eq_ix2 _
  have e1 : idx_main_v11 (ix2 ρ l) = ix2 ρ ⟨1024 + l.val, by omega⟩ := eq_ix2 _
  have e2 : idx_main_v12 (ix2 ρ l) = ix2 ρ ⟨2048 + l.val, by omega⟩ := eq_ix2 _
  have f0 : ∀ k, lidx_main_v13 (ix2 ρ l) k = ix2 ρ k := fun k => eq_ix2 _
  have f1 : ∀ k, lidx_main_v15 (ix2 ρ l) k = ix2 ρ k := fun k => eq_ix2 _
  have f2 : ∀ k, lidx_main_v18 (ix2 ρ l) k = ix2 ρ k := fun k => eq_ix2 _
  have g0 : ∀ k, ridx_main_v13 (ix2 ρ l) k = ix2 k l := fun k => eq_ix2 _
  have g1 : ∀ k, ridx_main_v15 (ix2 ρ l) k = ix2 k l := fun k => eq_ix2 _
  have g2 : ∀ k, ridx_main_v18 (ix2 ρ l) k = ix2 k l := fun k => eq_ix2 _
  simp only [e0, e1, e2, f0, f1, f2, g0, g1, g2]
  rfl

/-- The residual sum. -/
theorem resid_apply (ρ : Fin 17408) (c : Fin 1024) : val_main_v26 (F := Ideal) x0 x1 x2 x3 x4 x5 x6 x7 x8 x9 (ix2 ρ c)
    = resid (x0 (ix2 ρ c)) (x1 (ix3 (modRow ρ) 2 c)) (∑ l : Fin 1024,
      gatedSum (x5 (ix2 ρ ⟨l.val, by omega⟩)) (x5 (ix2 ρ ⟨1024 + l.val, by omega⟩)) (x5 (ix2 ρ ⟨2048 + l.val, by omega⟩))
      (fun k => x2 (ix2 ρ k)) (fun k => x3 (ix2 ρ k)) (fun k => x4 (ix2 ρ k))
      (fun k => x6 (ix2 k l)) (fun k => x7 (ix2 k l)) (fun k => x8 (ix2 k l)) * x9 (ix2 l c)) := by
  rw [val_main_v26_apply, val_main_v25_apply, val_main_v24_apply, val_main_v23_apply, val_main_cst_apply, gate_apply,
    val_main_v22_apply]
  have f : ∀ k, lidx_main_v22 (ix2 ρ c) k = ix2 ρ k := fun k => eq_ix2 _
  have g : ∀ k, ridx_main_v22 (ix2 ρ c) k = ix2 k c := fun k => eq_ix2 _
  simp only [f, g, gated_apply]
  rfl

/-- A row's mean. -/
theorem mean_apply (ρ : Fin 17408) : val_main_v30 (F := Ideal) x0 x1 x2 x3 x4 x5 x6 x7 x8 x9 (ix2 ρ 0)
    = mean (fun c => val_main_v26 (F := Ideal) x0 x1 x2 x3 x4 x5 x6 x7 x8 x9 (ix2 ρ c)) := by
  rw [val_main_v30_apply, val_main_v28_apply, val_main_v27_apply, val_main_v29_apply, val_main_cst_0_apply, val_main_cst_1_apply]
  have f : ∀ k, idx_main_v27 (idx_main_v28 (ix2 ρ 0)) k = ix2 ρ k := fun k => eq_ix2 _
  simp only [f]
  refine congrArg (fun s => Ideal.div s _) ?_
  show Ideal.ofBits .f32 0x00000000#32 + _ = _
  rw [Ideal.ofBits_zero_f32, zero_add]

theorem centred_apply (ρ : Fin 17408) (n : Fin 1024) : val_main_v32 (F := Ideal) x0 x1 x2 x3 x4 x5 x6 x7 x8 x9 (ix2 ρ n)
    = centred (fun c => val_main_v26 (F := Ideal) x0 x1 x2 x3 x4 x5 x6 x7 x8 x9 (ix2 ρ c)) n := by
  have e : idx_main_v31 (ix2 ρ n) = ix2 ρ 0 := eq_ix2 _
  rw [val_main_v32_apply, val_main_v31_apply, e, mean_apply]
  rfl

/-- The variance, as the mean of the squares. -/
theorem var_apply (ρ : Fin 17408) : val_main_v37 (F := Ideal) x0 x1 x2 x3 x4 x5 x6 x7 x8 x9 (ix2 ρ 0)
    = mean (fun c => val_main_v32 (F := Ideal) x0 x1 x2 x3 x4 x5 x6 x7 x8 x9 (ix2 ρ c)
        * val_main_v32 (F := Ideal) x0 x1 x2 x3 x4 x5 x6 x7 x8 x9 (ix2 ρ c)) := by
  rw [val_main_v37_apply, val_main_v35_apply, val_main_v34_apply, val_main_v36_apply, val_main_cst_2_apply, val_main_cst_3_apply]
  have f : ∀ k, idx_main_v34 (idx_main_v35 (ix2 ρ 0)) k = ix2 ρ k := fun k => eq_ix2 _
  simp only [f, val_main_v33_apply]
  refine congrArg (fun s => Ideal.div s _) ?_
  show Ideal.ofBits .f32 0x00000000#32 + _ = _
  rw [Ideal.ofBits_zero_f32, zero_add]
  rfl

/-- The reference's result. -/
theorem out_apply (ρ : Fin 17408) (n : Fin 1024) : val_main_v48 (F := Ideal) x0 x1 x2 x3 x4 x5 x6 x7 x8 x9 x10 x11 (ix2 ρ n)
    = merged x0 x1 x2 x3 x4 x5 x6 x7 x8 x9 x10 x11 ρ n := by
  have e0 : idx_main_v38 (ix2 ρ n) = ix2 ρ 0 := eq_ix2 _
  have e1 : idx_main_v43 (ix2 ρ n) = ix2 ρ 0 := eq_ix2 _
  have e2 : idx_main_v45 (ix2 ρ n) = ix2 0 n := eq_ix2 _
  have e3 : idx_main_v47 (ix2 ρ n) = ix2 0 n := eq_ix2 _
  have hm : val_main_v39 (F := Ideal) x0 x1 x2 x3 x4 x5 x6 x7 x8 x9 (ix2 ρ n)
      = centred (fun c => val_main_v26 (F := Ideal) x0 x1 x2 x3 x4 x5 x6 x7 x8 x9 (ix2 ρ c)) n := by
    rw [val_main_v39_apply, val_main_v38_apply, e0, mean_apply]
    rfl
  rw [val_main_v48_apply, val_main_v46_apply, val_main_v44_apply, hm, val_main_v43_apply, e1, val_main_v42_apply,
    val_main_v41_apply, var_apply, val_main_v40_apply, val_main_cst_4_apply, val_main_v45_apply, val_main_v47_apply, e2, e3]
  simp only [centred_apply, resid_apply]
  rfl

end
end Cert.MergeReferenceIdeal.Row
end
end
-- ==== Proof.FfnSpec.lean ====
/-
  The feed-forward sub-layer over the extended reals: the modulated norm, the up projection, the convolution over the rows of a
  segment, the gate, the down projection and the closing norm.
-/
module
public import proofs.«01_k».proof.Proof.Norm
@[expose] public section
noncomputable section
namespace Cert.Row
open Idealize.ShloMosaic

/-- The norm of a row, scaled and shifted by the modulation. -/
def modulated (x sh sc : Fin 1024 → EReal) (n : Fin 1024) : EReal :=
  lnorm x n * (Ideal.ofBits .f32 0x3F800000#32 + sc n) + sh n

/-- Three rows of one column weighted by the convolution's taps, plus its bias. -/
def taps (p u n w₀ w₁ w₂ b : EReal) : EReal := p * w₀ + u * w₁ + n * w₂ + b

/-- The gated unit: `g` times its logistic, times `a`. -/
def glu (a g : EReal) : EReal := g * Ideal.logistic g * a

section
variable (x : FVec Ideal ⟨2, ![17408, 1024]⟩ .f32) (md : FVec Ideal ⟨3, ![8, 6, 1024]⟩ .f32)
  (wu : FVec Ideal ⟨2, ![1024, 5632]⟩ .bf16) (cw : FVec Ideal ⟨2, ![3, 5632]⟩ .f32) (cb : FVec Ideal ⟨2, ![1, 5632]⟩ .f32)
  (wd : FVec Ideal ⟨2, ![2816, 1024]⟩ .bf16) (g b : FVec Ideal ⟨2, ![1, 1024]⟩ .f32)

/-- The modulated norm of row `ρ`. -/
def hrow (ρ : Fin 17408) (k : Fin 1024) : EReal :=
  modulated (fun k => x (ix2 ρ k)) (fun k => md (ix3 (modRow ρ) 3 k)) (fun k => md (ix3 (modRow ρ) 4 k)) k

/-- The up projection. -/
def up (ρ : Fin 17408) (j : Fin 5632) : EReal := ∑ k : Fin 1024, hrow x md ρ k * wu (ix2 k j)

/-- The row before, or zero at a segment's first row. -/
def before (ρ : Fin 17408) (j : Fin 5632) : EReal :=
  if ρ.val % 4352 = 0 ∨ ρ.val % 4352 = 256 then 0 else up x md wu ⟨ρ.val - 1, by omega⟩ j

/-- The row after, or zero at a segment's last row. -/
def after (ρ : Fin 17408) (j : Fin 5632) : EReal :=
  if ρ.val % 4352 = 255 ∨ ρ.val % 4352 = 4351 then 0 else up x md wu ⟨(ρ.val + 1) % 17408, by omega⟩ j

/-- The convolution over the rows. -/
def convolved (ρ : Fin 17408) (j : Fin 5632) : EReal :=
  taps (before x md wu ρ j) (up x md wu ρ j) (after x md wu ρ j) (cw (ix2 0 j)) (cw (ix2 1 j)) (cw (ix2 2 j)) (cb (ix2 0 j))

/-- The gated hidden row: the first half of the columns under the second's gate. -/
def hiddenRow (ρ : Fin 17408) (l : Fin 2816) : EReal :=
  glu (convolved x md wu cw cb ρ ⟨l.val, by omega⟩) (convolved x md wu cw cb ρ ⟨2816 + l.val, by omega⟩)

/-- The feed-forward sub-layer at row `ρ` and column `n`. -/
def fed (ρ : Fin 17408) (n : Fin 1024) : EReal :=
  lnorm (fun c => resid (x (ix2 ρ c)) (md (ix3 (modRow ρ) 5 c)) (∑ l : Fin 2816, hiddenRow x md wu cw cb ρ l * wd (ix2 l c))) n
    * g (ix2 0 n) + b (ix2 0 n)
end

end Cert.Row
end
end
-- ==== Proof.FfnPay.lean ====
/-
  What the feed-forward kernel's body computes from the blocks it has read: the rows with their neighbours, one chunk of columns
  after another, and the closing residual norm.
-/
module
public import proofs.«01_k».proof.Proof.Gen.FfnIdeal.Skeleton
public import proofs.«01_k».proof.Proof.FfnSpec
public import Idealize.ShloMosaic.Lib.Pointwise
public import Idealize.ShloMosaic.Lib.KernelVsHost
public import Idealize.ShloMosaic.Lib.Pipeline.Value
public import Idealize.ShloMosaic.Lib.ValueIdx
@[expose] public section
set_option maxRecDepth 16384
noncomputable section
namespace Cert.FfnIdeal.Row
open Cert.FfnIdeal Cert.FfnIdeal.Gen Cert.Row Idealize.ShloMosaic Idealize.ShloMosaic.TcCoe Idealize.SL.Sem

/-- The up projection of the tile and its neighbouring rows on one chunk of columns. -/
def upTile (h : FVec Ideal S272x1024 .bf16) (w : Vec Ideal S1024x256 .bf16) : FVec Ideal S272x256 .f32 :=
  matmul (φ₁ := .bf16) (φ₂ := .bf16) dot_S272x1024_S1024x256_S272x256_1_0_0_1_n_n none h w (constant S272x256 .f32 0x00000000#32)

/-- The convolution of the tile's rows on one chunk of columns. -/
def convTile (u : FVec Ideal S272x256 .f32) (w : Vec Ideal S3x256 .f32) (b : Vec Ideal S1x256 .f32) : FVec Ideal S256x256 .f32 :=
  addf (addf (addf
    (mulf (extractStridedSlice S256x256 ![8, 0] (dynamicRotate 0 1#32 none u rotates_S272x256_d0) slices_S272x256_o8_0_S256x256)
      (broadcastTo S256x256 (extractStridedSlice S1x256 ![0, 0] w slices_S3x256_o0_0_S1x256) broadcasts_S1x256_S256x256))
    (mulf (extractStridedSlice S256x256 ![8, 0] u slices_S272x256_o8_0_S256x256)
      (broadcastTo S256x256 (extractStridedSlice S1x256 ![1, 0] w slices_S3x256_o1_0_S1x256) broadcasts_S1x256_S256x256)))
    (mulf (extractStridedSlice S256x256 ![8, 0] (dynamicRotate 0 271#32 none u rotates_S272x256_d0) slices_S272x256_o8_0_S256x256)
      (broadcastTo S256x256 (extractStridedSlice S1x256 ![2, 0] w slices_S3x256_o2_0_S1x256) broadcasts_S1x256_S256x256)))
    (broadcastTo S256x256 b broadcasts_S1x256_S256x256)

/-- The gated unit of a chunk. -/
def gluTile (a g : FVec Ideal S256x256 .f32) : FVec Ideal S256x256 .bf16 :=
  shapeCast S256x256 (truncf .bf16 (mulf (mulf g (divf (broadcast S256x256 (Scalar.ofBits .f32 0x3F800000#32))
    (addf (broadcast S256x256 (Scalar.ofBits .f32 0x3F800000#32)) (exp (subf (broadcast S256x256 (Scalar.ofBits .f32 0x00000000#32)) g))))) a)
    bitsLt_bf16_f32) shapeCasts_S256x256_S256x256

theorem upTile_apply (h : FVec Ideal S272x1024 .bf16) (w : Vec Ideal S1024x256 .bf16) (r : Fin 272) (l : Fin 256) :
    upTile h w (ix2 r l) = ∑ k : Fin 1024, h (ix2 r k) * w (ix2 k l) := by
  unfold upTile
  pointwise

theorem convTile_apply (u : FVec Ideal S272x256 .f32) (w : Vec Ideal S3x256 .f32) (b : Vec Ideal S1x256 .f32) (r l : Fin 256) :
    convTile u w b (ix2 r l) = taps (u (ix2 ⟨r.val + 7, by omega⟩ l)) (u (ix2 ⟨r.val + 8, by omega⟩ l)) (u (ix2 ⟨r.val + 9, by omega⟩ l))
      (w (ix2 0 l)) (w (ix2 1 l)) (w (ix2 2 l)) (b (ix2 0 l)) := by
  have h1 : ∀ h, dynamicRotate (s := S272x256) 0 1#32 none u h (ix2 ⟨r.val + 8, by omega⟩ l) = u (ix2 ⟨r.val + 7, by omega⟩ l) := fun h =>
    dynamicRotate_apply (s := S272x256) 0 1#32 u h _ (ix2 ⟨r.val + 7, by omega⟩ l) fun b => by
      have hr := r.isLt
      fin_cases b
      · show r.val + 7 = (r.val + 8 + 272 - 1) % 272
        omega
      · rfl
  have h2 : ∀ h, dynamicRotate (s := S272x256) 0 271#32 none u h (ix2 ⟨r.val + 8, by omega⟩ l) = u (ix2 ⟨r.val + 9, by omega⟩ l) := fun h =>
    dynamicRotate_apply (s := S272x256) 0 271#32 u h _ (ix2 ⟨r.val + 9, by omega⟩ l) fun b => by
      have hr := r.isLt
      fin_cases b
      · show r.val + 9 = (r.val + 8 + 272 - 271) % 272
        omega
      · rfl
  have hs : ∀ (x : FVec Ideal S272x256 .f32) (h), extractStridedSlice S256x256 ![8, 0] x h (ix2 r l) = x (ix2 ⟨r.val + 8, by omega⟩ l) := by
    intro x h
    unfold extractStridedSlice
    congr 1
    funext a
    apply Fin.ext
    fin_cases a
    · show 8 + r.val = r.val + 8; omega
    · show 0 + l.val = l.val; omega
  have hb : ∀ (v : FVec Ideal S1x256 .f32) (h), broadcastTo S256x256 v h (ix2 r l) = v (ix2 0 l) := by
    intro v h
    pointwise
  have e0 : ∀ h, extractStridedSlice S1x256 ![0, 0] w h (ix2 0 l) = w (ix2 0 l) := by intro h; pointwise
  have e1 : ∀ h, extractStridedSlice S1x256 ![1, 0] w h (ix2 0 l) = w (ix2 1 l) := by intro h; pointwise
  have e2 : ∀ h, extractStridedSlice S1x256 ![2, 0] w h (ix2 0 l) = w (ix2 2 l) := by intro h; pointwise
  unfold convTile taps
  simp only [addf_apply, mulf_apply, hs, hb, e0, e1, e2, h1, h2]
  rfl

theorem gluTile_apply (a g : FVec Ideal S256x256 .f32) (r l : Fin 256) :
    gluTile a g (ix2 r l) = glu (a (ix2 r l)) (g (ix2 r l)) := by
  unfold gluTile glu Ideal.logistic
  pointwise
  rw [zero_sub]

section
variable (h : FVec Ideal S272x1024 .bf16) (wa wg : Vec Ideal S1024x256 .bf16) (ca cg : Vec Ideal S3x256 .f32) (ba bg : Vec Ideal S1x256 .f32)

/-- The gated unit of one chunk of columns, from the rows and the chunk's weights. -/
def chunk : FVec Ideal S256x256 .bf16 := gluTile (convTile (upTile h wa) ca ba) (convTile (upTile h wg) cg bg)

theorem chunk1 : k0_pay21 (k0_pay20 (upTile h wa) (upTile h wg) ca (k0_pay19 (upTile h wa)) 271#32 ba cg bg) = chunk h wa wg ca cg ba bg := rfl
theorem chunk2 : k0_pay27 (k0_pay24 (k0_pay17 h wa) ca ba) (k0_pay25 (k0_pay18 h wg) cg) (k0_pay26 (k0_pay18 h wg) cg) bg = chunk h wa wg ca cg ba bg := rfl
theorem chunk3 : k0_pay32 (k0_pay23 h wg) (k0_pay30 (k0_pay22 h wa) ca) (k0_pay31 ba) cg bg = chunk h wa wg ca cg ba bg := rfl
theorem chunk4 : k0_pay36 (k0_pay35 (k0_pay28 h wa) (k0_pay29 h wg) ca 1#32 ba cg bg) = chunk h wa wg ca cg ba bg := rfl
theorem chunk5 : k0_pay42 (k0_pay39 (k0_pay33 h wa) ca ba) cg (k0_pay40 (k0_pay34 h wg)) (k0_pay41 (k0_pay34 h wg) cg) bg = chunk h wa wg ca cg ba bg := rfl
theorem chunk6 : k0_pay50 (k0_pay38 h wg) ca (k0_pay46 (k0_pay37 h wa)) (k0_pay47 (k0_pay37 h wa) ca) (k0_pay48 (k0_pay37 h wa)) (k0_pay49 ca) ba cg bg = chunk h wa wg ca cg ba bg := rfl
theorem chunk7 : k0_pay55 (k0_pay53 (k0_pay44 h wa) ca ba) (k0_pay54 (k0_pay45 h wg) cg bg) (Scalar.ofBits .f32 0x00000000#32) = chunk h wa wg ca cg ba bg := rfl
theorem chunk8 : k0_pay60 (k0_pay52 h wg) (k0_pay58 (k0_pay51 h wa) ca ba) cg (k0_pay59 (k0_pay52 h wg)) bg = chunk h wa wg ca cg ba bg := rfl
theorem chunk9 : k0_pay66 (k0_pay56 h wa) (k0_pay57 h wg) ca (k0_pay63 (k0_pay56 h wa)) (k0_pay64 (k0_pay56 h wa)) (k0_pay65 ca) ba cg bg = chunk h wa wg ca cg ba bg := rfl
theorem chunk10 : k0_pay70 (k0_pay67 (k0_pay61 h wa) ca ba) (k0_pay68 (k0_pay62 h wg) cg bg) (k0_pay69 (k0_pay62 h wg) cg bg) (Scalar.ofBits .f32 0x3F800000#32) = chunk h wa wg ca cg ba bg := rfl

theorem chunk_apply (r l : Fin 256) : chunk h wa wg ca cg ba bg (ix2 r l)
    = glu (taps (∑ k : Fin 1024, h (ix2 ⟨r.val + 7, by omega⟩ k) * wa (ix2 k l)) (∑ k : Fin 1024, h (ix2 ⟨r.val + 8, by omega⟩ k) * wa (ix2 k l))
        (∑ k : Fin 1024, h (ix2 ⟨r.val + 9, by omega⟩ k) * wa (ix2 k l)) (ca (ix2 0 l)) (ca (ix2 1 l)) (ca (ix2 2 l)) (ba (ix2 0 l)))
      (taps (∑ k : Fin 1024, h (ix2 ⟨r.val + 7, by omega⟩ k) * wg (ix2 k l)) (∑ k : Fin 1024, h (ix2 ⟨r.val + 8, by omega⟩ k) * wg (ix2 k l))
        (∑ k : Fin 1024, h (ix2 ⟨r.val + 9, by omega⟩ k) * wg (ix2 k l)) (cg (ix2 0 l)) (cg (ix2 1 l)) (cg (ix2 2 l)) (bg (ix2 0 l))) := by
  unfold chunk
  rw [gluTile_apply, convTile_apply, convTile_apply]
  simp only [upTile_apply]
end

/-! The three parts of the rows put together: the block before, the tile, the block after. -/

theorem cat_mid (p n : FVec Ideal S8x1024 .f32) (x : FVec Ideal S256x1024 .f32) (r : Fin 256) (c : Fin 1024) :
    truncf .bf16 (concatenate S272x1024 0 [⟨S8x1024, p⟩, ⟨S256x1024, x⟩, ⟨S8x1024, n⟩] concatenates_S8x1024_S256x1024_S8x1024_S272x1024_d0)
      bitsLt_bf16_f32 (ix2 ⟨r.val + 8, by omega⟩ c) = x (ix2 r c) := by
  rw [truncf_apply]
  refine concatenate_apply_piece (t := S272x1024) 0 [⟨S8x1024, p⟩, ⟨S256x1024, x⟩, ⟨S8x1024, n⟩]
    concatenates_S8x1024_S256x1024_S8x1024_S272x1024_d0 _ 1 (by simp) S256x1024 x rfl rfl 8 rfl (ix2 r c) ?_ ?_
  · intro b hb
    fin_cases b
    · exact absurd rfl hb
    · rfl
  · show 8 + r.val = r.val + 8; omega

theorem cat_before (p n : FVec Ideal S8x1024 .f32) (x : FVec Ideal S256x1024 .f32) (c : Fin 1024) :
    truncf .bf16 (concatenate S272x1024 0 [⟨S8x1024, p⟩, ⟨S256x1024, x⟩, ⟨S8x1024, n⟩] concatenates_S8x1024_S256x1024_S8x1024_S272x1024_d0)
      bitsLt_bf16_f32 (ix2 7 c) = p (ix2 7 c) := by
  rw [truncf_apply]
  refine concatenate_apply_piece (t := S272x1024) 0 [⟨S8x1024, p⟩, ⟨S256x1024, x⟩, ⟨S8x1024, n⟩]
    concatenates_S8x1024_S256x1024_S8x1024_S272x1024_d0 _ 0 (by simp) S8x1024 p rfl rfl 0 rfl (ix2 7 c) ?_ ?_
  · intro b hb
    fin_cases b
    · exact absurd rfl hb
    · rfl
  · rfl

theorem cat_after (p n : FVec Ideal S8x1024 .f32) (x : FVec Ideal S256x1024 .f32) (c : Fin 1024) :
    truncf .bf16 (concatenate S272x1024 0 [⟨S8x1024, p⟩, ⟨S256x1024, x⟩, ⟨S8x1024, n⟩] concatenates_S8x1024_S256x1024_S8x1024_S272x1024_d0)
      bitsLt_bf16_f32 (ix2 264 c) = n (ix2 0 c) := by
  rw [truncf_apply]
  refine concatenate_apply_piece (t := S272x1024) 0 [⟨S8x1024, p⟩, ⟨S256x1024, x⟩, ⟨S8x1024, n⟩]
    concatenates_S8x1024_S256x1024_S8x1024_S272x1024_d0 _ 2 (by simp) S8x1024 n rfl rfl 264 rfl (ix2 0 c) ?_ ?_
  · intro b hb
    fin_cases b
    · exact absurd rfl hb
    · rfl
  · rfl

/-- The rows the body works on: the tile's own between the last rows of the block before and the first of the block after. -/
def rows (v12 v15 : BitVec 1) (sh sc : Vec Ideal S1x1x1024 .f32) (x : Vec Ideal S256x1024 .f32) (xp xn : Vec Ideal S8x1024 .f32) :
    FVec Ideal S272x1024 .bf16 :=
  k0_pay11 (k0_pay2 sh) (k0_pay3 sc) (k0_pay7 v12 (k0_pay2 sh) (k0_pay3 sc) (k0_pay4 xp) (k0_pay5 xp) k0_pay6)
    (k0_pay8 v15 (k0_pay2 sh) (k0_pay3 sc) xn) (k0_pay9 x) (k0_pay10 x)

section
variable (v12 v15 : BitVec 1) (sh sc : Vec Ideal S1x1x1024 .f32) (x : Vec Ideal S256x1024 .f32) (xp xn : Vec Ideal S8x1024 .f32)
  (wa wg : Vec Ideal S1024x256 .bf16) (ca cg : Vec Ideal S3x256 .f32) (ba bg : Vec Ideal S1x256 .f32)

theorem chunk0 : k0_pay16 (k0_pay12 (k0_pay2 sh) (k0_pay3 sc) (k0_pay7 v12 (k0_pay2 sh) (k0_pay3 sc) (k0_pay4 xp) (k0_pay5 xp) k0_pay6)
      (k0_pay8 v15 (k0_pay2 sh) (k0_pay3 sc) xn) (k0_pay9 x) (k0_pay10 x) wg)
    (k0_pay15 (k0_pay2 sh) (k0_pay3 sc) (k0_pay7 v12 (k0_pay2 sh) (k0_pay3 sc) (k0_pay4 xp) (k0_pay5 xp) k0_pay6)
      (k0_pay8 v15 (k0_pay2 sh) (k0_pay3 sc) xn) (k0_pay9 x) (k0_pay10 x) wa ca ba) cg bg
    = chunk (rows v12 v15 sh sc x xp xn) wa wg ca cg ba bg := rfl

theorem before_apply (c : Fin 1024) : k0_pay7 v12 (k0_pay2 sh) (k0_pay3 sc) (k0_pay4 xp) (k0_pay5 xp) k0_pay6 (ix2 7 c)
    = if v12 = 1#1 then modulated (fun k => xp (ix2 7 k)) (fun k => sh (ix3 0 0 k)) (fun k => sc (ix3 0 0 k)) c else 0 := by
  unfold k0_pay7
  by_cases h : v12 = 1#1
  · subst h
    rw [if_pos rfl]
    refine (congrFun (if_pos rfl) _).trans ?_
    unfold k0_pay2 k0_pay3 k0_pay5 k0_pay6 k0_pay4 modulated lnorm centred mean
    pointwise
  · rw [if_neg h]
    refine (congrFun (if_neg h) _).trans ?_
    pointwise

theorem after_apply (c : Fin 1024) : k0_pay8 v15 (k0_pay2 sh) (k0_pay3 sc) xn (ix2 0 c)
    = if v15 = 1#1 then modulated (fun k => xn (ix2 0 k)) (fun k => sh (ix3 0 0 k)) (fun k => sc (ix3 0 0 k)) c else 0 := by
  unfold k0_pay8
  by_cases h : v15 = 1#1
  · subst h
    rw [if_pos rfl]
    refine (congrFun (if_pos rfl) _).trans ?_
    unfold k0_pay2 k0_pay3 modulated lnorm centred mean
    pointwise
  · rw [if_neg h]
    refine (congrFun (if_neg h) _).trans ?_
    pointwise

/-- The tile's own rows. -/
theorem rows_mid (r : Fin 256) (c : Fin 1024) : rows v12 v15 sh sc x xp xn (ix2 ⟨r.val + 8, by omega⟩ c)
    = modulated (fun k => x (ix2 r k)) (fun k => sh (ix3 0 0 k)) (fun k => sc (ix3 0 0 k)) c := by
  refine (cat_mid _ _ _ r c).trans ?_
  unfold k0_pay2 k0_pay3 k0_pay10 k0_pay9 modulated lnorm centred mean
  pointwise

/-- The row before the tile's first: the modulated norm of the block before's last row, or zero. -/
theorem rows_before (c : Fin 1024) : rows v12 v15 sh sc x xp xn (ix2 7 c)
    = if v12 = 1#1 then modulated (fun k => xp (ix2 7 k)) (fun k => sh (ix3 0 0 k)) (fun k => sc (ix3 0 0 k)) c else 0 :=
  (cat_before _ _ _ c).trans (before_apply v12 sh sc xp c)

/-- The row after the tile's last, likewise. -/
theorem rows_after (c : Fin 1024) : rows v12 v15 sh sc x xp xn (ix2 264 c)
    = if v15 = 1#1 then modulated (fun k => xn (ix2 0 k)) (fun k => sh (ix3 0 0 k)) (fun k => sc (ix3 0 0 k)) c else 0 :=
  (cat_after _ _ _ c).trans (after_apply v15 sh sc xn c)
end

/-- The first part of the down projection. -/
theorem pay43_apply (s : Vec Ideal S256x1536 .bf16) (w : Vec Ideal S1536x1024 .bf16) (r : Fin 256) (n : Fin 1024) :
    k0_pay43 s w (ix2 r n) = ∑ l : Fin 1536, s (ix2 r l) * w (ix2 l n) := by
  unfold k0_pay43
  pointwise

/-- The output row: the residual sum's norm with gain and bias. -/
theorem pay1_apply (x : Vec Ideal S256x1024 .f32) (z : FVec Ideal S256x1024 .f32) (s : Vec Ideal S256x1280 .bf16) (w : Vec Ideal S1280x1024 .bf16)
    (m : Vec Ideal S1x1x1024 .f32) (g b : Vec Ideal S1x1024 .f32) (r : Fin 256) (n : Fin 1024) :
    k0_pay1 (k0_pay71 x z s w m g) b (ix2 r n)
      = lnorm (fun c => resid (x (ix2 r c)) (m (ix3 0 0 c)) (z (ix2 r c) + ∑ l : Fin 1280, s (ix2 r l) * w (ix2 l c))) n * g (ix2 0 n) + b (ix2 0 n) := by
  unfold k0_pay1 k0_pay71 lnorm centred mean resid
  pointwise

end Cert.FfnIdeal.Row
end
end
-- ==== Proof.FfnRun.lean ====
/-
  What the feed-forward kernel's body leaves in the output's buffer: the scratch holds the gated hidden rows, chunk by chunk, and the
  two partial down projections read it back.
-/
module
public import proofs.«01_k».proof.Proof.Gen.FfnIdeal.Frame
public import proofs.«01_k».proof.Proof.FfnPay
public import Idealize.ShloMosaic.Lib.Pipeline.ValueKit.Basic
public import Idealize.ShloMosaic.Lib.Pipeline.ValueKit.Tiles
@[expose] public section
set_option maxRecDepth 16384
noncomputable section
namespace Cert.FfnIdeal.Row
open Cert.FfnIdeal Cert.FfnIdeal.Gen Cert.Row Idealize.ShloMosaic Idealize.ShloMosaic.TcCoe Idealize.SL.Sem

/-- A load of columns from `b` on. -/
theorem ldCols {sp} {α : EltTy} {N M b m : Nat} (v : Memref sig .tc sp ⟨2, ![N, M]⟩ α) (hv : v.IsWhole)
    (x : Vec Ideal ⟨2, ![N, M]⟩ α) (h) (hb : b + m ≤ M) (k : Fin N) (l : Fin m) :
    View.readAt (Elt Ideal) v.view (Rect.unit (s := ⟨2, ![N, M]⟩) ![0, b] ![N, m] h).toLoadRect (hv.unread x) (ix2 k l)
      = x (ix2 k ⟨b + l.val, by omega⟩) := by
  rw [View.readAt_eq_ld, hv.read_unread]
  refine View.ld_unit_apply_of x _ _ h (ix2 k l) _ fun a => ?_
  fin_cases a
  · show k.val = 0 + k.val; omega
  · rfl

/-- A load of rows from `a` on. -/
theorem ldRows {sp} {α : EltTy} {N M a n : Nat} (v : Memref sig .tc sp ⟨2, ![N, M]⟩ α) (hv : v.IsWhole)
    (x : Vec Ideal ⟨2, ![N, M]⟩ α) (h) (ha : a + n ≤ N) (k : Fin n) (l : Fin M) :
    View.readAt (Elt Ideal) v.view (Rect.unit (s := ⟨2, ![N, M]⟩) ![a, 0] ![n, M] h).toLoadRect (hv.unread x) (ix2 k l)
      = x (ix2 ⟨a + k.val, by omega⟩ l) := by
  rw [View.readAt_eq_ld, hv.read_unread]
  refine View.ld_unit_apply_of x _ _ h (ix2 k l) _ fun b => ?_
  fin_cases b
  · rfl
  · show l.val = 0 + l.val; omega

/-- A load of one part of the modulation. -/
theorem ldPart {o : Nat} (v : Memref sig .tc .vmem S1x6x1024 .f32) (hv : v.IsWhole) (x : Vec Ideal S1x6x1024 .f32) (h) (ho : o < 6)
    (k : Fin 1024) :
    View.readAt (Elt Ideal) v.view (Rect.unit (s := S1x6x1024) ![0, o, 0] S1x1x1024.size h).toLoadRect (hv.unread x) (ix3 0 0 k)
      = x (ix3 0 ⟨o, ho⟩ k) := by
  rw [View.readAt_eq_ld, hv.read_unread]
  refine View.ld_unit_apply_of x _ _ h (ix3 0 0 k) _ fun b => ?_
  fin_cases b
  · rfl
  · rfl
  · show k.val = 0 + k.val; omega

/-- The scratch read back: columns from `b` on. -/
theorem rcCols {b m : Nat} (v : Memref sig .tc .vmem S256x2816 .bf16) (L : List (View.Piece (Elt Ideal) S256x2816 .bf16)) (h)
    (hb : b + m ≤ 2816) (k : Fin 256) (l : Fin m) :
    v.view.readCov L (Rect.unit (s := S256x2816) ![0, b] ![256, m] h).toLoadRect (ix2 k l)
      = View.canon L (ix2 k ⟨b + l.val, by omega⟩) := by
  rw [View.readCov_eq_canon']
  show View.canon L _ = View.canon L _
  congr 1
  funext a
  apply Fin.ext
  fin_cases a
  · show 0 + 1 * k.val = k.val; omega
  · show b + 1 * l.val = b + l.val; omega

/-- The hidden row `r` of a tile at column `l`, from the tile's and its neighbours' modulated rows. -/
def tileHidden (h : FVec Ideal S272x1024 .bf16) (x4 : Vec Ideal S1024x5632 .bf16) (x5 : Vec Ideal S3x5632 .f32) (x6 : Vec Ideal S1x5632 .f32)
    (r : Fin 256) (l : Fin 2816) : EReal :=
  glu (taps (∑ k : Fin 1024, h (ix2 ⟨r.val + 7, by omega⟩ k) * x4 (ix2 k ⟨l.val, by omega⟩)) (∑ k : Fin 1024, h (ix2 ⟨r.val + 8, by omega⟩ k) * x4 (ix2 k ⟨l.val, by omega⟩))
      (∑ k : Fin 1024, h (ix2 ⟨r.val + 9, by omega⟩ k) * x4 (ix2 k ⟨l.val, by omega⟩)) (x5 (ix2 0 ⟨l.val, by omega⟩)) (x5 (ix2 1 ⟨l.val, by omega⟩)) (x5 (ix2 2 ⟨l.val, by omega⟩)) (x6 (ix2 0 ⟨l.val, by omega⟩)))
    (taps (∑ k : Fin 1024, h (ix2 ⟨r.val + 7, by omega⟩ k) * x4 (ix2 k ⟨2816 + l.val, by omega⟩)) (∑ k : Fin 1024, h (ix2 ⟨r.val + 8, by omega⟩ k) * x4 (ix2 k ⟨2816 + l.val, by omega⟩))
      (∑ k : Fin 1024, h (ix2 ⟨r.val + 9, by omega⟩ k) * x4 (ix2 k ⟨2816 + l.val, by omega⟩)) (x5 (ix2 0 ⟨2816 + l.val, by omega⟩)) (x5 (ix2 1 ⟨2816 + l.val, by omega⟩)) (x5 (ix2 2 ⟨2816 + l.val, by omega⟩)) (x6 (ix2 0 ⟨2816 + l.val, by omega⟩)))

/-- A chunk whose weights are the columns from `o` and from `o' = 2816 + o` on holds the hidden rows' columns from `o` on. -/
theorem chunk_hidden (h : FVec Ideal S272x1024 .bf16) (x4 : Vec Ideal S1024x5632 .bf16) (x5 : Vec Ideal S3x5632 .f32) (x6 : Vec Ideal S1x5632 .f32)
    (o o' : Nat) (ho : o + 256 ≤ 2816) (ho' : o' = 2816 + o)
    (wa wg : Vec Ideal S1024x256 .bf16) (ca cg : Vec Ideal S3x256 .f32) (ba bg : Vec Ideal S1x256 .f32)
    (hwa : ∀ k l, wa (ix2 k l) = x4 (ix2 k ⟨o + l.val, by omega⟩)) (hwg : ∀ k l, wg (ix2 k l) = x4 (ix2 k ⟨o' + l.val, by omega⟩))
    (hca : ∀ k l, ca (ix2 k l) = x5 (ix2 k ⟨o + l.val, by omega⟩)) (hcg : ∀ k l, cg (ix2 k l) = x5 (ix2 k ⟨o' + l.val, by omega⟩))
    (hba : ∀ k l, ba (ix2 k l) = x6 (ix2 k ⟨o + l.val, by omega⟩)) (hbg : ∀ k l, bg (ix2 k l) = x6 (ix2 k ⟨o' + l.val, by omega⟩))
    (inb) (y : S256x256.Idx) :
    chunk h wa wg ca cg ba bg y = tileHidden h x4 x5 x6 ((Rect.unit (s := S256x2816) ![0, o] S256x256.size inb).emb y 0)
      ((Rect.unit (s := S256x2816) ![0, o] S256x256.size inb).emb y 1) := by
  obtain ⟨r, l, rfl⟩ : ∃ (r l : Fin 256), y = ix2 r l := ⟨_, _, eq_ix2 (n0 := 256) (n1 := 256) y⟩
  have e0 : (Rect.unit (s := S256x2816) ![0, o] S256x256.size inb).emb (ix2 r l) 0 = r := Fin.ext (show 0 + 1 * r.val = r.val by omega)
  have e1 : (Rect.unit (s := S256x2816) ![0, o] S256x256.size inb).emb (ix2 r l) 1 = (⟨o + l.val, by omega⟩ : Fin 2816) :=
    Fin.ext (show o + 1 * l.val = o + l.val by omega)
  refine Eq.trans ?_ (congr (congrArg (tileHidden h x4 x5 x6) e0) e1).symm
  subst ho'
  have e2 : ∀ l : Fin 256, (⟨2816 + o + l.val, by omega⟩ : Fin 5632) = ⟨2816 + (o + l.val), by omega⟩ := fun l => Fin.ext (Nat.add_assoc ..)
  rw [chunk_apply]
  unfold tileHidden
  simp only [hwa, hwg, hca, hcg, hba, hbg, e2]

variable (c : Dev nD) (i : grid0.Coords) (arg1 : Memref sig .tc .vmem S256x1024 .f32) (harg1 : arg1.IsWhole)
  (arg2 : Memref sig .tc .vmem S8x1024 .f32) (harg2 : arg2.IsWhole) (arg3 : Memref sig .tc .vmem S8x1024 .f32) (harg3 : arg3.IsWhole)
  (arg4 : Memref sig .tc .vmem S1x6x1024 .f32) (harg4 : arg4.IsWhole) (arg5 : Memref sig .tc .vmem S1024x5632 .bf16) (harg5 : arg5.IsWhole)
  (arg6 : Memref sig .tc .vmem S3x5632 .f32) (harg6 : arg6.IsWhole) (arg7 : Memref sig .tc .vmem S1x5632 .f32) (harg7 : arg7.IsWhole)
  (arg8 : Memref sig .tc .vmem S2816x1024 .bf16) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S256x1024 .f32) (harg11 : arg11.IsWhole)
  (arg12 : Memref sig .tc .vmem S256x2816 .bf16) (harg12 : arg12.IsWhole)
  (x0 : Vec Ideal S256x1024 .f32) (x1 x2 : Vec Ideal S8x1024 .f32) (x3 : Vec Ideal S1x6x1024 .f32) (x4 : Vec Ideal S1024x5632 .bf16)
  (x5 : Vec Ideal S3x5632 .f32) (x6 : Vec Ideal S1x5632 .f32) (x7 : Vec Ideal S2816x1024 .bf16) (x8 x9 : Vec Ideal S1x1024 .f32)

theorem pieces6 : ∀ p ∈ kernelRun0_A.sl.HS0_6 (F := Ideal) c i arg1 harg1 arg2 harg2 arg3 harg3 arg4 harg4 arg5 harg5 arg6 harg6 arg7 harg7 x0 x1 x2 x3 x4 x5 x6,
    ∀ y : p.1.shape.Idx, p.2 y = tileHidden (kernelRun0_A.sl.r_9 (F := Ideal) c i arg1 harg1 arg2 harg2 arg3 harg3 arg4 harg4 x0 x1 x2 x3) x4 x5 x6 (p.1.emb y 0) (p.1.emb y 1) := by
    unfold kernelRun0_A.sl.HS0_6
    simp only [List.forall_mem_cons, List.not_mem_nil, false_imp_iff, implies_true, and_true]
    refine ⟨?_, ?_, ?_, ?_, ?_, ?_⟩
    · intro y
      exact (congrFun (chunk5 _ _ _ _ _ _ _ ) y).trans (chunk_hidden (kernelRun0_A.sl.r_9 (F := Ideal) c i arg1 harg1 arg2 harg2 arg3 harg3 arg4 harg4 x0 x1 x2 x3) x4 x5 x6 1280 4096 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk4 _ _ _ _ _ _ _ ) y).trans (chunk_hidden (kernelRun0_A.sl.r_9 (F := Ideal) c i arg1 harg1 arg2 harg2 arg3 harg3 arg4 harg4 x0 x1 x2 x3) x4 x5 x6 1024 3840 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk3 _ _ _ _ _ _ _ ) y).trans (chunk_hidden (kernelRun0_A.sl.r_9 (F := Ideal) c i arg1 harg1 arg2 harg2 arg3 harg3 arg4 harg4 x0 x1 x2 x3) x4 x5 x6 768 3584 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk2 _ _ _ _ _ _ _ ) y).trans (chunk_hidden (kernelRun0_A.sl.r_9 (F := Ideal) c i arg1 harg1 arg2 harg2 arg3 harg3 arg4 harg4 x0 x1 x2 x3) x4 x5 x6 512 3328 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk1 _ _ _ _ _ _ _ ) y).trans (chunk_hidden (kernelRun0_A.sl.r_9 (F := Ideal) c i arg1 harg1 arg2 harg2 arg3 harg3 arg4 harg4 x0 x1 x2 x3) x4 x5 x6 256 3072 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk0 _ _ _ _ _ _ _ _ _ _ _ _ _ ) y).trans (chunk_hidden (kernelRun0_A.sl.r_9 (F := Ideal) c i arg1 harg1 arg2 harg2 arg3 harg3 arg4 harg4 x0 x1 x2 x3) x4 x5 x6 0 2816 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)

theorem pieces11 : ∀ p ∈ kernelRun0_A.sl.HS0_11 (F := Ideal) c i arg1 harg1 arg2 harg2 arg3 harg3 arg4 harg4 arg5 harg5 arg6 harg6 arg7 harg7 x0 x1 x2 x3 x4 x5 x6,
    ∀ y : p.1.shape.Idx, p.2 y = tileHidden (kernelRun0_A.sl.r_9 (F := Ideal) c i arg1 harg1 arg2 harg2 arg3 harg3 arg4 harg4 x0 x1 x2 x3) x4 x5 x6 (p.1.emb y 0) (p.1.emb y 1) := by
    unfold kernelRun0_A.sl.HS0_11
    simp only [List.forall_mem_cons]
    refine ⟨?_, ?_, ?_, ?_, ?_, pieces6 c i arg1 harg1 arg2 harg2 arg3 harg3 arg4 harg4 arg5 harg5 arg6 harg6 arg7 harg7 x0 x1 x2 x3 x4 x5 x6⟩
    · intro y
      exact (congrFun (chunk10 _ _ _ _ _ _ _ ) y).trans (chunk_hidden (kernelRun0_A.sl.r_9 (F := Ideal) c i arg1 harg1 arg2 harg2 arg3 harg3 arg4 harg4 x0 x1 x2 x3) x4 x5 x6 2560 5376 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk9 _ _ _ _ _ _ _ ) y).trans (chunk_hidden (kernelRun0_A.sl.r_9 (F := Ideal) c i arg1 harg1 arg2 harg2 arg3 harg3 arg4 harg4 x0 x1 x2 x3) x4 x5 x6 2304 5120 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk8 _ _ _ _ _ _ _ ) y).trans (chunk_hidden (kernelRun0_A.sl.r_9 (F := Ideal) c i arg1 harg1 arg2 harg2 arg3 harg3 arg4 harg4 x0 x1 x2 x3) x4 x5 x6 2048 4864 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk7 _ _ _ _ _ _ _ ) y).trans (chunk_hidden (kernelRun0_A.sl.r_9 (F := Ideal) c i arg1 harg1 arg2 harg2 arg3 harg3 arg4 harg4 x0 x1 x2 x3) x4 x5 x6 1792 4608 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)
    · intro y
      exact (congrFun (chunk6 _ _ _ _ _ _ _ ) y).trans (chunk_hidden (kernelRun0_A.sl.r_9 (F := Ideal) c i arg1 harg1 arg2 harg2 arg3 harg3 arg4 harg4 x0 x1 x2 x3) x4 x5 x6 1536 4352 (by omega) (by omega) _ _ _ _ _ _
        (ldCols arg5 harg5 x4 _ (by omega)) (ldCols arg5 harg5 x4 _ (by omega)) (ldCols arg6 harg6 x5 _ (by omega)) (ldCols arg6 harg6 x5 _ (by omega))
        (ldCols arg7 harg7 x6 _ (by omega)) (ldCols arg7 harg7 x6 _ (by omega)) _ y)

/-- The first half of the scratch once its chunks are stored. -/
theorem scratch6 (r : Fin 256) (l : Fin 2816) (hl : l.val < 1536) :
    View.canon (kernelRun0_A.sl.HS0_6 (F := Ideal) c i arg1 harg1 arg2 harg2 arg3 harg3 arg4 harg4 arg5 harg5 arg6 harg6 arg7 harg7 x0 x1 x2 x3 x4 x5 x6) (ix2 r l) = tileHidden (kernelRun0_A.sl.r_9 (F := Ideal) c i arg1 harg1 arg2 harg2 arg3 harg3 arg4 harg4 x0 x1 x2 x3) x4 x5 x6 r l := by
  refine View.canon_apply_of_pieces (Val := Elt Ideal) (S := S256x2816) (e := .bf16) (fun j => tileHidden (kernelRun0_A.sl.r_9 (F := Ideal) c i arg1 harg1 arg2 harg2 arg3 harg3 arg4 harg4 x0 x1 x2 x3) x4 x5 x6 (j 0) (j 1)) _
    (pieces6 c i arg1 harg1 arg2 harg2 arg3 harg3 arg4 harg4 arg5 harg5 arg6 harg6 arg7 harg7 x0 x1 x2 x3 x4 x5 x6) _ ?_
  unfold kernelRun0_A.sl.HS0_6
  simp only [List.exists_mem_cons_iff, Rect.mem_set_unit, Fin.forall_fin_two]
  have hr := r.isLt
  have e : ∀ o : Nat, o ≤ l.val → l.val < o + 256 → (0 ≤ r.val ∧ r.val < 0 + 256) ∧ (o ≤ l.val ∧ l.val < o + 256) := by omega
  by_cases h5 : 1280 ≤ l.val
  · exact .inl (e 1280 (by omega) (by omega))
  by_cases h4 : 1024 ≤ l.val
  · exact .inr (.inl (e 1024 (by omega) (by omega)))
  by_cases h3 : 768 ≤ l.val
  · exact .inr (.inr (.inl (e 768 (by omega) (by omega))))
  by_cases h2 : 512 ≤ l.val
  · exact .inr (.inr (.inr (.inl (e 512 (by omega) (by omega)))))
  by_cases h1 : 256 ≤ l.val
  · exact .inr (.inr (.inr (.inr (.inl (e 256 (by omega) (by omega))))))
  · exact .inr (.inr (.inr (.inr (.inr (.inl (e 0 (by omega) (by omega)))))))

/-- The rest of the scratch. -/
theorem scratch11 (r : Fin 256) (l : Fin 2816) (hl : 1536 ≤ l.val) :
    View.canon (kernelRun0_A.sl.HS0_11 (F := Ideal) c i arg1 harg1 arg2 harg2 arg3 harg3 arg4 harg4 arg5 harg5 arg6 harg6 arg7 harg7 x0 x1 x2 x3 x4 x5 x6) (ix2 r l) = tileHidden (kernelRun0_A.sl.r_9 (F := Ideal) c i arg1 harg1 arg2 harg2 arg3 harg3 arg4 harg4 x0 x1 x2 x3) x4 x5 x6 r l := by
  refine View.canon_apply_of_pieces (Val := Elt Ideal) (S := S256x2816) (e := .bf16) (fun j => tileHidden (kernelRun0_A.sl.r_9 (F := Ideal) c i arg1 harg1 arg2 harg2 arg3 harg3 arg4 harg4 x0 x1 x2 x3) x4 x5 x6 (j 0) (j 1)) _
    (pieces11 c i arg1 harg1 arg2 harg2 arg3 harg3 arg4 harg4 arg5 harg5 arg6 harg6 arg7 harg7 x0 x1 x2 x3 x4 x5 x6) _ ?_
  unfold kernelRun0_A.sl.HS0_11
  simp only [List.exists_mem_cons_iff, Rect.mem_set_unit, Fin.forall_fin_two]
  have hr := r.isLt
  have hl' := l.isLt
  have e : ∀ o : Nat, o ≤ l.val → l.val < o + 256 → (0 ≤ r.val ∧ r.val < 0 + 256) ∧ (o ≤ l.val ∧ l.val < o + 256) := by omega
  by_cases h5 : 2560 ≤ l.val
  · exact .inl (e 2560 (by omega) (by omega))
  by_cases h4 : 2304 ≤ l.val
  · exact .inr (.inl (e 2304 (by omega) (by omega)))
  by_cases h3 : 2048 ≤ l.val
  · exact .inr (.inr (.inl (e 2048 (by omega) (by omega))))
  by_cases h2 : 1792 ≤ l.val
  · exact .inr (.inr (.inr (.inl (e 1792 (by omega) (by omega)))))
  · exact .inr (.inr (.inr (.inr (.inl (e 1536 (by omega) (by omega))))))

/-- What the body leaves in the output's buffer. -/
theorem out_apply (r : Fin 256) (n : Fin 1024) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 r n)
      = lnorm (fun k => resid (x0 (ix2 r k)) (x3 (ix3 0 5 k)) (∑ l : Fin 2816,
          tileHidden (kernelRun0_A.sl.r_9 (F := Ideal) c i arg1 harg1 arg2 harg2 arg3 harg3 arg4 harg4 x0 x1 x2 x3) x4 x5 x6 r l * x7 (ix2 l k))) n * x8 (ix2 0 n) + x9 (ix2 0 n) := by
  unfold out0_A_10
  rw [View.read_writes_junk_eq_canon]
  unfold kernelRun0_A
  dsimp only
  rw [View.canon_cons_unit_lit _ _ _ (by decide)]
  refine (pay1_apply _ _ _ _ _ _ _ r n).trans ?_
  refine congr (congrArg HAdd.hAdd (congr (congrArg HMul.hMul (congrFun (congrArg lnorm (funext fun k => ?_)) n)) ?_)) ?_
  · refine congr (congr (congrArg resid ?_) ?_) ?_
    · exact (ldCols arg1 harg1 x0 _ (by omega) r k).trans (congrArg x0 (congrArg (ix2 r) (Fin.ext (Nat.zero_add _))))
    · exact ldPart arg4 harg4 x3 _ (by omega) k
    · have hs := Fin.sum_univ_add (a := 1536) (b := 1280) fun l : Fin 2816 => tileHidden (kernelRun0_A.sl.r_9 (F := Ideal) c i arg1 harg1 arg2 harg2 arg3 harg3 arg4 harg4 x0 x1 x2 x3) x4 x5 x6 r l * x7 (ix2 l k)
      refine Eq.trans ?_ hs.symm
      refine congr (congrArg HAdd.hAdd ((pay43_apply _ _ r k).trans (Finset.sum_congr rfl fun l _ => ?_))) (Finset.sum_congr rfl fun l _ => ?_)
      · refine congr (congrArg HMul.hMul ((rcCols arg12 _ _ (by omega) r l).trans
          ((scratch6 c i arg1 harg1 arg2 harg2 arg3 harg3 arg4 harg4 arg5 harg5 arg6 harg6 arg7 harg7 x0 x1 x2 x3 x4 x5 x6 r _ (show 0 + l.val < 1536 by omega)).trans ?_))) ((ldRows arg8 harg8 x7 _ (by omega) l k).trans ?_)
        · exact congrArg _ (Fin.ext (Nat.zero_add _))
        · exact congrArg x7 (congrArg (fun q => ix2 q k) (Fin.ext (Nat.zero_add _)))
      · exact congr (congrArg HMul.hMul ((rcCols arg12 _ _ (by omega) r l).trans
          (scratch11 c i arg1 harg1 arg2 harg2 arg3 harg3 arg4 harg4 arg5 harg5 arg6 harg6 arg7 harg7 x0 x1 x2 x3 x4 x5 x6 r _ (show 1536 ≤ 1536 + l.val by omega)))) (ldRows arg8 harg8 x7 _ (by omega) l k)
  · exact (ldCols arg9 harg9 x8 _ (by omega) 0 n).trans (congrArg x8 (congrArg (ix2 0) (Fin.ext (Nat.zero_add _))))
  · exact (ldCols arg10 harg10 x9 _ (by omega) 0 n).trans (congrArg x9 (congrArg (ix2 0) (Fin.ext (Nat.zero_add _))))

/-- The modulated norm of the tile's row `r`. -/
theorem mid_apply (r : Fin 256) (k : Fin 1024) :
    kernelRun0_A.sl.r_9 (F := Ideal) c i arg1 harg1 arg2 harg2 arg3 harg3 arg4 harg4 x0 x1 x2 x3 (ix2 ⟨r.val + 8, by omega⟩ k)
      = modulated (fun k => x0 (ix2 r k)) (fun k => x3 (ix3 0 3 k)) (fun k => x3 (ix3 0 4 k)) k := by
  refine (rows_mid _ _ _ _ _ _ _ r k).trans ?_
  congr 1
  · funext k
    exact (ldCols arg1 harg1 x0 _ (by omega) r k).trans (congrArg x0 (congrArg (ix2 r) (Fin.ext (Nat.zero_add _))))
  · funext k
    exact ldPart arg4 harg4 x3 _ (by omega) k
  · funext k
    exact ldPart arg4 harg4 x3 _ (by omega) k

/-- The row before the tile. -/
theorem before_row (k : Fin 1024) :
    kernelRun0_A.sl.r_9 (F := Ideal) c i arg1 harg1 arg2 harg2 arg3 harg3 arg4 harg4 x0 x1 x2 x3 (ix2 7 k)
      = if kernelRun0_A.sl.v12 i = 1#1 then modulated (fun k => x1 (ix2 7 k)) (fun k => x3 (ix3 0 3 k)) (fun k => x3 (ix3 0 4 k)) k else 0 := by
  refine (rows_before _ _ _ _ _ _ _ k).trans ?_
  refine if_congr Iff.rfl ?_ rfl
  congr 1
  · funext k
    exact (ldCols arg2 harg2 x1 _ (by omega) 7 k).trans (congrArg x1 (congrArg (ix2 7) (Fin.ext (Nat.zero_add _))))
  · funext k
    exact ldPart arg4 harg4 x3 _ (by omega) k
  · funext k
    exact ldPart arg4 harg4 x3 _ (by omega) k

/-- The row after the tile. -/
theorem after_row (k : Fin 1024) :
    kernelRun0_A.sl.r_9 (F := Ideal) c i arg1 harg1 arg2 harg2 arg3 harg3 arg4 harg4 x0 x1 x2 x3 (ix2 264 k)
      = if kernelRun0_A.sl.v15 i = 1#1 then modulated (fun k => x2 (ix2 0 k)) (fun k => x3 (ix3 0 3 k)) (fun k => x3 (ix3 0 4 k)) k else 0 := by
  refine (rows_after _ _ _ _ _ _ _ k).trans ?_
  refine if_congr Iff.rfl ?_ rfl
  congr 1
  · funext k
    exact (ldCols arg3 harg3 x2 _ (by omega) 0 k).trans (congrArg x2 (congrArg (ix2 0) (Fin.ext (Nat.zero_add _))))
  · funext k
    exact ldPart arg4 harg4 x3 _ (by omega) k
  · funext k
    exact ldPart arg4 harg4 x3 _ (by omega) k

end Cert.FfnIdeal.Row
end
end
-- ==== Proof.FfnArray.lean ====
/-
  The feed-forward kernel's whole result: every element is the sub-layer's value at its row and column.
-/
module
public import proofs.«01_k».proof.Proof.FfnRun
public import proofs.«01_k».proof.Proof.Gen.FfnIdeal.Value
@[expose] public section
set_option maxRecDepth 16384
noncomputable section
namespace Cert.FfnIdeal.Row
open Cert.FfnIdeal Cert.FfnIdeal.Gen Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Row `r` of tile `t`. -/
def row (t : Fin grid0.N) (r : Fin 256) : Fin 17408 := ⟨t.val * 256 + r.val, by
  have := t.isLt; have e : grid0.N = 68 := by decide
  omega⟩

theorem modRow_row (t : Fin grid0.N) (r : Fin 256) : (modRow (row t r)).val = t.val / 17 * 2 + (if t.val % 17 < 1 then 0 else 1) := by
  have hr := r.isLt
  show (t.val * 256 + r.val) / 4352 * 2 + (if (t.val * 256 + r.val) % 4352 < 256 then 0 else 1) = _
  have h1 : (t.val * 256 + r.val) / 4352 = t.val / 17 := by omega
  have h2 : (t.val * 256 + r.val) % 4352 < 256 ↔ t.val % 17 < 1 := by omega
  rw [h1, if_congr h2 rfl rfl]

theorem idx3 : ∀ t : Fin grid0.N, win0_3.index t 0 = t.val / 17 * 2 + (if t.val % 17 < 1 then 0 else 1)
    ∧ win0_3.index t 1 = 0 ∧ win0_3.index t 2 = 0 := by decide +kernel
theorem idx0 : ∀ t : Fin grid0.N, win0_0.index t 0 = t.val ∧ win0_0.index t 1 = 0 := by decide +kernel
theorem idx10 : ∀ t : Fin grid0.N, win0_10.index t 0 = t.val ∧ win0_10.index t 1 = 0 := by decide +kernel
theorem idx1 : ∀ t : Fin grid0.N, win0_1.index t 0 = 32 * t.val - 1 ∧ win0_1.index t 1 = 0 := by decide +kernel
theorem idx2 : ∀ t : Fin grid0.N, win0_2.index t 0 = min (32 * (t.val + 1)) 2175 ∧ win0_2.index t 1 = 0 := by decide +kernel
theorem idx4 : ∀ t : Fin grid0.N, win0_4.index t 0 = 0 ∧ win0_4.index t 1 = 0 := by decide +kernel
theorem idx5 : ∀ t : Fin grid0.N, win0_5.index t 0 = 0 ∧ win0_5.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel
theorem idx8 : ∀ t : Fin grid0.N, win0_8.index t 0 = 0 ∧ win0_8.index t 1 = 0 := by decide +kernel
theorem idx9 : ∀ t : Fin grid0.N, win0_9.index t 0 = 0 ∧ win0_9.index t 1 = 0 := by decide +kernel

/-- The body takes the row before the tile except in a batch entry's first and second tile, where a segment starts. -/
theorem ok_before : ∀ t : Fin grid0.N, kernelRun0_A.sl.v12 (grid0.coords t) = 1#1 ↔ ¬ (t.val % 17 = 0 ∨ t.val % 17 = 1) := by decide +kernel
/-- It takes the row after the tile except in a batch entry's first and last tile, where a segment ends. -/
theorem ok_after : ∀ t : Fin grid0.N, kernelRun0_A.sl.v15 (grid0.coords t) = 1#1 ↔ ¬ (t.val % 17 = 0 ∨ t.val % 17 = 16) := by decide +kernel

theorem blk3 (c : Dev nD) (t : Fin cfg0.N) (r : Fin 256) (o : Fin 6) (k : Fin 1024) :
    (iblk m c 3 t : Vec Ideal S1x6x1024 .f32) (ix3 0 o k) = m ((c : Thread nD τ).loc main_arg1) (ix3 (modRow (row t r)) o k) := by
  unfold iblk
  rw [View.read_apply]
  show V m c main_arg1 _ = m (c.tc.loc main_arg1) _
  unfold V
  congr 1
  funext a
  apply Fin.ext
  fin_cases a
  · show win0_3.index t 0 * 1 + 1 * 0 = (modRow (row t r)).val
    rw [(idx3 t).1, modRow_row]; omega
  · show win0_3.index t 1 * 6 + 1 * o.val = o.val
    rw [(idx3 t).2.1]; omega
  · show win0_3.index t 2 * 1024 + 1 * k.val = k.val
    rw [(idx3 t).2.2]; omega

theorem blk0 (c : Dev nD) (t : Fin cfg0.N) (r : Fin 256) (k : Fin 1024) :
    (iblk m c 0 t : Vec Ideal S256x1024 .f32) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  fin_cases a
  · show win0_0.index t 0 * 256 + 1 * r.val = t.val * 256 + r.val
    rw [(idx0 t).1]; omega
  · show win0_0.index t 1 * 1024 + 1 * k.val = k.val
    rw [(idx0 t).2]; omega

theorem blk1 (c : Dev nD) (t : Fin cfg0.N) (q : Fin 17408) (ht : t.val ≠ 0) (hq : q.val = t.val * 256 - 1) (k : Fin 1024) :
    (iblk m c 1 t : Vec Ideal S8x1024 .f32) (ix2 7 k) = m ((c : Thread nD τ).loc main_arg0) (ix2 q k) := by
  unfold iblk
  rw [View.read_apply]
  show V m c main_arg0 _ = m (c.tc.loc main_arg0) _
  unfold V
  congr 1
  funext a
  apply Fin.ext
  fin_cases a
  · show win0_1.index t 0 * 8 + 1 * 7 = q.val
    rw [(idx1 t).1]; omega
  · show win0_1.index t 1 * 1024 + 1 * k.val = k.val
    rw [(idx1 t).2]; omega

theorem blk2 (c : Dev nD) (t : Fin cfg0.N) (q : Fin 17408) (hq : q.val = t.val * 256 + 256) (k : Fin 1024) :
    (iblk m c 2 t : Vec Ideal S8x1024 .f32) (ix2 0 k) = m ((c : Thread nD τ).loc main_arg0) (ix2 q k) := by
  have h := q.isLt
  unfold iblk
  rw [View.read_apply]
  show V m c main_arg0 _ = m (c.tc.loc main_arg0) _
  unfold V
  congr 1
  funext a
  apply Fin.ext
  fin_cases a
  · show win0_2.index t 0 * 8 + 1 * 0 = q.val
    rw [(idx2 t).1]; omega
  · show win0_2.index t 1 * 1024 + 1 * k.val = k.val
    rw [(idx2 t).2]; omega

theorem blk4 (c : Dev nD) (t : Fin cfg0.N) (r : Fin 1024) (k : Fin 5632) :
    (iblk m c 4 t : Vec Ideal S1024x5632 .bf16) (ix2 r k) = m ((c : Thread nD τ).loc main_arg2) (ix2 r k) := by
  unfold iblk
  rw [View.read_apply]
  show V m c main_arg2 _ = m (c.tc.loc main_arg2) _
  unfold V
  congr 1
  funext a
  apply Fin.ext
  fin_cases a
  · show win0_4.index t 0 * 1024 + 1 * r.val = r.val
    rw [(idx4 t).1]; omega
  · show win0_4.index t 1 * 5632 + 1 * k.val = k.val
    rw [(idx4 t).2]; omega

theorem blk5 (c : Dev nD) (t : Fin cfg0.N) (r : Fin 3) (k : Fin 5632) :
    (iblk m c 5 t : Vec Ideal S3x5632 .f32) (ix2 r k) = m ((c : Thread nD τ).loc main_arg3) (ix2 r k) := by
  unfold iblk
  rw [View.read_apply]
  show V m c main_arg3 _ = m (c.tc.loc main_arg3) _
  unfold V
  congr 1
  funext a
  apply Fin.ext
  fin_cases a
  · show win0_5.index t 0 * 3 + 1 * r.val = r.val
    rw [(idx5 t).1]; omega
  · show win0_5.index t 1 * 5632 + 1 * k.val = k.val
    rw [(idx5 t).2]; omega

theorem blk6 (c : Dev nD) (t : Fin cfg0.N) (r : Fin 1) (k : Fin 5632) :
    (iblk m c 6 t : Vec Ideal S1x5632 .f32) (ix2 r k) = m ((c : Thread nD τ).loc main_arg4) (ix2 r k) := by
  unfold iblk
  rw [View.read_apply]
  show V m c main_arg4 _ = m (c.tc.loc main_arg4) _
  unfold V
  congr 1
  funext a
  apply Fin.ext
  fin_cases a
  · show win0_6.index t 0 * 1 + 1 * r.val = r.val
    rw [(idx6 t).1]; omega
  · show win0_6.index t 1 * 5632 + 1 * k.val = k.val
    rw [(idx6 t).2]; omega

theorem blk7 (c : Dev nD) (t : Fin cfg0.N) (r : Fin 2816) (k : Fin 1024) :
    (iblk m c 7 t : Vec Ideal S2816x1024 .bf16) (ix2 r k) = m ((c : Thread nD τ).loc main_arg5) (ix2 r k) := by
  unfold iblk
  rw [View.read_apply]
  show V m c main_arg5 _ = m (c.tc.loc main_arg5) _
  unfold V
  congr 1
  funext a
  apply Fin.ext
  fin_cases a
  · show win0_7.index t 0 * 2816 + 1 * r.val = r.val
    rw [(idx7 t).1]; omega
  · show win0_7.index t 1 * 1024 + 1 * k.val = k.val
    rw [(idx7 t).2]; omega

theorem blk8 (c : Dev nD) (t : Fin cfg0.N) (r : Fin 1) (k : Fin 1024) :
    (iblk m c 8 t : Vec Ideal S1x1024 .f32) (ix2 r k) = m ((c : Thread nD τ).loc main_arg6) (ix2 r k) := by
  unfold iblk
  rw [View.read_apply]
  show V m c main_arg6 _ = m (c.tc.loc main_arg6) _
  unfold V
  congr 1
  funext a
  apply Fin.ext
  fin_cases a
  · show win0_8.index t 0 * 1 + 1 * r.val = r.val
    rw [(idx8 t).1]; omega
  · show win0_8.index t 1 * 1024 + 1 * k.val = k.val
    rw [(idx8 t).2]; omega

theorem blk9 (c : Dev nD) (t : Fin cfg0.N) (r : Fin 1) (k : Fin 1024) :
    (iblk m c 9 t : Vec Ideal S1x1024 .f32) (ix2 r k) = m ((c : Thread nD τ).loc main_arg7) (ix2 r k) := by
  unfold iblk
  rw [View.read_apply]
  show V m c main_arg7 _ = m (c.tc.loc main_arg7) _
  unfold V
  congr 1
  funext a
  apply Fin.ext
  fin_cases a
  · show win0_9.index t 0 * 1 + 1 * r.val = r.val
    rw [(idx9 t).1]; omega
  · show win0_9.index t 1 * 1024 + 1 * k.val = k.val
    rw [(idx9 t).2]; omega

/-- The rows the body works on at point `t`. -/
abbrev hrows (c : Dev nD) (t : Fin cfg0.N) : FVec Ideal S272x1024 .bf16 :=
  kernelRun0_A.sl.r_9 (F := Ideal) c (grid0.coords t) (ms0_0 t) (hs0_0 t) (ms0_1 t) (hs0_1 t) (ms0_2 t) (hs0_2 t) (ms0_3 t) (hs0_3 t)
    (iblk m c 0 t) (iblk m c 1 t) (iblk m c 2 t) (iblk m c 3 t)

theorem hrows_mid (c : Dev nD) (t : Fin cfg0.N) (r : Fin 256) (k : Fin 1024) :
    hrows m c t (ix2 ⟨r.val + 8, by omega⟩ k) = hrow (m ((c : Thread nD τ).loc main_arg0)) (m ((c : Thread nD τ).loc main_arg1)) (row t r) k := by
  refine (mid_apply c (grid0.coords t) _ _ _ _ _ _ _ _ _ _ _ _ r k).trans ?_
  unfold hrow
  simp only [blk0 m c t, blk3 m c t r]

/-- The up projection of a tile's own row. -/
theorem up_mid (c : Dev nD) (t : Fin cfg0.N) (r : Fin 256) (j : Fin 5632) :
    ∑ k : Fin 1024, hrows m c t (ix2 ⟨r.val + 8, by omega⟩ k) * (m ((c : Thread nD τ).loc main_arg2)) (ix2 k j) = up (m ((c : Thread nD τ).loc main_arg0)) (m ((c : Thread nD τ).loc main_arg1)) (m ((c : Thread nD τ).loc main_arg2)) (row t r) j := by
  unfold up
  exact Finset.sum_congr rfl fun k _ => by rw [hrows_mid]

/-- The row before, inside the tile or from the block before it. -/
theorem up_before (c : Dev nD) (t : Fin cfg0.N) (r : Fin 256) (j : Fin 5632) :
    ∑ k : Fin 1024, hrows m c t (ix2 ⟨r.val + 7, by omega⟩ k) * (m ((c : Thread nD τ).loc main_arg2)) (ix2 k j) = before (m ((c : Thread nD τ).loc main_arg0)) (m ((c : Thread nD τ).loc main_arg1)) (m ((c : Thread nD τ).loc main_arg2)) (row t r) j := by
  have hN : grid0.N = 68 := by decide
  have ht := t.isLt
  have hr := r.isLt
  have hv : (row t r).val = t.val * 256 + r.val := rfl
  unfold before
  by_cases h0 : r.val = 0
  · obtain rfl : r = 0 := Fin.ext h0
    have e : ∀ k, hrows m c t (ix2 ⟨(0 : Fin 256).val + 7, by omega⟩ k) = _ := fun k =>
      before_row c (grid0.coords t) (ms0_0 t) (hs0_0 t) (ms0_1 t) (hs0_1 t) (ms0_2 t) (hs0_2 t) (ms0_3 t) (hs0_3 t) (iblk m c 0 t) (iblk m c 1 t) (iblk m c 2 t) (iblk m c 3 t) k
    by_cases hs : t.val % 17 = 0 ∨ t.val % 17 = 1
    · rw [if_pos (by omega)]
      refine Finset.sum_eq_zero fun k _ => ?_
      rw [e, if_neg (fun h => (ok_before t).1 h hs), zero_mul]
    · rw [if_neg (by omega)]
      unfold up
      refine Finset.sum_congr rfl fun k _ => ?_
      rw [e, if_pos ((ok_before t).2 hs)]
      have hm : modRow ⟨(row t 0).val - 1, by omega⟩ = modRow (row t 0) := by
        apply Fin.ext
        show ((row t 0).val - 1) / 4352 * 2 + (if ((row t 0).val - 1) % 4352 < 256 then 0 else 1)
          = (row t 0).val / 4352 * 2 + (if (row t 0).val % 4352 < 256 then 0 else 1)
        rw [if_neg (by omega), if_neg (by omega)]
        omega
      unfold hrow
      rw [hm]
      simp only [blk1 m c t ⟨(row t 0).val - 1, by omega⟩ (by omega) (by show (row t 0).val - 1 = _; omega), blk3 m c t 0]
  · rw [if_neg (by omega)]
    have e := up_mid m c t ⟨r.val - 1, by omega⟩ j
    refine Eq.trans (Finset.sum_congr rfl fun k _ => ?_) (e.trans (congrArg (fun q => up (m ((c : Thread nD τ).loc main_arg0)) (m ((c : Thread nD τ).loc main_arg1)) (m ((c : Thread nD τ).loc main_arg2)) q j) (Fin.ext ?_)))
    · refine congrArg (fun q => hrows m c t (ix2 q k) * (m ((c : Thread nD τ).loc main_arg2)) (ix2 k j)) (Fin.ext ?_)
      show r.val + 7 = r.val - 1 + 8; omega
    · show t.val * 256 + (r.val - 1) = t.val * 256 + r.val - 1; omega

/-- The row after, inside the tile or from the block after it. -/
theorem up_after (c : Dev nD) (t : Fin cfg0.N) (r : Fin 256) (j : Fin 5632) :
    ∑ k : Fin 1024, hrows m c t (ix2 ⟨r.val + 9, by omega⟩ k) * (m ((c : Thread nD τ).loc main_arg2)) (ix2 k j) = after (m ((c : Thread nD τ).loc main_arg0)) (m ((c : Thread nD τ).loc main_arg1)) (m ((c : Thread nD τ).loc main_arg2)) (row t r) j := by
  have hN : grid0.N = 68 := by decide
  have ht : t.val < 68 := hN ▸ t.isLt
  have hr := r.isLt
  have hv : (row t r).val = t.val * 256 + r.val := rfl
  unfold after
  by_cases h0 : r.val = 255
  · obtain rfl : r = 255 := Fin.ext h0
    have e : ∀ k, hrows m c t (ix2 ⟨(255 : Fin 256).val + 9, by omega⟩ k) = _ := fun k =>
      after_row c (grid0.coords t) (ms0_0 t) (hs0_0 t) (ms0_1 t) (hs0_1 t) (ms0_2 t) (hs0_2 t) (ms0_3 t) (hs0_3 t) (iblk m c 0 t) (iblk m c 1 t) (iblk m c 2 t) (iblk m c 3 t) k
    by_cases hs : t.val % 17 = 0 ∨ t.val % 17 = 16
    · rw [if_pos (by omega)]
      refine Finset.sum_eq_zero fun k _ => ?_
      rw [e, if_neg (fun h => (ok_after t).1 h hs), zero_mul]
    · rw [if_neg (by omega)]
      unfold up
      refine Finset.sum_congr rfl fun k _ => ?_
      rw [e, if_pos ((ok_after t).2 hs)]
      have hm : modRow ⟨((row t 255).val + 1) % 17408, by omega⟩ = modRow (row t 255) := by
        apply Fin.ext
        show ((row t 255).val + 1) % 17408 / 4352 * 2 + (if ((row t 255).val + 1) % 17408 % 4352 < 256 then 0 else 1)
          = (row t 255).val / 4352 * 2 + (if (row t 255).val % 4352 < 256 then 0 else 1)
        rw [if_neg (by omega), if_neg (by omega)]
        omega
      unfold hrow
      rw [hm]
      simp only [blk2 m c t ⟨((row t 255).val + 1) % 17408, by omega⟩ (by show ((row t 255).val + 1) % 17408 = _; omega), blk3 m c t 255]
  · rw [if_neg (by omega)]
    have e := up_mid m c t ⟨r.val + 1, by omega⟩ j
    refine Eq.trans (Finset.sum_congr rfl fun k _ => ?_) (e.trans (congrArg (fun q => up (m ((c : Thread nD τ).loc main_arg0)) (m ((c : Thread nD τ).loc main_arg1)) (m ((c : Thread nD τ).loc main_arg2)) q j) (Fin.ext ?_)))
    · rfl
    · show t.val * 256 + (r.val + 1) = (t.val * 256 + r.val + 1) % 17408; omega

/-- The hidden rows the body computes are the sub-layer's. -/
theorem hidden_eq (c : Dev nD) (t : Fin cfg0.N) (r : Fin 256) (l : Fin 2816) :
    tileHidden (hrows m c t) (iblk m c 4 t) (iblk m c 5 t) (iblk m c 6 t) r l
      = hiddenRow (m ((c : Thread nD τ).loc main_arg0)) (m ((c : Thread nD τ).loc main_arg1)) (m ((c : Thread nD τ).loc main_arg2)) (m ((c : Thread nD τ).loc main_arg3)) (m ((c : Thread nD τ).loc main_arg4)) (row t r) l := by
  unfold tileHidden hiddenRow convolved
  simp only [blk4 m c t, blk5 m c t, blk6 m c t, up_before, up_mid, up_after]

/-- The result array as a function of the arguments held in memory. -/
abbrev resm (c : Dev nD) : Buf (Elt Ideal) ((c : Thread nD τ).loc main_v0) := fun j =>
  fed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (j 0) (j 1)

/-- What point `t` writes back is its block of the result. -/
theorem flushed_eq (c : Dev nD) (t : Fin cfg0.N) :
    (dats m 0 c).flushed 10 t = ((cfg0.win 10).blk t).view.read (Elt Ideal) (resm m c) := by
  rw [Value.flushed10]
  funext j
  obtain ⟨R, C, rfl⟩ : ∃ (R : Fin 256) (C : Fin 1024), j = ix2 R C := ⟨_, _, eq_ix2 (n0 := 256) (n1 := 1024) j⟩
  rw [View.read_apply]
  refine Eq.trans (show _ = outsAt0 m c t (ix2 R C) from rfl) ?_
  unfold outsAt0
  rw [out_apply]
  have h0 : ((cfg0.win 10).blk t).view.emb (ix2 R C) 0 = row t R := by
    apply Fin.ext
    show win0_10.index t 0 * 256 + 1 * R.val = t.val * 256 + R.val
    rw [(idx10 t).1]; omega
  have h1 : ((cfg0.win 10).blk t).view.emb (ix2 R C) 1 = C := by
    apply Fin.ext
    show win0_10.index t 1 * 1024 + 1 * C.val = _
    rw [(idx10 t).2]; omega
  refine Eq.trans ?_ (congr (congrArg (fed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) h0) h1).symm
  unfold fed
  simp only [blk0 m c t, blk3 m c t R, blk7 m c t, blk8 m c t, blk9 m c t, hidden_eq m c t]

/-- Every element lies in some point's block. -/
theorem final_o (c : Dev nD) : (dats m 0 c).arrAt 10 cfg0.N = resm m c :=
  (dats m 0 c).arrAt_eq_of_cover 10 (resm m c) (fun t _ => flushed_eq m c t) fun i => by
    have hN : grid0.N = 68 := by decide
    have h0 : (i 0 : Nat) < 17408 := (i 0).isLt
    have h1 : (i 1 : Nat) < 1024 := (i 1).isLt
    have hx : ∀ t : Fin grid0.N, win0_10.xsize (grid0.coords t) 0 = 256 ∧ win0_10.xsize (grid0.coords t) 1 = 1024 := by
      decide +kernel
    have hf : ∀ t : Fin grid0.N, win0_10.flush t = true := by decide +kernel
    obtain ⟨t, ht⟩ : ∃ t : Fin grid0.N, t.val = (i 0 : Nat) / 256 := ⟨⟨(i 0 : Nat) / 256, by omega⟩, rfl⟩
    refine ⟨t, hf t, ?_⟩
    show i ∈ ((View.whole main_v0).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + win0_10.xsize (grid0.coords t) 0
      rw [(idx10 t).1, (hx t).1]; omega
    | ⟨1, _⟩ =>
      show win0_10.index t 1 * 1024 ≤ (i 1 : Nat) ∧ (i 1 : Nat) < win0_10.index t 1 * 1024 + win0_10.xsize (grid0.coords t) 1
      rw [(idx10 t).2, (hx t).2]; omega

/-- The run: the result array holds the sub-layer's rows, and the arguments stay as they were. -/
theorem run : θ_run defs (onTc (τ := τ) (main (F := Ideal))) ⟨m, fun _ => 0, ρ⟩ fun r => ∀ c : Dev nD,
      r.2.mem ((c : Thread nD τ).loc main_v0) = resm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final_o m c), (h c).2⟩) (Value.run_blocks m ρ)

end Cert.FfnIdeal.Row
end
end
-- ==== Proof.FfnRef.lean ====
/-
  What the feed-forward's reference computes: every element is the sub-layer's value at its row and column.
-/
module
public import proofs.«01_k».proof.Proof.Gen.FfnReferenceIdeal.Read
public import proofs.«01_k».proof.Proof.FfnSpec
public import Idealize.ShloMosaic.Lib.Pointwise
public import Idealize.ShloMosaic.Lib.ValueIdx
public import Idealize.ShloMosaic.Lib.IdealHost
public import Idealize.ShloMosaic.PureOps.Ideal
@[expose] public section
set_option maxRecDepth 16384
noncomputable section
namespace Cert.FfnReferenceIdeal.Row
open Cert.FfnReferenceIdeal Cert.FfnReferenceIdeal.Gen Cert.FfnReferenceIdeal.Read Cert.Row Idealize.ShloMosaic
  Idealize.ShloMosaic.TcCoe Idealize.SL.Sem

/-- Two segments laid one after the other and read by row: the row's own segment decides. -/
theorem rows_apply (L : (⟨S4x256x1024, .f32⟩ : BufTy).Contents (Elt Ideal)) (H : (⟨S4x4096x1024, .f32⟩ : BufTy).Contents (Elt Ideal))
    (y : Fin 4 → Fin 2 → Fin 1024 → EReal) (hL : ∀ a s c, L (ix3 a s c) = y a 0 c) (hH : ∀ a s c, H (ix3 a s c) = y a 1 c)
    (ρ : Fin 17408) (c : Fin 1024) :
    (shapeCast _ (concatenate S4x4352x1024 1 [⟨S4x256x1024, L⟩, ⟨S4x4096x1024, H⟩] concatenates_S4x256x1024_S4x4096x1024_S4x4352x1024_d1)
      shapeCasts_S4x4352x1024_S17408x1024 : (⟨S17408x1024, .f32⟩ : BufTy).Contents (Elt Ideal)) (ix2 ρ c)
      = y ⟨ρ.val / 4352, by omega⟩ (if ρ.val % 4352 < 256 then 0 else 1) c := by
  have hρ := ρ.isLt; have hc := c.isLt
  refine (shapeCast_apply _ shapeCasts_S4x4352x1024_S17408x1024 (ix2 ρ c)
    (ix3 (⟨ρ.val / 4352, by omega⟩ : Fin 4) (⟨ρ.val % 4352, by omega⟩ : Fin 4352) c) ?_).trans ?_
  · rewrite [Shape.rowMajor_val_two, Shape.rowMajor_val_three]
    show (ρ.val / 4352 * 4352 + ρ.val % 4352) * 1024 + c.val = ρ.val * 1024 + c.val
    omega
  rw [concatenate_pair_apply]
  by_cases h : ρ.val % 4352 < 256
  · refine (dif_pos (show ρ.val % 4352 < 256 from h)).trans ?_
    rw [if_pos h]
    exact (congrArg L (eq_ix3 _)).trans (hL _ _ _)
  · refine (dif_neg (show ¬ ρ.val % 4352 < 256 from h)).trans ?_
    rw [if_neg h]
    exact (congrArg H (eq_ix3 _)).trans (hH _ _ _)

/-- The modulation's row is the table's row of its batch entry and segment. -/
theorem modRow_eq (ρ : Fin 17408) (h : ρ.val / 4352 * 2 + (if ρ.val % 4352 < 256 then (0 : Fin 2) else 1).val < 8) :
    (⟨ρ.val / 4352 * 2 + (if ρ.val % 4352 < 256 then (0 : Fin 2) else 1).val, h⟩ : Fin 8) = modRow ρ := by
  refine Fin.ext ?_
  show ρ.val / 4352 * 2 + (if ρ.val % 4352 < 256 then (0 : Fin 2) else 1).val = ρ.val / 4352 * 2 + (if ρ.val % 4352 < 256 then 0 else 1)
  by_cases h : ρ.val % 4352 < 256
  · rw [if_pos h, if_pos h]; rfl
  · rw [if_neg h, if_neg h]; rfl

/-- The scale rows of the modulation table, by batch entry and segment. -/
theorem scale_table (x1 : (⟨S8x6x1024, .f32⟩ : BufTy).Contents (Elt Ideal)) (a : Fin 4) (s : Fin 2) (c : Fin 1024) :
    val_main_v20 (F := Ideal) x1 (ix3 a s c) = x1 (ix3 ⟨a.val * 2 + s.val, by omega⟩ 4 c) := by
  rw [val_main_v20_apply, val_main_v19_apply, val_main_v18_apply]
  have ha := a.isLt; have hs := s.isLt; have hc := c.isLt
  have e1 : ((a.val * 2 + s.val) * 1024 + c.val) / 2048 = a.val := by omega
  have e2 : ((a.val * 2 + s.val) * 1024 + c.val) / 1024 % 2 = s.val := by omega
  have e3 : ((a.val * 2 + s.val) * 1024 + c.val) % 1024 = c.val := by omega
  refine congrArg x1 (funext fun d => Fin.ext ?_)
  match d with
  | ⟨0, _⟩ =>
    show ((((((a.val * 2 + s.val) * 1024 + c.val) / 2048 * 2 + ((a.val * 2 + s.val) * 1024 + c.val) / 1024 % 2) * 6 + (4 + 0)) * 1024
      + ((a.val * 2 + s.val) * 1024 + c.val) % 1024) / 6144) = a.val * 2 + s.val
    rw [e1, e2, e3]; omega
  | ⟨1, _⟩ =>
    show ((((((a.val * 2 + s.val) * 1024 + c.val) / 2048 * 2 + ((a.val * 2 + s.val) * 1024 + c.val) / 1024 % 2) * 6 + (4 + 0)) * 1024
      + ((a.val * 2 + s.val) * 1024 + c.val) % 1024) / 1024 % 6) = 4
    rw [e1, e2, e3]; omega
  | ⟨2, _⟩ =>
    show ((((((a.val * 2 + s.val) * 1024 + c.val) / 2048 * 2 + ((a.val * 2 + s.val) * 1024 + c.val) / 1024 % 2) * 6 + (4 + 0)) * 1024
      + ((a.val * 2 + s.val) * 1024 + c.val) % 1024) % 1024) = c.val
    rw [e1, e2, e3]; omega

/-- The modulation's scale at row `ρ`. -/
theorem scale_apply (x1 : (⟨S8x6x1024, .f32⟩ : BufTy).Contents (Elt Ideal)) (ρ : Fin 17408) (c : Fin 1024) :
    val_main_v26 (F := Ideal) x1 (ix2 ρ c) = x1 (ix3 (modRow ρ) 4 c) := by
  unfold val_main_v26 val_main_v25
  refine (rows_apply _ _ (fun a s c => val_main_v20 (F := Ideal) x1 (ix3 a s c)) (fun a s c => ?_) (fun a s c => ?_) ρ c).trans ?_
  · rw [val_main_v22_apply, val_main_v21_apply]
    exact congrArg (val_main_v20 (F := Ideal) x1) (eq_ix3 _)
  · rw [val_main_v24_apply, val_main_v23_apply]
    exact congrArg (val_main_v20 (F := Ideal) x1) (eq_ix3 _)
  · refine (scale_table x1 _ _ _).trans ?_
    exact congrArg (fun r => x1 (ix3 r 4 c)) (modRow_eq ρ _)

/-- The shift rows of the modulation table, by batch entry and segment. -/
theorem shift_table (x1 : (⟨S8x6x1024, .f32⟩ : BufTy).Contents (Elt Ideal)) (a : Fin 4) (s : Fin 2) (c : Fin 1024) :
    val_main_v32 (F := Ideal) x1 (ix3 a s c) = x1 (ix3 ⟨a.val * 2 + s.val, by omega⟩ 3 c) := by
  rw [val_main_v32_apply, val_main_v31_apply, val_main_v30_apply]
  have ha := a.isLt; have hs := s.isLt; have hc := c.isLt
  have e1 : ((a.val * 2 + s.val) * 1024 + c.val) / 2048 = a.val := by omega
  have e2 : ((a.val * 2 + s.val) * 1024 + c.val) / 1024 % 2 = s.val := by omega
  have e3 : ((a.val * 2 + s.val) * 1024 + c.val) % 1024 = c.val := by omega
  refine congrArg x1 (funext fun d => Fin.ext ?_)
  match d with
  | ⟨0, _⟩ =>
    show ((((((a.val * 2 + s.val) * 1024 + c.val) / 2048 * 2 + ((a.val * 2 + s.val) * 1024 + c.val) / 1024 % 2) * 6 + (3 + 0)) * 1024
      + ((a.val * 2 + s.val) * 1024 + c.val) % 1024) / 6144) = a.val * 2 + s.val
    rw [e1, e2, e3]; omega
  | ⟨1, _⟩ =>
    show ((((((a.val * 2 + s.val) * 1024 + c.val) / 2048 * 2 + ((a.val * 2 + s.val) * 1024 + c.val) / 1024 % 2) * 6 + (3 + 0)) * 1024
      + ((a.val * 2 + s.val) * 1024 + c.val) % 1024) / 1024 % 6) = 3
    rw [e1, e2, e3]; omega
  | ⟨2, _⟩ =>
    show ((((((a.val * 2 + s.val) * 1024 + c.val) / 2048 * 2 + ((a.val * 2 + s.val) * 1024 + c.val) / 1024 % 2) * 6 + (3 + 0)) * 1024
      + ((a.val * 2 + s.val) * 1024 + c.val) % 1024) % 1024) = c.val
    rw [e1, e2, e3]; omega

/-- The modulation's shift at row `ρ`. -/
theorem shift_apply (x1 : (⟨S8x6x1024, .f32⟩ : BufTy).Contents (Elt Ideal)) (ρ : Fin 17408) (c : Fin 1024) :
    val_main_v38 (F := Ideal) x1 (ix2 ρ c) = x1 (ix3 (modRow ρ) 3 c) := by
  unfold val_main_v38 val_main_v37
  refine (rows_apply _ _ (fun a s c => val_main_v32 (F := Ideal) x1 (ix3 a s c)) (fun a s c => ?_) (fun a s c => ?_) ρ c).trans ?_
  · rw [val_main_v34_apply, val_main_v33_apply]
    exact congrArg (val_main_v32 (F := Ideal) x1) (eq_ix3 _)
  · rw [val_main_v36_apply, val_main_v35_apply]
    exact congrArg (val_main_v32 (F := Ideal) x1) (eq_ix3 _)
  · refine (shift_table x1 _ _ _).trans ?_
    exact congrArg (fun r => x1 (ix3 r 3 c)) (modRow_eq ρ _)

/-- The gate rows of the modulation table, by batch entry and segment. -/
theorem gate_table (x1 : (⟨S8x6x1024, .f32⟩ : BufTy).Contents (Elt Ideal)) (a : Fin 4) (s : Fin 2) (c : Fin 1024) :
    val_main_v107 (F := Ideal) x1 (ix3 a s c) = x1 (ix3 ⟨a.val * 2 + s.val, by omega⟩ 5 c) := by
  rw [val_main_v107_apply, val_main_v106_apply, val_main_v105_apply]
  have ha := a.isLt; have hs := s.isLt; have hc := c.isLt
  have e1 : ((a.val * 2 + s.val) * 1024 + c.val) / 2048 = a.val := by omega
  have e2 : ((a.val * 2 + s.val) * 1024 + c.val) / 1024 % 2 = s.val := by omega
  have e3 : ((a.val * 2 + s.val) * 1024 + c.val) % 1024 = c.val := by omega
  refine congrArg x1 (funext fun d => Fin.ext ?_)
  match d with
  | ⟨0, _⟩ =>
    show ((((((a.val * 2 + s.val) * 1024 + c.val) / 2048 * 2 + ((a.val * 2 + s.val) * 1024 + c.val) / 1024 % 2) * 6 + (5 + 0)) * 1024
      + ((a.val * 2 + s.val) * 1024 + c.val) % 1024) / 6144) = a.val * 2 + s.val
    rw [e1, e2, e3]; omega
  | ⟨1, _⟩ =>
    show ((((((a.val * 2 + s.val) * 1024 + c.val) / 2048 * 2 + ((a.val * 2 + s.val) * 1024 + c.val) / 1024 % 2) * 6 + (5 + 0)) * 1024
      + ((a.val * 2 + s.val) * 1024 + c.val) % 1024) / 1024 % 6) = 5
    rw [e1, e2, e3]; omega
  | ⟨2, _⟩ =>
    show ((((((a.val * 2 + s.val) * 1024 + c.val) / 2048 * 2 + ((a.val * 2 + s.val) * 1024 + c.val) / 1024 % 2) * 6 + (5 + 0)) * 1024
      + ((a.val * 2 + s.val) * 1024 + c.val) % 1024) % 1024) = c.val
    rw [e1, e2, e3]; omega

/-- The modulation's gate at row `ρ`. -/
theorem gate_apply (x1 : (⟨S8x6x1024, .f32⟩ : BufTy).Contents (Elt Ideal)) (ρ : Fin 17408) (c : Fin 1024) :
    val_main_v113 (F := Ideal) x1 (ix2 ρ c) = x1 (ix3 (modRow ρ) 5 c) := by
  unfold val_main_v113 val_main_v112
  refine (rows_apply _ _ (fun a s c => val_main_v107 (F := Ideal) x1 (ix3 a s c)) (fun a s c => ?_) (fun a s c => ?_) ρ c).trans ?_
  · rw [val_main_v109_apply, val_main_v108_apply]
    exact congrArg (val_main_v107 (F := Ideal) x1) (eq_ix3 _)
  · rw [val_main_v111_apply, val_main_v110_apply]
    exact congrArg (val_main_v107 (F := Ideal) x1) (eq_ix3 _)
  · refine (gate_table x1 _ _ _).trans ?_
    exact congrArg (fun r => x1 (ix3 r 5 c)) (modRow_eq ρ _)

section
variable (x0 : (⟨S17408x1024, .f32⟩ : BufTy).Contents (Elt Ideal)) (x1 : (⟨S8x6x1024, .f32⟩ : BufTy).Contents (Elt Ideal))
  (x2 : (⟨S1024x5632, .bf16⟩ : BufTy).Contents (Elt Ideal)) (x3 : (⟨S3x5632, .f32⟩ : BufTy).Contents (Elt Ideal))
  (x4 : (⟨S1x5632, .f32⟩ : BufTy).Contents (Elt Ideal)) (x5 : (⟨S2816x1024, .bf16⟩ : BufTy).Contents (Elt Ideal))
  (x6 x7 : (⟨S1x1024, .f32⟩ : BufTy).Contents (Elt Ideal))

/-- The mean of an input row. -/
theorem first_mean (ρ : Fin 17408) : val_main_v3 (F := Ideal) x0 (ix2 ρ 0)
    = mean (fun c => x0 (ix2 ρ c)) := by
  rw [val_main_v3_apply, val_main_v1_apply, val_main_v0_apply, val_main_v2_apply, val_main_cst_apply, val_main_cst_0_apply]
  have f : ∀ k, idx_main_v0 (idx_main_v1 (ix2 ρ 0)) k = ix2 ρ k := fun k => eq_ix2 _
  simp only [f]
  refine congrArg (fun s => Ideal.div s _) ?_
  show Ideal.ofBits .f32 0x00000000#32 + _ = _
  rw [Ideal.ofBits_zero_f32, zero_add]

theorem first_centred (ρ : Fin 17408) (n : Fin 1024) : val_main_v5 (F := Ideal) x0 (ix2 ρ n)
    = centred (fun c => x0 (ix2 ρ c)) n := by
  have e : idx_main_v4 (ix2 ρ n) = ix2 ρ 0 := eq_ix2 _
  rw [val_main_v5_apply, val_main_v4_apply, e, first_mean]
  rfl

/-- The variance, as the mean of the squares. -/
theorem first_var (ρ : Fin 17408) : val_main_v10 (F := Ideal) x0 (ix2 ρ 0)
    = mean (fun c => val_main_v5 (F := Ideal) x0 (ix2 ρ c)
        * val_main_v5 (F := Ideal) x0 (ix2 ρ c)) := by
  rw [val_main_v10_apply, val_main_v8_apply, val_main_v7_apply, val_main_v9_apply, val_main_cst_1_apply, val_main_cst_2_apply]
  have f : ∀ k, idx_main_v7 (idx_main_v8 (ix2 ρ 0)) k = ix2 ρ k := fun k => eq_ix2 _
  simp only [f, val_main_v6_apply]
  refine congrArg (fun s => Ideal.div s _) ?_
  show Ideal.ofBits .f32 0x00000000#32 + _ = _
  rw [Ideal.ofBits_zero_f32, zero_add]
  rfl

/-- The norm of an input row. -/
theorem first_norm (ρ : Fin 17408) (n : Fin 1024) : val_main_v17 (F := Ideal) x0 (ix2 ρ n)
    = lnorm (fun c => x0 (ix2 ρ c)) n := by
  have e0 : idx_main_v11 (ix2 ρ n) = ix2 ρ 0 := eq_ix2 _
  have e1 : idx_main_v16 (ix2 ρ n) = ix2 ρ 0 := eq_ix2 _
  have hm : val_main_v12 (F := Ideal) x0 (ix2 ρ n) = centred (fun c => x0 (ix2 ρ c)) n := by
    rw [val_main_v12_apply, val_main_v11_apply, e0, first_mean]
    rfl
  rw [val_main_v17_apply, hm, val_main_v16_apply, e1, val_main_v15_apply, val_main_v14_apply, first_var,
    val_main_v13_apply, val_main_cst_3_apply]
  simp only [first_centred]
  rfl

/-- The modulated norm. -/
theorem hrow_apply (ρ : Fin 17408) (k : Fin 1024) : val_main_v39 (F := Ideal) x0 x1 (ix2 ρ k) = hrow x0 x1 ρ k := by
  rw [val_main_v39_apply, val_main_v29_apply, val_main_v28_apply, val_main_v27_apply, val_main_cst_4_apply, first_norm, scale_apply,
    shift_apply]
  rfl

/-- The up projection. -/
theorem up_apply (ρ : Fin 17408) (j : Fin 5632) : val_main_v41 (F := Ideal) x0 x1 x2 (ix2 ρ j) = up x0 x1 x2 ρ j := by
  rw [val_main_v41_apply]
  have f : ∀ k, lidx_main_v41 (ix2 ρ j) k = ix2 ρ k := fun k => eq_ix2 _
  have g : ∀ k, ridx_main_v41 (ix2 ρ j) k = ix2 k j := fun k => eq_ix2 _
  simp only [f, g, val_main_v40_apply, hrow_apply]
  rfl

/-- The up projection by batch entry and position. -/
theorem rowsUp_apply (a : Fin 4) (s : Fin 4352) (j : Fin 5632) :
    val_main_v42 (F := Ideal) x0 x1 x2 (ix3 a s j) = up x0 x1 x2 ⟨a.val * 4352 + s.val, by omega⟩ j := by
  rw [val_main_v42_apply]
  have ha := a.isLt; have hs := s.isLt; have hj := j.isLt
  have e : idx_main_v42 (ix3 a s j) = ix2 (⟨a.val * 4352 + s.val, by omega⟩ : Fin 17408) j := by
    funext d
    refine Fin.ext ?_
    match d with
    | ⟨0, _⟩ => show ((a.val * 4352 + s.val) * 5632 + j.val) / 5632 = a.val * 4352 + s.val; omega
    | ⟨1, _⟩ => show ((a.val * 4352 + s.val) * 5632 + j.val) % 5632 = j.val; omega
  rw [e, up_apply]

/-- A row of the context segment. -/
theorem ctx_row (a : Fin 4) (s : Fin 256) (j : Fin 5632) :
    val_main_v43 (F := Ideal) x0 x1 x2 (ix3 a s j) = up x0 x1 x2 ⟨a.val * 4352 + (s.val), by omega⟩ j := by
  rw [val_main_v43_apply]
  have e : idx_main_v43 (ix3 a s j) = ix3 a (⟨s.val, by omega⟩ : Fin 4352) j := eq_ix3 _
  rw [e, rowsUp_apply]

/-- The row before it in its segment. -/
theorem ctx_before (a : Fin 4) (s : Fin 256) (j : Fin 5632) :
    val_main_v46 (F := Ideal) x0 x1 x2 (ix3 a s j) = before x0 x1 x2 ⟨a.val * 4352 + (s.val), by omega⟩ j := by
  have ha := a.isLt; have hs := s.isLt
  unfold val_main_v46 before
  rw [concatenate_pair_apply]
  by_cases h : s.val < 1
  · refine (dif_pos (show s.val < 1 from h)).trans ?_
    rw [if_pos (show (a.val * 4352 + (s.val)) % 4352 = 0 ∨ (a.val * 4352 + (s.val)) % 4352 = 256 by omega)]
    rw [val_main_v44_apply, val_main_cst_5_apply]
    exact Ideal.ofBits_zero_f32
  · refine (dif_neg (show ¬ s.val < 1 from h)).trans ?_
    rw [if_neg (show ¬ ((a.val * 4352 + (s.val)) % 4352 = 0 ∨ (a.val * 4352 + (s.val)) % 4352 = 256) by omega)]
    refine (congrArg (val_main_v45 (F := Ideal) x0 x1 x2) (?_ : _ = ix3 a (⟨s.val - 1, by omega⟩ : Fin 255) j)).trans ?_
    · exact eq_ix3 _
    · rw [val_main_v45_apply]
      have e : idx_main_v45 (ix3 a (⟨s.val - 1, by omega⟩ : Fin 255) j) = ix3 a (⟨s.val - 1, by omega⟩ : Fin 256) j := eq_ix3 _
      rw [e, ctx_row]
      refine congrArg (fun r => up x0 x1 x2 r j) (Fin.ext ?_)
      show a.val * 4352 + ((s.val - 1)) = a.val * 4352 + (s.val) - 1
      omega

/-- The row after it in its segment. -/
theorem ctx_after (a : Fin 4) (s : Fin 256) (j : Fin 5632) :
    val_main_v48 (F := Ideal) x0 x1 x2 (ix3 a s j) = after x0 x1 x2 ⟨a.val * 4352 + (s.val), by omega⟩ j := by
  have ha := a.isLt; have hs := s.isLt
  unfold val_main_v48 after
  rw [concatenate_pair_apply]
  by_cases h : s.val < 255
  · refine (dif_pos (show s.val < 255 from h)).trans ?_
    rw [if_neg (show ¬ ((a.val * 4352 + (s.val)) % 4352 = 255 ∨ (a.val * 4352 + (s.val)) % 4352 = 4351) by omega)]
    refine (congrArg (val_main_v47 (F := Ideal) x0 x1 x2) (?_ : _ = ix3 a (⟨s.val, h⟩ : Fin 255) j)).trans ?_
    · exact eq_ix3 _
    · rw [val_main_v47_apply]
      have e : idx_main_v47 (ix3 a (⟨s.val, h⟩ : Fin 255) j) = ix3 a (⟨1 + s.val, by omega⟩ : Fin 256) j := eq_ix3 _
      rw [e, ctx_row]
      refine congrArg (fun r => up x0 x1 x2 r j) (Fin.ext ?_)
      show a.val * 4352 + ((1 + s.val)) = (a.val * 4352 + (s.val) + 1) % 17408
      omega
  · refine (dif_neg (show ¬ s.val < 255 from h)).trans ?_
    rw [if_pos (show (a.val * 4352 + (s.val)) % 4352 = 255 ∨ (a.val * 4352 + (s.val)) % 4352 = 4351 by omega)]
    rw [val_main_v44_apply, val_main_cst_5_apply]
    exact Ideal.ofBits_zero_f32

/-- The convolution's tap 0 at the context rows. -/
theorem ctx_tap0 (a : Fin 4) (s : Fin 256) (j : Fin 5632) : val_main_v52 (F := Ideal) x3 (ix3 a s j) = x3 (ix2 0 j) := by
  rw [val_main_v52_apply, val_main_v51_apply, val_main_v50_apply, val_main_v49_apply]
  refine congrArg x3 (funext fun d => Fin.ext ?_)
  match d with
  | ⟨0, _⟩ => rfl
  | ⟨1, _⟩ => exact Nat.mod_eq_of_lt j.isLt

/-- The convolution's tap 1 at the context rows. -/
theorem ctx_tap1 (a : Fin 4) (s : Fin 256) (j : Fin 5632) : val_main_v57 (F := Ideal) x3 (ix3 a s j) = x3 (ix2 1 j) := by
  rw [val_main_v57_apply, val_main_v56_apply, val_main_v55_apply, val_main_v54_apply]
  refine congrArg x3 (funext fun d => Fin.ext ?_)
  match d with
  | ⟨0, _⟩ => rfl
  | ⟨1, _⟩ => exact Nat.mod_eq_of_lt j.isLt

/-- The convolution's tap 2 at the context rows. -/
theorem ctx_tap2 (a : Fin 4) (s : Fin 256) (j : Fin 5632) : val_main_v63 (F := Ideal) x3 (ix3 a s j) = x3 (ix2 2 j) := by
  rw [val_main_v63_apply, val_main_v62_apply, val_main_v61_apply, val_main_v60_apply]
  refine congrArg x3 (funext fun d => Fin.ext ?_)
  match d with
  | ⟨0, _⟩ => rfl
  | ⟨1, _⟩ => exact Nat.mod_eq_of_lt j.isLt

/-- The convolution over the context rows. -/
theorem ctx_conv (a : Fin 4) (s : Fin 256) (j : Fin 5632) :
    val_main_v68 (F := Ideal) x0 x1 x2 x3 x4 (ix3 a s j) = convolved x0 x1 x2 x3 x4 ⟨a.val * 4352 + (s.val), by omega⟩ j := by
  have e : idx_main_v66 (idx_main_v67 (ix3 a s j)) = ix2 0 j := eq_ix2 _
  rw [val_main_v68_apply, val_main_v65_apply, val_main_v59_apply, val_main_v53_apply, val_main_v58_apply, val_main_v64_apply,
    ctx_before, ctx_after, ctx_row, ctx_tap0, ctx_tap1, ctx_tap2, val_main_v67_apply, val_main_v66_apply, e]
  rfl

/-- A row of the latent segment. -/
theorem lat_row (a : Fin 4) (s : Fin 4096) (j : Fin 5632) :
    val_main_v69 (F := Ideal) x0 x1 x2 (ix3 a s j) = up x0 x1 x2 ⟨a.val * 4352 + (256 + s.val), by omega⟩ j := by
  rw [val_main_v69_apply]
  have e : idx_main_v69 (ix3 a s j) = ix3 a (⟨256 + s.val, by omega⟩ : Fin 4352) j := eq_ix3 _
  rw [e, rowsUp_apply]

/-- The row before it in its segment. -/
theorem lat_before (a : Fin 4) (s : Fin 4096) (j : Fin 5632) :
    val_main_v72 (F := Ideal) x0 x1 x2 (ix3 a s j) = before x0 x1 x2 ⟨a.val * 4352 + (256 + s.val), by omega⟩ j := by
  have ha := a.isLt; have hs := s.isLt
  unfold val_main_v72 before
  rw [concatenate_pair_apply]
  by_cases h : s.val < 1
  · refine (dif_pos (show s.val < 1 from h)).trans ?_
    rw [if_pos (show (a.val * 4352 + (256 + s.val)) % 4352 = 0 ∨ (a.val * 4352 + (256 + s.val)) % 4352 = 256 by omega)]
    rw [val_main_v70_apply, val_main_cst_6_apply]
    exact Ideal.ofBits_zero_f32
  · refine (dif_neg (show ¬ s.val < 1 from h)).trans ?_
    rw [if_neg (show ¬ ((a.val * 4352 + (256 + s.val)) % 4352 = 0 ∨ (a.val * 4352 + (256 + s.val)) % 4352 = 256) by omega)]
    refine (congrArg (val_main_v71 (F := Ideal) x0 x1 x2) (?_ : _ = ix3 a (⟨s.val - 1, by omega⟩ : Fin 4095) j)).trans ?_
    · exact eq_ix3 _
    · rw [val_main_v71_apply]
      have e : idx_main_v71 (ix3 a (⟨s.val - 1, by omega⟩ : Fin 4095) j) = ix3 a (⟨s.val - 1, by omega⟩ : Fin 4096) j := eq_ix3 _
      rw [e, lat_row]
      refine congrArg (fun r => up x0 x1 x2 r j) (Fin.ext ?_)
      show a.val * 4352 + (256 + (s.val - 1)) = a.val * 4352 + (256 + s.val) - 1
      omega

/-- The row after it in its segment. -/
theorem lat_after (a : Fin 4) (s : Fin 4096) (j : Fin 5632) :
    val_main_v74 (F := Ideal) x0 x1 x2 (ix3 a s j) = after x0 x1 x2 ⟨a.val * 4352 + (256 + s.val), by omega⟩ j := by
  have ha := a.isLt; have hs := s.isLt
  unfold val_main_v74 after
  rw [concatenate_pair_apply]
  by_cases h : s.val < 4095
  · refine (dif_pos (show s.val < 4095 from h)).trans ?_
    rw [if_neg (show ¬ ((a.val * 4352 + (256 + s.val)) % 4352 = 255 ∨ (a.val * 4352 + (256 + s.val)) % 4352 = 4351) by omega)]
    refine (congrArg (val_main_v73 (F := Ideal) x0 x1 x2) (?_ : _ = ix3 a (⟨s.val, h⟩ : Fin 4095) j)).trans ?_
    · exact eq_ix3 _
    · rw [val_main_v73_apply]
      have e : idx_main_v73 (ix3 a (⟨s.val, h⟩ : Fin 4095) j) = ix3 a (⟨1 + s.val, by omega⟩ : Fin 4096) j := eq_ix3 _
      rw [e, lat_row]
      refine congrArg (fun r => up x0 x1 x2 r j) (Fin.ext ?_)
      show a.val * 4352 + (256 + (1 + s.val)) = (a.val * 4352 + (256 + s.val) + 1) % 17408
      omega
  · refine (dif_neg (show ¬ s.val < 4095 from h)).trans ?_
    rw [if_pos (show (a.val * 4352 + (256 + s.val)) % 4352 = 255 ∨ (a.val * 4352 + (256 + s.val)) % 4352 = 4351 by omega)]
    rw [val_main_v70_apply, val_main_cst_6_apply]
    exact Ideal.ofBits_zero_f32

/-- The convolution's tap 0 at the latent rows. -/
theorem lat_tap0 (a : Fin 4) (s : Fin 4096) (j : Fin 5632) : val_main_v78 (F := Ideal) x3 (ix3 a s j) = x3 (ix2 0 j) := by
  rw [val_main_v78_apply, val_main_v77_apply, val_main_v76_apply, val_main_v75_apply]
  refine congrArg x3 (funext fun d => Fin.ext ?_)
  match d with
  | ⟨0, _⟩ => rfl
  | ⟨1, _⟩ => exact Nat.mod_eq_of_lt j.isLt

/-- The convolution's tap 1 at the latent rows. -/
theorem lat_tap1 (a : Fin 4) (s : Fin 4096) (j : Fin 5632) : val_main_v83 (F := Ideal) x3 (ix3 a s j) = x3 (ix2 1 j) := by
  rw [val_main_v83_apply, val_main_v82_apply, val_main_v81_apply, val_main_v80_apply]
  refine congrArg x3 (funext fun d => Fin.ext ?_)
  match d with
  | ⟨0, _⟩ => rfl
  | ⟨1, _⟩ => exact Nat.mod_eq_of_lt j.isLt

/-- The convolution's tap 2 at the latent rows. -/
theorem lat_tap2 (a : Fin 4) (s : Fin 4096) (j : Fin 5632) : val_main_v89 (F := Ideal) x3 (ix3 a s j) = x3 (ix2 2 j) := by
  rw [val_main_v89_apply, val_main_v88_apply, val_main_v87_apply, val_main_v86_apply]
  refine congrArg x3 (funext fun d => Fin.ext ?_)
  match d with
  | ⟨0, _⟩ => rfl
  | ⟨1, _⟩ => exact Nat.mod_eq_of_lt j.isLt

/-- The convolution over the latent rows. -/
theorem lat_conv (a : Fin 4) (s : Fin 4096) (j : Fin 5632) :
    val_main_v94 (F := Ideal) x0 x1 x2 x3 x4 (ix3 a s j) = convolved x0 x1 x2 x3 x4 ⟨a.val * 4352 + (256 + s.val), by omega⟩ j := by
  have e : idx_main_v92 (idx_main_v93 (ix3 a s j)) = ix2 0 j := eq_ix2 _
  rw [val_main_v94_apply, val_main_v91_apply, val_main_v85_apply, val_main_v79_apply, val_main_v84_apply, val_main_v90_apply,
    lat_before, lat_after, lat_row, lat_tap0, lat_tap1, lat_tap2, val_main_v93_apply, val_main_v92_apply, e]
  rfl

/-- The convolution at row `ρ`. -/
theorem conv_apply (ρ : Fin 17408) (j : Fin 5632) : val_main_v96 (F := Ideal) x0 x1 x2 x3 x4 (ix2 ρ j) = convolved x0 x1 x2 x3 x4 ρ j := by
  have hρ := ρ.isLt; have hj := j.isLt
  have hi : val_main_v96 (F := Ideal) x0 x1 x2 x3 x4 (ix2 ρ j)
      = val_main_v95 (F := Ideal) x0 x1 x2 x3 x4 (ix3 ⟨ρ.val / 4352, by omega⟩ ⟨ρ.val % 4352, by omega⟩ j) := by
    unfold val_main_v96
    refine shapeCast_apply _ shapeCasts_S4x4352x5632_S17408x5632 (ix2 ρ j) _ ?_
    rewrite [Shape.rowMajor_val_two, Shape.rowMajor_val_three]
    show (ρ.val / 4352 * 4352 + ρ.val % 4352) * 5632 + j.val = ρ.val * 5632 + j.val
    omega
  rw [hi]
  unfold val_main_v95
  rw [concatenate_pair_apply]
  by_cases h : ρ.val % 4352 < 256
  · refine (dif_pos (show ρ.val % 4352 < 256 from h)).trans ?_
    refine (congrArg (val_main_v68 (F := Ideal) x0 x1 x2 x3 x4) (?_ : _ = ix3 ⟨ρ.val / 4352, by omega⟩ (⟨ρ.val % 4352, h⟩ : Fin 256) j)).trans ?_
    · exact eq_ix3 _
    · rw [ctx_conv]
      refine congrArg (fun r => convolved x0 x1 x2 x3 x4 r j) (Fin.ext ?_)
      show ρ.val / 4352 * 4352 + ρ.val % 4352 = ρ.val
      omega
  · refine (dif_neg (show ¬ ρ.val % 4352 < 256 from h)).trans ?_
    refine (congrArg (val_main_v94 (F := Ideal) x0 x1 x2 x3 x4) (?_ : _ = ix3 ⟨ρ.val / 4352, by omega⟩ (⟨ρ.val % 4352 - 256, by omega⟩ : Fin 4096) j)).trans ?_
    · exact eq_ix3 _
    · rw [lat_conv]
      refine congrArg (fun r => convolved x0 x1 x2 x3 x4 r j) (Fin.ext ?_)
      show ρ.val / 4352 * 4352 + (256 + (ρ.val % 4352 - 256)) = ρ.val
      omega

/-- The gated hidden row. -/
theorem hidden_apply (ρ : Fin 17408) (l : Fin 2816) : val_main_v100 (F := Ideal) x0 x1 x2 x3 x4 (ix2 ρ l) = hiddenRow x0 x1 x2 x3 x4 ρ l := by
  have e0 : idx_main_v97 (ix2 ρ l) = ix2 ρ (⟨l.val, by omega⟩ : Fin 5632) := eq_ix2 _
  have e1 : idx_main_v98 (ix2 ρ l) = ix2 ρ (⟨2816 + l.val, by omega⟩ : Fin 5632) := eq_ix2 _
  rw [val_main_v100_apply, val_main_v99_apply, val_main_call0_v5_apply, val_main_call0_v4_apply, val_main_call0_cst_0_apply,
    val_main_call0_v3_apply, val_main_call0_v2_apply, val_main_call0_cst_apply, val_main_call0_v1_apply, val_main_call0_v0_apply,
    val_main_v97_apply, val_main_v98_apply, e0, e1, conv_apply, conv_apply]
  unfold hiddenRow glu
  show _ * Ideal.div (Ideal.ofBits .f32 0x3F800000#32) (Ideal.ofBits .f32 0x3F800000#32 + _) * _ = _
  rw [Ideal.ofBits_one_f32]
  rfl

/-- The residual sum. -/
theorem resid_apply (ρ : Fin 17408) (c : Fin 1024) : val_main_v115 (F := Ideal) x0 x1 x2 x3 x4 x5 (ix2 ρ c)
    = resid (x0 (ix2 ρ c)) (x1 (ix3 (modRow ρ) 5 c)) (∑ l : Fin 2816, hiddenRow x0 x1 x2 x3 x4 ρ l * x5 (ix2 l c)) := by
  rw [val_main_v115_apply, val_main_v114_apply, val_main_v104_apply, val_main_v103_apply, val_main_cst_7_apply, gate_apply,
    val_main_v102_apply]
  have f : ∀ k, lidx_main_v102 (ix2 ρ c) k = ix2 ρ k := fun k => eq_ix2 _
  have g : ∀ k, ridx_main_v102 (ix2 ρ c) k = ix2 k c := fun k => eq_ix2 _
  simp only [f, g, val_main_v101_apply, hidden_apply]
  rfl

/-- The mean of a residual row. -/
theorem last_mean (ρ : Fin 17408) : val_main_v119 (F := Ideal) x0 x1 x2 x3 x4 x5 (ix2 ρ 0)
    = mean (fun c => val_main_v115 (F := Ideal) x0 x1 x2 x3 x4 x5 (ix2 ρ c)) := by
  rw [val_main_v119_apply, val_main_v117_apply, val_main_v116_apply, val_main_v118_apply, val_main_cst_8_apply, val_main_cst_9_apply]
  have f : ∀ k, idx_main_v116 (idx_main_v117 (ix2 ρ 0)) k = ix2 ρ k := fun k => eq_ix2 _
  simp only [f]
  refine congrArg (fun s => Ideal.div s _) ?_
  show Ideal.ofBits .f32 0x00000000#32 + _ = _
  rw [Ideal.ofBits_zero_f32, zero_add]

theorem last_centred (ρ : Fin 17408) (n : Fin 1024) : val_main_v121 (F := Ideal) x0 x1 x2 x3 x4 x5 (ix2 ρ n)
    = centred (fun c => val_main_v115 (F := Ideal) x0 x1 x2 x3 x4 x5 (ix2 ρ c)) n := by
  have e : idx_main_v120 (ix2 ρ n) = ix2 ρ 0 := eq_ix2 _
  rw [val_main_v121_apply, val_main_v120_apply, e, last_mean]
  rfl

/-- The variance, as the mean of the squares. -/
theorem last_var (ρ : Fin 17408) : val_main_v126 (F := Ideal) x0 x1 x2 x3 x4 x5 (ix2 ρ 0)
    = mean (fun c => val_main_v121 (F := Ideal) x0 x1 x2 x3 x4 x5 (ix2 ρ c)
        * val_main_v121 (F := Ideal) x0 x1 x2 x3 x4 x5 (ix2 ρ c)) := by
  rw [val_main_v126_apply, val_main_v124_apply, val_main_v123_apply, val_main_v125_apply, val_main_cst_10_apply, val_main_cst_11_apply]
  have f : ∀ k, idx_main_v123 (idx_main_v124 (ix2 ρ 0)) k = ix2 ρ k := fun k => eq_ix2 _
  simp only [f, val_main_v122_apply]
  refine congrArg (fun s => Ideal.div s _) ?_
  show Ideal.ofBits .f32 0x00000000#32 + _ = _
  rw [Ideal.ofBits_zero_f32, zero_add]
  rfl

/-- The norm of a residual row. -/
theorem last_norm (ρ : Fin 17408) (n : Fin 1024) : val_main_v133 (F := Ideal) x0 x1 x2 x3 x4 x5 (ix2 ρ n)
    = lnorm (fun c => val_main_v115 (F := Ideal) x0 x1 x2 x3 x4 x5 (ix2 ρ c)) n := by
  have e0 : idx_main_v127 (ix2 ρ n) = ix2 ρ 0 := eq_ix2 _
  have e1 : idx_main_v132 (ix2 ρ n) = ix2 ρ 0 := eq_ix2 _
  have hm : val_main_v128 (F := Ideal) x0 x1 x2 x3 x4 x5 (ix2 ρ n) = centred (fun c => val_main_v115 (F := Ideal) x0 x1 x2 x3 x4 x5 (ix2 ρ c)) n := by
    rw [val_main_v128_apply, val_main_v127_apply, e0, last_mean]
    rfl
  rw [val_main_v133_apply, hm, val_main_v132_apply, e1, val_main_v131_apply, val_main_v130_apply, last_var,
    val_main_v129_apply, val_main_cst_12_apply]
  simp only [last_centred]
  rfl

/-- The reference's result. -/
theorem out_apply (ρ : Fin 17408) (n : Fin 1024) : val_main_v137 (F := Ideal) x0 x1 x2 x3 x4 x5 x6 x7 (ix2 ρ n)
    = fed x0 x1 x2 x3 x4 x5 x6 x7 ρ n := by
  have e0 : idx_main_v134 (ix2 ρ n) = ix2 0 n := eq_ix2 _
  have e1 : idx_main_v136 (ix2 ρ n) = ix2 0 n := eq_ix2 _
  rw [val_main_v137_apply, val_main_v135_apply, last_norm, val_main_v134_apply, val_main_v136_apply, e0, e1]
  simp only [resid_apply]
  rfl

end
end Cert.FfnReferenceIdeal.Row
end
end
-- ==== Proof.ProjSpec.lean ====
/-
  The input projection over the extended reals: the projected row, the norm and rotation of queries and keys, and the branches'
  other arguments.
-/
module
public import proofs.«01_k».proof.Proof.FfnSpec
public import Mathlib.Tactic.NormNum
@[expose] public section
noncomputable section
namespace Cert.Row
open Idealize.ShloMosaic

/-- A row times the weight matrix, plus the bias. -/
def segOf (h : Fin 1024 → EReal) (w : FVec Ideal ⟨2, ![1024, 7040]⟩ .bf16) (b : FVec Ideal ⟨2, ![1, 7040]⟩ .f32) (j : Fin 7040) : EReal :=
  (∑ k : Fin 1024, h k * w (ix2 k j)) + b (ix2 0 j)

/-- The sum of the squares of the head that holds channel `l`; two heads of 64 channels lie side by side. -/
def headSquares (v : Fin 128 → EReal) (l : Fin 128) : EReal :=
  ∑ e : Fin 64, v ⟨l.val / 64 * 64 + e.val, by omega⟩ * v ⟨l.val / 64 * 64 + e.val, by omega⟩

/-- The norm over each head, with its gain. -/
def headNorm (v g : Fin 128 → EReal) (l : Fin 128) : EReal :=
  v l * Ideal.rsqrt (Ideal.div (headSquares v l) (Ideal.ofBits .f32 0x42800000#32) + Ideal.ofBits .f32 0x358637BD#32) * g l

/-- The channel that `l` is rotated with. -/
def partner (l : Fin 128) : Fin 128 := if h : l.val % 32 < 16 then ⟨l.val + 16, by omega⟩ else ⟨l.val - 16, by omega⟩

/-- The rotation of normed heads by the tables' row. -/
def roped (v g c s : Fin 128 → EReal) (l : Fin 128) : EReal := headNorm v g l * c l + headNorm v g (partner l) * s l

/-- The queries: eight heads, rotated and scaled. -/
def qOf (p : Fin 7040 → EReal) (g c s : Fin 128 → EReal) (n : Fin 512) : EReal :=
  roped (fun e => p ⟨1536 + n.val / 128 * 128 + e.val, by omega⟩) g c s ⟨n.val % 128, by omega⟩ * Ideal.ofBits .f32 0x3E38AA3B#32

/-- The keys: two heads, each laid out twice. -/
def kOf (p : Fin 7040 → EReal) (g c s : Fin 128 → EReal) (n : Fin 256) : EReal :=
  roped (fun e => p ⟨2048 + e.val, by omega⟩) g c s ⟨n.val / 128 * 64 + n.val % 64, by omega⟩

/-- The retention branch's arguments: queries, scaled keys, values, gate. -/
def retOf (p : Fin 7040 → EReal) (n : Fin 1536) : EReal :=
  if n.val < 256 then p ⟨n.val, by omega⟩ else if n.val < 512 then p ⟨n.val, by omega⟩ * Ideal.ofBits .f32 0x3E000000#32
  else if n.val < 1024 then p ⟨n.val, by omega⟩ else p ⟨n.val, by omega⟩ * Ideal.logistic (p ⟨n.val, by omega⟩)

/-- The matrix memory's arguments: queries, scaled keys, values, output gate. -/
def mlsOf (p : Fin 7040 → EReal) (n : Fin 1536) : EReal :=
  if n.val < 256 then p ⟨2304 + n.val, by omega⟩ else if n.val < 512 then p ⟨2304 + n.val, by omega⟩ * Ideal.ofBits .f32 0x3E000000#32
  else if n.val < 1024 then p ⟨2304 + n.val, by omega⟩ else Ideal.logistic (p ⟨2304 + n.val, by omega⟩)

section
variable (x : FVec Ideal ⟨2, ![17408, 1024]⟩ .f32) (md : FVec Ideal ⟨3, ![8, 6, 1024]⟩ .f32)
  (w : FVec Ideal ⟨2, ![1024, 7040]⟩ .bf16) (b : FVec Ideal ⟨2, ![1, 7040]⟩ .f32)

/-- Row `ρ` of the projection of the modulated norm. -/
def projected (ρ : Fin 17408) : Fin 7040 → EReal :=
  segOf (modulated (fun k => x (ix2 ρ k)) (fun k => md (ix3 (modRow ρ) 0 k)) (fun k => md (ix3 (modRow ρ) 1 k))) w b
end

/-- Row `ρ`'s row of a rotary table: its position in its batch entry. -/
def tableRow (t : FVec Ideal ⟨2, ![4352, 128]⟩ .f32) (ρ : Fin 17408) (l : Fin 128) : EReal := t (ix2 ⟨ρ.val % 4352, by omega⟩ l)

/-! Real rows stay real. -/

/-- A value is a real number. -/
def IsReal (x : EReal) : Prop := ∃ r : ℝ, x = r

theorem IsReal.add {x y : EReal} : IsReal x → IsReal y → IsReal (x + y)
  | ⟨a, ha⟩, ⟨b, hb⟩ => ⟨a + b, by rw [ha, hb, EReal.coe_add]⟩

theorem IsReal.sub {x y : EReal} : IsReal x → IsReal y → IsReal (x - y)
  | ⟨a, ha⟩, ⟨b, hb⟩ => ⟨a - b, by rw [ha, hb, EReal.coe_sub]⟩

theorem IsReal.mul {x y : EReal} : IsReal x → IsReal y → IsReal (x * y)
  | ⟨a, ha⟩, ⟨b, hb⟩ => ⟨a * b, by rw [ha, hb, EReal.coe_mul]⟩

theorem IsReal.sum {n : Nat} {f : Fin n → EReal} (h : ∀ k, IsReal (f k)) : IsReal (∑ k, f k) := by
  induction n with
  | zero => exact ⟨0, by rw [Fin.sum_univ_zero, EReal.coe_zero]⟩
  | succ n ih => rw [Fin.sum_univ_castSucc]; exact (ih fun k => h _).add (h _)

theorem bits_one : Ideal.ofBits .f32 0x3F800000#32 = ((1 : ℝ) : EReal) := by
  simp [Ideal.ofBits, Ideal.ieee, -EReal.coe_mul]; norm_num

theorem bits_none : Ideal.ofBits .f32 0x00000000#32 = 0 := by simp [Ideal.ofBits, Ideal.ieee]

theorem bits_width : Ideal.ofBits .f32 0x44800000#32 = ((1024 : ℝ) : EReal) := by
  simp [Ideal.ofBits, Ideal.ieee, -EReal.coe_mul]; norm_num

theorem bits_head : Ideal.ofBits .f32 0x42800000#32 = ((64 : ℝ) : EReal) := by
  simp [Ideal.ofBits, Ideal.ieee, -EReal.coe_mul]; norm_num

theorem bits_perHead : Ideal.ofBits .f32 0x3C800000#32 = ((1 / 64 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem IsReal.mean {y : Fin 1024 → EReal} (h : ∀ k, IsReal (y k)) : IsReal (mean y) := by
  unfold Row.mean
  rw [bits_width, Ideal.div_coe (by norm_num)]
  exact (IsReal.sum h).mul ⟨_, rfl⟩

/-- The mean of squares of real numbers is real and not negative. -/
theorem mean_squares {y : Fin 1024 → EReal} (h : ∀ k, IsReal (y k)) : ∃ r : ℝ, 0 ≤ r ∧ mean (fun k => y k * y k) = r := by
  choose a ha using h
  refine ⟨(∑ k, a k * a k) * (1 / 1024), mul_nonneg (Finset.sum_nonneg fun k _ => mul_self_nonneg _) (by norm_num), ?_⟩
  unfold Row.mean
  have e : (∑ k, y k * y k) = ((∑ k, a k * a k : ℝ) : EReal) := by
    have hs : ∀ n (f : Fin n → ℝ), ∑ k, ((f k : ℝ) : EReal) = ((∑ k, f k : ℝ) : EReal) := by
      intro n f
      induction n with
      | zero => rw [Fin.sum_univ_zero, Fin.sum_univ_zero, EReal.coe_zero]
      | succ n ih => rw [Fin.sum_univ_castSucc, Fin.sum_univ_castSucc, ih, EReal.coe_add]
    rw [← hs]
    exact Finset.sum_congr rfl fun k _ => by rw [ha, EReal.coe_mul]
  rw [bits_width, Ideal.div_coe (by norm_num), e, EReal.coe_mul]

theorem IsReal.lnorm {y : Fin 1024 → EReal} (h : ∀ k, IsReal (y k)) (n : Fin 1024) : IsReal (lnorm y n) := by
  have hc : ∀ k, IsReal (centred y k) := fun k => (h k).sub (IsReal.mean h)
  obtain ⟨r, hr, e⟩ := mean_squares hc
  obtain ⟨ε, hε, eε⟩ := bits_eps
  unfold Row.lnorm
  rw [e, eε, ← EReal.coe_add, Ideal.rsqrt_coe, if_neg (by linarith), if_neg (by linarith)]
  exact (hc n).mul ⟨_, rfl⟩

theorem IsReal.modulated {x sh sc : Fin 1024 → EReal} (hx : ∀ k, IsReal (x k)) (hsh : ∀ k, IsReal (sh k)) (hsc : ∀ k, IsReal (sc k))
    (n : Fin 1024) : IsReal (modulated x sh sc n) :=
  ((IsReal.lnorm hx n).mul (IsReal.add ⟨1, bits_one⟩ (hsc n))).add (hsh n)

theorem IsReal.segOf {h : Fin 1024 → EReal} {w : FVec Ideal ⟨2, ![1024, 7040]⟩ .bf16} {b : FVec Ideal ⟨2, ![1, 7040]⟩ .f32} {j : Fin 7040}
    (hh : ∀ k, IsReal (h k)) (hw : ∀ k, IsReal (w (ix2 k j))) (hb : IsReal (b (ix2 0 j))) : IsReal (segOf h w b j) :=
  (IsReal.sum fun k => (hh k).mul (hw k)).add hb

/-- A column of the queries and keys, the ones their norms read. -/
def normCol (j : Fin 640) : Fin 7040 := ⟨1536 + j.val, by omega⟩
/-- A merge gate's column. -/
def gateCol (n : Fin 3072) : Fin 7040 := ⟨3968 + n.val, by omega⟩
/-- The gates' columns of a projected row. -/
def gateOf (p : Fin 7040 → EReal) (n : Fin 128) : EReal := p ⟨3840 + n.val, by omega⟩
/-- The values' columns of a projected row. -/
def valueOf (p : Fin 7040 → EReal) (d : Fin 128) : EReal := p ⟨2176 + d.val, by omega⟩
/-- Row `i` of block `t`, as an index of the whole array's rows. -/
def blockRow (t : Fin 68) (i : Fin 256) : Fin 17408 := ⟨t.val * 256 + i.val, by omega⟩

/-! The branches' arguments on their ranges of columns. -/

section
variable (p : Fin 7040 → EReal)

theorem ret_0 (n : Fin 1536) (h : n.val < 256) : retOf p n = p ⟨n.val, by omega⟩ := if_pos h
theorem ret_1 (n : Fin 1536) (h : 256 ≤ n.val) (h' : n.val < 512) : retOf p n = p ⟨n.val, by omega⟩ * Ideal.ofBits .f32 0x3E000000#32 :=
  (if_neg (by omega)).trans (if_pos h')
theorem ret_2 (n : Fin 1536) (h : 512 ≤ n.val) (h' : n.val < 1024) : retOf p n = p ⟨n.val, by omega⟩ :=
  (if_neg (by omega)).trans ((if_neg (by omega)).trans (if_pos h'))
theorem ret_3 (n : Fin 1536) (h : 1024 ≤ n.val) : retOf p n = p ⟨n.val, by omega⟩ * Ideal.logistic (p ⟨n.val, by omega⟩) :=
  (if_neg (by omega)).trans ((if_neg (by omega)).trans (if_neg (by omega)))

theorem mls_0 (n : Fin 1536) (h : n.val < 256) : mlsOf p n = p ⟨2304 + n.val, by omega⟩ := if_pos h
theorem mls_1 (n : Fin 1536) (h : 256 ≤ n.val) (h' : n.val < 512) : mlsOf p n = p ⟨2304 + n.val, by omega⟩ * Ideal.ofBits .f32 0x3E000000#32 :=
  (if_neg (by omega)).trans (if_pos h')
theorem mls_2 (n : Fin 1536) (h : 512 ≤ n.val) (h' : n.val < 1024) : mlsOf p n = p ⟨2304 + n.val, by omega⟩ :=
  (if_neg (by omega)).trans ((if_neg (by omega)).trans (if_pos h'))
theorem mls_3 (n : Fin 1536) (h : 1024 ≤ n.val) : mlsOf p n = Ideal.logistic (p ⟨2304 + n.val, by omega⟩) :=
  (if_neg (by omega)).trans ((if_neg (by omega)).trans (if_neg (by omega)))
end

end Cert.Row
end
end
-- ==== Proof.ProjPay.lean ====
/-
  What the projection kernel's body computes from the blocks it has read: the modulated norm, the projected columns, and the norm
  and rotation of two heads of queries or keys at a time.
-/
module
public import proofs.«01_k».proof.Proof.Gen.ProjectIdeal.Skeleton
public import proofs.«01_k».proof.Proof.ProjSpec
public import Idealize.ShloMosaic.Lib.Pointwise
public import Idealize.ShloMosaic.Lib.KernelVsHost
public import Idealize.ShloMosaic.Lib.Pipeline.Value
public import Idealize.ShloMosaic.Lib.ValueIdx
@[expose] public section
set_option maxRecDepth 16384
noncomputable section
namespace Cert.ProjectIdeal.Row
open Cert.ProjectIdeal Cert.ProjectIdeal.Gen Cert.Row Idealize.ShloMosaic Idealize.ShloMosaic.TcCoe Idealize.SL.Sem

/-- The lane's number. -/
def lanes : IVec S256x128 32 := iota .tc S256x128 32 [1] iota_S256x128_d1_w32

/-- The matrix that adds up each head's channels. -/
def heads : FVec Ideal S128x128 .bf16 := k0_pay8 (iota .tc S128x128 32 [1] iota_S128x128_d1_w32) k0_pay5 64#32 k0_pay6 k0_pay7 0#32

/-- Two heads' channels, normed. -/
def normTile (a : FVec Ideal S256x128 .f32) (o : FVec Ideal S128x128 .bf16) (g : Vec Ideal S1x128 .f32) : FVec Ideal S256x128 .f32 :=
  mulf (mulf a (rsqrt (addf (mulf (addf
    (matmul (φ₁ := .bf16) (φ₂ := .bf16) dot_S256x128_S128x128_S256x128_1_0_0_1_n_n none (truncf .bf16 (mulf a a) bitsLt_bf16_f32) o (constant S256x128 .f32 0x00000000#32))
    (matmul (φ₁ := .bf16) (φ₂ := .bf16) dot_S256x128_S128x128_S256x128_1_0_0_1_n_n none
      (truncf .bf16 (subf (mulf a a) (extf .f32 (truncf .bf16 (mulf a a) bitsLt_bf16_f32) bitsLt_bf16_f32)) bitsLt_bf16_f32) o (constant S256x128 .f32 0x00000000#32)))
    (broadcast S256x128 (Scalar.ofBits .f32 0x3C800000#32))) (broadcast S256x128 (Scalar.ofBits .f32 0x358637BD#32)))))
    (broadcastTo S256x128 g broadcasts_S1x128_S256x128)

/-- Two heads' channels, rotated and scaled. -/
def ropeTile (v : IVec S256x128 32) (y c s : FVec Ideal S256x128 .f32) (z : Ideal .f32) : FVec Ideal S256x128 .f32 :=
  mulf (addf (mulf y c) (mulf (select (cmpi .eq (andi v (broadcast S256x128 16#32)) (broadcast S256x128 0#32))
    (dynamicRotate 1 112#32 none y rotates_S256x128_d1) (dynamicRotate 1 16#32 none y rotates_S256x128_d1)) s)) (broadcast S256x128 z)

/-- The matrix's entries: one where row and column lie in one head. -/
theorem heads_apply (e l : Fin 128) : heads (ix2 e l) = if e.val / 64 = l.val / 64 then 1 else 0 := by
  have h5 : ∀ e l : Fin 128, k0_pay5 (ix2 e l) = BitVec.ofNat 32 (e.val / 64) := by
    have h : ∀ e : Fin 128, k0_pay5 (ix2 e 0) = BitVec.ofNat 32 (e.val / 64) := by decide +kernel
    exact fun e l => h e
  have hc : ∀ l : Fin 128, (select (andi (cmpi .ne (subi k0_pay7 (extui 32 (cmpi .slt (iota .tc S128x128 32 [1] iota_S128x128_d1_w32) (broadcast S128x128 0#32)) natLt_1_32))
        (broadcast S128x128 (Scalar.subi (Scalar.extui (Scalar.cmpi .sgt 64#32 0#32)) (Scalar.extui (Scalar.cmpi .slt 64#32 0#32)))))
      (cmpi .ne (remsi (iota .tc S128x128 32 [1] iota_S128x128_d1_w32) (broadcast S128x128 64#32)) (broadcast S128x128 0#32)))
      (subi k0_pay6 (broadcast S128x128 1#32)) k0_pay6 : IVec S128x128 32) (ix2 0 l) = BitVec.ofNat 32 (l.val / 64) := by decide +kernel
  have hk : ∀ a b : Fin 2, IntOp.cmpi .eq (BitVec.ofNat 32 a.val) (BitVec.ofNat 32 b.val) = if a.val = b.val then 1#1 else 0#1 := by decide
  have hd : heads (ix2 e l) = Scalar.select (IntOp.cmpi .eq (k0_pay5 (ix2 e l)) (BitVec.ofNat 32 (l.val / 64)))
      (Ideal.ofBits .f32 0x3F800000#32) (Ideal.ofBits .f32 0x00000000#32) := by
    rw [← hc l]; rfl
  rw [hd, h5, show e.val / 64 = (⟨e.val / 64, by omega⟩ : Fin 2).val from rfl, show l.val / 64 = (⟨l.val / 64, by omega⟩ : Fin 2).val from rfl, hk]
  by_cases h : e.val / 64 = l.val / 64
  · rw [if_pos h, if_pos h]
    exact bits_one
  · rw [if_neg h, if_neg h]
    exact Cert.Row.bits_none

/-- A sum over two heads' channels against the matrix is the sum over the head that holds `l`. -/
theorem heads_sum (f : Fin 128 → EReal) (l : Fin 128) :
    ∑ e : Fin 128, f e * heads (ix2 e l) = ∑ e : Fin 64, f ⟨l.val / 64 * 64 + e.val, by omega⟩ := by
  have hs := Fin.sum_univ_add (a := 64) (b := 64) fun e : Fin 128 => f e * heads (ix2 e l)
  refine hs.trans ?_
  have hl := l.isLt
  by_cases h : l.val < 64
  · have h1 : ∀ e : Fin 64, f (Fin.castAdd 64 e) * heads (ix2 (Fin.castAdd 64 e) l) = f ⟨l.val / 64 * 64 + e.val, by omega⟩ := fun e => by
      rw [heads_apply, if_pos (show (Fin.castAdd 64 e).val / 64 = l.val / 64 from (show e.val / 64 = l.val / 64 by omega)), mul_one]
      exact congrArg f (Fin.ext (show e.val = l.val / 64 * 64 + e.val by omega))
    have h2 : ∀ e : Fin 64, f (Fin.natAdd 64 e) * heads (ix2 (Fin.natAdd 64 e) l) = 0 := fun e => by
      rw [heads_apply, if_neg (show ¬ (Fin.natAdd 64 e).val / 64 = l.val / 64 from (show ¬ (64 + e.val) / 64 = l.val / 64 by omega)), mul_zero]
    exact (congr (congrArg HAdd.hAdd (Finset.sum_congr rfl fun e _ => h1 e)) (Finset.sum_eq_zero fun e _ => h2 e)).trans (add_zero _)
  · have h1 : ∀ e : Fin 64, f (Fin.castAdd 64 e) * heads (ix2 (Fin.castAdd 64 e) l) = 0 := fun e => by
      rw [heads_apply, if_neg (show ¬ (Fin.castAdd 64 e).val / 64 = l.val / 64 from (show ¬ e.val / 64 = l.val / 64 by omega)), mul_zero]
    have h2 : ∀ e : Fin 64, f (Fin.natAdd 64 e) * heads (ix2 (Fin.natAdd 64 e) l) = f ⟨l.val / 64 * 64 + e.val, by omega⟩ := fun e => by
      rw [heads_apply, if_pos (show (Fin.natAdd 64 e).val / 64 = l.val / 64 from (show (64 + e.val) / 64 = l.val / 64 by omega)), mul_one]
      exact congrArg f (Fin.ext (show 64 + e.val = l.val / 64 * 64 + e.val by omega))
    exact (congr (congrArg HAdd.hAdd (Finset.sum_eq_zero fun e _ => h1 e)) (Finset.sum_congr rfl fun e _ => h2 e)).trans (zero_add _)

/-- On real numbers the norm of two heads is each head's norm: a square less itself is zero. -/
theorem normTile_apply (a : FVec Ideal S256x128 .f32) (g : Vec Ideal S1x128 .f32) (r : Fin 256) (l : Fin 128)
    (ha : ∀ e, IsReal (a (ix2 r e))) :
    normTile a heads g (ix2 r l) = headNorm (fun e => a (ix2 r e)) (fun e => g (ix2 0 e)) l := by
  have hz : ∀ e, a (ix2 r e) * a (ix2 r e) - a (ix2 r e) * a (ix2 r e) = 0 := fun e => by
    obtain ⟨s, hs⟩ := ha e
    rw [hs, ← EReal.coe_mul, ← EReal.coe_sub, sub_self, EReal.coe_zero]
  have hp : normTile a heads g (ix2 r l) = a (ix2 r l) * Ideal.rsqrt (((∑ e : Fin 128, (a (ix2 r e) * a (ix2 r e)) * heads (ix2 e l))
      + ∑ e : Fin 128, (a (ix2 r e) * a (ix2 r e) - a (ix2 r e) * a (ix2 r e)) * heads (ix2 e l)) * Ideal.ofBits .f32 0x3C800000#32
      + Ideal.ofBits .f32 0x358637BD#32) * g (ix2 0 l) := by
    unfold normTile
    pointwise
  rw [hp, heads_sum]
  simp only [hz, zero_mul, Finset.sum_const_zero, add_zero]
  unfold headNorm
  rw [bits_head, Ideal.div_coe (by norm_num), bits_perHead]
  rfl

/-- Where a channel lies in the first half of its rotated pair of sixteens. -/
theorem low_apply (r : Fin 256) (l : Fin 128) :
    (cmpi .eq (andi lanes (broadcast S256x128 16#32)) (broadcast S256x128 0#32) : IVec S256x128 1) (ix2 r l) = if l.val % 32 < 16 then 1#1 else 0#1 := by
  have h : ∀ l : Fin 128, (cmpi .eq (andi lanes (broadcast S256x128 16#32)) (broadcast S256x128 0#32) : IVec S256x128 1) (ix2 0 l)
      = if l.val % 32 < 16 then 1#1 else 0#1 := by decide +kernel
  exact h l

theorem ropeTile_apply (y c s : FVec Ideal S256x128 .f32) (z : Ideal .f32) (r : Fin 256) (l : Fin 128) :
    ropeTile lanes y c s z (ix2 r l) = (y (ix2 r l) * c (ix2 r l) + y (ix2 r (partner l)) * s (ix2 r l)) * z := by
  have hl := l.isLt
  have hd : ropeTile lanes y c s z (ix2 r l) = (y (ix2 r l) * c (ix2 r l)
      + Scalar.select ((cmpi .eq (andi lanes (broadcast S256x128 16#32)) (broadcast S256x128 0#32) : IVec S256x128 1) (ix2 r l))
        (dynamicRotate (s := S256x128) 1 112#32 none y rotates_S256x128_d1 (ix2 r l)) (dynamicRotate (s := S256x128) 1 16#32 none y rotates_S256x128_d1 (ix2 r l))
        * s (ix2 r l)) * z := rfl
  rw [hd, low_apply]
  unfold partner
  by_cases h : l.val % 32 < 16
  · rw [if_pos h, dif_pos h]
    refine congrArg (fun q => (y (ix2 r l) * c (ix2 r l) + q * s (ix2 r l)) * z) ?_
    refine dynamicRotate_apply (s := S256x128) 1 112#32 y rotates_S256x128_d1 _ _ fun b => ?_
    fin_cases b
    · rfl
    · show l.val + 16 = (l.val + 128 - 112) % 128
      omega
  · rw [if_neg h, dif_neg h]
    refine congrArg (fun q => (y (ix2 r l) * c (ix2 r l) + q * s (ix2 r l)) * z) ?_
    refine dynamicRotate_apply (s := S256x128) 1 16#32 y rotates_S256x128_d1 _ _ fun b => ?_
    fin_cases b
    · rfl
    · show l.val - 16 = (l.val + 128 - 16) % 128
      omega

/-- Two heads normed and rotated. -/
theorem headTile_apply (a c s : FVec Ideal S256x128 .f32) (g : Vec Ideal S1x128 .f32) (z : Ideal .f32) (r : Fin 256) (l : Fin 128)
    (ha : ∀ e, IsReal (a (ix2 r e))) :
    ropeTile lanes (normTile a heads g) c s z (ix2 r l)
      = roped (fun e => a (ix2 r e)) (fun e => g (ix2 0 e)) (fun e => c (ix2 r e)) (fun e => s (ix2 r e)) l * z := by
  rw [ropeTile_apply, normTile_apply a g r l ha, normTile_apply a g r _ ha]
  rfl

section
variable (v : FVec Ideal S256x768 .f32) (c s : FVec Ideal S256x128 .f32) (g : Vec Ideal S1x128 .f32)

/-- The first two heads of queries. -/
theorem pair0 : k0_pay10 lanes c s (k0_pay9 v (iota .tc S128x128 32 [1] iota_S128x128_d1_w32) k0_pay5 64#32 k0_pay6 k0_pay7 0#32 g)
    = truncf .bf16 (ropeTile lanes (normTile (extractStridedSlice S256x128 ![0, 0] v slices_S256x768_o0_0_S256x128) heads g) c s
      (Scalar.ofBits .f32 0x3E38AA3B#32)) bitsLt_bf16_f32 := rfl
theorem pair1 : k0_pay12 (k0_pay11 v lanes heads c s g)
    = truncf .bf16 (ropeTile lanes (normTile (extractStridedSlice S256x128 ![0, 128] v slices_S256x768_o0_128_S256x128) heads g) c s
      (Scalar.ofBits .f32 0x3E38AA3B#32)) bitsLt_bf16_f32 := rfl
theorem pair2 : k0_pay13 v lanes heads c s g
    = truncf .bf16 (ropeTile lanes (normTile (extractStridedSlice S256x128 ![0, 256] v slices_S256x768_o0_256_S256x128) heads g) c s
      (Scalar.ofBits .f32 0x3E38AA3B#32)) bitsLt_bf16_f32 := rfl
theorem pair3 : k0_pay16 lanes c s g (k0_pay14 v) (k0_pay15 v heads) (Scalar.ofBits .f32 0x3C800000#32)
    = truncf .bf16 (ropeTile lanes (normTile (extractStridedSlice S256x128 ![0, 384] v slices_S256x768_o0_384_S256x128) heads g) c s
      (Scalar.ofBits .f32 0x3E38AA3B#32)) bitsLt_bf16_f32 := rfl
/-- The two heads of keys. -/
theorem keys : k0_pay20 lanes c s (k0_pay17 v heads g) (k0_pay18 v heads g) (k0_pay19 v heads g) 16#32
    = ropeTile lanes (normTile (extractStridedSlice S256x128 ![0, 512] v slices_S256x768_o0_512_S256x128) heads g) c s
      (Scalar.ofBits .f32 0x3F800000#32) := rfl

theorem first_apply (r : Fin 256) (l : Fin 128) : k0_pay22 lanes (ix2 r l) = if l.val < 64 then 1#1 else 0#1 := by
  have h : ∀ l : Fin 128, k0_pay22 lanes (ix2 0 l) = if l.val < 64 then 1#1 else 0#1 := by decide +kernel
  exact h l

theorem turned_apply (y : FVec Ideal S256x128 .f32) (r : Fin 256) (l : Fin 128) :
    dynamicRotate (s := S256x128) 1 64#32 none y rotates_S256x128_d1 (ix2 r l) = y (ix2 r ⟨(l.val + 64) % 128, by omega⟩) := by
  refine dynamicRotate_apply (s := S256x128) 1 64#32 y rotates_S256x128_d1 _ _ fun b => ?_
  fin_cases b
  · rfl
  · show (l.val + 64) % 128 = (l.val + 128 - 64) % 128
    omega

/-- The first head of keys, twice. -/
theorem pay23_apply (w0 w1 w2 : FVec Ideal S256x128 .f32) (r : Fin 256) (l : Fin 128) :
    k0_pay23 lanes c s w0 w1 w2 16#32 (ix2 r l) = k0_pay20 lanes c s w0 w1 w2 16#32 (ix2 r ⟨l.val % 64, by omega⟩) := by
  have hl := l.isLt
  have hd : k0_pay23 lanes c s w0 w1 w2 16#32 (ix2 r l) = Scalar.select (k0_pay22 lanes (ix2 r l)) (k0_pay20 lanes c s w0 w1 w2 16#32 (ix2 r l))
      (dynamicRotate (s := S256x128) 1 64#32 none (k0_pay20 lanes c s w0 w1 w2 16#32) rotates_S256x128_d1 (ix2 r l)) := rfl
  rw [hd, first_apply, turned_apply]
  by_cases h : l.val < 64
  · rw [if_pos h]
    have e : l = (⟨l.val % 64, by omega⟩ : Fin 128) := Fin.ext (show l.val = l.val % 64 by omega)
    exact congrArg (fun q : Fin 128 => k0_pay20 lanes c s w0 w1 w2 16#32 (ix2 r q)) e
  · rw [if_neg h]
    have e : (⟨(l.val + 64) % 128, by omega⟩ : Fin 128) = (⟨l.val % 64, by omega⟩ : Fin 128) := Fin.ext (show (l.val + 64) % 128 = l.val % 64 by omega)
    exact congrArg (fun q : Fin 128 => k0_pay20 lanes c s w0 w1 w2 16#32 (ix2 r q)) e

/-- The second head of keys, twice. -/
theorem pay24_apply (w0 w1 w2 : FVec Ideal S256x128 .f32) (r : Fin 256) (l : Fin 128) :
    k0_pay24 lanes c s w0 w1 w2 16#32 (ix2 r l) = k0_pay20 lanes c s w0 w1 w2 16#32 (ix2 r ⟨64 + l.val % 64, by omega⟩) := by
  have hl := l.isLt
  have hd : k0_pay24 lanes c s w0 w1 w2 16#32 (ix2 r l) = Scalar.select (k0_pay22 lanes (ix2 r l))
      (dynamicRotate (s := S256x128) 1 64#32 none (k0_pay20 lanes c s w0 w1 w2 16#32) rotates_S256x128_d1 (ix2 r l)) (k0_pay20 lanes c s w0 w1 w2 16#32 (ix2 r l)) := rfl
  rw [hd, first_apply, turned_apply]
  by_cases h : l.val < 64
  · rw [if_pos h]
    have e : (⟨(l.val + 64) % 128, by omega⟩ : Fin 128) = (⟨64 + l.val % 64, by omega⟩ : Fin 128) := Fin.ext (show (l.val + 64) % 128 = 64 + l.val % 64 by omega)
    exact congrArg (fun q : Fin 128 => k0_pay20 lanes c s w0 w1 w2 16#32 (ix2 r q)) e
  · rw [if_neg h]
    have e : l = (⟨64 + l.val % 64, by omega⟩ : Fin 128) := Fin.ext (show l.val = 64 + l.val % 64 by omega)
    exact congrArg (fun q : Fin 128 => k0_pay20 lanes c s w0 w1 w2 16#32 (ix2 r q)) e

/-- The values, transposed. -/
theorem pay25_apply (d : Fin 128) (i : Fin 256) : k0_pay25 v (ix3 0 d i) = v (ix2 i ⟨640 + d.val, by omega⟩) := by
  unfold k0_pay25
  pointwise
end

section
variable (x : Vec Ideal S256x1024 .f32) (sc sh : Vec Ideal S1x1x1024 .f32)

/-- The modulated norm of a row. -/
theorem pay1_apply (r : Fin 256) (k : Fin 1024) : k0_pay1 x sc sh (ix2 r k)
    = modulated (fun k => x (ix2 r k)) (fun k => sh (ix3 0 0 k)) (fun k => sc (ix3 0 0 k)) k := by
  unfold k0_pay1 modulated lnorm centred mean
  pointwise

theorem pay2_apply (w : Vec Ideal S1024x768 .bf16) (b : Vec Ideal S1x768 .f32) (r : Fin 256) (j : Fin 768) :
    k0_pay2 x sc sh w b (ix2 r j) = (∑ k : Fin 1024, k0_pay1 x sc sh (ix2 r k) * w (ix2 k j)) + b (ix2 0 j) := by
  unfold k0_pay2
  generalize k0_pay1 x sc sh = h
  pointwise

/-- The merge gates' first half. -/
theorem pay4_apply (w : Vec Ideal S1024x1536 .bf16) (b : Vec Ideal S1x1536 .f32) (r : Fin 256) (j : Fin 1536) :
    k0_pay4 (k0_pay3 x sc sh w) b (ix2 r j) = Ideal.logistic ((∑ k : Fin 1024, k0_pay1 x sc sh (ix2 r k) * w (ix2 k j)) + b (ix2 0 j)) := by
  unfold k0_pay4 k0_pay3 Ideal.logistic
  generalize k0_pay1 x sc sh = h
  pointwise
  rw [zero_sub]
end

section
variable (h : FVec Ideal S256x1024 .bf16) (w : Vec Ideal S1024x1536 .bf16) (b : Vec Ideal S1x1536 .f32) (r : Fin 256)

/-- The merge gates' second half. -/
theorem pay26_apply (j : Fin 1536) : k0_pay26 h w b (ix2 r j) = Ideal.logistic ((∑ k : Fin 1024, h (ix2 r k) * w (ix2 k j)) + b (ix2 0 j)) := by
  unfold k0_pay26 Ideal.logistic
  pointwise
  rw [zero_sub]

theorem pay27_apply (j : Fin 1536) : k0_pay27 h w b (ix2 r j) = (∑ k : Fin 1024, h (ix2 r k) * w (ix2 k j)) + b (ix2 0 j) := by
  unfold k0_pay27
  pointwise

theorem pay28_apply (l : Fin 256) : k0_pay28 h w b (ix2 r l) = k0_pay27 h w b (ix2 r ⟨l.val, by omega⟩) := by
  unfold k0_pay28
  generalize k0_pay27 h w b = y
  pointwise

theorem pay29_apply (l : Fin 256) : k0_pay29 h w b (ix2 r l) = k0_pay27 h w b (ix2 r ⟨256 + l.val, by omega⟩) * Ideal.ofBits .f32 0x3E000000#32 := by
  unfold k0_pay29
  generalize k0_pay27 h w b = y
  pointwise

theorem pay30_apply (l : Fin 512) : k0_pay30 h w b (ix2 r l) = k0_pay27 h w b (ix2 r ⟨512 + l.val, by omega⟩) := by
  unfold k0_pay30
  generalize k0_pay27 h w b = y
  pointwise

theorem pay31_apply (l : Fin 512) : k0_pay31 h w b (ix2 r l) = k0_pay27 h w b (ix2 r ⟨1024 + l.val, by omega⟩)
    * Ideal.logistic (k0_pay27 h w b (ix2 r ⟨1024 + l.val, by omega⟩)) := by
  unfold k0_pay31 Ideal.logistic
  generalize k0_pay27 h w b = y
  pointwise
  rw [zero_sub]

theorem pay33_apply (j : Fin 1536) : k0_pay33 (k0_pay32 h w) b (ix2 r j) = (∑ k : Fin 1024, h (ix2 r k) * w (ix2 k j)) + b (ix2 0 j) := by
  unfold k0_pay33 k0_pay32
  pointwise
end

section
variable (z : FVec Ideal S256x1536 .f32) (b : Vec Ideal S1x1536 .f32) (r : Fin 256)

theorem pay34_apply (l : Fin 256) : k0_pay34 z b (ix2 r l) = k0_pay33 z b (ix2 r ⟨l.val, by omega⟩) := by
  unfold k0_pay34
  generalize k0_pay33 z b = y
  pointwise

theorem pay35_apply (l : Fin 256) : k0_pay35 z b (ix2 r l) = k0_pay33 z b (ix2 r ⟨256 + l.val, by omega⟩) * Ideal.ofBits .f32 0x3E000000#32 := by
  unfold k0_pay35
  generalize k0_pay33 z b = y
  pointwise

theorem pay36_apply (l : Fin 512) : k0_pay36 z b (ix2 r l) = k0_pay33 z b (ix2 r ⟨512 + l.val, by omega⟩) := by
  unfold k0_pay36
  generalize k0_pay33 z b = y
  pointwise

theorem pay37_apply (l : Fin 512) : k0_pay37 z b (ix2 r l) = Ideal.logistic (k0_pay33 z b (ix2 r ⟨1024 + l.val, by omega⟩)) := by
  unfold k0_pay37 Ideal.logistic
  generalize k0_pay33 z b = y
  pointwise
  rw [zero_sub]
end

theorem pay38_apply (h : FVec Ideal S256x1024 .bf16) (w : Vec Ideal S1024x128 .bf16) (b : Vec Ideal S1x128 .f32) (r : Fin 256) (j : Fin 128) :
    k0_pay38 h w b (ix2 r j) = (∑ k : Fin 1024, h (ix2 r k) * w (ix2 k j)) + b (ix2 0 j) := by
  unfold k0_pay38
  pointwise

end Cert.ProjectIdeal.Row
end
end
-- ==== Proof.ProjRun.lean ====
/-
  What one grid point of the projection kernel leaves in its seven output blocks, from the blocks it has read.
-/
module
public import proofs.«01_k».proof.Proof.Gen.ProjectIdeal.Frame
public import proofs.«01_k».proof.Proof.ProjPay
public import Idealize.ShloMosaic.Lib.Pipeline.ValueKit.Basic
public import Idealize.ShloMosaic.Lib.Pipeline.ValueKit.Tiles
@[expose] public section
set_option maxRecDepth 16384
noncomputable section
namespace Cert.ProjectIdeal.Row
open Cert.ProjectIdeal Cert.ProjectIdeal.Gen Cert.Row Idealize.ShloMosaic Idealize.ShloMosaic.TcCoe Idealize.SL.Sem

/-- Loading a block's columns from `b` on. -/
theorem ldCols {sp} {α : EltTy} {N M b m : Nat} (v : Memref sig .tc sp ⟨2, ![N, M]⟩ α) (hv : v.IsWhole)
    (x : Vec Ideal ⟨2, ![N, M]⟩ α) (h) (q : Fin M) (k : Fin N) (l : Fin m) (hq : q.val = b + l.val) :
    View.readAt (Elt Ideal) v.view (Rect.unit (s := ⟨2, ![N, M]⟩) ![0, b] ![N, m] h).toLoadRect (hv.unread x) (ix2 k l)
      = x (ix2 k q) := by
  rw [View.readAt_eq_ld, hv.read_unread]
  refine View.ld_unit_apply_of x _ _ h (ix2 k l) _ fun a => ?_
  fin_cases a
  · show k.val = 0 + k.val; omega
  · exact hq

/-- Loading one part of the modulation's block. -/
theorem ldPart {o : Nat} (v : Memref sig .tc .vmem S1x6x1024 .f32) (hv : v.IsWhole) (x : Vec Ideal S1x6x1024 .f32) (h) (ho : o < 6)
    (k : Fin 1024) :
    View.readAt (Elt Ideal) v.view (Rect.unit (s := S1x6x1024) ![0, o, 0] S1x1x1024.size h).toLoadRect (hv.unread x) (ix3 0 0 k)
      = x (ix3 0 ⟨o, ho⟩ k) := by
  rw [View.readAt_eq_ld, hv.read_unread]
  refine View.ld_unit_apply_of x _ _ h (ix3 0 0 k) _ fun b => ?_
  fin_cases b
  · rfl
  · rfl
  · show k.val = 0 + k.val; omega

/-- A slice of a tile's columns from `o` on. -/
theorem slice_apply {o : Nat} (v : FVec Ideal S256x768 .f32) (h) (ho : o + 128 ≤ 768) (r : Fin 256) (l : Fin 128) :
    extractStridedSlice S256x128 ![0, o] v h (ix2 r l) = v (ix2 r ⟨o + l.val, by omega⟩) := by
  unfold extractStridedSlice
  congr 1
  funext a
  apply Fin.ext
  fin_cases a
  · show 0 + r.val = r.val; omega
  · rfl

/-- A stored piece of columns from `b` on holds the values of `f` there, if it does at explicit coordinates. -/
theorem piece_of {N m b : Nat} (f : Fin 256 → Fin N → EReal) (P : (⟨2, ![256, m]⟩ : Shape).Idx → EReal) (hb : b + m ≤ N)
    (inb) (hP : ∀ (r : Fin 256) (l : Fin m), P (ix2 r l) = f r ⟨b + l.val, by omega⟩) (y : (⟨2, ![256, m]⟩ : Shape).Idx) :
    P y = f ((Rect.unit (s := ⟨2, ![256, N]⟩) ![0, b] ![256, m] inb).emb y 0) ((Rect.unit (s := ⟨2, ![256, N]⟩) ![0, b] ![256, m] inb).emb y 1) := by
  obtain ⟨r, l, rfl⟩ : ∃ (r : Fin 256) (l : Fin m), y = ix2 r l := ⟨_, _, eq_ix2 (n0 := 256) (n1 := m) y⟩
  have e0 : (Rect.unit (s := ⟨2, ![256, N]⟩) ![0, b] ![256, m] inb).emb (ix2 r l) 0 = r := Fin.ext (show 0 + 1 * r.val = r.val by omega)
  have e1 : (Rect.unit (s := ⟨2, ![256, N]⟩) ![0, b] ![256, m] inb).emb (ix2 r l) 1 = (⟨b + l.val, by omega⟩ : Fin N) :=
    Fin.ext (show b + 1 * l.val = b + l.val by omega)
  exact (hP r l).trans (congr (congrArg f e0) e1).symm

/-- The modulated norm of a tile's row. -/
def tileRow (x0 : Vec Ideal S256x1024 .f32) (x1 : Vec Ideal S1x6x1024 .f32) (r : Fin 256) : Fin 1024 → EReal :=
  modulated (fun k => x0 (ix2 r k)) (fun k => x1 (ix3 0 0 k)) (fun k => x1 (ix3 0 1 k))

/-- The projection of a tile's row. -/
def tileSeg (x0 : Vec Ideal S256x1024 .f32) (x1 : Vec Ideal S1x6x1024 .f32) (x2 : Vec Ideal S1024x7040 .bf16) (x3 : Vec Ideal S1x7040 .f32)
    (r : Fin 256) : Fin 7040 → EReal := segOf (tileRow x0 x1 r) x2 x3

theorem seg_eq (x0 : Vec Ideal S256x1024 .f32) (x1 : Vec Ideal S1x6x1024 .f32) (x2 : Vec Ideal S1024x7040 .bf16) (x3 : Vec Ideal S1x7040 .f32)
    (r : Fin 256) (q : Fin 7040) (h W : Fin 1024 → EReal) (B : EReal) (hh : ∀ k, h k = tileRow x0 x1 r k) (hW : ∀ k, W k = x2 (ix2 k q))
    (hB : B = x3 (ix2 0 q)) : (∑ k, h k * W k) + B = tileSeg x0 x1 x2 x3 r q := by
  obtain rfl : h = _ := funext hh
  obtain rfl : W = _ := funext hW
  rw [hB]; rfl

section
variable (p : Fin 7040 → EReal) (v : FVec Ideal S256x768 .f32) (c s : FVec Ideal S256x128 .f32) (g : Vec Ideal S1x128 .f32)
  (c' s' g' : Fin 128 → EReal) (r : Fin 256) (hv : ∀ j : Fin 768, v (ix2 r j) = p ⟨1536 + j.val, by omega⟩)
  (hr : ∀ j : Fin 640, IsReal (p (normCol j))) (hc : ∀ e, c (ix2 r e) = c' e) (hs : ∀ e, s (ix2 r e) = s' e) (hg : ∀ e, g (ix2 0 e) = g' e)
include hv hr hc hs hg

/-- Two heads of queries. -/
theorem pair_q {o : Nat} (ho : o + 128 ≤ 512) (hm : o % 128 = 0) (h) (l : Fin 128) :
    ropeTile lanes (normTile (extractStridedSlice S256x128 ![0, o] v h) heads g) c s (Scalar.ofBits .f32 0x3E38AA3B#32) (ix2 r l)
      = qOf p g' c' s' ⟨o + l.val, by omega⟩ := by
  have hl := l.isLt
  have ha : ∀ e : Fin 128, extractStridedSlice S256x128 ![0, o] v h (ix2 r e) = p ⟨1536 + (o + e.val), by omega⟩ := fun e =>
    (slice_apply v h (by omega) r e).trans (hv _)
  refine (headTile_apply _ c s g _ r l fun e => ?_).trans ?_
  · rw [ha]
    exact hr ⟨o + e.val, by omega⟩
  · unfold qOf
    have e1 : (fun e : Fin 128 => extractStridedSlice S256x128 ![0, o] v h (ix2 r e))
        = fun e => p ⟨1536 + (⟨o + l.val, by omega⟩ : Fin 512).val / 128 * 128 + e.val, by omega⟩ := funext fun e => by
      rw [ha]
      exact congrArg p (Fin.ext (show 1536 + (o + e.val) = 1536 + (o + l.val) / 128 * 128 + e.val by omega))
    have e2 : l = (⟨(⟨o + l.val, by omega⟩ : Fin 512).val % 128, by omega⟩ : Fin 128) := Fin.ext (show l.val = (o + l.val) % 128 by omega)
    rw [e1, funext hc, funext hs, funext hg]
    exact congrArg (fun q => roped _ g' c' s' q * _) e2

/-- The two heads of keys. -/
theorem pair_k (h) (l : Fin 128) :
    ropeTile lanes (normTile (extractStridedSlice S256x128 ![0, 512] v h) heads g) c s (Scalar.ofBits .f32 0x3F800000#32) (ix2 r l)
      = roped (fun e => p ⟨2048 + e.val, by omega⟩) g' c' s' l := by
  have ha : ∀ e : Fin 128, extractStridedSlice S256x128 ![0, 512] v h (ix2 r e) = p ⟨2048 + e.val, by omega⟩ := fun e =>
    (slice_apply v h (by omega) r e).trans ((hv _).trans (congrArg p (Fin.ext (show 1536 + (512 + e.val) = 2048 + e.val by omega))))
  refine (headTile_apply _ c s g _ r l fun e => ?_).trans ?_
  · rw [ha]
    have := hr ⟨512 + e.val, by omega⟩
    exact (congrArg (fun q => IsReal (p q)) (Fin.ext (show 1536 + (512 + e.val) = 2048 + e.val by omega))).mp this
  · rw [funext ha, funext hc, funext hs, funext hg]
    exact (congrArg (fun z => _ * z) (bits_one.trans EReal.coe_one)).trans (mul_one _)
end

variable (c : Dev nD) (i : grid0.Coords)
  (arg1 : Memref sig .tc .vmem S256x1024 .f32) (harg1 : arg1.IsWhole)
  (arg2 : Memref sig .tc .vmem S1x6x1024 .f32) (harg2 : arg2.IsWhole)
  (arg3 : Memref sig .tc .vmem S1024x7040 .bf16) (harg3 : arg3.IsWhole)
  (arg4 : Memref sig .tc .vmem S1x7040 .f32) (harg4 : arg4.IsWhole)
  (arg5 : Memref sig .tc .vmem S256x128 .f32) (harg5 : arg5.IsWhole)
  (arg6 : Memref sig .tc .vmem S256x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S256x1536 .bf16) (harg9 : arg9.IsWhole)
  (arg10 : Memref sig .tc .vmem S256x512 .bf16) (harg10 : arg10.IsWhole)
  (arg11 : Memref sig .tc .vmem S256x256 .bf16) (harg11 : arg11.IsWhole)
  (arg12 : Memref sig .tc .vmem S1x128x256 .bf16) (harg12 : arg12.IsWhole)
  (arg13 : Memref sig .tc .vmem S256x1536 .bf16) (harg13 : arg13.IsWhole)
  (arg14 : Memref sig .tc .vmem S256x128 .f32) (harg14 : arg14.IsWhole)
  (arg15 : Memref sig .tc .vmem S256x3072 .bf16) (harg15 : arg15.IsWhole)
  (x0 : Vec Ideal S256x1024 .f32) (x1 : Vec Ideal S1x6x1024 .f32) (x2 : Vec Ideal S1024x7040 .bf16) (x3 : Vec Ideal S1x7040 .f32) (x4 : Vec Ideal S256x128 .f32) (x5 : Vec Ideal S256x128 .f32) (x6 : Vec Ideal S1x128 .f32) (x7 : Vec Ideal S1x128 .f32)

theorem r_apply (r : Fin 256) (k : Fin 1024) : kernelRun0_A.sl.r (F := Ideal) c arg1 harg1 arg2 harg2 x0 x1 (ix2 r k) = tileRow x0 x1 r k := by
  refine (pay1_apply _ _ _ r k).trans ?_
  unfold tileRow
  congr 1
  · funext k
    exact ldCols arg1 harg1 x0 _ _ r k (Nat.zero_add _).symm
  · funext k
    exact ldPart arg2 harg2 x1 _ (by omega) k
  · funext k
    exact ldPart arg2 harg2 x1 _ (by omega) k

/-- The columns of queries, keys and values. -/
theorem r1_apply (r : Fin 256) (j : Fin 768) : kernelRun0_A.sl.r_1 (F := Ideal) c arg1 harg1 arg2 harg2 arg3 harg3 arg4 harg4 x0 x1 x2 x3 (ix2 r j) = tileSeg x0 x1 x2 x3 r ⟨1536 + j.val, by omega⟩ :=
  (pay2_apply _ _ _ _ _ r j).trans (seg_eq x0 x1 x2 x3 r ⟨1536 + j.val, by omega⟩ _ _ _ (fun k => r_apply c arg1 harg1 arg2 harg2 x0 x1 r k)
    (fun k => ldCols arg3 harg3 x2 _ _ k j rfl) (ldCols arg4 harg4 x3 _ _ 0 j rfl))

theorem r4_apply (r : Fin 256) (e : Fin 128) : kernelRun0_A.sl.r_4 (F := Ideal) c arg5 harg5 x4 (ix2 r e) = x4 (ix2 r e) :=
  ldCols arg5 harg5 x4 _ _ r e (Nat.zero_add _).symm
theorem r5_apply (r : Fin 256) (e : Fin 128) : kernelRun0_A.sl.r_5 (F := Ideal) c arg6 harg6 x5 (ix2 r e) = x5 (ix2 r e) :=
  ldCols arg6 harg6 x5 _ _ r e (Nat.zero_add _).symm
theorem r6_apply (e : Fin 128) : kernelRun0_A.sl.r_6 (F := Ideal) c arg7 harg7 x6 (ix2 0 e) = x6 (ix2 0 e) :=
  ldCols arg7 harg7 x6 _ _ 0 e (Nat.zero_add _).symm
theorem g8_apply (h) (e : Fin 128) : View.readAt (Elt Ideal) arg8.view (Rect.unit (s := S1x128) ![0, 0] S1x128.size h).toLoadRect (harg8.unread x7) (ix2 0 e)
    = x7 (ix2 0 e) :=
  ldCols arg8 harg8 x7 _ _ 0 e (Nat.zero_add _).symm

theorem pieces8 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).1, ∀ y : p.1.shape.Idx, p.2 y = retOf (tileSeg x0 x1 x2 x3 (p.1.emb y 0)) (p.1.emb y 1) := by
  unfold kernelRun0_A
  dsimp only
  simp only [List.forall_mem_cons, List.not_mem_nil, false_imp_iff, implies_true, and_true]
  refine ⟨?_, ?_, ?_, ?_⟩
  · exact piece_of (N := 1536) (m := 512) (b := 1024) (fun r n => retOf (tileSeg x0 x1 x2 x3 r) n) _ (by omega) _ fun r l => by
      have hl := l.isLt
      refine Eq.trans (pay31_apply _ _ _ r l) (Eq.trans ?_ (ret_3 _ _ (show 1024 ≤ 1024 + l.val by omega)).symm)
      have e := (pay27_apply (kernelRun0_A.sl.r (F := Ideal) c arg1 harg1 arg2 harg2 x0 x1) _ _ r ⟨1024 + l.val, by omega⟩).trans (seg_eq x0 x1 x2 x3 r (⟨1024 + l.val, by omega⟩ : Fin 7040) _ _ _ (fun k => r_apply c arg1 harg1 arg2 harg2 x0 x1 r k)
        (fun k => ldCols (b := 0) arg3 harg3 x2 inb_S1024x7040_S1024x1536_0_0 _ k (⟨1024 + l.val, by omega⟩ : Fin 1536) (Nat.zero_add _).symm)
        (ldCols (b := 0) arg4 harg4 x3 inb_S1x7040_S1x1536_0_0 _ 0 (⟨1024 + l.val, by omega⟩ : Fin 1536) (Nat.zero_add _).symm))
      exact congr (congrArg HMul.hMul e) (congrArg Ideal.logistic e)
  · exact piece_of (N := 1536) (m := 512) (b := 512) (fun r n => retOf (tileSeg x0 x1 x2 x3 r) n) _ (by omega) _ fun r l => by
      have hl := l.isLt
      refine Eq.trans (pay30_apply _ _ _ r l) (Eq.trans ?_ (ret_2 _ _ (show 512 ≤ 512 + l.val by omega) (show 512 + l.val < 1024 by omega)).symm)
      have e := (pay27_apply (kernelRun0_A.sl.r (F := Ideal) c arg1 harg1 arg2 harg2 x0 x1) _ _ r ⟨512 + l.val, by omega⟩).trans (seg_eq x0 x1 x2 x3 r (⟨512 + l.val, by omega⟩ : Fin 7040) _ _ _ (fun k => r_apply c arg1 harg1 arg2 harg2 x0 x1 r k)
        (fun k => ldCols (b := 0) arg3 harg3 x2 inb_S1024x7040_S1024x1536_0_0 _ k (⟨512 + l.val, by omega⟩ : Fin 1536) (Nat.zero_add _).symm)
        (ldCols (b := 0) arg4 harg4 x3 inb_S1x7040_S1x1536_0_0 _ 0 (⟨512 + l.val, by omega⟩ : Fin 1536) (Nat.zero_add _).symm))
      exact e
  · exact piece_of (N := 1536) (m := 256) (b := 256) (fun r n => retOf (tileSeg x0 x1 x2 x3 r) n) _ (by omega) _ fun r l => by
      have hl := l.isLt
      refine Eq.trans (pay29_apply _ _ _ r l) (Eq.trans ?_ (ret_1 _ _ (show 256 ≤ 256 + l.val by omega) (show 256 + l.val < 512 by omega)).symm)
      have e := (pay27_apply (kernelRun0_A.sl.r (F := Ideal) c arg1 harg1 arg2 harg2 x0 x1) _ _ r ⟨256 + l.val, by omega⟩).trans (seg_eq x0 x1 x2 x3 r (⟨256 + l.val, by omega⟩ : Fin 7040) _ _ _ (fun k => r_apply c arg1 harg1 arg2 harg2 x0 x1 r k)
        (fun k => ldCols (b := 0) arg3 harg3 x2 inb_S1024x7040_S1024x1536_0_0 _ k (⟨256 + l.val, by omega⟩ : Fin 1536) (Nat.zero_add _).symm)
        (ldCols (b := 0) arg4 harg4 x3 inb_S1x7040_S1x1536_0_0 _ 0 (⟨256 + l.val, by omega⟩ : Fin 1536) (Nat.zero_add _).symm))
      exact congrArg (fun q => q * Ideal.ofBits .f32 0x3E000000#32) e
  · exact piece_of (N := 1536) (m := 256) (b := 0) (fun r n => retOf (tileSeg x0 x1 x2 x3 r) n) _ (by omega) _ fun r l => by
      have hl := l.isLt
      refine Eq.trans (pay28_apply _ _ _ r l) (Eq.trans ?_ (ret_0 _ _ (show 0 + l.val < 256 by omega)).symm)
      have e := (pay27_apply (kernelRun0_A.sl.r (F := Ideal) c arg1 harg1 arg2 harg2 x0 x1) _ _ r ⟨0 + l.val, by omega⟩).trans (seg_eq x0 x1 x2 x3 r (⟨0 + l.val, by omega⟩ : Fin 7040) _ _ _ (fun k => r_apply c arg1 harg1 arg2 harg2 x0 x1 r k)
        (fun k => ldCols (b := 0) arg3 harg3 x2 inb_S1024x7040_S1024x1536_0_0 _ k (⟨0 + l.val, by omega⟩ : Fin 1536) (Nat.zero_add _).symm)
        (ldCols (b := 0) arg4 harg4 x3 inb_S1x7040_S1x1536_0_0 _ 0 (⟨0 + l.val, by omega⟩ : Fin 1536) (Nat.zero_add _).symm))
      exact (congrArg (fun q => k0_pay27 _ _ _ (ix2 r q)) (Fin.ext (show l.val = 0 + l.val by omega))).trans e

/-- The retention branch's block. -/
theorem out8_apply (r : Fin 256) (n : Fin 1536) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n) = retOf (tileSeg x0 x1 x2 x3 r) n := by
  unfold out0_A_8
  rw [View.read_writes_junk_eq_canon]
  exact View.canon_apply_of_pieces (Val := Elt Ideal) (S := S256x1536) (e := .bf16) (fun j => retOf (tileSeg x0 x1 x2 x3 (j 0)) (j 1)) _
    (pieces8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (ix2 r n) (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n))

theorem pieces9
    (hr : ∀ (r : Fin 256) (j : Fin 640), IsReal (tileSeg x0 x1 x2 x3 r (normCol j))) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.1, ∀ y : p.1.shape.Idx, p.2 y = qOf (tileSeg x0 x1 x2 x3 (p.1.emb y 0)) (fun e => x6 (ix2 0 e)) (fun e => x4 (ix2 (p.1.emb y 0) e)) (fun e => x5 (ix2 (p.1.emb y 0) e)) (p.1.emb y 1) := by
  unfold kernelRun0_A
  dsimp only
  simp only [List.forall_mem_cons, List.not_mem_nil, false_imp_iff, implies_true, and_true]
  refine ⟨?_, ?_, ?_, ?_⟩
  · exact piece_of (N := 512) (m := 128) (b := 384) (fun r n => qOf (tileSeg x0 x1 x2 x3 r) (fun e => x6 (ix2 0 e)) (fun e => x4 (ix2 r e)) (fun e => x5 (ix2 r e)) n) _ (by omega) _ fun r l => (congrFun (pair3 _ _ _ _) (ix2 r l)).trans
      (pair_q _ _ _ _ _ _ _ _ r (r1_apply c arg1 harg1 arg2 harg2 arg3 harg3 arg4 harg4 x0 x1 x2 x3 r) (hr r) (r4_apply c arg5 harg5 x4 r) (r5_apply c arg6 harg6 x5 r) (r6_apply c arg7 harg7 x6) (o := 384) (by omega) (by omega) _ l)
  · exact piece_of (N := 512) (m := 128) (b := 256) (fun r n => qOf (tileSeg x0 x1 x2 x3 r) (fun e => x6 (ix2 0 e)) (fun e => x4 (ix2 r e)) (fun e => x5 (ix2 r e)) n) _ (by omega) _ fun r l => (congrFun (pair2 _ _ _ _) (ix2 r l)).trans
      (pair_q _ _ _ _ _ _ _ _ r (r1_apply c arg1 harg1 arg2 harg2 arg3 harg3 arg4 harg4 x0 x1 x2 x3 r) (hr r) (r4_apply c arg5 harg5 x4 r) (r5_apply c arg6 harg6 x5 r) (r6_apply c arg7 harg7 x6) (o := 256) (by omega) (by omega) _ l)
  · exact piece_of (N := 512) (m := 128) (b := 128) (fun r n => qOf (tileSeg x0 x1 x2 x3 r) (fun e => x6 (ix2 0 e)) (fun e => x4 (ix2 r e)) (fun e => x5 (ix2 r e)) n) _ (by omega) _ fun r l => (congrFun (pair1 _ _ _ _) (ix2 r l)).trans
      (pair_q _ _ _ _ _ _ _ _ r (r1_apply c arg1 harg1 arg2 harg2 arg3 harg3 arg4 harg4 x0 x1 x2 x3 r) (hr r) (r4_apply c arg5 harg5 x4 r) (r5_apply c arg6 harg6 x5 r) (r6_apply c arg7 harg7 x6) (o := 128) (by omega) (by omega) _ l)
  · exact piece_of (N := 512) (m := 128) (b := 0) (fun r n => qOf (tileSeg x0 x1 x2 x3 r) (fun e => x6 (ix2 0 e)) (fun e => x4 (ix2 r e)) (fun e => x5 (ix2 r e)) n) _ (by omega) _ fun r l => (congrFun (pair0 _ _ _ _) (ix2 r l)).trans
      (pair_q _ _ _ _ _ _ _ _ r (r1_apply c arg1 harg1 arg2 harg2 arg3 harg3 arg4 harg4 x0 x1 x2 x3 r) (hr r) (r4_apply c arg5 harg5 x4 r) (r5_apply c arg6 harg6 x5 r) (r6_apply c arg7 harg7 x6) (o := 0) (by omega) (by omega) _ l)

/-- The queries' block. -/
theorem out9_apply
    (hr : ∀ (r : Fin 256) (j : Fin 640), IsReal (tileSeg x0 x1 x2 x3 r (normCol j))) (r : Fin 256) (n : Fin 512) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n) = qOf (tileSeg x0 x1 x2 x3 r) (fun e => x6 (ix2 0 e)) (fun e => x4 (ix2 r e)) (fun e => x5 (ix2 r e)) n := by
  unfold out0_A_9
  rw [View.read_writes_junk_eq_canon]
  exact View.canon_apply_of_pieces (Val := Elt Ideal) (S := S256x512) (e := .bf16) (fun j => qOf (tileSeg x0 x1 x2 x3 (j 0)) (fun e => x6 (ix2 0 e)) (fun e => x4 (ix2 (j 0) e)) (fun e => x5 (ix2 (j 0) e)) (j 1)) _
    (pieces9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hr) (ix2 r n) (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n))

theorem pieces10
    (hr : ∀ (r : Fin 256) (j : Fin 640), IsReal (tileSeg x0 x1 x2 x3 r (normCol j))) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.1, ∀ y : p.1.shape.Idx, p.2 y = kOf (tileSeg x0 x1 x2 x3 (p.1.emb y 0)) (fun e => x7 (ix2 0 e)) (fun e => x4 (ix2 (p.1.emb y 0) e)) (fun e => x5 (ix2 (p.1.emb y 0) e)) (p.1.emb y 1) := by
  unfold kernelRun0_A
  dsimp only
  simp only [List.forall_mem_cons, List.not_mem_nil, false_imp_iff, implies_true, and_true]
  refine ⟨?_, ?_⟩
  · exact piece_of (N := 256) (m := 128) (b := 128) (fun r n => kOf (tileSeg x0 x1 x2 x3 r) (fun e => x7 (ix2 0 e)) (fun e => x4 (ix2 r e)) (fun e => x5 (ix2 r e)) n) _ (by omega) _ fun r l => by
      have hl := l.isLt
      refine Eq.trans (pay24_apply _ _ _ _ _ r l) ((congrFun (keys _ _ _ _) (ix2 r _)).trans ((pair_k _ _ _ _ _ _ _ _ r (r1_apply c arg1 harg1 arg2 harg2 arg3 harg3 arg4 harg4 x0 x1 x2 x3 r) (hr r) (r4_apply c arg5 harg5 x4 r) (r5_apply c arg6 harg6 x5 r) (g8_apply arg8 harg8 x7 _) _ _).trans ?_))
      exact congrArg (roped _ _ _ _) (Fin.ext (show 64 + l.val % 64 = (128 + l.val) / 128 * 64 + (128 + l.val) % 64 by omega))
  · exact piece_of (N := 256) (m := 128) (b := 0) (fun r n => kOf (tileSeg x0 x1 x2 x3 r) (fun e => x7 (ix2 0 e)) (fun e => x4 (ix2 r e)) (fun e => x5 (ix2 r e)) n) _ (by omega) _ fun r l => by
      have hl := l.isLt
      refine Eq.trans (pay23_apply _ _ _ _ _ r l) ((congrFun (keys _ _ _ _) (ix2 r _)).trans ((pair_k _ _ _ _ _ _ _ _ r (r1_apply c arg1 harg1 arg2 harg2 arg3 harg3 arg4 harg4 x0 x1 x2 x3 r) (hr r) (r4_apply c arg5 harg5 x4 r) (r5_apply c arg6 harg6 x5 r) (g8_apply arg8 harg8 x7 _) _ _).trans ?_))
      exact congrArg (roped _ _ _ _) (Fin.ext (show l.val % 64 = (0 + l.val) / 128 * 64 + (0 + l.val) % 64 by omega))

/-- The keys' block. -/
theorem out10_apply
    (hr : ∀ (r : Fin 256) (j : Fin 640), IsReal (tileSeg x0 x1 x2 x3 r (normCol j))) (r : Fin 256) (n : Fin 256) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n) = kOf (tileSeg x0 x1 x2 x3 r) (fun e => x7 (ix2 0 e)) (fun e => x4 (ix2 r e)) (fun e => x5 (ix2 r e)) n := by
  unfold out0_A_10
  rw [View.read_writes_junk_eq_canon]
  exact View.canon_apply_of_pieces (Val := Elt Ideal) (S := S256x256) (e := .bf16) (fun j => kOf (tileSeg x0 x1 x2 x3 (j 0)) (fun e => x7 (ix2 0 e)) (fun e => x4 (ix2 (j 0) e)) (fun e => x5 (ix2 (j 0) e)) (j 1)) _
    (pieces10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hr) (ix2 r n) (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n))

theorem pieces12 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.1, ∀ y : p.1.shape.Idx, p.2 y = mlsOf (tileSeg x0 x1 x2 x3 (p.1.emb y 0)) (p.1.emb y 1) := by
  unfold kernelRun0_A
  dsimp only
  simp only [List.forall_mem_cons, List.not_mem_nil, false_imp_iff, implies_true, and_true]
  refine ⟨?_, ?_, ?_, ?_⟩
  · exact piece_of (N := 1536) (m := 512) (b := 1024) (fun r n => mlsOf (tileSeg x0 x1 x2 x3 r) n) _ (by omega) _ fun r l => by
      have hl := l.isLt
      refine Eq.trans (pay37_apply _ _ r l) (Eq.trans ?_ (mls_3 _ _ (show 1024 ≤ 1024 + l.val by omega)).symm)
      have e := (pay33_apply (kernelRun0_A.sl.r (F := Ideal) c arg1 harg1 arg2 harg2 x0 x1) _ _ r ⟨1024 + l.val, by omega⟩).trans (seg_eq x0 x1 x2 x3 r (⟨2304 + (1024 + l.val), by omega⟩ : Fin 7040) _ _ _ (fun k => r_apply c arg1 harg1 arg2 harg2 x0 x1 r k)
        (fun k => ldCols (b := 2304) arg3 harg3 x2 inb_S1024x7040_S1024x1536_0_2304 _ k (⟨1024 + l.val, by omega⟩ : Fin 1536) rfl)
        (ldCols (b := 2304) arg4 harg4 x3 inb_S1x7040_S1x1536_0_2304 _ 0 (⟨1024 + l.val, by omega⟩ : Fin 1536) rfl))
      exact congrArg Ideal.logistic e
  · exact piece_of (N := 1536) (m := 512) (b := 512) (fun r n => mlsOf (tileSeg x0 x1 x2 x3 r) n) _ (by omega) _ fun r l => by
      have hl := l.isLt
      refine Eq.trans (pay36_apply _ _ r l) (Eq.trans ?_ (mls_2 _ _ (show 512 ≤ 512 + l.val by omega) (show 512 + l.val < 1024 by omega)).symm)
      have e := (pay33_apply (kernelRun0_A.sl.r (F := Ideal) c arg1 harg1 arg2 harg2 x0 x1) _ _ r ⟨512 + l.val, by omega⟩).trans (seg_eq x0 x1 x2 x3 r (⟨2304 + (512 + l.val), by omega⟩ : Fin 7040) _ _ _ (fun k => r_apply c arg1 harg1 arg2 harg2 x0 x1 r k)
        (fun k => ldCols (b := 2304) arg3 harg3 x2 inb_S1024x7040_S1024x1536_0_2304 _ k (⟨512 + l.val, by omega⟩ : Fin 1536) rfl)
        (ldCols (b := 2304) arg4 harg4 x3 inb_S1x7040_S1x1536_0_2304 _ 0 (⟨512 + l.val, by omega⟩ : Fin 1536) rfl))
      exact e
  · exact piece_of (N := 1536) (m := 256) (b := 256) (fun r n => mlsOf (tileSeg x0 x1 x2 x3 r) n) _ (by omega) _ fun r l => by
      have hl := l.isLt
      refine Eq.trans (pay35_apply _ _ r l) (Eq.trans ?_ (mls_1 _ _ (show 256 ≤ 256 + l.val by omega) (show 256 + l.val < 512 by omega)).symm)
      have e := (pay33_apply (kernelRun0_A.sl.r (F := Ideal) c arg1 harg1 arg2 harg2 x0 x1) _ _ r ⟨256 + l.val, by omega⟩).trans (seg_eq x0 x1 x2 x3 r (⟨2304 + (256 + l.val), by omega⟩ : Fin 7040) _ _ _ (fun k => r_apply c arg1 harg1 arg2 harg2 x0 x1 r k)
        (fun k => ldCols (b := 2304) arg3 harg3 x2 inb_S1024x7040_S1024x1536_0_2304 _ k (⟨256 + l.val, by omega⟩ : Fin 1536) rfl)
        (ldCols (b := 2304) arg4 harg4 x3 inb_S1x7040_S1x1536_0_2304 _ 0 (⟨256 + l.val, by omega⟩ : Fin 1536) rfl))
      exact congrArg (fun q => q * Ideal.ofBits .f32 0x3E000000#32) e
  · exact piece_of (N := 1536) (m := 256) (b := 0) (fun r n => mlsOf (tileSeg x0 x1 x2 x3 r) n) _ (by omega) _ fun r l => by
      have hl := l.isLt
      refine Eq.trans (pay34_apply _ _ r l) (Eq.trans ?_ (mls_0 _ _ (show 0 + l.val < 256 by omega)).symm)
      have e := (pay33_apply (kernelRun0_A.sl.r (F := Ideal) c arg1 harg1 arg2 harg2 x0 x1) _ _ r ⟨0 + l.val, by omega⟩).trans (seg_eq x0 x1 x2 x3 r (⟨2304 + (0 + l.val), by omega⟩ : Fin 7040) _ _ _ (fun k => r_apply c arg1 harg1 arg2 harg2 x0 x1 r k)
        (fun k => ldCols (b := 2304) arg3 harg3 x2 inb_S1024x7040_S1024x1536_0_2304 _ k (⟨0 + l.val, by omega⟩ : Fin 1536) rfl)
        (ldCols (b := 2304) arg4 harg4 x3 inb_S1x7040_S1x1536_0_2304 _ 0 (⟨0 + l.val, by omega⟩ : Fin 1536) rfl))
      exact (congrArg (fun q => k0_pay33 _ _ (ix2 r q)) (Fin.ext (show l.val = 0 + l.val by omega))).trans e

/-- The matrix memory's block. -/
theorem out12_apply (r : Fin 256) (n : Fin 1536) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n) = mlsOf (tileSeg x0 x1 x2 x3 r) n := by
  unfold out0_A_12
  rw [View.read_writes_junk_eq_canon]
  exact View.canon_apply_of_pieces (Val := Elt Ideal) (S := S256x1536) (e := .bf16) (fun j => mlsOf (tileSeg x0 x1 x2 x3 (j 0)) (j 1)) _
    (pieces12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (ix2 r n) (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n))

/-- The gates' block. -/
theorem out13_apply (r : Fin 256) (n : Fin 128) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n) = tileSeg x0 x1 x2 x3 r ⟨3840 + n.val, by omega⟩ := by
  unfold out0_A_13
  rw [View.read_writes_junk_eq_canon]
  unfold kernelRun0_A
  dsimp only
  rw [View.canon_cons_unit_lit _ _ _ (by decide)]
  exact (pay38_apply _ _ _ r n).trans (seg_eq x0 x1 x2 x3 r ⟨3840 + n.val, by omega⟩ _ _ _ (fun k => r_apply c arg1 harg1 arg2 harg2 x0 x1 r k)
    (fun k => ldCols arg3 harg3 x2 _ _ k n rfl) (ldCols arg4 harg4 x3 _ _ 0 n rfl))

/-- The values' block, transposed. -/
theorem out11_apply (d : Fin 128) (n : Fin 256) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix3 0 d n) = tileSeg x0 x1 x2 x3 n ⟨2176 + d.val, by omega⟩ := by
  unfold out0_A_11
  rw [View.read_writes_junk_eq_canon]
  unfold kernelRun0_A
  dsimp only
  rw [View.canon_cons_unit_lit _ _ _ (by decide)]
  refine (pay25_apply _ d n).trans ((r1_apply c arg1 harg1 arg2 harg2 arg3 harg3 arg4 harg4 x0 x1 x2 x3 n _).trans ?_)
  exact congrArg (tileSeg x0 x1 x2 x3 n) (Fin.ext (show 1536 + (640 + d.val) = 2176 + d.val by omega))

theorem pieces14 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7).2.2.2.2.2.2.1, ∀ y : p.1.shape.Idx, p.2 y = Ideal.logistic (tileSeg x0 x1 x2 x3 (p.1.emb y 0) (gateCol (p.1.emb y 1))) := by
  unfold kernelRun0_A
  dsimp only
  simp only [List.forall_mem_cons, List.not_mem_nil, false_imp_iff, implies_true, and_true]
  refine ⟨?_, ?_⟩
  · exact piece_of (N := 3072) (m := 1536) (b := 1536) (fun r n => Ideal.logistic (tileSeg x0 x1 x2 x3 r (gateCol n))) _ (by omega) _ fun r l => by
      have hl := l.isLt
      exact (pay26_apply _ _ _ r l).trans (congrArg Ideal.logistic (seg_eq x0 x1 x2 x3 r _ _ _ _ (fun k => r_apply c arg1 harg1 arg2 harg2 x0 x1 r k)
        (fun k => ldCols arg3 harg3 x2 _ _ k l (show 3968 + (1536 + l.val) = 5504 + l.val by omega)) (ldCols arg4 harg4 x3 _ _ 0 l (show 3968 + (1536 + l.val) = 5504 + l.val by omega))))
  · exact piece_of (N := 3072) (m := 1536) (b := 0) (fun r n => Ideal.logistic (tileSeg x0 x1 x2 x3 r (gateCol n))) _ (by omega) _ fun r l => by
      have hl := l.isLt
      exact (pay4_apply _ _ _ _ _ r l).trans (congrArg Ideal.logistic (seg_eq x0 x1 x2 x3 r _ _ _ _ (fun k => r_apply c arg1 harg1 arg2 harg2 x0 x1 r k)
        (fun k => ldCols arg3 harg3 x2 _ _ k l (show 3968 + (0 + l.val) = 3968 + l.val by omega)) (ldCols arg4 harg4 x3 _ _ 0 l (show 3968 + (0 + l.val) = 3968 + l.val by omega))))

/-- The merge gates' block. -/
theorem out14_apply (r : Fin 256) (n : Fin 3072) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n) = Ideal.logistic (tileSeg x0 x1 x2 x3 r (gateCol n)) := by
  unfold out0_A_14
  rw [View.read_writes_junk_eq_canon]
  exact View.canon_apply_of_pieces (Val := Elt Ideal) (S := S256x3072) (e := .bf16) (fun j => Ideal.logistic (tileSeg x0 x1 x2 x3 (j 0) (gateCol (j 1)))) _
    (pieces14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7) (ix2 r n) (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (ix2 r n))

end Cert.ProjectIdeal.Row
end
end
-- ==== Proof.ProjArray.lean ====
/-
  The projection kernel's seven whole results: every element is the projection's value at its row and column.
-/
module
public import proofs.«01_k».proof.Proof.ProjRun
public import proofs.«01_k».proof.Proof.Gen.ProjectIdeal.Value
@[expose] public section
set_option maxRecDepth 16384
noncomputable section
namespace Cert.ProjectIdeal.Row
open Cert.ProjectIdeal Cert.ProjectIdeal.Gen Cert.Row Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Row `r` of tile `t`. -/
def row (t : Fin grid0.N) (r : Fin 256) : Fin 17408 := ⟨t.val * 256 + r.val, by
  have := t.isLt; have e : grid0.N = 68 := by decide
  omega⟩

theorem modRow_row (t : Fin grid0.N) (r : Fin 256) : (modRow (row t r)).val = t.val / 17 * 2 + (if t.val % 17 < 1 then 0 else 1) := by
  have hr := r.isLt
  show (t.val * 256 + r.val) / 4352 * 2 + (if (t.val * 256 + r.val) % 4352 < 256 then 0 else 1) = _
  have h1 : (t.val * 256 + r.val) / 4352 = t.val / 17 := by omega
  have h2 : (t.val * 256 + r.val) % 4352 < 256 ↔ t.val % 17 < 1 := by omega
  rw [h1, if_congr h2 rfl rfl]

theorem idx1 : ∀ t : Fin grid0.N, win0_1.index t 0 = t.val / 17 * 2 + (if t.val % 17 < 1 then 0 else 1)
    ∧ win0_1.index t 1 = 0 ∧ win0_1.index t 2 = 0 := by decide +kernel
theorem idx11 : ∀ t : Fin grid0.N, win0_11.index t 0 = t.val ∧ win0_11.index t 1 = 0 ∧ win0_11.index t 2 = 0 := by decide +kernel
theorem idx0 : ∀ t : Fin grid0.N, win0_0.index t 0 = t.val ∧ win0_0.index t 1 = 0 := by decide +kernel
theorem idx8 : ∀ t : Fin grid0.N, win0_8.index t 0 = t.val ∧ win0_8.index t 1 = 0 := by decide +kernel
theorem idx9 : ∀ t : Fin grid0.N, win0_9.index t 0 = t.val ∧ win0_9.index t 1 = 0 := by decide +kernel
theorem idx10 : ∀ t : Fin grid0.N, win0_10.index t 0 = t.val ∧ win0_10.index t 1 = 0 := by decide +kernel
theorem idx12 : ∀ t : Fin grid0.N, win0_12.index t 0 = t.val ∧ win0_12.index t 1 = 0 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel
theorem idx4 : ∀ t : Fin grid0.N, win0_4.index t 0 = t.val % 17 ∧ win0_4.index t 1 = 0 := by decide +kernel
theorem idx5 : ∀ t : Fin grid0.N, win0_5.index t 0 = t.val % 17 ∧ win0_5.index t 1 = 0 := by decide +kernel
theorem idx2 : ∀ t : Fin grid0.N, win0_2.index t 0 = 0 ∧ win0_2.index t 1 = 0 := by decide +kernel
theorem idx3 : ∀ t : Fin grid0.N, win0_3.index t 0 = 0 ∧ win0_3.index t 1 = 0 := by decide +kernel
theorem idx6 : ∀ t : Fin grid0.N, win0_6.index t 0 = 0 ∧ win0_6.index t 1 = 0 := by decide +kernel
theorem idx7 : ∀ t : Fin grid0.N, win0_7.index t 0 = 0 ∧ win0_7.index t 1 = 0 := by decide +kernel

theorem blk1 (c : Dev nD) (t : Fin cfg0.N) (r : Fin 256) (o : Fin 6) (k : Fin 1024) :
    (iblk m c 1 t : Vec Ideal S1x6x1024 .f32) (ix3 0 o k) = m ((c : Thread nD τ).loc main_arg1) (ix3 (modRow (row t r)) o k) := by
  unfold iblk
  rw [View.read_apply]
  show V m c main_arg1 _ = m (c.tc.loc main_arg1) _
  unfold V
  congr 1
  funext a
  apply Fin.ext
  fin_cases a
  · show win0_1.index t 0 * 1 + 1 * 0 = (modRow (row t r)).val
    rw [(idx1 t).1, modRow_row]; omega
  · show win0_1.index t 1 * 6 + 1 * o.val = o.val
    rw [(idx1 t).2.1]; omega
  · show win0_1.index t 2 * 1024 + 1 * k.val = k.val
    rw [(idx1 t).2.2]; omega

theorem blk0 (c : Dev nD) (t : Fin cfg0.N) (r : Fin 256) (k : Fin 1024) :
    (iblk m c 0 t : Vec Ideal S256x1024 .f32) (ix2 r k) = m ((c : Thread nD τ).loc main_arg0) (ix2 (row t r) k) := by
  unfold iblk
  rw [View.read_apply]
  show V m c main_arg0 _ = m (c.tc.loc main_arg0) _
  unfold V
  congr 1
  funext a
  apply Fin.ext
  fin_cases a
  · show win0_0.index t 0 * 256 + 1 * r.val = t.val * 256 + r.val
    rw [(idx0 t).1]; omega
  · show win0_0.index t 1 * 1024 + 1 * k.val = k.val
    rw [(idx0 t).2]; omega

theorem blk4 (c : Dev nD) (t : Fin cfg0.N) (r : Fin 256) (k : Fin 128) :
    (iblk m c 4 t : Vec Ideal S256x128 .f32) (ix2 r k) = tableRow (m ((c : Thread nD τ).loc main_arg4)) (row t r) k := by
  have hr := r.isLt
  unfold tableRow
  unfold iblk
  rw [View.read_apply]
  show V m c main_arg4 _ = m (c.tc.loc main_arg4) _
  unfold V
  congr 1
  funext a
  apply Fin.ext
  fin_cases a
  · show win0_4.index t 0 * 256 + 1 * r.val = (t.val * 256 + r.val) % 4352
    rw [(idx4 t).1]; omega
  · show win0_4.index t 1 * 128 + 1 * k.val = k.val
    rw [(idx4 t).2]; omega

theorem blk5 (c : Dev nD) (t : Fin cfg0.N) (r : Fin 256) (k : Fin 128) :
    (iblk m c 5 t : Vec Ideal S256x128 .f32) (ix2 r k) = tableRow (m ((c : Thread nD τ).loc main_arg5)) (row t r) k := by
  have hr := r.isLt
  unfold tableRow
  unfold iblk
  rw [View.read_apply]
  show V m c main_arg5 _ = m (c.tc.loc main_arg5) _
  unfold V
  congr 1
  funext a
  apply Fin.ext
  fin_cases a
  · show win0_5.index t 0 * 256 + 1 * r.val = (t.val * 256 + r.val) % 4352
    rw [(idx5 t).1]; omega
  · show win0_5.index t 1 * 128 + 1 * k.val = k.val
    rw [(idx5 t).2]; omega

theorem blk2 (c : Dev nD) (t : Fin cfg0.N) (r : Fin 1024) (k : Fin 7040) :
    (iblk m c 2 t : Vec Ideal S1024x7040 .bf16) (ix2 r k) = m ((c : Thread nD τ).loc main_arg2) (ix2 r k) := by
  unfold iblk
  rw [View.read_apply]
  show V m c main_arg2 _ = m (c.tc.loc main_arg2) _
  unfold V
  congr 1
  funext a
  apply Fin.ext
  fin_cases a
  · show win0_2.index t 0 * 1024 + 1 * r.val = r.val
    rw [(idx2 t).1]; omega
  · show win0_2.index t 1 * 7040 + 1 * k.val = k.val
    rw [(idx2 t).2]; omega

theorem blk3 (c : Dev nD) (t : Fin cfg0.N) (r : Fin 1) (k : Fin 7040) :
    (iblk m c 3 t : Vec Ideal S1x7040 .f32) (ix2 r k) = m ((c : Thread nD τ).loc main_arg3) (ix2 r k) := by
  unfold iblk
  rw [View.read_apply]
  show V m c main_arg3 _ = m (c.tc.loc main_arg3) _
  unfold V
  congr 1
  funext a
  apply Fin.ext
  fin_cases a
  · show win0_3.index t 0 * 1 + 1 * r.val = r.val
    rw [(idx3 t).1]; omega
  · show win0_3.index t 1 * 7040 + 1 * k.val = k.val
    rw [(idx3 t).2]; omega

theorem blk6 (c : Dev nD) (t : Fin cfg0.N) (r : Fin 1) (k : Fin 128) :
    (iblk m c 6 t : Vec Ideal S1x128 .f32) (ix2 r k) = m ((c : Thread nD τ).loc main_arg6) (ix2 r k) := by
  unfold iblk
  rw [View.read_apply]
  show V m c main_arg6 _ = m (c.tc.loc main_arg6) _
  unfold V
  congr 1
  funext a
  apply Fin.ext
  fin_cases a
  · show win0_6.index t 0 * 1 + 1 * r.val = r.val
    rw [(idx6 t).1]; omega
  · show win0_6.index t 1 * 128 + 1 * k.val = k.val
    rw [(idx6 t).2]; omega

theorem blk7 (c : Dev nD) (t : Fin cfg0.N) (r : Fin 1) (k : Fin 128) :
    (iblk m c 7 t : Vec Ideal S1x128 .f32) (ix2 r k) = m ((c : Thread nD τ).loc main_arg7) (ix2 r k) := by
  unfold iblk
  rw [View.read_apply]
  show V m c main_arg7 _ = m (c.tc.loc main_arg7) _
  unfold V
  congr 1
  funext a
  apply Fin.ext
  fin_cases a
  · show win0_7.index t 0 * 1 + 1 * r.val = r.val
    rw [(idx7 t).1]; omega
  · show win0_7.index t 1 * 128 + 1 * k.val = k.val
    rw [(idx7 t).2]; omega

/-- A tile's projected row is the whole projection's. -/
theorem seg_row (c : Dev nD) (t : Fin cfg0.N) (r : Fin 256) : tileSeg (iblk m c 0 t) (iblk m c 1 t) (iblk m c 2 t) (iblk m c 3 t) r = projected (m ((c : Thread nD τ).loc main_arg0)) (m ((c : Thread nD τ).loc main_arg1)) (m ((c : Thread nD τ).loc main_arg2)) (m ((c : Thread nD τ).loc main_arg3)) (row t r) := by
  unfold tileSeg projected tileRow segOf
  funext j
  simp only [blk0 m c t, blk1 m c t r, blk2 m c t, blk3 m c t]

/-- Every column the norms of queries and keys read is a real number. -/
def Normable (c : Dev nD) : Prop := ∀ (ρ : Fin 17408) (j : Fin 640), IsReal (projected (m ((c : Thread nD τ).loc main_arg0)) (m ((c : Thread nD τ).loc main_arg1)) (m ((c : Thread nD τ).loc main_arg2)) (m ((c : Thread nD τ).loc main_arg3)) ρ (normCol j))

theorem normable_tile (c : Dev nD) (h : Normable m c) (t : Fin cfg0.N) (r : Fin 256) (j : Fin 640) :
    IsReal (tileSeg (iblk m c 0 t) (iblk m c 1 t) (iblk m c 2 t) (iblk m c 3 t) r (normCol j)) := by
  rw [seg_row]
  exact h _ j

/-- Result 0 as a function of the arguments held in memory. -/
abbrev res8 (c : Dev nD) : Buf (Elt Ideal) ((c : Thread nD τ).loc main_v0_0) := fun j => retOf (projected (m ((c : Thread nD τ).loc main_arg0)) (m ((c : Thread nD τ).loc main_arg1)) (m ((c : Thread nD τ).loc main_arg2)) (m ((c : Thread nD τ).loc main_arg3)) (j 0)) (j 1)

theorem flushed8 (c : Dev nD) (t : Fin cfg0.N) :
    (dats m 0 c).flushed 8 t = ((cfg0.win 8).blk t).view.read (Elt Ideal) (res8 m c) := by
  rw [Value.flushed8_A]
  funext j
  obtain ⟨R, C, rfl⟩ : ∃ (R : Fin 256) (C : Fin 1536), j = ix2 R C := ⟨_, _, eq_ix2 (n0 := 256) (n1 := 1536) j⟩
  rw [View.read_apply]
  have h0 : ((cfg0.win 8).blk t).view.emb (ix2 R C) 0 = row t R := by
    apply Fin.ext
    show win0_8.index t 0 * 256 + 1 * R.val = t.val * 256 + R.val
    rw [(idx8 t).1]; omega
  have h1 : ((cfg0.win 8).blk t).view.emb (ix2 R C) 1 = C := by
    apply Fin.ext
    show win0_8.index t 1 * 1536 + 1 * C.val = _
    rw [(idx8 t).2]; omega
  refine Eq.trans ?_ (congr (congrArg (fun (r : Fin 17408) (n : Fin 1536) => retOf (projected (m ((c : Thread nD τ).loc main_arg0)) (m ((c : Thread nD τ).loc main_arg1)) (m ((c : Thread nD τ).loc main_arg2)) (m ((c : Thread nD τ).loc main_arg3)) r) n) h0) h1).symm
  refine (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) R C).trans ?_
  rw [seg_row]

theorem final8 (c : Dev nD) : (dats m 0 c).arrAt 8 cfg0.N = res8 m c :=
  (dats m 0 c).arrAt_eq_of_cover 8 (res8 m c) (fun t _ => flushed8 m c t) fun i => by
    have hN : grid0.N = 68 := by decide
    have h0 : (i 0 : Nat) < 17408 := (i 0).isLt
    have h1 : (i 1 : Nat) < 1536 := (i 1).isLt
    have hx : ∀ t : Fin grid0.N, win0_8.xsize (grid0.coords t) 0 = 256 ∧ win0_8.xsize (grid0.coords t) 1 = 1536 := by
      decide +kernel
    obtain ⟨t, ht⟩ : ∃ t : Fin grid0.N, t.val = (i 0 : Nat) / 256 := ⟨⟨(i 0 : Nat) / 256, by omega⟩, rfl⟩
    refine ⟨t, flush0_8 t, ?_⟩
    show i ∈ ((View.whole main_v0_0).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + win0_8.xsize (grid0.coords t) 0
      rw [(idx8 t).1, (hx t).1]; omega
    | ⟨1, _⟩ =>
      show win0_8.index t 1 * 1536 ≤ (i 1 : Nat) ∧ (i 1 : Nat) < win0_8.index t 1 * 1536 + win0_8.xsize (grid0.coords t) 1
      rw [(idx8 t).2, (hx t).2]; omega

/-- Result 1 as a function of the arguments held in memory. -/
abbrev res9 (c : Dev nD) : Buf (Elt Ideal) ((c : Thread nD τ).loc main_v0_1) := fun j => qOf (projected (m ((c : Thread nD τ).loc main_arg0)) (m ((c : Thread nD τ).loc main_arg1)) (m ((c : Thread nD τ).loc main_arg2)) (m ((c : Thread nD τ).loc main_arg3)) (j 0)) (fun e => (m ((c : Thread nD τ).loc main_arg6)) (ix2 0 e)) (fun e => tableRow (m ((c : Thread nD τ).loc main_arg4)) (j 0) e) (fun e => tableRow (m ((c : Thread nD τ).loc main_arg5)) (j 0) e) (j 1)

theorem flushed9 (c : Dev nD) (h : Normable m c) (t : Fin cfg0.N) :
    (dats m 0 c).flushed 9 t = ((cfg0.win 9).blk t).view.read (Elt Ideal) (res9 m c) := by
  rw [Value.flushed9_A]
  funext j
  obtain ⟨R, C, rfl⟩ : ∃ (R : Fin 256) (C : Fin 512), j = ix2 R C := ⟨_, _, eq_ix2 (n0 := 256) (n1 := 512) j⟩
  rw [View.read_apply]
  have h0 : ((cfg0.win 9).blk t).view.emb (ix2 R C) 0 = row t R := by
    apply Fin.ext
    show win0_9.index t 0 * 256 + 1 * R.val = t.val * 256 + R.val
    rw [(idx9 t).1]; omega
  have h1 : ((cfg0.win 9).blk t).view.emb (ix2 R C) 1 = C := by
    apply Fin.ext
    show win0_9.index t 1 * 512 + 1 * C.val = _
    rw [(idx9 t).2]; omega
  refine Eq.trans ?_ (congr (congrArg (fun (r : Fin 17408) (n : Fin 512) => qOf (projected (m ((c : Thread nD τ).loc main_arg0)) (m ((c : Thread nD τ).loc main_arg1)) (m ((c : Thread nD τ).loc main_arg2)) (m ((c : Thread nD τ).loc main_arg3)) r) (fun e => (m ((c : Thread nD τ).loc main_arg6)) (ix2 0 e)) (fun e => tableRow (m ((c : Thread nD τ).loc main_arg4)) r e) (fun e => tableRow (m ((c : Thread nD τ).loc main_arg5)) r e) n) h0) h1).symm
  refine (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (normable_tile m c h t) R C).trans ?_
  rw [seg_row]
  simp only [blk4 m c t, blk5 m c t, blk6 m c t, blk7 m c t]

theorem final9 (c : Dev nD) (h : Normable m c) : (dats m 0 c).arrAt 9 cfg0.N = res9 m c :=
  (dats m 0 c).arrAt_eq_of_cover 9 (res9 m c) (fun t _ => flushed9 m c h t) fun i => by
    have hN : grid0.N = 68 := by decide
    have h0 : (i 0 : Nat) < 17408 := (i 0).isLt
    have h1 : (i 1 : Nat) < 512 := (i 1).isLt
    have hx : ∀ t : Fin grid0.N, win0_9.xsize (grid0.coords t) 0 = 256 ∧ win0_9.xsize (grid0.coords t) 1 = 512 := by
      decide +kernel
    obtain ⟨t, ht⟩ : ∃ t : Fin grid0.N, t.val = (i 0 : Nat) / 256 := ⟨⟨(i 0 : Nat) / 256, by omega⟩, rfl⟩
    refine ⟨t, flush0_9 t, ?_⟩
    show i ∈ ((View.whole main_v0_1).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + win0_9.xsize (grid0.coords t) 0
      rw [(idx9 t).1, (hx t).1]; omega
    | ⟨1, _⟩ =>
      show win0_9.index t 1 * 512 ≤ (i 1 : Nat) ∧ (i 1 : Nat) < win0_9.index t 1 * 512 + win0_9.xsize (grid0.coords t) 1
      rw [(idx9 t).2, (hx t).2]; omega

/-- Result 2 as a function of the arguments held in memory. -/
abbrev res10 (c : Dev nD) : Buf (Elt Ideal) ((c : Thread nD τ).loc main_v0_2) := fun j => kOf (projected (m ((c : Thread nD τ).loc main_arg0)) (m ((c : Thread nD τ).loc main_arg1)) (m ((c : Thread nD τ).loc main_arg2)) (m ((c : Thread nD τ).loc main_arg3)) (j 0)) (fun e => (m ((c : Thread nD τ).loc main_arg7)) (ix2 0 e)) (fun e => tableRow (m ((c : Thread nD τ).loc main_arg4)) (j 0) e) (fun e => tableRow (m ((c : Thread nD τ).loc main_arg5)) (j 0) e) (j 1)

theorem flushed10 (c : Dev nD) (h : Normable m c) (t : Fin cfg0.N) :
    (dats m 0 c).flushed 10 t = ((cfg0.win 10).blk t).view.read (Elt Ideal) (res10 m c) := by
  rw [Value.flushed10_A]
  funext j
  obtain ⟨R, C, rfl⟩ : ∃ (R : Fin 256) (C : Fin 256), j = ix2 R C := ⟨_, _, eq_ix2 (n0 := 256) (n1 := 256) j⟩
  rw [View.read_apply]
  have h0 : ((cfg0.win 10).blk t).view.emb (ix2 R C) 0 = row t R := by
    apply Fin.ext
    show win0_10.index t 0 * 256 + 1 * R.val = t.val * 256 + R.val
    rw [(idx10 t).1]; omega
  have h1 : ((cfg0.win 10).blk t).view.emb (ix2 R C) 1 = C := by
    apply Fin.ext
    show win0_10.index t 1 * 256 + 1 * C.val = _
    rw [(idx10 t).2]; omega
  refine Eq.trans ?_ (congr (congrArg (fun (r : Fin 17408) (n : Fin 256) => kOf (projected (m ((c : Thread nD τ).loc main_arg0)) (m ((c : Thread nD τ).loc main_arg1)) (m ((c : Thread nD τ).loc main_arg2)) (m ((c : Thread nD τ).loc main_arg3)) r) (fun e => (m ((c : Thread nD τ).loc main_arg7)) (ix2 0 e)) (fun e => tableRow (m ((c : Thread nD τ).loc main_arg4)) r e) (fun e => tableRow (m ((c : Thread nD τ).loc main_arg5)) r e) n) h0) h1).symm
  refine (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) (normable_tile m c h t) R C).trans ?_
  rw [seg_row]
  simp only [blk4 m c t, blk5 m c t, blk6 m c t, blk7 m c t]

theorem final10 (c : Dev nD) (h : Normable m c) : (dats m 0 c).arrAt 10 cfg0.N = res10 m c :=
  (dats m 0 c).arrAt_eq_of_cover 10 (res10 m c) (fun t _ => flushed10 m c h t) fun i => by
    have hN : grid0.N = 68 := by decide
    have h0 : (i 0 : Nat) < 17408 := (i 0).isLt
    have h1 : (i 1 : Nat) < 256 := (i 1).isLt
    have hx : ∀ t : Fin grid0.N, win0_10.xsize (grid0.coords t) 0 = 256 ∧ win0_10.xsize (grid0.coords t) 1 = 256 := by
      decide +kernel
    obtain ⟨t, ht⟩ : ∃ t : Fin grid0.N, t.val = (i 0 : Nat) / 256 := ⟨⟨(i 0 : Nat) / 256, by omega⟩, rfl⟩
    refine ⟨t, flush0_10 t, ?_⟩
    show i ∈ ((View.whole main_v0_2).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + win0_10.xsize (grid0.coords t) 0
      rw [(idx10 t).1, (hx t).1]; omega
    | ⟨1, _⟩ =>
      show win0_10.index t 1 * 256 ≤ (i 1 : Nat) ∧ (i 1 : Nat) < win0_10.index t 1 * 256 + win0_10.xsize (grid0.coords t) 1
      rw [(idx10 t).2, (hx t).2]; omega

/-- Result 4 as a function of the arguments held in memory. -/
abbrev res12 (c : Dev nD) : Buf (Elt Ideal) ((c : Thread nD τ).loc main_v0_4) := fun j => mlsOf (projected (m ((c : Thread nD τ).loc main_arg0)) (m ((c : Thread nD τ).loc main_arg1)) (m ((c : Thread nD τ).loc main_arg2)) (m ((c : Thread nD τ).loc main_arg3)) (j 0)) (j 1)

theorem flushed12 (c : Dev nD) (t : Fin cfg0.N) :
    (dats m 0 c).flushed 12 t = ((cfg0.win 12).blk t).view.read (Elt Ideal) (res12 m c) := by
  rw [Value.flushed12_A]
  funext j
  obtain ⟨R, C, rfl⟩ : ∃ (R : Fin 256) (C : Fin 1536), j = ix2 R C := ⟨_, _, eq_ix2 (n0 := 256) (n1 := 1536) j⟩
  rw [View.read_apply]
  have h0 : ((cfg0.win 12).blk t).view.emb (ix2 R C) 0 = row t R := by
    apply Fin.ext
    show win0_12.index t 0 * 256 + 1 * R.val = t.val * 256 + R.val
    rw [(idx12 t).1]; omega
  have h1 : ((cfg0.win 12).blk t).view.emb (ix2 R C) 1 = C := by
    apply Fin.ext
    show win0_12.index t 1 * 1536 + 1 * C.val = _
    rw [(idx12 t).2]; omega
  refine Eq.trans ?_ (congr (congrArg (fun (r : Fin 17408) (n : Fin 1536) => mlsOf (projected (m ((c : Thread nD τ).loc main_arg0)) (m ((c : Thread nD τ).loc main_arg1)) (m ((c : Thread nD τ).loc main_arg2)) (m ((c : Thread nD τ).loc main_arg3)) r) n) h0) h1).symm
  refine (out12_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) R C).trans ?_
  rw [seg_row]

theorem final12 (c : Dev nD) : (dats m 0 c).arrAt 12 cfg0.N = res12 m c :=
  (dats m 0 c).arrAt_eq_of_cover 12 (res12 m c) (fun t _ => flushed12 m c t) fun i => by
    have hN : grid0.N = 68 := by decide
    have h0 : (i 0 : Nat) < 17408 := (i 0).isLt
    have h1 : (i 1 : Nat) < 1536 := (i 1).isLt
    have hx : ∀ t : Fin grid0.N, win0_12.xsize (grid0.coords t) 0 = 256 ∧ win0_12.xsize (grid0.coords t) 1 = 1536 := by
      decide +kernel
    obtain ⟨t, ht⟩ : ∃ t : Fin grid0.N, t.val = (i 0 : Nat) / 256 := ⟨⟨(i 0 : Nat) / 256, by omega⟩, rfl⟩
    refine ⟨t, flush0_12 t, ?_⟩
    show i ∈ ((View.whole main_v0_4).slice (win0_12.rect t)).set
    rw [View.set_slice_whole, Rect.mem_set_unit]
    intro a
    match a with
    | ⟨0, _⟩ =>
      show win0_12.index t 0 * 256 ≤ (i 0 : Nat) ∧ (i 0 : Nat) < win0_12.index t 0 * 256 + win0_12.xsize (grid0.coords t) 0
      rw [(idx12 t).1, (hx t).1]; omega
    | ⟨1, _⟩ =>
      show win0_12.index t 1 * 1536 ≤ (i 1 : Nat) ∧ (i 1 : Nat) < win0_12.index t 1 * 1536 + win0_12.xsize (grid0.coords t) 1
      rw [(idx12 t).2, (hx t).2]; omega

/-- Result 5 as a function of the arguments held in memory. -/
abbrev res13 (c : Dev nD) : Buf (Elt Ideal) ((c : Thread nD τ).loc main_v0_5) := fun j => gateOf (projected (m ((c : Thread nD τ).loc main_arg0)) (m ((c : Thread nD τ).loc main_arg1)) (m ((c : Thread nD τ).loc main_arg2)) (m ((c : Thread nD τ).loc main_arg3)) (j 0)) (j 1)

theorem flushed13 (c : Dev nD) (t : Fin cfg0.N) :
    (dats m 0 c).flushed 13 t = ((cfg0.win 13).blk t).view.read (Elt Ideal) (res13 m c) := by
  rw [Value.flushed13_A]
  funext j
  obtain ⟨R, C, rfl⟩ : ∃ (R : Fin 256) (C : Fin 128), j = ix2 R C := ⟨_, _, eq_ix2 (n0 := 256) (n1 := 128) j⟩
  rw [View.read_apply]
  have h0 : ((cfg0.win 13).blk t).view.emb (ix2 R C) 0 = row t R := by
    apply Fin.ext
    show win0_13.index t 0 * 256 + 1 * R.val = t.val * 256 + R.val
    rw [(idx13 t).1]; omega
  have h1 : ((cfg0.win 13).blk t).view.emb (ix2 R C) 1 = C := by
    apply Fin.ext
    show win0_13.index t 1 * 128 + 1 * C.val = _
    rw [(idx13 t).2]; omega
  refine Eq.trans ?_ (congr (congrArg (fun (r : Fin 17408) (n : Fin 128) => gateOf (projected (m ((c : Thread nD τ).loc main_arg0)) (m ((c : Thread nD τ).loc main_arg1)) (m ((c : Thread nD τ).loc main_arg2)) (m ((c : Thread nD τ).loc main_arg3)) r) n) h0) h1).symm
  refine (out13_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) R C).trans ?_
  rw [seg_row]
  rfl

theorem final13 (c : Dev nD) : (dats m 0 c).arrAt 13 cfg0.N = res13 m c :=
  (dats m 0 c).arrAt_eq_of_cover 13 (res13 m c) (fun t _ => flushed13 m c t) fun i => by
    have hN : grid0.N = 68 := by decide
    have h0 : (i 0 : Nat) < 17408 := (i 0).isLt
    have h1 : (i 1 : Nat) < 128 := (i 1).isLt
    have hx : ∀ t : Fin grid0.N, win0_13.xsize (grid0.coords t) 0 = 256 ∧ win0_13.xsize (grid0.coords t) 1 = 128 := by
      decide +kernel
    obtain ⟨t, ht⟩ : ∃ t : Fin grid0.N, t.val = (i 0 : Nat) / 256 := ⟨⟨(i 0 : Nat) / 256, by omega⟩, rfl⟩
    refine ⟨t, flush0_13 t, ?_⟩
    show i ∈ ((View.whole main_v0_5).slice (win0_13.rect t)).set
    rw [View.set_slice_whole, Rect.mem_set_unit]
    intro a
    match a with
    | ⟨0, _⟩ =>
      show win0_13.index t 0 * 256 ≤ (i 0 : Nat) ∧ (i 0 : Nat) < win0_13.index t 0 * 256 + win0_13.xsize (grid0.coords t) 0
      rw [(idx13 t).1, (hx t).1]; omega
    | ⟨1, _⟩ =>
      show win0_13.index t 1 * 128 ≤ (i 1 : Nat) ∧ (i 1 : Nat) < win0_13.index t 1 * 128 + win0_13.xsize (grid0.coords t) 1
      rw [(idx13 t).2, (hx t).2]; omega

/-- Result 6 as a function of the arguments held in memory. -/
abbrev res14 (c : Dev nD) : Buf (Elt Ideal) ((c : Thread nD τ).loc main_v0_6) := fun j => Ideal.logistic (projected (m ((c : Thread nD τ).loc main_arg0)) (m ((c : Thread nD τ).loc main_arg1)) (m ((c : Thread nD τ).loc main_arg2)) (m ((c : Thread nD τ).loc main_arg3)) (j 0) (gateCol (j 1)))

theorem flushed14 (c : Dev nD) (t : Fin cfg0.N) :
    (dats m 0 c).flushed 14 t = ((cfg0.win 14).blk t).view.read (Elt Ideal) (res14 m c) := by
  rw [Value.flushed14_A]
  funext j
  obtain ⟨R, C, rfl⟩ : ∃ (R : Fin 256) (C : Fin 3072), j = ix2 R C := ⟨_, _, eq_ix2 (n0 := 256) (n1 := 3072) j⟩
  rw [View.read_apply]
  have h0 : ((cfg0.win 14).blk t).view.emb (ix2 R C) 0 = row t R := by
    apply Fin.ext
    show win0_14.index t 0 * 256 + 1 * R.val = t.val * 256 + R.val
    rw [(idx14 t).1]; omega
  have h1 : ((cfg0.win 14).blk t).view.emb (ix2 R C) 1 = C := by
    apply Fin.ext
    show win0_14.index t 1 * 3072 + 1 * C.val = _
    rw [(idx14 t).2]; omega
  refine Eq.trans ?_ (congr (congrArg (fun (r : Fin 17408) (n : Fin 3072) => Ideal.logistic (projected (m ((c : Thread nD τ).loc main_arg0)) (m ((c : Thread nD τ).loc main_arg1)) (m ((c : Thread nD τ).loc main_arg2)) (m ((c : Thread nD τ).loc main_arg3)) r (gateCol n))) h0) h1).symm
  refine (out14_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) R C).trans ?_
  rw [seg_row]

theorem final14 (c : Dev nD) : (dats m 0 c).arrAt 14 cfg0.N = res14 m c :=
  (dats m 0 c).arrAt_eq_of_cover 14 (res14 m c) (fun t _ => flushed14 m c t) fun i => by
    have hN : grid0.N = 68 := by decide
    have h0 : (i 0 : Nat) < 17408 := (i 0).isLt
    have h1 : (i 1 : Nat) < 3072 := (i 1).isLt
    have hx : ∀ t : Fin grid0.N, win0_14.xsize (grid0.coords t) 0 = 256 ∧ win0_14.xsize (grid0.coords t) 1 = 3072 := by
      decide +kernel
    obtain ⟨t, ht⟩ : ∃ t : Fin grid0.N, t.val = (i 0 : Nat) / 256 := ⟨⟨(i 0 : Nat) / 256, by omega⟩, rfl⟩
    refine ⟨t, flush0_14 t, ?_⟩
    show i ∈ ((View.whole main_v0_6).slice (win0_14.rect t)).set
    rw [View.set_slice_whole, Rect.mem_set_unit]
    intro a
    match a with
    | ⟨0, _⟩ =>
      show win0_14.index t 0 * 256 ≤ (i 0 : Nat) ∧ (i 0 : Nat) < win0_14.index t 0 * 256 + win0_14.xsize (grid0.coords t) 0
      rw [(idx14 t).1, (hx t).1]; omega
    | ⟨1, _⟩ =>
      show win0_14.index t 1 * 3072 ≤ (i 1 : Nat) ∧ (i 1 : Nat) < win0_14.index t 1 * 3072 + win0_14.xsize (grid0.coords t) 1
      rw [(idx14 t).2, (hx t).2]; omega

/-- A grid point as a block's number. -/
def t68 (t : Fin grid0.N) : Fin 68 := ⟨t.val, by
  have := t.isLt; have e : grid0.N = 68 := by decide
  omega⟩

/-- Result 3, the values in blocks and transposed. -/
abbrev res11 (c : Dev nD) : Buf (Elt Ideal) ((c : Thread nD τ).loc main_v0_3) := fun j => valueOf (projected (m ((c : Thread nD τ).loc main_arg0)) (m ((c : Thread nD τ).loc main_arg1)) (m ((c : Thread nD τ).loc main_arg2)) (m ((c : Thread nD τ).loc main_arg3)) (blockRow (j 0) (j 2))) (j 1)

theorem flushed11 (c : Dev nD) (t : Fin cfg0.N) :
    (dats m 0 c).flushed 11 t = ((cfg0.win 11).blk t).view.read (Elt Ideal) (res11 m c) := by
  rw [Value.flushed11_A]
  funext j
  obtain ⟨Z, D, C, rfl⟩ : ∃ (Z : Fin 1) (D : Fin 128) (C : Fin 256), j = ix3 Z D C := ⟨_, _, _, eq_ix3 (n0 := 1) (n1 := 128) (n2 := 256) j⟩
  obtain rfl : Z = 0 := Subsingleton.elim _ _
  rw [View.read_apply]
  have h0 : ((cfg0.win 11).blk t).view.emb (ix3 0 D C) 0 = (t68 t : Fin 68) := by
    apply Fin.ext
    show win0_11.index t 0 * 1 + 1 * 0 = t.val
    rw [(idx11 t).1]; omega
  have h1 : ((cfg0.win 11).blk t).view.emb (ix3 0 D C) 1 = D := by
    apply Fin.ext
    show win0_11.index t 1 * 128 + 1 * D.val = _
    rw [(idx11 t).2.1]; omega
  have h2 : ((cfg0.win 11).blk t).view.emb (ix3 0 D C) 2 = C := by
    apply Fin.ext
    show win0_11.index t 2 * 256 + 1 * C.val = _
    rw [(idx11 t).2.2]; omega
  refine Eq.trans ?_ (congr (congr (congrArg (fun (t : Fin 68) (d : Fin 128) (i : Fin 256) => valueOf (projected (m ((c : Thread nD τ).loc main_arg0)) (m ((c : Thread nD τ).loc main_arg1)) (m ((c : Thread nD τ).loc main_arg2)) (m ((c : Thread nD τ).loc main_arg3)) (blockRow t i)) d) h0) h1) h2).symm
  refine (out11_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (iblk m c 0 t) (iblk m c 1 t) (iblk m c 2 t) (iblk m c 3 t) (iblk m c 4 t) (iblk m c 5 t) (iblk m c 6 t) (iblk m c 7 t) D C).trans ?_
  rw [seg_row]
  rfl

theorem final11 (c : Dev nD) : (dats m 0 c).arrAt 11 cfg0.N = res11 m c :=
  (dats m 0 c).arrAt_eq_of_cover 11 (res11 m c) (fun t _ => flushed11 m c t) fun i => by
    have hN : grid0.N = 68 := by decide
    have h0 : (i 0 : Nat) < 68 := (i 0).isLt
    have h1 : (i 1 : Nat) < 128 := (i 1).isLt
    have h2 : (i 2 : Nat) < 256 := (i 2).isLt
    have hx : ∀ t : Fin grid0.N, win0_11.xsize (grid0.coords t) 0 = 1 ∧ win0_11.xsize (grid0.coords t) 1 = 128
        ∧ win0_11.xsize (grid0.coords t) 2 = 256 := by
      decide +kernel
    obtain ⟨t, ht⟩ : ∃ t : Fin grid0.N, t.val = (i 0 : Nat) := ⟨⟨(i 0 : Nat), by omega⟩, rfl⟩
    refine ⟨t, flush0_11 t, ?_⟩
    show i ∈ ((View.whole main_v0_3).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + win0_11.xsize (grid0.coords t) 0
      rw [(idx11 t).1, (hx t).1]; omega
    | ⟨1, _⟩ =>
      show win0_11.index t 1 * 128 ≤ (i 1 : Nat) ∧ (i 1 : Nat) < win0_11.index t 1 * 128 + win0_11.xsize (grid0.coords t) 1
      rw [(idx11 t).2.1, (hx t).2.1]; omega
    | ⟨2, _⟩ =>
      show win0_11.index t 2 * 256 ≤ (i 2 : Nat) ∧ (i 2 : Nat) < win0_11.index t 2 * 256 + win0_11.xsize (grid0.coords t) 2
      rw [(idx11 t).2.2, (hx t).2.2]; omega

/-- The run: the results hold the projection's values, and the arguments stay as they were. -/
theorem run (h : ∀ c, Normable m c) : θ_run defs (onTc (τ := τ) (main (F := Ideal))) ⟨m, fun _ => 0, ρ⟩ fun r => ∀ c : Dev nD,
      r.2.mem ((c : Thread nD τ).loc main_v0_0) = res8 m c
      ∧ r.2.mem ((c : Thread nD τ).loc main_v0_1) = res9 m c
      ∧ r.2.mem ((c : Thread nD τ).loc main_v0_2) = res10 m c
      ∧ r.2.mem ((c : Thread nD τ).loc main_v0_3) = res11 m c
      ∧ r.2.mem ((c : Thread nD τ).loc main_v0_4) = res12 m c
      ∧ r.2.mem ((c : Thread nD τ).loc main_v0_5) = res13 m c
      ∧ r.2.mem ((c : Thread nD τ).loc main_v0_6) = res14 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ g c => by
    obtain ⟨g0, g1, g2, g3, g4, g5, g6, gr⟩ := g c
    exact ⟨g0.trans (final8 m c), g1.trans (final9 m c (h c)), g2.trans (final10 m c (h c)), g3.trans (final11 m c),
      g4.trans (final12 m c), g5.trans (final13 m c), g6.trans (final14 m c), gr⟩) (Value.run_blocks m ρ)

end Cert.ProjectIdeal.Row
end
end
-- ==== Proof.ProjRef.lean ====
/-
  What the projection's reference computes: every element of every result is the projection's value at its row and column.
-/
module
public import proofs.«01_k».proof.Proof.Gen.ProjectReferenceIdeal.Read
public import proofs.«01_k».proof.Proof.ProjSpec
public import Idealize.ShloMosaic.Lib.Pointwise
public import Idealize.ShloMosaic.Lib.ValueIdx
public import Idealize.ShloMosaic.Lib.IdealHost
public import Idealize.ShloMosaic.PureOps.Ideal
@[expose] public section
set_option maxRecDepth 16384
noncomputable section
namespace Cert.ProjectReferenceIdeal.Row
open Cert.ProjectReferenceIdeal Cert.ProjectReferenceIdeal.Gen Cert.ProjectReferenceIdeal.Read Cert.Row Idealize.ShloMosaic
  Idealize.ShloMosaic.TcCoe Idealize.SL.Sem

/-- Two segments laid one after the other and read by row: the row's own segment decides. -/
theorem rows_apply (L : (⟨S4x256x1024, .f32⟩ : BufTy).Contents (Elt Ideal)) (H : (⟨S4x4096x1024, .f32⟩ : BufTy).Contents (Elt Ideal))
    (y : Fin 4 → Fin 2 → Fin 1024 → EReal) (hL : ∀ a s c, L (ix3 a s c) = y a 0 c) (hH : ∀ a s c, H (ix3 a s c) = y a 1 c)
    (ρ : Fin 17408) (c : Fin 1024) :
    (shapeCast _ (concatenate S4x4352x1024 1 [⟨S4x256x1024, L⟩, ⟨S4x4096x1024, H⟩] concatenates_S4x256x1024_S4x4096x1024_S4x4352x1024_d1)
      shapeCasts_S4x4352x1024_S17408x1024 : (⟨S17408x1024, .f32⟩ : BufTy).Contents (Elt Ideal)) (ix2 ρ c)
      = y ⟨ρ.val / 4352, by omega⟩ (if ρ.val % 4352 < 256 then 0 else 1) c := by
  have hρ := ρ.isLt; have hc := c.isLt
  refine (shapeCast_apply _ shapeCasts_S4x4352x1024_S17408x1024 (ix2 ρ c)
    (ix3 (⟨ρ.val / 4352, by omega⟩ : Fin 4) (⟨ρ.val % 4352, by omega⟩ : Fin 4352) c) ?_).trans ?_
  · rewrite [Shape.rowMajor_val_two, Shape.rowMajor_val_three]
    show (ρ.val / 4352 * 4352 + ρ.val % 4352) * 1024 + c.val = ρ.val * 1024 + c.val
    omega
  rw [concatenate_pair_apply]
  by_cases h : ρ.val % 4352 < 256
  · refine (dif_pos (show ρ.val % 4352 < 256 from h)).trans ?_
    rw [if_pos h]
    exact (congrArg L (eq_ix3 _)).trans (hL _ _ _)
  · refine (dif_neg (show ¬ ρ.val % 4352 < 256 from h)).trans ?_
    rw [if_neg h]
    exact (congrArg H (eq_ix3 _)).trans (hH _ _ _)

/-- The modulation's row is the table's row of its batch entry and segment. -/
theorem modRow_eq (ρ : Fin 17408) (h : ρ.val / 4352 * 2 + (if ρ.val % 4352 < 256 then (0 : Fin 2) else 1).val < 8) :
    (⟨ρ.val / 4352 * 2 + (if ρ.val % 4352 < 256 then (0 : Fin 2) else 1).val, h⟩ : Fin 8) = modRow ρ := by
  refine Fin.ext ?_
  show ρ.val / 4352 * 2 + (if ρ.val % 4352 < 256 then (0 : Fin 2) else 1).val = ρ.val / 4352 * 2 + (if ρ.val % 4352 < 256 then 0 else 1)
  by_cases h : ρ.val % 4352 < 256
  · rw [if_pos h, if_pos h]; rfl
  · rw [if_neg h, if_neg h]; rfl

/-- The scale rows of the modulation table, by batch entry and segment. -/
theorem scale_table (x1 : (⟨S8x6x1024, .f32⟩ : BufTy).Contents (Elt Ideal)) (a : Fin 4) (s : Fin 2) (c : Fin 1024) :
    val_main_v20 (F := Ideal) x1 (ix3 a s c) = x1 (ix3 ⟨a.val * 2 + s.val, by omega⟩ 1 c) := by
  rw [val_main_v20_apply, val_main_v19_apply, val_main_v18_apply]
  have ha := a.isLt; have hs := s.isLt; have hc := c.isLt
  have e1 : ((a.val * 2 + s.val) * 1024 + c.val) / 2048 = a.val := by omega
  have e2 : ((a.val * 2 + s.val) * 1024 + c.val) / 1024 % 2 = s.val := by omega
  have e3 : ((a.val * 2 + s.val) * 1024 + c.val) % 1024 = c.val := by omega
  refine congrArg x1 (funext fun d => Fin.ext ?_)
  match d with
  | ⟨0, _⟩ =>
    show ((((((a.val * 2 + s.val) * 1024 + c.val) / 2048 * 2 + ((a.val * 2 + s.val) * 1024 + c.val) / 1024 % 2) * 6 + (1 + 0)) * 1024
      + ((a.val * 2 + s.val) * 1024 + c.val) % 1024) / 6144) = a.val * 2 + s.val
    rw [e1, e2, e3]; omega
  | ⟨1, _⟩ =>
    show ((((((a.val * 2 + s.val) * 1024 + c.val) / 2048 * 2 + ((a.val * 2 + s.val) * 1024 + c.val) / 1024 % 2) * 6 + (1 + 0)) * 1024
      + ((a.val * 2 + s.val) * 1024 + c.val) % 1024) / 1024 % 6) = 1
    rw [e1, e2, e3]; omega
  | ⟨2, _⟩ =>
    show ((((((a.val * 2 + s.val) * 1024 + c.val) / 2048 * 2 + ((a.val * 2 + s.val) * 1024 + c.val) / 1024 % 2) * 6 + (1 + 0)) * 1024
      + ((a.val * 2 + s.val) * 1024 + c.val) % 1024) % 1024) = c.val
    rw [e1, e2, e3]; omega

/-- The modulation's scale at row `ρ`. -/
theorem scale_apply (x1 : (⟨S8x6x1024, .f32⟩ : BufTy).Contents (Elt Ideal)) (ρ : Fin 17408) (c : Fin 1024) :
    val_main_v26 (F := Ideal) x1 (ix2 ρ c) = x1 (ix3 (modRow ρ) 1 c) := by
  unfold val_main_v26 val_main_v25
  refine (rows_apply _ _ (fun a s c => val_main_v20 (F := Ideal) x1 (ix3 a s c)) (fun a s c => ?_) (fun a s c => ?_) ρ c).trans ?_
  · rw [val_main_v22_apply, val_main_v21_apply]
    exact congrArg (val_main_v20 (F := Ideal) x1) (eq_ix3 _)
  · rw [val_main_v24_apply, val_main_v23_apply]
    exact congrArg (val_main_v20 (F := Ideal) x1) (eq_ix3 _)
  · refine (scale_table x1 _ _ _).trans ?_
    exact congrArg (fun r => x1 (ix3 r 1 c)) (modRow_eq ρ _)

/-- The shift rows of the modulation table, by batch entry and segment. -/
theorem shift_table (x1 : (⟨S8x6x1024, .f32⟩ : BufTy).Contents (Elt Ideal)) (a : Fin 4) (s : Fin 2) (c : Fin 1024) :
    val_main_v32 (F := Ideal) x1 (ix3 a s c) = x1 (ix3 ⟨a.val * 2 + s.val, by omega⟩ 0 c) := by
  rw [val_main_v32_apply, val_main_v31_apply, val_main_v30_apply]
  have ha := a.isLt; have hs := s.isLt; have hc := c.isLt
  have e1 : ((a.val * 2 + s.val) * 1024 + c.val) / 2048 = a.val := by omega
  have e2 : ((a.val * 2 + s.val) * 1024 + c.val) / 1024 % 2 = s.val := by omega
  have e3 : ((a.val * 2 + s.val) * 1024 + c.val) % 1024 = c.val := by omega
  refine congrArg x1 (funext fun d => Fin.ext ?_)
  match d with
  | ⟨0, _⟩ =>
    show ((((((a.val * 2 + s.val) * 1024 + c.val) / 2048 * 2 + ((a.val * 2 + s.val) * 1024 + c.val) / 1024 % 2) * 6 + 0) * 1024
      + ((a.val * 2 + s.val) * 1024 + c.val) % 1024) / 6144) = a.val * 2 + s.val
    rw [e1, e2, e3]; omega
  | ⟨1, _⟩ =>
    show ((((((a.val * 2 + s.val) * 1024 + c.val) / 2048 * 2 + ((a.val * 2 + s.val) * 1024 + c.val) / 1024 % 2) * 6 + 0) * 1024
      + ((a.val * 2 + s.val) * 1024 + c.val) % 1024) / 1024 % 6) = 0
    rw [e1, e2, e3]; omega
  | ⟨2, _⟩ =>
    show ((((((a.val * 2 + s.val) * 1024 + c.val) / 2048 * 2 + ((a.val * 2 + s.val) * 1024 + c.val) / 1024 % 2) * 6 + 0) * 1024
      + ((a.val * 2 + s.val) * 1024 + c.val) % 1024) % 1024) = c.val
    rw [e1, e2, e3]; omega

/-- The modulation's shift at row `ρ`. -/
theorem shift_apply (x1 : (⟨S8x6x1024, .f32⟩ : BufTy).Contents (Elt Ideal)) (ρ : Fin 17408) (c : Fin 1024) :
    val_main_v38 (F := Ideal) x1 (ix2 ρ c) = x1 (ix3 (modRow ρ) 0 c) := by
  unfold val_main_v38 val_main_v37
  refine (rows_apply _ _ (fun a s c => val_main_v32 (F := Ideal) x1 (ix3 a s c)) (fun a s c => ?_) (fun a s c => ?_) ρ c).trans ?_
  · rw [val_main_v34_apply, val_main_v33_apply]
    exact congrArg (val_main_v32 (F := Ideal) x1) (eq_ix3 _)
  · rw [val_main_v36_apply, val_main_v35_apply]
    exact congrArg (val_main_v32 (F := Ideal) x1) (eq_ix3 _)
  · refine (shift_table x1 _ _ _).trans ?_
    exact congrArg (fun r => x1 (ix3 r 0 c)) (modRow_eq ρ _)

section
variable (x0 : (⟨S17408x1024, .f32⟩ : BufTy).Contents (Elt Ideal)) (x1 : (⟨S8x6x1024, .f32⟩ : BufTy).Contents (Elt Ideal))
  (x2 : (⟨S1024x7040, .bf16⟩ : BufTy).Contents (Elt Ideal)) (x3 : (⟨S1x7040, .f32⟩ : BufTy).Contents (Elt Ideal))
  (x4 x5 : (⟨S4352x128, .f32⟩ : BufTy).Contents (Elt Ideal)) (x6 x7 : (⟨S1x128, .f32⟩ : BufTy).Contents (Elt Ideal))

/-- The mean of an input row. -/
theorem first_mean (ρ : Fin 17408) : val_main_v3 (F := Ideal) x0 (ix2 ρ 0)
    = mean (fun c => x0 (ix2 ρ c)) := by
  rw [val_main_v3_apply, val_main_v1_apply, val_main_v0_apply, val_main_v2_apply, val_main_cst_apply, val_main_cst_0_apply]
  have f : ∀ k, idx_main_v0 (idx_main_v1 (ix2 ρ 0)) k = ix2 ρ k := fun k => eq_ix2 _
  simp only [f]
  refine congrArg (fun s => Ideal.div s _) ?_
  show Ideal.ofBits .f32 0x00000000#32 + _ = _
  rw [Ideal.ofBits_zero_f32, zero_add]

theorem first_centred (ρ : Fin 17408) (n : Fin 1024) : val_main_v5 (F := Ideal) x0 (ix2 ρ n)
    = centred (fun c => x0 (ix2 ρ c)) n := by
  have e : idx_main_v4 (ix2 ρ n) = ix2 ρ 0 := eq_ix2 _
  rw [val_main_v5_apply, val_main_v4_apply, e, first_mean]
  rfl

/-- The variance, as the mean of the squares. -/
theorem first_var (ρ : Fin 17408) : val_main_v10 (F := Ideal) x0 (ix2 ρ 0)
    = mean (fun c => val_main_v5 (F := Ideal) x0 (ix2 ρ c)
        * val_main_v5 (F := Ideal) x0 (ix2 ρ c)) := by
  rw [val_main_v10_apply, val_main_v8_apply, val_main_v7_apply, val_main_v9_apply, val_main_cst_1_apply, val_main_cst_2_apply]
  have f : ∀ k, idx_main_v7 (idx_main_v8 (ix2 ρ 0)) k = ix2 ρ k := fun k => eq_ix2 _
  simp only [f, val_main_v6_apply]
  refine congrArg (fun s => Ideal.div s _) ?_
  show Ideal.ofBits .f32 0x00000000#32 + _ = _
  rw [Ideal.ofBits_zero_f32, zero_add]
  rfl

/-- The norm of an input row. -/
theorem first_norm (ρ : Fin 17408) (n : Fin 1024) : val_main_v17 (F := Ideal) x0 (ix2 ρ n)
    = lnorm (fun c => x0 (ix2 ρ c)) n := by
  have e0 : idx_main_v11 (ix2 ρ n) = ix2 ρ 0 := eq_ix2 _
  have e1 : idx_main_v16 (ix2 ρ n) = ix2 ρ 0 := eq_ix2 _
  have hm : val_main_v12 (F := Ideal) x0 (ix2 ρ n) = centred (fun c => x0 (ix2 ρ c)) n := by
    rw [val_main_v12_apply, val_main_v11_apply, e0, first_mean]
    rfl
  rw [val_main_v17_apply, hm, val_main_v16_apply, e1, val_main_v15_apply, val_main_v14_apply, first_var,
    val_main_v13_apply, val_main_cst_3_apply]
  simp only [first_centred]
  rfl

/-- The modulated norm. -/
theorem hrow_apply (ρ : Fin 17408) (k : Fin 1024) : val_main_v39 (F := Ideal) x0 x1 (ix2 ρ k)
    = modulated (fun k => x0 (ix2 ρ k)) (fun k => x1 (ix3 (modRow ρ) 0 k)) (fun k => x1 (ix3 (modRow ρ) 1 k)) k := by
  rw [val_main_v39_apply, val_main_v29_apply, val_main_v28_apply, val_main_v27_apply, val_main_cst_4_apply, first_norm, scale_apply,
    shift_apply]
  rfl

/-- The projected row. -/
theorem proj_apply (ρ : Fin 17408) (j : Fin 7040) : val_main_v43 (F := Ideal) x0 x1 x2 x3 (ix2 ρ j) = projected x0 x1 x2 x3 ρ j := by
  have e : idx_main_v42 (ix2 ρ j) = ix2 0 j := eq_ix2 _
  have f : ∀ k, lidx_main_v41 (ix2 ρ j) k = ix2 ρ k := fun k => eq_ix2 _
  have g : ∀ k, ridx_main_v41 (ix2 ρ j) k = ix2 k j := fun k => eq_ix2 _
  rw [val_main_v43_apply, val_main_v42_apply, e, val_main_v41_apply]
  simp only [f, g, val_main_v40_apply, hrow_apply]
  rfl

/-- The projected row at an index with these coordinates. -/
theorem proj_at (i : S17408x7040.Idx) (ρ : Fin 17408) (j : Fin 7040) (h0 : (i 0).val = ρ.val) (h1 : (i 1).val = j.val) :
    val_main_v43 (F := Ideal) x0 x1 x2 x3 i = projected x0 x1 x2 x3 ρ j := by
  have e : i = ix2 ρ j := by
    funext d
    refine Fin.ext ?_
    match d with
    | ⟨0, _⟩ => exact h0
    | ⟨1, _⟩ => exact h1
  rw [e, proj_apply]

theorem logistic_eq (x : EReal) : Ideal.div (Ideal.ofBits .f32 0x3F800000#32) (Ideal.ofBits .f32 0x3F800000#32 + Ideal.exp (-x)) = Ideal.logistic x := by
  rw [bits_one]; rfl

theorem gates_apply (ρ : Fin 17408) (n : Fin 128) : val_main_v48 (F := Ideal) x0 x1 x2 x3 (ix2 ρ n) = gateOf (projected x0 x1 x2 x3 ρ) n := by
  rw [val_main_v48_apply]
  exact proj_at _ _ _ _ _ ρ ⟨3840 + n.val, by omega⟩ rfl rfl

theorem merge_apply (ρ : Fin 17408) (n : Fin 3072) : val_main_v130 (F := Ideal) x0 x1 x2 x3 (ix2 ρ n) = Ideal.logistic (projected x0 x1 x2 x3 ρ (gateCol n)) := by
  have e : val_main_v49 (F := Ideal) x0 x1 x2 x3 (ix2 ρ n) = projected x0 x1 x2 x3 ρ (gateCol n) := by
    rw [val_main_v49_apply]
    exact proj_at _ _ _ _ _ ρ (gateCol n) rfl rfl
  rw [val_main_v130_apply, val_main_v129_apply, val_main_v128_apply, val_main_v127_apply, val_main_v126_apply, val_main_v125_apply,
    val_main_v124_apply, e, val_main_cst_13_apply, val_main_cst_14_apply]
  exact logistic_eq _

theorem value_apply (t : Fin 68) (d : Fin 128) (i : Fin 256) :
    val_main_v122 (F := Ideal) x0 x1 x2 x3 (ix3 t d i) = valueOf (projected x0 x1 x2 x3 (blockRow t i)) d := by
  rw [val_main_v122_apply, val_main_v118_apply, val_main_v117_apply, val_main_v46_apply]
  have ht := t.isLt; have hd := d.isLt; have hi := i.isLt
  exact proj_at _ _ _ _ _ (blockRow t i) ⟨2176 + d.val, by omega⟩
    (show ((t.val * 256 + i.val) * 128 + d.val) / 128 = t.val * 256 + i.val by omega)
    (show 2176 + ((t.val * 256 + i.val) * 128 + d.val) % 128 = 2176 + d.val by omega)

/-! The retention branch's arguments. -/

theorem v50_at (ρ : Fin 17408) (n : Fin 256) : val_main_v50 (F := Ideal) x0 x1 x2 x3 (ix2 ρ n) = projected x0 x1 x2 x3 ρ ⟨n.val, by omega⟩ := by
  rw [val_main_v50_apply, val_main_v44_apply]
  exact proj_at _ _ _ _ _ ρ ⟨n.val, by omega⟩ rfl rfl
theorem v53_at (ρ : Fin 17408) (n : Fin 256) : val_main_v53 (F := Ideal) x0 x1 x2 x3 (ix2 ρ n) = projected x0 x1 x2 x3 ρ ⟨256 + n.val, by omega⟩ * Ideal.ofBits .f32 0x3E000000#32 := by
  rw [val_main_v53_apply, val_main_v51_apply, val_main_v44_apply, val_main_v52_apply, val_main_cst_5_apply]
  exact congrArg (fun q => q * Ideal.ofBits .f32 0x3E000000#32) (proj_at _ _ _ _ _ ρ ⟨256 + n.val, by omega⟩ rfl rfl)
theorem v55_at (ρ : Fin 17408) (n : Fin 512) : val_main_v55 (F := Ideal) x0 x1 x2 x3 (ix2 ρ n) = projected x0 x1 x2 x3 ρ ⟨512 + n.val, by omega⟩ := by
  rw [val_main_v55_apply, val_main_v44_apply]
  exact proj_at _ _ _ _ _ ρ ⟨512 + n.val, by omega⟩ rfl rfl
theorem v56_at (ρ : Fin 17408) (n : Fin 512) : val_main_v56 (F := Ideal) x0 x1 x2 x3 (ix2 ρ n) = projected x0 x1 x2 x3 ρ ⟨1024 + n.val, by omega⟩ := by
  rw [val_main_v56_apply, val_main_v44_apply]
  exact proj_at _ _ _ _ _ ρ ⟨1024 + n.val, by omega⟩ rfl rfl
theorem v57_at (ρ : Fin 17408) (n : Fin 512) : val_main_v57 (F := Ideal) x0 x1 x2 x3 (ix2 ρ n)
    = projected x0 x1 x2 x3 ρ ⟨1024 + n.val, by omega⟩ * Ideal.logistic (projected x0 x1 x2 x3 ρ ⟨1024 + n.val, by omega⟩) := by
  rw [val_main_v57_apply, val_main_call0_v5_apply, val_main_call0_v4_apply, val_main_call0_v3_apply, val_main_call0_v2_apply,
    val_main_call0_v1_apply, val_main_call0_v0_apply, v56_at, val_main_call0_cst_apply, val_main_call0_cst_0_apply]
  exact congrArg (fun q => _ * q) (logistic_eq _)
theorem v54_at (ρ : Fin 17408) (n : Fin 512) : val_main_v54 (F := Ideal) x0 x1 x2 x3 (ix2 ρ n) = retOf (projected x0 x1 x2 x3 ρ) ⟨n.val, by omega⟩ := by
  unfold val_main_v54
  rw [concatenate_pair_apply]
  by_cases h : n.val < 256
  · refine (dif_pos (show n.val < 256 from h)).trans ?_
    exact (congrArg (val_main_v50 (F := Ideal) x0 x1 x2 x3) (eq_ix2 _)).trans ((v50_at _ _ _ _ ρ ⟨n.val, h⟩).trans (ret_0 _ ⟨n.val, by omega⟩ h).symm)
  · refine (dif_neg (show ¬ n.val < 256 from h)).trans ?_
    refine (congrArg (val_main_v53 (F := Ideal) x0 x1 x2 x3) (eq_ix2 _)).trans ((v53_at _ _ _ _ ρ ⟨n.val - 256, by omega⟩).trans
      (Eq.trans ?_ (ret_1 _ ⟨n.val, by omega⟩ (show 256 ≤ n.val by omega) n.isLt).symm))
    exact congrArg (fun q => projected x0 x1 x2 x3 ρ q * _) (Fin.ext (show (256 + (n.val - 256)) = n.val by omega))
theorem v58_at (ρ : Fin 17408) (n : Fin 1024) : val_main_v58 (F := Ideal) x0 x1 x2 x3 (ix2 ρ n) = retOf (projected x0 x1 x2 x3 ρ) ⟨512 + n.val, by omega⟩ := by
  unfold val_main_v58
  rw [concatenate_pair_apply]
  by_cases h : n.val < 512
  · refine (dif_pos (show n.val < 512 from h)).trans ?_
    exact (congrArg (val_main_v55 (F := Ideal) x0 x1 x2 x3) (eq_ix2 _)).trans ((v55_at _ _ _ _ ρ ⟨n.val, h⟩).trans
      (ret_2 _ ⟨512 + n.val, by omega⟩ (show 512 ≤ 512 + n.val by omega) (show 512 + n.val < 1024 by omega)).symm)
  · refine (dif_neg (show ¬ n.val < 512 from h)).trans ?_
    refine (congrArg (val_main_v57 (F := Ideal) x0 x1 x2 x3) (eq_ix2 _)).trans ((v57_at _ _ _ _ ρ ⟨n.val - 512, by omega⟩).trans
      (Eq.trans ?_ (ret_3 _ ⟨512 + n.val, by omega⟩ (show 1024 ≤ 512 + n.val by omega)).symm))
    have e : (⟨(1024 + (n.val - 512)), by omega⟩ : Fin 7040) = ⟨(512 + n.val), by omega⟩ := Fin.ext (by show (1024 + (n.val - 512)) = (512 + n.val); omega)
    exact congrArg (fun q => projected x0 x1 x2 x3 ρ q * Ideal.logistic (projected x0 x1 x2 x3 ρ q)) e
theorem ret_apply (ρ : Fin 17408) (n : Fin 1536) : val_main_v119 (F := Ideal) x0 x1 x2 x3 (ix2 ρ n) = retOf (projected x0 x1 x2 x3 ρ) n := by
  rw [val_main_v119_apply]
  unfold val_main_v59
  rw [concatenate_pair_apply]
  by_cases h : n.val < 512
  · refine (dif_pos (show n.val < 512 from h)).trans ?_
    exact (congrArg (val_main_v54 (F := Ideal) x0 x1 x2 x3) (eq_ix2 _)).trans (v54_at _ _ _ _ ρ ⟨n.val, h⟩)
  · refine (dif_neg (show ¬ n.val < 512 from h)).trans ?_
    refine (congrArg (val_main_v58 (F := Ideal) x0 x1 x2 x3) (eq_ix2 _)).trans ((v58_at _ _ _ _ ρ ⟨n.val - 512, by omega⟩).trans ?_)
    exact congrArg (retOf (projected x0 x1 x2 x3 ρ)) (Fin.ext (show 512 + (n.val - 512) = n.val by omega))

/-! The matrix memory's arguments. -/

theorem v60_at (ρ : Fin 17408) (n : Fin 256) : val_main_v60 (F := Ideal) x0 x1 x2 x3 (ix2 ρ n) = projected x0 x1 x2 x3 ρ ⟨2304 + n.val, by omega⟩ := by
  rw [val_main_v60_apply, val_main_v47_apply]
  exact proj_at _ _ _ _ _ ρ ⟨2304 + n.val, by omega⟩ rfl rfl
theorem v63_at (ρ : Fin 17408) (n : Fin 256) : val_main_v63 (F := Ideal) x0 x1 x2 x3 (ix2 ρ n) = projected x0 x1 x2 x3 ρ ⟨2304 + (256 + n.val), by omega⟩ * Ideal.ofBits .f32 0x3E000000#32 := by
  rw [val_main_v63_apply, val_main_v61_apply, val_main_v47_apply, val_main_v62_apply, val_main_cst_6_apply]
  exact congrArg (fun q => q * Ideal.ofBits .f32 0x3E000000#32) (proj_at _ _ _ _ _ ρ ⟨2304 + (256 + n.val), by omega⟩ rfl rfl)
theorem v65_at (ρ : Fin 17408) (n : Fin 512) : val_main_v65 (F := Ideal) x0 x1 x2 x3 (ix2 ρ n) = projected x0 x1 x2 x3 ρ ⟨2304 + (512 + n.val), by omega⟩ := by
  rw [val_main_v65_apply, val_main_v47_apply]
  exact proj_at _ _ _ _ _ ρ ⟨2304 + (512 + n.val), by omega⟩ rfl rfl
theorem v66_at (ρ : Fin 17408) (n : Fin 512) : val_main_v66 (F := Ideal) x0 x1 x2 x3 (ix2 ρ n) = projected x0 x1 x2 x3 ρ ⟨2304 + (1024 + n.val), by omega⟩ := by
  rw [val_main_v66_apply, val_main_v47_apply]
  exact proj_at _ _ _ _ _ ρ ⟨2304 + (1024 + n.val), by omega⟩ rfl rfl
theorem v72_at (ρ : Fin 17408) (n : Fin 512) : val_main_v72 (F := Ideal) x0 x1 x2 x3 (ix2 ρ n)
    = Ideal.logistic (projected x0 x1 x2 x3 ρ ⟨2304 + (1024 + n.val), by omega⟩) := by
  rw [val_main_v72_apply, val_main_v71_apply, val_main_v70_apply, val_main_v69_apply, val_main_v68_apply, val_main_v67_apply, v66_at,
    val_main_cst_7_apply, val_main_cst_8_apply]
  exact logistic_eq _
theorem v64_at (ρ : Fin 17408) (n : Fin 512) : val_main_v64 (F := Ideal) x0 x1 x2 x3 (ix2 ρ n) = mlsOf (projected x0 x1 x2 x3 ρ) ⟨n.val, by omega⟩ := by
  unfold val_main_v64
  rw [concatenate_pair_apply]
  by_cases h : n.val < 256
  · refine (dif_pos (show n.val < 256 from h)).trans ?_
    exact (congrArg (val_main_v60 (F := Ideal) x0 x1 x2 x3) (eq_ix2 _)).trans ((v60_at _ _ _ _ ρ ⟨n.val, h⟩).trans (mls_0 _ ⟨n.val, by omega⟩ h).symm)
  · refine (dif_neg (show ¬ n.val < 256 from h)).trans ?_
    refine (congrArg (val_main_v63 (F := Ideal) x0 x1 x2 x3) (eq_ix2 _)).trans ((v63_at _ _ _ _ ρ ⟨n.val - 256, by omega⟩).trans
      (Eq.trans ?_ (mls_1 _ ⟨n.val, by omega⟩ (show 256 ≤ n.val by omega) n.isLt).symm))
    exact congrArg (fun q => projected x0 x1 x2 x3 ρ q * _) (Fin.ext (show 2304 + (256 + (n.val - 256)) = 2304 + n.val by omega))
theorem v73_at (ρ : Fin 17408) (n : Fin 1024) : val_main_v73 (F := Ideal) x0 x1 x2 x3 (ix2 ρ n) = mlsOf (projected x0 x1 x2 x3 ρ) ⟨512 + n.val, by omega⟩ := by
  unfold val_main_v73
  rw [concatenate_pair_apply]
  by_cases h : n.val < 512
  · refine (dif_pos (show n.val < 512 from h)).trans ?_
    exact (congrArg (val_main_v65 (F := Ideal) x0 x1 x2 x3) (eq_ix2 _)).trans ((v65_at _ _ _ _ ρ ⟨n.val, h⟩).trans
      (mls_2 _ ⟨512 + n.val, by omega⟩ (show 512 ≤ 512 + n.val by omega) (show 512 + n.val < 1024 by omega)).symm)
  · refine (dif_neg (show ¬ n.val < 512 from h)).trans ?_
    refine (congrArg (val_main_v72 (F := Ideal) x0 x1 x2 x3) (eq_ix2 _)).trans ((v72_at _ _ _ _ ρ ⟨n.val - 512, by omega⟩).trans
      (Eq.trans ?_ (mls_3 _ ⟨512 + n.val, by omega⟩ (show 1024 ≤ 512 + n.val by omega)).symm))
    have e : (⟨2304 + (1024 + (n.val - 512)), by omega⟩ : Fin 7040) = ⟨2304 + (512 + n.val), by omega⟩ := Fin.ext (by show 2304 + (1024 + (n.val - 512)) = 2304 + (512 + n.val); omega)
    exact congrArg (fun q => Ideal.logistic (projected x0 x1 x2 x3 ρ q)) e
theorem mls_apply (ρ : Fin 17408) (n : Fin 1536) : val_main_v123 (F := Ideal) x0 x1 x2 x3 (ix2 ρ n) = mlsOf (projected x0 x1 x2 x3 ρ) n := by
  rw [val_main_v123_apply]
  unfold val_main_v74
  rw [concatenate_pair_apply]
  by_cases h : n.val < 512
  · refine (dif_pos (show n.val < 512 from h)).trans ?_
    exact (congrArg (val_main_v64 (F := Ideal) x0 x1 x2 x3) (eq_ix2 _)).trans (v64_at _ _ _ _ ρ ⟨n.val, h⟩)
  · refine (dif_neg (show ¬ n.val < 512 from h)).trans ?_
    refine (congrArg (val_main_v73 (F := Ideal) x0 x1 x2 x3) (eq_ix2 _)).trans ((v73_at _ _ _ _ ρ ⟨n.val - 512, by omega⟩).trans ?_)
    exact congrArg (mlsOf (projected x0 x1 x2 x3 ρ)) (Fin.ext (show 512 + (n.val - 512) = n.val by omega))

/-! Queries and keys. -/

/-- Channel `e` of the pair of heads `a`, as a column of the projection. -/
def headCol (a : Fin 5) (e : Fin 128) : Fin 7040 := ⟨1536 + (a.val * 128 + e.val), by omega⟩

/-- The gain of the pair of heads `a`: four pairs of queries, one of keys. -/
def gainRow (a : Fin 5) (l : Fin 128) : EReal := if a.val < 4 then x6 (ix2 0 l) else x7 (ix2 0 l)

theorem v77_at (ρ : Fin 17408) (h : Fin 10) (d : Fin 64) : val_main_v77 (F := Ideal) x0 x1 x2 x3 (ix3 ρ h d) = projected x0 x1 x2 x3 ρ ⟨1536 + (h.val * 64 + d.val), by omega⟩ := by
  have hρ := ρ.isLt; have hh := h.isLt; have hd := d.isLt
  rw [val_main_v77_apply, val_main_v45_apply]
  exact proj_at _ _ _ _ _ ρ ⟨1536 + (h.val * 64 + d.val), by omega⟩ (show ((ρ.val * 10 + h.val) * 64 + d.val) / 640 = ρ.val by omega)
    (show 1536 + ((ρ.val * 10 + h.val) * 64 + d.val) % 640 = 1536 + (h.val * 64 + d.val) by omega)

/-- The norm's factor of a head. -/
theorem v86_at (ρ : Fin 17408) (h : Fin 10) (d : Fin 64) : val_main_v86 (F := Ideal) x0 x1 x2 x3 (ix3 ρ h d)
    = Ideal.rsqrt (Ideal.div (∑ e : Fin 64, projected x0 x1 x2 x3 ρ ⟨1536 + (h.val * 64 + e.val), by omega⟩ * projected x0 x1 x2 x3 ρ ⟨1536 + (h.val * 64 + e.val), by omega⟩)
        (Ideal.ofBits .f32 0x42800000#32) + Ideal.ofBits .f32 0x358637BD#32) := by
  have e : idx_main_v86 (ix3 ρ h d) = ix3 ρ h 0 := eq_ix3 _
  have e' : idx_main_v80 (ix3 ρ h 0) = ix2 ρ h := eq_ix2 _
  have f : ∀ k, idx_main_v79 (ix2 ρ h) k = ix3 ρ h k := fun k => eq_ix3 _
  rw [val_main_v86_apply, e, val_main_v85_apply, val_main_v84_apply, val_main_v83_apply, val_main_v82_apply, val_main_v81_apply,
    val_main_v80_apply, e', val_main_v79_apply, val_main_cst_9_apply, val_main_cst_10_apply, val_main_cst_11_apply]
  simp only [f, val_main_v78_apply, v77_at]
  refine congrArg (fun s => Ideal.rsqrt (Ideal.div s _ + _)) ?_
  show Ideal.ofBits .f32 0x00000000#32 + _ = _
  rw [Ideal.ofBits_zero_f32, zero_add]
  rfl

theorem gain_apply (a : Fin 5) (l : Fin 128) : val_main_v76 (F := Ideal) x6 x7 (ix2 a l) = gainRow x6 x7 a l := by
  unfold val_main_v76 gainRow
  rw [concatenate_pair_apply]
  by_cases h : a.val < 4
  · refine (dif_pos (show a.val < 4 from h)).trans ?_
    rw [if_pos h, val_main_v75_apply]
    exact congrArg x6 (eq_ix2 _)
  · refine (dif_neg (show ¬ a.val < 4 from h)).trans ?_
    rw [if_neg h]
    refine congrArg x7 (funext fun d => Fin.ext ?_)
    match d with
    | ⟨0, _⟩ => show a.val - 4 = 0; omega
    | ⟨1, _⟩ => rfl

/-- The normed heads. -/
theorem normed_apply (ρ : Fin 17408) (a : Fin 5) (l : Fin 128) : val_main_v91 (F := Ideal) x0 x1 x2 x3 x6 x7 (ix3 ρ a l)
    = headNorm (fun e => projected x0 x1 x2 x3 ρ (headCol a e)) (gainRow x6 x7 a) l := by
  have hρ := ρ.isLt; have ha := a.isLt; have hl := l.isLt
  have e88 : idx_main_v88 (ix3 ρ a l) = ix3 ρ (⟨a.val * 2 + l.val / 64, by omega⟩ : Fin 10) (⟨l.val % 64, by omega⟩ : Fin 64) := by
    funext d
    refine Fin.ext ?_
    match d with
    | ⟨0, _⟩ => show ((ρ.val * 5 + a.val) * 128 + l.val) / 640 = ρ.val; omega
    | ⟨1, _⟩ => show ((ρ.val * 5 + a.val) * 128 + l.val) / 64 % 10 = a.val * 2 + l.val / 64; omega
    | ⟨2, _⟩ => show ((ρ.val * 5 + a.val) * 128 + l.val) % 64 = l.val % 64; omega
  have e90 : idx_main_v90 (ix3 ρ a l) = ix3 0 a l := eq_ix3 _
  have e89 : idx_main_v89 (ix3 0 a l) = ix2 a l := eq_ix2 _
  rw [val_main_v91_apply, val_main_v90_apply, e90, val_main_v89_apply, e89, gain_apply, val_main_v88_apply, e88, val_main_v87_apply,
    v77_at, v86_at]
  have c1 : (⟨1536 + ((⟨a.val * 2 + l.val / 64, by omega⟩ : Fin 10).val * 64 + (⟨l.val % 64, by omega⟩ : Fin 64).val), by omega⟩ : Fin 7040) = headCol a l :=
    Fin.ext (show 1536 + ((a.val * 2 + l.val / 64) * 64 + l.val % 64) = 1536 + (a.val * 128 + l.val) by omega)
  have c2 : ∀ e : Fin 64, (⟨1536 + ((⟨a.val * 2 + l.val / 64, by omega⟩ : Fin 10).val * 64 + e.val), by omega⟩ : Fin 7040)
      = headCol a ⟨l.val / 64 * 64 + e.val, by omega⟩ := fun e =>
    Fin.ext (show 1536 + ((a.val * 2 + l.val / 64) * 64 + e.val) = 1536 + (a.val * 128 + (l.val / 64 * 64 + e.val)) by omega)
  rw [c1]
  simp only [c2]
  rfl

/-- An index of the heads' sixteens. -/
def ix16 (ρ : Fin 17408) (b : Fin 20) (s : Fin 2) (e : Fin 16) : S17408x20x2x16.Idx := fun d => match d with
  | ⟨0, _⟩ => ρ
  | ⟨1, _⟩ => b
  | ⟨2, _⟩ => s
  | ⟨3, _⟩ => e

theorem v92_at (i : S17408x20x2x16.Idx) (ρ : Fin 17408) (a : Fin 5) (l : Fin 128) (h0 : (i 0).val = ρ.val)
    (h : ((i 1).val * 2 + (i 2).val) * 16 + (i 3).val = a.val * 128 + l.val) :
    val_main_v92 (F := Ideal) x0 x1 x2 x3 x6 x7 i = headNorm (fun e => projected x0 x1 x2 x3 ρ (headCol a e)) (gainRow x6 x7 a) l := by
  have hρ := ρ.isLt; have ha := a.isLt; have hl := l.isLt
  rw [val_main_v92_apply]
  have e : idx_main_v92 i = ix3 ρ a l := by
    funext d
    refine Fin.ext ?_
    match d with
    | ⟨0, _⟩ => show ((((i 0).val * 20 + (i 1).val) * 2 + (i 2).val) * 16 + (i 3).val) / 640 = ρ.val; omega
    | ⟨1, _⟩ => show ((((i 0).val * 20 + (i 1).val) * 2 + (i 2).val) * 16 + (i 3).val) / 128 % 5 = a.val; omega
    | ⟨2, _⟩ => show ((((i 0).val * 20 + (i 1).val) * 2 + (i 2).val) * 16 + (i 3).val) % 128 = l.val; omega
  rw [e, normed_apply]

/-- The halves of sixteen channels exchanged. -/
theorem other_apply (ρ : Fin 17408) (a : Fin 5) (l : Fin 128) : val_main_v96 (F := Ideal) x0 x1 x2 x3 x6 x7 (ix3 ρ a l)
    = headNorm (fun e => projected x0 x1 x2 x3 ρ (headCol a e)) (gainRow x6 x7 a) (partner l) := by
  have hρ := ρ.isLt; have ha := a.isLt; have hl := l.isLt
  have e : idx_main_v96 (ix3 ρ a l) = ix16 ρ ⟨a.val * 4 + l.val / 32, by omega⟩ ⟨l.val / 16 % 2, by omega⟩ ⟨l.val % 16, by omega⟩ := by
    funext d
    refine Fin.ext ?_
    match d with
    | ⟨0, _⟩ => show ((ρ.val * 5 + a.val) * 128 + l.val) / 640 = ρ.val; omega
    | ⟨1, _⟩ => show ((ρ.val * 5 + a.val) * 128 + l.val) / 32 % 20 = a.val * 4 + l.val / 32; omega
    | ⟨2, _⟩ => show ((ρ.val * 5 + a.val) * 128 + l.val) / 16 % 2 = l.val / 16 % 2; omega
    | ⟨3, _⟩ => show ((ρ.val * 5 + a.val) * 128 + l.val) % 16 = l.val % 16; omega
  rw [val_main_v96_apply, e]
  unfold val_main_v95
  rw [concatenate_pair_apply]
  by_cases h : l.val / 16 % 2 < 1
  · refine (dif_pos (show l.val / 16 % 2 < 1 from h)).trans ?_
    have ep : (partner l).val = l.val + 16 := by
      unfold partner
      rw [dif_pos (show l.val % 32 < 16 by omega)]
    rw [val_main_v93_apply]
    exact v92_at _ _ _ _ _ _ _ ρ a (partner l) rfl
      (show ((a.val * 4 + l.val / 32) * 2 + (1 + l.val / 16 % 2)) * 16 + l.val % 16 = a.val * 128 + (partner l).val by omega)
  · refine (dif_neg (show ¬ l.val / 16 % 2 < 1 from h)).trans ?_
    have ep : (partner l).val = l.val - 16 := by
      unfold partner
      rw [dif_neg (show ¬ l.val % 32 < 16 by omega)]
    rw [val_main_v94_apply]
    exact v92_at _ _ _ _ _ _ _ ρ a (partner l) rfl
      (show ((a.val * 4 + l.val / 32) * 2 + (l.val / 16 % 2 - 1)) * 16 + l.val % 16 = a.val * 128 + (partner l).val by omega)

theorem cos_apply (ρ : Fin 17408) (a : Fin 5) (l : Fin 128) : val_main_v100 (F := Ideal) x4 (ix3 ρ a l) = tableRow x4 ρ l := by
  have hρ := ρ.isLt; have hl := l.isLt
  rw [val_main_v100_apply, val_main_v99_apply, val_main_v98_apply, val_main_v97_apply]
  refine congrArg x4 (funext fun d => Fin.ext ?_)
  match d with
  | ⟨0, _⟩ => show ((ρ.val * 1 + 0) * 128 + l.val) / 128 % 4352 = ρ.val % 4352; omega
  | ⟨1, _⟩ => show ((ρ.val * 1 + 0) * 128 + l.val) % 128 = l.val; omega

theorem sin_apply (ρ : Fin 17408) (a : Fin 5) (l : Fin 128) : val_main_v105 (F := Ideal) x5 (ix3 ρ a l) = tableRow x5 ρ l := by
  have hρ := ρ.isLt; have hl := l.isLt
  rw [val_main_v105_apply, val_main_v104_apply, val_main_v103_apply, val_main_v102_apply]
  refine congrArg x5 (funext fun d => Fin.ext ?_)
  match d with
  | ⟨0, _⟩ => show ((ρ.val * 1 + 0) * 128 + l.val) / 128 % 4352 = ρ.val % 4352; omega
  | ⟨1, _⟩ => show ((ρ.val * 1 + 0) * 128 + l.val) % 128 = l.val; omega

/-- The rotated heads. -/
theorem roped_apply (ρ : Fin 17408) (a : Fin 5) (l : Fin 128) : val_main_v107 (F := Ideal) x0 x1 x2 x3 x4 x5 x6 x7 (ix3 ρ a l)
    = roped (fun e => projected x0 x1 x2 x3 ρ (headCol a e)) (gainRow x6 x7 a) (tableRow x4 ρ) (tableRow x5 ρ) l := by
  rw [val_main_v107_apply, val_main_v101_apply, val_main_v106_apply, normed_apply, other_apply, cos_apply, sin_apply]
  rfl

theorem roped_at (i : S17408x5x128.Idx) (ρ : Fin 17408) (a : Fin 5) (l : Fin 128) (h0 : (i 0).val = ρ.val) (h1 : (i 1).val = a.val)
    (h2 : (i 2).val = l.val) : val_main_v107 (F := Ideal) x0 x1 x2 x3 x4 x5 x6 x7 i
    = roped (fun e => projected x0 x1 x2 x3 ρ (headCol a e)) (gainRow x6 x7 a) (tableRow x4 ρ) (tableRow x5 ρ) l := by
  have e : i = ix3 ρ a l := by
    funext d
    refine Fin.ext ?_
    match d with
    | ⟨0, _⟩ => exact h0
    | ⟨1, _⟩ => exact h1
    | ⟨2, _⟩ => exact h2
  rw [e, roped_apply]

theorem query_apply (ρ : Fin 17408) (n : Fin 512) : val_main_v120 (F := Ideal) x0 x1 x2 x3 x4 x5 x6 x7 (ix2 ρ n)
    = qOf (projected x0 x1 x2 x3 ρ) (fun e => x6 (ix2 0 e)) (fun e => tableRow x4 ρ e) (fun e => tableRow x5 ρ e) n := by
  have hρ := ρ.isLt; have hn := n.isLt
  rw [val_main_v120_apply, val_main_v111_apply, val_main_v110_apply, val_main_cst_12_apply, val_main_v109_apply, val_main_v108_apply,
    roped_at x0 x1 x2 x3 x4 x5 x6 x7 _ ρ ⟨n.val / 128, by omega⟩ ⟨n.val % 128, by omega⟩
      (show (ρ.val * 512 + n.val) / 512 = ρ.val by omega) (show (ρ.val * 512 + n.val) / 128 % 4 = n.val / 128 by omega)
      (show (ρ.val * 512 + n.val) % 128 = n.val % 128 by omega)]
  have eg : gainRow x6 x7 ⟨n.val / 128, by omega⟩ = fun e => x6 (ix2 0 e) := funext fun e => if_pos (show n.val / 128 < 4 by omega)
  have ec : (fun e => projected x0 x1 x2 x3 ρ (headCol ⟨n.val / 128, by omega⟩ e)) = fun e : Fin 128 => projected x0 x1 x2 x3 ρ ⟨1536 + n.val / 128 * 128 + e.val, by omega⟩ :=
    funext fun e => congrArg (projected x0 x1 x2 x3 ρ) (Fin.ext (show 1536 + (n.val / 128 * 128 + e.val) = 1536 + n.val / 128 * 128 + e.val by omega))
  rw [eg, ec]
  rfl

/-- The rotated pair of key heads. -/
theorem v113_at (i : S17408x128.Idx) (ρ : Fin 17408) (l : Fin 128) (h0 : (i 0).val = ρ.val) (h1 : (i 1).val = l.val) : val_main_v113 (F := Ideal) x0 x1 x2 x3 x4 x5 x6 x7 i
    = roped (fun e => projected x0 x1 x2 x3 ρ (headCol 4 e)) (gainRow x6 x7 4) (tableRow x4 ρ) (tableRow x5 ρ) l := by
  have hρ := ρ.isLt; have hl := l.isLt
  rw [val_main_v113_apply, val_main_v112_apply]
  exact roped_at x0 x1 x2 x3 x4 x5 x6 x7 _ ρ 4 l
    (show ((i 0).val * 128 + (i 1).val) / 128 = ρ.val by omega) rfl
    (show ((i 0).val * 128 + (i 1).val) % 128 = l.val by omega)

theorem key_apply (ρ : Fin 17408) (n : Fin 256) : val_main_v121 (F := Ideal) x0 x1 x2 x3 x4 x5 x6 x7 (ix2 ρ n)
    = kOf (projected x0 x1 x2 x3 ρ) (fun e => x7 (ix2 0 e)) (fun e => tableRow x4 ρ e) (fun e => tableRow x5 ρ e) n := by
  have hρ := ρ.isLt; have hn := n.isLt
  have b0 : (ρ.val * 256 + n.val) / 256 = ρ.val := by omega
  have b1 : (ρ.val * 256 + n.val) / 128 % 2 = n.val / 128 := by omega
  have b3 : (ρ.val * 256 + n.val) % 64 = n.val % 64 := by omega
  rw [val_main_v121_apply, val_main_v116_apply, val_main_v115_apply, val_main_v114_apply]
  refine (v113_at x0 x1 x2 x3 x4 x5 x6 x7 _ ρ ⟨n.val / 128 * 64 + n.val % 64, by omega⟩
    (show ((((ρ.val * 256 + n.val) / 256 * 2 + (ρ.val * 256 + n.val) / 128 % 2) * 1 + 0) * 64 + (ρ.val * 256 + n.val) % 64) / 128 = ρ.val by
      rw [b0, b1, b3]; omega)
    (show ((((ρ.val * 256 + n.val) / 256 * 2 + (ρ.val * 256 + n.val) / 128 % 2) * 1 + 0) * 64 + (ρ.val * 256 + n.val) % 64) % 128
      = n.val / 128 * 64 + n.val % 64 by rw [b0, b1, b3]; omega)).trans ?_
  have eg : gainRow x6 x7 4 = fun e => x7 (ix2 0 e) := funext fun e => if_neg (by decide)
  have ec : (fun e => projected x0 x1 x2 x3 ρ (headCol 4 e)) = fun e : Fin 128 => projected x0 x1 x2 x3 ρ ⟨2048 + e.val, by omega⟩ :=
    funext fun e => congrArg (projected x0 x1 x2 x3 ρ) (Fin.ext (show 1536 + (4 * 128 + e.val) = 2048 + e.val by omega))
  rw [eg, ec]
  rfl
end
end Cert.ProjectReferenceIdeal.Row
end
end
-- ==== Proof.ProjFinite.lean ====
/- The projection's precondition read back: where it holds, every column that the norms of queries and keys read is real. -/
module

public import proofs.«01_k».proof.Pre_projectable
public import proofs.«01_k».proof.Proof.Finite
public import proofs.«01_k».proof.Proof.ProjSpec
public import Idealize.ShloMosaic.Lib.ReduceAll

@[expose] public section

noncomputable section

namespace Cert.Pre_projectable

open Idealize.ShloMosaic Cert.Row Cert.Pre_finite

/-- The facts the predicate states. -/
theorem facts : Cert.Pre_projectable.Facts where
  slices_S8x6x1024_S8x2x1024_0_0_0 := by decide
  slices_S1024x7040_S1024x640_0_1536 := by decide
  bitsLt_bf16_f32 := by decide
  slices_S1x7040_S1x640_0_1536 := by decide
  bcast_S_S17408x1024 := by decide
  reducesTo_S17408x1024_S_d0_1 := by decide
  h_S_ := by decide
  bcast_S_S8x2x1024 := by decide
  reducesTo_S8x2x1024_S_d0_1_2 := by decide
  bcast_S_S1024x640 := by decide
  reducesTo_S1024x640_S_d0_1 := by decide
  bcast_S_S1x640 := by decide
  reducesTo_S1x640_S_d0_1 := by decide

theorem sub_scalar : Subsingleton S_.Idx := ⟨fun a b => funext fun i => i.elim0⟩

/-- What the precondition says. -/
theorem real_of_fn [hF : Cert.Pre_projectable.Facts] (x : FVec Ideal S17408x1024 .f32) (md : FVec Ideal S8x6x1024 .f32)
    (w : FVec Ideal S1024x7040 .bf16) (b : FVec Ideal S1x7040 .f32) (c s : FVec Ideal S4352x128 .f32) (gq gk : FVec Ideal S1x128 .f32)
    (h : fn (F := Ideal) x md w b c s gq gk = fun _ => 1#1) :
    (∀ i, IsReal (x i)) ∧ (∀ i, IsReal (extractStridedSlice S8x2x1024 ![0, 0, 0] md hF.slices_S8x6x1024_S8x2x1024_0_0_0 i))
      ∧ (∀ i, IsReal (extractStridedSlice S1024x640 ![0, 1536] w hF.slices_S1024x7040_S1024x640_0_1536 i))
      ∧ (∀ i, IsReal (extractStridedSlice S1x640 ![0, 1536] b hF.slices_S1x7040_S1x640_0_1536 i)) := by
  haveI := sub_scalar
  have h0 : fn (F := Ideal) x md w b c s gq gk (fun a => a.elim0) = 1#1 := congrFun h _
  unfold fn fn_part1 at h0
  obtain ⟨h123, h4⟩ := and_one _ _ h0
  obtain ⟨h12, h3⟩ := and_one _ _ h123
  obtain ⟨h1, h2⟩ := and_one _ _ h12
  exact ⟨fun i => real_of_cmp _ (Host.reduce_andi_all _ _ _ _ _ h1 i), fun i => real_of_cmp _ (Host.reduce_andi_all _ _ _ _ _ h2 i),
    fun i => real_of_cmp _ (Host.reduce_andi_all _ _ _ _ _ h3 i), fun i => real_of_cmp _ (Host.reduce_andi_all _ _ _ _ _ h4 i)⟩

/-- The norms' columns of every projected row are real. -/
theorem norm_columns [hF : Cert.Pre_projectable.Facts] (x : FVec Ideal S17408x1024 .f32) (md : FVec Ideal S8x6x1024 .f32)
    (w : FVec Ideal S1024x7040 .bf16) (b : FVec Ideal S1x7040 .f32) (c s : FVec Ideal S4352x128 .f32) (gq gk : FVec Ideal S1x128 .f32)
    (h : fn (F := Ideal) x md w b c s gq gk = fun _ => 1#1) (ρ : Fin 17408) (j : Fin 640) :
    IsReal (projected x md w b ρ (normCol j)) := by
  obtain ⟨hx, hm, hw, hb⟩ := real_of_fn x md w b c s gq gk h
  have em : ∀ (r : Fin 8) (o : Fin 2) (k : Fin 1024), IsReal (md (ix3 r ⟨o.val, by omega⟩ k)) := fun r o k => by
    have e := hm (ix3 r o k)
    unfold extractStridedSlice at e
    refine (congrArg (fun q => IsReal (md q)) (funext fun d => Fin.ext ?_)).mp e
    match d with
    | ⟨0, _⟩ => show 0 + r.val = r.val; omega
    | ⟨1, _⟩ => show 0 + o.val = o.val; omega
    | ⟨2, _⟩ => show 0 + k.val = k.val; omega
  refine IsReal.segOf (IsReal.modulated (fun k => hx _) (fun k => em _ 0 k) (fun k => em _ 1 k)) (fun k => ?_) ?_
  · have e := hw (ix2 k j)
    unfold extractStridedSlice at e
    refine (congrArg (fun q => IsReal (w q)) (funext fun d => Fin.ext ?_)).mp e
    match d with
    | ⟨0, _⟩ => show 0 + k.val = k.val; omega
    | ⟨1, _⟩ => rfl
  · have e := hb (ix2 0 j)
    unfold extractStridedSlice at e
    refine (congrArg (fun q => IsReal (b q)) (funext fun d => Fin.ext ?_)).mp e
    match d with
    | ⟨0, _⟩ => rfl
    | ⟨1, _⟩ => rfl

end Cert.Pre_projectable

end
-- ==== Proof.lean ====
/- The proof of the claims: the frames, the idealisation that changes nothing, and the equation of the attention kernel
   with its reference, and the same for the merge of the branches, for the feed-forward and for the input projection. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Read
public import proofs.«01_k».proof.Proof.Gen.MergeReferenceIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Read
public import proofs.«01_k».proof.Proof.Gen.FfnReferenceIdeal.Run
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Read
public import proofs.«01_k».proof.Proof.Gen.ProjectReferenceIdeal.Run
public import proofs.«01_k».proof.Proof.Equal
public import proofs.«01_k».proof.Proof.Finite
public import proofs.«01_k».proof.Proof.MergeArray
public import proofs.«01_k».proof.Proof.MergeRef
public import proofs.«01_k».proof.Proof.FfnArray
public import proofs.«01_k».proof.Proof.FfnRef
public import proofs.«01_k».proof.Proof.ProjArray
public import proofs.«01_k».proof.Proof.ProjRef
public import proofs.«01_k».proof.Proof.ProjFinite
public import Idealize.ShloMosaic.Adequacy
public import Idealize.ShloMosaic.Init

@[expose] public section

noncomputable section

namespace Cert.Proof

open Idealize.ShloMosaic Idealize.SL.Sem

/-- The kernel runs to the end, changes no argument and leaves every semaphore at zero. -/
theorem frame_p : Cert.quiescent_Kernel := fun m ρ _ => Cert.Kernel.Gen.frame m ρ

/-- So does its ideal. -/
theorem frame_pi : Cert.quiescent_KernelIdeal := fun m ρ _ => Cert.KernelIdeal.Gen.frame m ρ

/-- The reference runs to the end and changes no argument. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The facts the precondition states. -/
instance : Cert.Pre_finite.Facts := Cert.Pre_finite.facts

/-- From arguments that agree and are finite where the precondition says so, kernel and reference end with the same
    result: attention. -/
theorem algebraic : Cert.algebraic_KernelIdeal_ReferenceIdeal_pre_finite := fun m ρ m' ρ' hpre hag =>
  ⟨fun c => Cert.KernelIdeal.Att.resm m c, Cert.KernelIdeal.Att.run m ρ,
    (θ_run Cert.ReferenceIdeal.defs _ _).mono (fun r h c => ⟨(h c).1.trans (by
        obtain ⟨hq, hk, hb⟩ := Cert.Pre_finite.real_of_fn _ _ _ _ (hpre c)
        rw [Cert.ReferenceIdeal.Read.val_main_v50_eq, (hag c).1, (hag c).2.1, (hag c).2.2.1]
        exact (Cert.KernelIdeal.Att.res_eq _ _ _ _ hq hk hb).symm), (h c).2⟩)
      (Cert.ReferenceIdeal.Value.run (F := Ideal) m' ρ')⟩

/-- The merge kernel runs to the end, changes no argument and leaves every semaphore at zero. -/
theorem frame_merge : Cert.quiescent_Merge := fun m ρ _ => Cert.Merge.Gen.frame m ρ

/-- So does its ideal. -/
theorem frame_merge_ideal : Cert.quiescent_MergeIdeal := fun m ρ _ => Cert.MergeIdeal.Gen.frame m ρ

/-- Its reference runs to the end and changes no argument. -/
theorem frame_merge_reference : Cert.quiescent_MergeReferenceIdeal := fun m ρ _ =>
  (θ_run Cert.MergeReferenceIdeal.defs _ _).mono (fun r h => ⟨fun c => (h c).2, Idealize.ShloMosaic.sem_eq_zero_of_no_sems (by decide) r.2⟩)
    (Cert.MergeReferenceIdeal.Value.run (F := Ideal) m ρ)

/-- From arguments that agree, merge kernel and reference end with the same result. -/
theorem algebraic_merge : Cert.algebraic_MergeIdeal_MergeReferenceIdeal := fun m ρ m' ρ' _ hag =>
  ⟨fun c => Cert.MergeIdeal.Row.resm m c, Cert.MergeIdeal.Row.run m ρ,
    (θ_run Cert.MergeReferenceIdeal.defs _ _).mono (fun r h c => ⟨(h c).1.trans (by
        obtain ⟨h0, h1, h2, h3, h4, h5, h6, h7, h8, h9, h10, h11⟩ := hag c
        rw [Cert.MergeReferenceIdeal.Read.val_main_v48_eq, h0, h1, h2, h3, h4, h5, h6, h7, h8, h9, h10, h11]
        funext j
        obtain ⟨R, C, rfl⟩ : ∃ (R : Fin 17408) (C : Fin 1024), j = ix2 R C := ⟨_, _, eq_ix2 (n0 := 17408) (n1 := 1024) j⟩
        exact Cert.MergeReferenceIdeal.Row.out_apply _ _ _ _ _ _ _ _ _ _ _ _ R C), (h c).2⟩)
      (Cert.MergeReferenceIdeal.Value.run (F := Ideal) m' ρ')⟩

/-- The feed-forward kernel runs to the end, changes no argument and leaves every semaphore at zero. -/
theorem frame_ffn : Cert.quiescent_Ffn := fun m ρ _ => Cert.Ffn.Gen.frame m ρ

/-- So does its ideal. -/
theorem frame_ffn_ideal : Cert.quiescent_FfnIdeal := fun m ρ _ => Cert.FfnIdeal.Gen.frame m ρ

/-- Its reference runs to the end and changes no argument. -/
theorem frame_ffn_reference : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

/-- From arguments that agree, feed-forward kernel and reference end with the same result. -/
theorem algebraic_ffn : Cert.algebraic_FfnIdeal_FfnReferenceIdeal := fun m ρ m' ρ' _ hag =>
  ⟨fun c => Cert.FfnIdeal.Row.resm m c, Cert.FfnIdeal.Row.run m ρ,
    (θ_run Cert.FfnReferenceIdeal.defs _ _).mono (fun r h c => ⟨(h c).1.trans (by
        obtain ⟨h0, h1, h2, h3, h4, h5, h6, h7⟩ := hag c
        rw [Cert.FfnReferenceIdeal.Read.val_main_v137_eq]
        show Cert.FfnReferenceIdeal.Read.val_main_v137 (F := Ideal)
          (m' (c.tc.loc Cert.FfnReferenceIdeal.main_arg0)) (m' (c.tc.loc Cert.FfnReferenceIdeal.main_arg1)) (m' (c.tc.loc Cert.FfnReferenceIdeal.main_arg2)) (m' (c.tc.loc Cert.FfnReferenceIdeal.main_arg3))
          (m' (c.tc.loc Cert.FfnReferenceIdeal.main_arg4)) (m' (c.tc.loc Cert.FfnReferenceIdeal.main_arg5)) (m' (c.tc.loc Cert.FfnReferenceIdeal.main_arg6)) (m' (c.tc.loc Cert.FfnReferenceIdeal.main_arg7)) = _
        rw [h0, h1, h2, h3, h4, h5, h6, h7]
        funext j
        obtain ⟨R, C, rfl⟩ : ∃ (R : Fin 17408) (C : Fin 1024), j = ix2 R C := ⟨_, _, eq_ix2 (n0 := 17408) (n1 := 1024) j⟩
        exact Cert.FfnReferenceIdeal.Row.out_apply _ _ _ _ _ _ _ _ R C), (h c).2⟩)
      (Cert.FfnReferenceIdeal.Value.run (F := Ideal) m' ρ')⟩

/-- The projection kernel runs to the end, changes no argument and leaves every semaphore at zero. -/
theorem frame_project : Cert.quiescent_Project := fun m ρ _ => Cert.Project.Gen.frame m ρ

/-- So does its ideal. -/
theorem frame_project_ideal : Cert.quiescent_ProjectIdeal := fun m ρ _ => Cert.ProjectIdeal.Gen.frame m ρ

/-- Its reference runs to the end and changes no argument. -/
theorem frame_project_reference : Cert.quiescent_ProjectReferenceIdeal := fun m ρ _ =>
  (θ_run Cert.ProjectReferenceIdeal.defs _ _).mono (fun r h => ⟨fun c => (h c).2.2.2.2.2.2.2, Idealize.ShloMosaic.sem_eq_zero_of_no_sems (by decide) r.2⟩)
    (Cert.ProjectReferenceIdeal.Value.run (F := Ideal) m ρ)

/-- The facts the projection's precondition states. -/
instance : Cert.Pre_projectable.Facts := Cert.Pre_projectable.facts

/-- From arguments that agree and are finite where the precondition says so, projection kernel and reference end with the same
    seven results. -/
theorem algebraic_project : Cert.algebraic_ProjectIdeal_ProjectReferenceIdeal_pre_projectable := fun m ρ m' ρ' hpre hag =>
  ⟨fun c => Cert.ProjectIdeal.Row.res8 m c, fun c => Cert.ProjectIdeal.Row.res9 m c, fun c => Cert.ProjectIdeal.Row.res10 m c,
    fun c => Cert.ProjectIdeal.Row.res11 m c, fun c => Cert.ProjectIdeal.Row.res12 m c, fun c => Cert.ProjectIdeal.Row.res13 m c,
    fun c => Cert.ProjectIdeal.Row.res14 m c,
    Cert.ProjectIdeal.Row.run m ρ fun c => Cert.Pre_projectable.norm_columns _ _ _ _ _ _ _ _ (hpre c),
    (θ_run Cert.ProjectReferenceIdeal.defs _ _).mono (fun r h c => by
      obtain ⟨h0, h1, h2, h3, h4, h5, h6, h7⟩ := hag c
      obtain ⟨g0, g1, g2, g3, g4, g5, g6, gr⟩ := h c
      refine ⟨g0.trans ?_, g1.trans ?_, g2.trans ?_, g3.trans ?_, g4.trans ?_, g5.trans ?_, g6.trans ?_, gr⟩
      · rw [Cert.ProjectReferenceIdeal.Read.val_main_v119_eq]
        show Cert.ProjectReferenceIdeal.Read.val_main_v119 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) = _
        rw [h0, h1, h2, h3]
        funext j
        obtain ⟨R, C, rfl⟩ : ∃ (R : Fin 17408) (C : Fin 1536), j = ix2 R C := ⟨_, _, eq_ix2 (n0 := 17408) (n1 := 1536) j⟩
        exact Cert.ProjectReferenceIdeal.Row.ret_apply _ _ _ _ R C
      · rw [Cert.ProjectReferenceIdeal.Read.val_main_v120_eq]
        show Cert.ProjectReferenceIdeal.Read.val_main_v120 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) (m' (c.tc.loc Cert.ProjectReferenceIdeal.main_arg4)) (m' (c.tc.loc Cert.ProjectReferenceIdeal.main_arg5)) (m' (c.tc.loc Cert.ProjectReferenceIdeal.main_arg6)) (m' (c.tc.loc Cert.ProjectReferenceIdeal.main_arg7)) = _
        rw [h0, h1, h2, h3, h4, h5, h6, h7]
        funext j
        obtain ⟨R, C, rfl⟩ : ∃ (R : Fin 17408) (C : Fin 512), j = ix2 R C := ⟨_, _, eq_ix2 (n0 := 17408) (n1 := 512) j⟩
        exact Cert.ProjectReferenceIdeal.Row.query_apply _ _ _ _ _ _ _ _ R C
      · rw [Cert.ProjectReferenceIdeal.Read.val_main_v121_eq]
        show Cert.ProjectReferenceIdeal.Read.val_main_v121 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) (m' (c.tc.loc Cert.ProjectReferenceIdeal.main_arg4)) (m' (c.tc.loc Cert.ProjectReferenceIdeal.main_arg5)) (m' (c.tc.loc Cert.ProjectReferenceIdeal.main_arg6)) (m' (c.tc.loc Cert.ProjectReferenceIdeal.main_arg7)) = _
        rw [h0, h1, h2, h3, h4, h5, h6, h7]
        funext j
        obtain ⟨R, C, rfl⟩ : ∃ (R : Fin 17408) (C : Fin 256), j = ix2 R C := ⟨_, _, eq_ix2 (n0 := 17408) (n1 := 256) j⟩
        exact Cert.ProjectReferenceIdeal.Row.key_apply _ _ _ _ _ _ _ _ R C
      · rw [Cert.ProjectReferenceIdeal.Read.val_main_v122_eq]
        show Cert.ProjectReferenceIdeal.Read.val_main_v122 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) = _
        rw [h0, h1, h2, h3]
        funext j
        obtain ⟨T, D, C, rfl⟩ : ∃ (T : Fin 68) (D : Fin 128) (C : Fin 256), j = ix3 T D C :=
          ⟨_, _, _, eq_ix3 (n0 := 68) (n1 := 128) (n2 := 256) j⟩
        exact Cert.ProjectReferenceIdeal.Row.value_apply _ _ _ _ T D C
      · rw [Cert.ProjectReferenceIdeal.Read.val_main_v123_eq]
        show Cert.ProjectReferenceIdeal.Read.val_main_v123 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) = _
        rw [h0, h1, h2, h3]
        funext j
        obtain ⟨R, C, rfl⟩ : ∃ (R : Fin 17408) (C : Fin 1536), j = ix2 R C := ⟨_, _, eq_ix2 (n0 := 17408) (n1 := 1536) j⟩
        exact Cert.ProjectReferenceIdeal.Row.mls_apply _ _ _ _ R C
      · rw [Cert.ProjectReferenceIdeal.Read.val_main_v48_eq]
        show Cert.ProjectReferenceIdeal.Read.val_main_v48 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) = _
        rw [h0, h1, h2, h3]
        funext j
        obtain ⟨R, C, rfl⟩ : ∃ (R : Fin 17408) (C : Fin 128), j = ix2 R C := ⟨_, _, eq_ix2 (n0 := 17408) (n1 := 128) j⟩
        exact Cert.ProjectReferenceIdeal.Row.gates_apply _ _ _ _ R C
      · rw [Cert.ProjectReferenceIdeal.Read.val_main_v130_eq]
        show Cert.ProjectReferenceIdeal.Read.val_main_v130 (F := Ideal)
          (m' (c.tc.loc Cert.ProjectReferenceIdeal.main_arg0)) (m' (c.tc.loc Cert.ProjectReferenceIdeal.main_arg1)) (m' (c.tc.loc Cert.ProjectReferenceIdeal.main_arg2)) (m' (c.tc.loc Cert.ProjectReferenceIdeal.main_arg3)) = _
        rw [h0, h1, h2, h3]
        funext j
        obtain ⟨R, C, rfl⟩ : ∃ (R : Fin 17408) (C : Fin 3072), j = ix2 R C := ⟨_, _, eq_ix2 (n0 := 17408) (n1 := 3072) j⟩
        exact Cert.ProjectReferenceIdeal.Row.merge_apply _ _ _ _ R C)
      (Cert.ProjectReferenceIdeal.Value.run (F := Ideal) m' ρ')⟩

theorem claim : Cert.Claim :=
  ⟨Cert.Kernel.Gen.facts, Cert.KernelIdeal.Gen.facts, Cert.ReferenceIdeal.Gen.facts, Cert.Merge.Gen.facts, Cert.MergeIdeal.Gen.facts,
    Cert.MergeReferenceIdeal.Gen.facts, Cert.Ffn.Gen.facts, Cert.FfnIdeal.Gen.facts, Cert.FfnReferenceIdeal.Gen.facts,
    Cert.Project.Gen.facts, Cert.ProjectIdeal.Gen.facts, Cert.ProjectReferenceIdeal.Gen.facts,
    Cert.Pre_finite.facts, Cert.Pre_projectable.facts,
    frame_p, frame_pi, fun m ρ _ => frame_pi m ρ trivial, frame_ri, fun m ρ _ => frame_ri m ρ trivial,
    frame_merge, frame_merge_ideal, frame_merge_reference, frame_ffn, frame_ffn_ideal, frame_ffn_reference,
    frame_project, frame_project_ideal, fun m ρ _ => frame_project_ideal m ρ trivial,
    frame_project_reference, fun m ρ _ => frame_project_reference m ρ trivial,
    trivial, algebraic, trivial, algebraic_merge, trivial, algebraic_ffn, trivial, algebraic_project⟩

end Cert.Proof

end
